-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Amax (m : (ℓ : Loc Cert.Amax.nD Cert.Amax.τ Cert.Amax.sig) → Buf (Elt Bits) ℓ) : Prop :=
  True

def Pre_AmaxIdeal (m : (ℓ : Loc Cert.AmaxIdeal.nD Cert.AmaxIdeal.τ Cert.AmaxIdeal.sig) → Buf (Elt Ideal) ℓ) : Prop :=
  True

def Pre_AmaxReferenceIdeal (m : (ℓ : Loc Cert.AmaxReferenceIdeal.nD Cert.AmaxReferenceIdeal.τ Cert.AmaxReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Amax [hAmax : Cert.Amax.Facts] : Prop :=
  ∀ (m : (ℓ : Loc Cert.Amax.nD Cert.Amax.τ Cert.Amax.sig) → Buf (Elt Bits) ℓ) (g : Dev Cert.Amax.nD → PrngReg), Pre_Amax m →
    θ_run (Cert.Amax.defs (F := Bits)) (onTc (τ := Cert.Amax.τ) (Cert.Amax.main (F := Bits))) ⟨m, fun _ => 0, g⟩ (fun r => (∀ c : Dev Cert.Amax.nD,
      r.2.mem ((c.tc : Thread Cert.Amax.nD Cert.Amax.τ).loc Cert.Amax.main_arg0) = m ((c.tc : Thread Cert.Amax.nD Cert.Amax.τ).loc Cert.Amax.main_arg0))
      ∧ r.2.sem = fun _ => 0)

def quiescent_AmaxIdeal [hAmaxIdeal : Cert.AmaxIdeal.Facts] : Prop :=
  ∀ (m : (ℓ : Loc Cert.AmaxIdeal.nD Cert.AmaxIdeal.τ Cert.AmaxIdeal.sig) → Buf (Elt Ideal) ℓ) (g : Dev Cert.AmaxIdeal.nD → PrngReg), Pre_AmaxIdeal m →
    θ_run (Cert.AmaxIdeal.defs (F := Ideal)) (onTc (τ := Cert.AmaxIdeal.τ) (Cert.AmaxIdeal.main (F := Ideal))) ⟨m, fun _ => 0, g⟩ (fun r => (∀ c : Dev Cert.AmaxIdeal.nD,
      r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ r.2.sem = fun _ => 0)

def quiescent_AmaxReferenceIdeal [hAmaxReferenceIdeal : Cert.AmaxReferenceIdeal.Facts] : Prop :=
  ∀ (m : (ℓ : Loc Cert.AmaxReferenceIdeal.nD Cert.AmaxReferenceIdeal.τ Cert.AmaxReferenceIdeal.sig) → Buf (Elt Ideal) ℓ) (g : Dev Cert.AmaxReferenceIdeal.nD → PrngReg), Pre_AmaxReferenceIdeal m →
    θ_run (Cert.AmaxReferenceIdeal.defs (F := Ideal)) (onTc (τ := Cert.AmaxReferenceIdeal.τ) (Cert.AmaxReferenceIdeal.main (F := Ideal))) ⟨m, fun _ => 0, g⟩ (fun r => (∀ c : Dev Cert.AmaxReferenceIdeal.nD,
      r.2.mem ((c.tc : Thread Cert.AmaxReferenceIdeal.nD Cert.AmaxReferenceIdeal.τ).loc Cert.AmaxReferenceIdeal.main_arg0) = m ((c.tc : Thread Cert.AmaxReferenceIdeal.nD Cert.AmaxReferenceIdeal.τ).loc Cert.AmaxReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v20_0) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Amax_AmaxIdeal : Prop :=
  True

def algebraic_AmaxIdeal_AmaxReferenceIdeal [hAmaxIdeal : Cert.AmaxIdeal.Facts] [hAmaxReferenceIdeal : Cert.AmaxReferenceIdeal.Facts] : Prop :=
  ∀ (m : (ℓ : Loc Cert.AmaxIdeal.nD Cert.AmaxIdeal.τ Cert.AmaxIdeal.sig) → Buf (Elt Ideal) ℓ) (g : Dev Cert.AmaxIdeal.nD → PrngReg)
    (m' : (ℓ : Loc Cert.AmaxReferenceIdeal.nD Cert.AmaxReferenceIdeal.τ Cert.AmaxReferenceIdeal.sig) → Buf (Elt Ideal) ℓ) (g' : Dev Cert.AmaxReferenceIdeal.nD → PrngReg), Pre_AmaxIdeal m →
    (∀ c : Dev Cert.AmaxIdeal.nD,
      m' ((c.tc : Thread Cert.AmaxReferenceIdeal.nD Cert.AmaxReferenceIdeal.τ).loc Cert.AmaxReferenceIdeal.main_arg0) = m ((c.tc : Thread Cert.AmaxIdeal.nD Cert.AmaxIdeal.τ).loc Cert.AmaxIdeal.main_arg0)) →
    ∃ (v0 : (c : Dev Cert.AmaxIdeal.nD) → Buf (Elt Ideal) ((c.tc : Thread Cert.AmaxIdeal.nD Cert.AmaxIdeal.τ).loc Cert.AmaxIdeal.main_v1)),
      θ_run (Cert.AmaxIdeal.defs (F := Ideal)) (onTc (τ := Cert.AmaxIdeal.τ) (Cert.AmaxIdeal.main (F := Ideal))) ⟨m, fun _ => 0, g⟩ (fun r => ∀ c : Dev Cert.AmaxIdeal.nD,
          r.2.mem ((c.tc : Thread Cert.AmaxIdeal.nD Cert.AmaxIdeal.τ).loc Cert.AmaxIdeal.main_v1) = v0 c
          ∧ r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ θ_run (Cert.AmaxReferenceIdeal.defs (F := Ideal)) (onTc (τ := Cert.AmaxReferenceIdeal.τ) (Cert.AmaxReferenceIdeal.main (F := Ideal))) ⟨m', fun _ => 0, g'⟩ (fun r => ∀ c : Dev Cert.AmaxReferenceIdeal.nD,
          r.2.mem ((c.tc : Thread Cert.AmaxReferenceIdeal.nD Cert.AmaxReferenceIdeal.τ).loc Cert.AmaxReferenceIdeal.main_v19) = v0 c
          ∧ r.2.mem ((c.tc : Thread Cert.AmaxReferenceIdeal.nD Cert.AmaxReferenceIdeal.τ).loc Cert.AmaxReferenceIdeal.main_arg0) = m' ((c.tc : Thread Cert.AmaxReferenceIdeal.nD Cert.AmaxReferenceIdeal.τ).loc Cert.AmaxReferenceIdeal.main_arg0))

def Claim : Prop :=
  ∃ (hKernel : Cert.Kernel.Facts) (hKernelIdeal : Cert.KernelIdeal.Facts) (hReferenceIdeal : Cert.ReferenceIdeal.Facts) (hAmax : Cert.Amax.Facts) (hAmaxIdeal : Cert.AmaxIdeal.Facts) (hAmaxReferenceIdeal : Cert.AmaxReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Amax (hAmax := hAmax)
    ∧ quiescent_AmaxIdeal (hAmaxIdeal := hAmaxIdeal)
    ∧ quiescent_AmaxReferenceIdeal (hAmaxReferenceIdeal := hAmaxReferenceIdeal)
    ∧ preserves_Kernel_KernelIdeal
    ∧ algebraic_KernelIdeal_ReferenceIdeal (hKernelIdeal := hKernelIdeal) (hReferenceIdeal := hReferenceIdeal)
    ∧ preserves_Amax_AmaxIdeal
    ∧ algebraic_AmaxIdeal_AmaxReferenceIdeal (hAmaxIdeal := hAmaxIdeal) (hAmaxReferenceIdeal := hAmaxReferenceIdeal)
-- ==== Kernel.lean ====
abbrev S2x256x176x640 : Shape := ⟨4, ![2, 256, 176, 640]⟩
abbrev S3x3x640x1280 : Shape := ⟨4, ![3, 3, 640, 1280]⟩
abbrev S1280 : Shape := ⟨1, ![1280]⟩
abbrev S640x20 : Shape := ⟨2, ![640, 20]⟩
abbrev S3x3x20x20 : Shape := ⟨4, ![3, 3, 20, 20]⟩
abbrev S20x1280 : Shape := ⟨2, ![20, 1280]⟩
abbrev S90112x640 : Shape := ⟨2, ![90112, 640]⟩
abbrev S16x128 : Shape := ⟨2, ![16, 128]⟩
abbrev S2048x640 : Shape := ⟨2, ![2048, 640]⟩
abbrev S16x640 : Shape := ⟨2, ![16, 640]⟩
abbrev S128x16x640 : Shape := ⟨3, ![128, 16, 640]⟩
abbrev S640 : Shape := ⟨1, ![640]⟩
abbrev S1x640 : Shape := ⟨2, ![1, 640]⟩
abbrev S1 : Shape := ⟨1, ![1]⟩
abbrev S1x1 : Shape := ⟨2, ![1, 1]⟩
abbrev S1x128 : Shape := ⟨2, ![1, 128]⟩
abbrev S8x128 : Shape := ⟨2, ![8, 128]⟩
abbrev S_ : Shape := ⟨0, ![]⟩
abbrev S640x128 : Shape := ⟨2, ![640, 128]⟩
abbrev S3x3x128x128 : Shape := ⟨4, ![3, 3, 128, 128]⟩
abbrev S1152x128 : Shape := ⟨2, ![1152, 128]⟩
abbrev S128x1280 : Shape := ⟨2, ![128, 1280]⟩
abbrev S5760x1280 : Shape := ⟨2, ![5760, 1280]⟩
abbrev S1x1280 : Shape := ⟨2, ![1, 1280]⟩
abbrev S90112x1280 : Shape := ⟨2, ![90112, 1280]⟩
abbrev S704x640 : Shape := ⟨2, ![704, 640]⟩
abbrev S704x1280 : Shape := ⟨2, ![704, 1280]⟩
abbrev S4x15x1088x128 : Shape := ⟨4, ![4, 15, 1088, 128]⟩
abbrev S4x1088x128 : Shape := ⟨3, ![4, 1088, 128]⟩
abbrev S704x128 : Shape := ⟨2, ![704, 128]⟩
abbrev S1x1x704x128 : Shape := ⟨4, ![1, 1, 704, 128]⟩
abbrev S176x128 : Shape := ⟨2, ![176, 128]⟩
abbrev S1x1x176x128 : Shape := ⟨4, ![1, 1, 176, 128]⟩
abbrev S1x704x128 : Shape := ⟨3, ![1, 704, 128]⟩
abbrev S1x176x128 : Shape := ⟨3, ![1, 176, 128]⟩
abbrev S704x1152 : Shape := ⟨2, ![704, 1152]⟩
abbrev S704x5760 : Shape := ⟨2, ![704, 5760]⟩
abbrev S5760x256 : Shape := ⟨2, ![5760, 256]⟩
abbrev S704x256 : Shape := ⟨2, ![704, 256]⟩
abbrev S128x256 : Shape := ⟨2, ![128, 256]⟩
abbrev S1x256 : Shape := ⟨2, ![1, 256]⟩

abbrev nBuf : Space → Nat
  | .hbm => 26
  | .vmem => 19
  | .smem => 0
  | _ => 0

abbrev bufTy : (tb : Table) → Fin (tcTables nBuf tb) → BufTy
  | .hbm, ⟨0, _⟩ => ⟨S2x256x176x640, .bf16⟩
  | .hbm, ⟨1, _⟩ => ⟨S3x3x640x1280, .fp8e4m3⟩
  | .hbm, ⟨2, _⟩ => ⟨S1280, .f32⟩
  | .hbm, ⟨3, _⟩ => ⟨S1280, .f32⟩
  | .hbm, ⟨4, _⟩ => ⟨S640x20, .bf16⟩
  | .hbm, ⟨5, _⟩ => ⟨S3x3x20x20, .bf16⟩
  | .hbm, ⟨6, _⟩ => ⟨S20x1280, .bf16⟩
  | .hbm, ⟨7, _⟩ => ⟨S90112x640, .bf16⟩
  | .hbm, ⟨8, _⟩ => ⟨S16x128, .f32⟩
  | .hbm, ⟨9, _⟩ => ⟨S1x1, .f32⟩
  | .hbm, ⟨10, _⟩ => ⟨S_, .f32⟩
  | .hbm, ⟨11, _⟩ => ⟨S_, .i32⟩
  | .hbm, ⟨12, _⟩ => ⟨S_, .bf16⟩
  | .hbm, ⟨13, _⟩ => ⟨S640x128, .bf16⟩
  | .hbm, ⟨14, _⟩ => ⟨S_, .i32⟩
  | .hbm, ⟨15, _⟩ => ⟨S_, .bf16⟩
  | .hbm, ⟨16, _⟩ => ⟨S3x3x128x128, .bf16⟩
  | .hbm, ⟨17, _⟩ => ⟨S1152x128, .bf16⟩
  | .hbm, ⟨18, _⟩ => ⟨S_, .i32⟩
  | .hbm, ⟨19, _⟩ => ⟨S_, .bf16⟩
  | .hbm, ⟨20, _⟩ => ⟨S128x1280, .bf16⟩
  | .hbm, ⟨21, _⟩ => ⟨S5760x1280, .fp8e4m3⟩
  | .hbm, ⟨22, _⟩ => ⟨S1x1280, .f32⟩
  | .hbm, ⟨23, _⟩ => ⟨S1x1280, .f32⟩
  | .hbm, ⟨24, _⟩ => ⟨S90112x1280, .bf16⟩
  | .hbm, ⟨25, _⟩ => ⟨S90112x640, .fp8e4m3⟩
  | .local _ .vmem, ⟨0, _⟩ => ⟨S2048x640, .bf16⟩
  | .local _ .vmem, ⟨1, _⟩ => ⟨S2048x640, .bf16⟩
  | .local _ .vmem, ⟨2, _⟩ => ⟨S16x128, .f32⟩
  | .local _ .vmem, ⟨3, _⟩ => ⟨S16x640, .bf16⟩
  | .local _ .vmem, ⟨4, _⟩ => ⟨S16x128, .f32⟩
  | .local _ .vmem, ⟨5, _⟩ => ⟨S704x640, .bf16⟩
  | .local _ .vmem, ⟨6, _⟩ => ⟨S704x640, .bf16⟩
  | .local _ .vmem, ⟨7, _⟩ => ⟨S5760x1280, .fp8e4m3⟩
  | .local _ .vmem, ⟨8, _⟩ => ⟨S1x1280, .f32⟩
  | .local _ .vmem, ⟨9, _⟩ => ⟨S1x1280, .f32⟩
  | .local _ .vmem, ⟨10, _⟩ => ⟨S640x128, .bf16⟩
  | .local _ .vmem, ⟨11, _⟩ => ⟨S1152x128, .bf16⟩
  | .local _ .vmem, ⟨12, _⟩ => ⟨S128x1280, .bf16⟩
  | .local _ .vmem, ⟨13, _⟩ => ⟨S704x1280, .bf16⟩
  | .local _ .vmem, ⟨14, _⟩ => ⟨S704x1280, .bf16⟩
  | .local _ .vmem, ⟨15, _⟩ => ⟨S704x640, .fp8e4m3⟩
  | .local _ .vmem, ⟨16, _⟩ => ⟨S704x640, .fp8e4m3⟩
  | .local _ .vmem, ⟨17, _⟩ => ⟨S4x15x1088x128, .fp8e4m3⟩
  | .local _ .vmem, ⟨18, _⟩ => ⟨S4x1088x128, .f32⟩
  | _, _ => ⟨S2x256x176x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg7_0 : Ref sig .tc := ⟨.vmem, 12, rfl⟩
abbrev cc1_stg8_0 : Ref sig .tc := ⟨.vmem, 13, rfl⟩
abbrev cc1_stg8_1 : Ref sig .tc := ⟨.vmem, 14, rfl⟩
abbrev cc1_stg9_0 : Ref sig .tc := ⟨.vmem, 15, rfl⟩
abbrev cc1_stg9_1 : Ref sig .tc := ⟨.vmem, 16, rfl⟩
abbrev cc1_scratch0 : Ref sig .tc := ⟨.vmem, 17, rfl⟩
abbrev cc1_scratch1 : Ref sig .tc := ⟨.vmem, 18, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem8_1 : DmaSem sig := 13
abbrev cc1_sem9_0 : DmaSem sig := 14
abbrev cc1_sem9_1 : DmaSem sig := 15

abbrev nD : Nat := 1
abbrev τ : Topo := Topo.v7x

variable {F : FTy → Type} [FloatOps F]

abbrev grid0 : Pipeline.Grid := ⟨1, ![44], ![false]⟩

def k0_cond2 (i : grid0.Coords) : BitVec 1 :=
  let arg0 : BitVec 32 := BitVec.ofNat 32 (i 0).val
  let c43_i32 : BitVec 32 := 43#32
  let v13 : BitVec 1 := Scalar.cmpi .eq arg0 c43_i32
  let v14 : BitVec 32 := Scalar.extui v13
  let c0_i32_6 : BitVec 32 := 0#32
  let v15 : BitVec 1 := Scalar.cmpi .ne v14 c0_i32_6
  v15

@[reducible] def k0_t1_loop : Scf.Loop 32 :=
  let c0_i32_13 : BitVec 32 := 0#32
  let c246_i32 : BitVec 32 := 246#32
  let v29 : BitVec 32 := Scalar.addi c0_i32_13 c246_i32
  let c1_i32 : BitVec 32 := 1#32
  ⟨c0_i32_13, v29, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![130], ![false]⟩

def k1_off1 (i : grid1.Coords) : Fin 4 → Nat :=
  let arg0 : BitVec 32 := BitVec.ofNat 32 (i 0).val
  let c4_i32 : BitVec 32 := 4#32
  let c0_i32_3 : BitVec 32 := 0#32
  let v7 : BitVec 1 := Scalar.cmpi .eq c4_i32 c0_i32_3
  let c1_i32 : BitVec 32 := 1#32
  let v8 : BitVec 32 := Scalar.select v7 c1_i32 c4_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v101 : Index := Scalar.indexCast v16
  let c0_47 : Index := 0#32
  let c192 : Index := 192#32
  let c0_48 : Index := 0#32
  ![v101.toNat, 0, 192, 0]
def k1_off2 (i : grid1.Coords) : Fin 4 → Nat :=
  let arg0 : BitVec 32 := BitVec.ofNat 32 (i 0).val
  let c4_i32_7 : BitVec 32 := 4#32
  let v17 : BitVec 32 := Scalar.addi arg0 c4_i32_7
  let c1_i32_8 : BitVec 32 := 1#32
  let v18 : BitVec 32 := Scalar.subi v17 c1_i32_8
  let c4_i32_9 : BitVec 32 := 4#32
  let c0_i32_10 : BitVec 32 := 0#32
  let v19 : BitVec 1 := Scalar.cmpi .eq c4_i32_9 c0_i32_10
  let c1_i32_11 : BitVec 32 := 1#32
  let v20 : BitVec 32 := Scalar.select v19 c1_i32_11 c4_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v108 : Index := Scalar.indexCast v28
  let c0_49 : Index := 0#32
  let c896 : Index := 896#32
  let c0_50 : Index := 0#32
  ![v108.toNat, 0, 896, 0]
def k1_off3 (i : grid1.Coords) : Fin 4 → Nat :=
  let arg0 : BitVec 32 := BitVec.ofNat 32 (i 0).val
  let c1_i32_15 : BitVec 32 := 1#32
  let v29 : BitVec 32 := Scalar.addi arg0 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v115 : Index := Scalar.indexCast v39
  let c0_51 : Index := 0#32
  let c16 : Index := 16#32
  let c0_52 : Index := 0#32
  ![v115.toNat, 0, 16, 0]
def k1_off4 (i : grid1.Coords) : Fin 4 → Nat :=
  let arg0 : BitVec 32 := BitVec.ofNat 32 (i 0).val
  let c4_i32 : BitVec 32 := 4#32
  let c0_i32_3 : BitVec 32 := 0#32
  let v7 : BitVec 1 := Scalar.cmpi .eq c4_i32 c0_i32_3
  let c1_i32 : BitVec 32 := 1#32
  let v8 : BitVec 32 := Scalar.select v7 c1_i32 c4_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v119 : Index := Scalar.indexCast v16
  let c5 : Index := 5#32
  let c192_53 : Index := 192#32
  let c0_54 : Index := 0#32
  ![v119.toNat, 5, 192, 0]
def k1_off5 (i : grid1.Coords) : Fin 4 → Nat :=
  let arg0 : BitVec 32 := BitVec.ofNat 32 (i 0).val
  let c4_i32_7 : BitVec 32 := 4#32
  let v17 : BitVec 32 := Scalar.addi arg0 c4_i32_7
  let c1_i32_8 : BitVec 32 := 1#32
  let v18 : BitVec 32 := Scalar.subi v17 c1_i32_8
  let c4_i32_9 : BitVec 32 := 4#32
  let c0_i32_10 : BitVec 32 := 0#32
  let v19 : BitVec 1 := Scalar.cmpi .eq c4_i32_9 c0_i32_10
  let c1_i32_11 : BitVec 32 := 1#32
  let v20 : BitVec 32 := Scalar.select v19 c1_i32_11 c4_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v126 : Index := Scalar.indexCast v28
  let c5_55 : Index := 5#32
  let c896_56 : Index := 896#32
  let c0_57 : Index := 0#32
  ![v126.toNat, 5, 896, 0]
def k1_off6 (i : grid1.Coords) : Fin 4 → Nat :=
  let arg0 : BitVec 32 := BitVec.ofNat 32 (i 0).val
  let c1_i32_15 : BitVec 32 := 1#32
  let v29 : BitVec 32 := Scalar.addi arg0 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v133 : Index := Scalar.indexCast v39
  let c5_58 : Index := 5#32
  let c16_59 : Index := 16#32
  let c0_60 : Index := 0#32
  ![v133.toNat, 5, 16, 0]
def k1_off7 (i : grid1.Coords) : Fin 4 → Nat :=
  let arg0 : BitVec 32 := BitVec.ofNat 32 (i 0).val
  let c4_i32 : BitVec 32 := 4#32
  let c0_i32_3 : BitVec 32 := 0#32
  let v7 : BitVec 1 := Scalar.cmpi .eq c4_i32 c0_i32_3
  let c1_i32 : BitVec 32 := 1#32
  let v8 : BitVec 32 := Scalar.select v7 c1_i32 c4_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v137 : Index := Scalar.indexCast v16
  let c10 : Index := 10#32
  let c192_61 : Index := 192#32
  let c0_62 : Index := 0#32
  ![v137.toNat, 10, 192, 0]
def k1_off8 (i : grid1.Coords) : Fin 4 → Nat :=
  let arg0 : BitVec 32 := BitVec.ofNat 32 (i 0).val
  let c4_i32_7 : BitVec 32 := 4#32
  let v17 : BitVec 32 := Scalar.addi arg0 c4_i32_7
  let c1_i32_8 : BitVec 32 := 1#32
  let v18 : BitVec 32 := Scalar.subi v17 c1_i32_8
  let c4_i32_9 : BitVec 32 := 4#32
  let c0_i32_10 : BitVec 32 := 0#32
  let v19 : BitVec 1 := Scalar.cmpi .eq c4_i32_9 c0_i32_10
  let c1_i32_11 : BitVec 32 := 1#32
  let v20 : BitVec 32 := Scalar.select v19 c1_i32_11 c4_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v144 : Index := Scalar.indexCast v28
  let c10_63 : Index := 10#32
  let c896_64 : Index := 896#32
  let c0_65 : Index := 0#32
  ![v144.toNat, 10, 896, 0]
def k1_off9 (i : grid1.Coords) : Fin 4 → Nat :=
  let arg0 : BitVec 32 := BitVec.ofNat 32 (i 0).val
  let c1_i32_15 : BitVec 32 := 1#32
  let v29 : BitVec 32 := Scalar.addi arg0 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v151 : Index := Scalar.indexCast v39
  let c10_66 : Index := 10#32
  let c16_67 : Index := 16#32
  let c0_68 : Index := 0#32
  ![v151.toNat, 10, 16, 0]
def k1_off10 (i : grid1.Coords) : Fin 4 → Nat :=
  let arg0 : BitVec 32 := BitVec.ofNat 32 (i 0).val
  let c4_i32 : BitVec 32 := 4#32
  let c0_i32_3 : BitVec 32 := 0#32
  let v7 : BitVec 1 := Scalar.cmpi .eq c4_i32 c0_i32_3
  let c1_i32 : BitVec 32 := 1#32
  let v8 : BitVec 32 := Scalar.select v7 c1_i32 c4_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v176 : Index := Scalar.indexCast v16
  let c1 : Index := 1#32
  let c192_79 : Index := 192#32
  let c0_80 : Index := 0#32
  ![v176.toNat, 1, 192, 0]
def k1_off11 (i : grid1.Coords) : Fin 4 → Nat :=
  let arg0 : BitVec 32 := BitVec.ofNat 32 (i 0).val
  let c4_i32_7 : BitVec 32 := 4#32
  let v17 : BitVec 32 := Scalar.addi arg0 c4_i32_7
  let c1_i32_8 : BitVec 32 := 1#32
  let v18 : BitVec 32 := Scalar.subi v17 c1_i32_8
  let c4_i32_9 : BitVec 32 := 4#32
  let c0_i32_10 : BitVec 32 := 0#32
  let v19 : BitVec 1 := Scalar.cmpi .eq c4_i32_9 c0_i32_10
  let c1_i32_11 : BitVec 32 := 1#32
  let v20 : BitVec 32 := Scalar.select v19 c1_i32_11 c4_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v183 : Index := Scalar.indexCast v28
  let c1_81 : Index := 1#32
  let c896_82 : Index := 896#32
  let c0_83 : Index := 0#32
  ![v183.toNat, 1, 896, 0]
def k1_off12 (i : grid1.Coords) : Fin 4 → Nat :=
  let arg0 : BitVec 32 := BitVec.ofNat 32 (i 0).val
  let c1_i32_15 : BitVec 32 := 1#32
  let v29 : BitVec 32 := Scalar.addi arg0 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v190 : Index := Scalar.indexCast v39
  let c1_84 : Index := 1#32
  let c16_85 : Index := 16#32
  let c0_86 : Index := 0#32
  ![v190.toNat, 1, 16, 0]
def k1_off13 (i : grid1.Coords) : Fin 4 → Nat :=
  let arg0 : BitVec 32 := BitVec.ofNat 32 (i 0).val
  let c4_i32 : BitVec 32 := 4#32
  let c0_i32_3 : BitVec 32 := 0#32
  let v7 : BitVec 1 := Scalar.cmpi .eq c4_i32 c0_i32_3
  let c1_i32 : BitVec 32 := 1#32
  let v8 : BitVec 32 := Scalar.select v7 c1_i32 c4_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v194 : Index := Scalar.indexCast v16
  let c6 : Index := 6#32
  let c192_87 : Index := 192#32
  let c0_88 : Index := 0#32
  ![v194.toNat, 6, 192, 0]
def k1_off14 (i : grid1.Coords) : Fin 4 → Nat :=
  let arg0 : BitVec 32 := BitVec.ofNat 32 (i 0).val
  let c4_i32_7 : BitVec 32 := 4#32
  let v17 : BitVec 32 := Scalar.addi arg0 c4_i32_7
  let c1_i32_8 : BitVec 32 := 1#32
  let v18 : BitVec 32 := Scalar.subi v17 c1_i32_8
  let c4_i32_9 : BitVec 32 := 4#32
  let c0_i32_10 : BitVec 32 := 0#32
  let v19 : BitVec 1 := Scalar.cmpi .eq c4_i32_9 c0_i32_10
  let c1_i32_11 : BitVec 32 := 1#32
  let v20 : BitVec 32 := Scalar.select v19 c1_i32_11 c4_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v201 : Index := Scalar.indexCast v28
  let c6_89 : Index := 6#32
  let c896_90 : Index := 896#32
  let c0_91 : Index := 0#32
  ![v201.toNat, 6, 896, 0]
def k1_off15 (i : grid1.Coords) : Fin 4 → Nat :=
  let arg0 : BitVec 32 := BitVec.ofNat 32 (i 0).val
  let c1_i32_15 : BitVec 32 := 1#32
  let v29 : BitVec 32 := Scalar.addi arg0 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v208 : Index := Scalar.indexCast v39
  let c6_92 : Index := 6#32
  let c16_93 : Index := 16#32
  let c0_94 : Index := 0#32
  ![v208.toNat, 6, 16, 0]
def k1_off16 (i : grid1.Coords) : Fin 4 → Nat :=
  let arg0 : BitVec 32 := BitVec.ofNat 32 (i 0).val
  let c4_i32 : BitVec 32 := 4#32
  let c0_i32_3 : BitVec 32 := 0#32
  let v7 : BitVec 1 := Scalar.cmpi .eq c4_i32 c0_i32_3
  let c1_i32 : BitVec 32 := 1#32
  let v8 : BitVec 32 := Scalar.select v7 c1_i32 c4_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v212 : Index := Scalar.indexCast v16
  let c11 : Index := 11#32
  let c192_95 : Index := 192#32
  let c0_96 : Index := 0#32
  ![v212.toNat, 11, 192, 0]
def k1_off17 (i : grid1.Coords) : Fin 4 → Nat :=
  let arg0 : BitVec 32 := BitVec.ofNat 32 (i 0).val
  let c4_i32_7 : BitVec 32 := 4#32
  let v17 : BitVec 32 := Scalar.addi arg0 c4_i32_7
  let c1_i32_8 : BitVec 32 := 1#32
  let v18 : BitVec 32 := Scalar.subi v17 c1_i32_8
  let c4_i32_9 : BitVec 32 := 4#32
  let c0_i32_10 : BitVec 32 := 0#32
  let v19 : BitVec 1 := Scalar.cmpi .eq c4_i32_9 c0_i32_10
  let c1_i32_11 : BitVec 32 := 1#32
  let v20 : BitVec 32 := Scalar.select v19 c1_i32_11 c4_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v219 : Index := Scalar.indexCast v28
  let c11_97 : Index := 11#32
  let c896_98 : Index := 896#32
  let c0_99 : Index := 0#32
  ![v219.toNat, 11, 896, 0]
def k1_off18 (i : grid1.Coords) : Fin 4 → Nat :=
  let arg0 : BitVec 32 := BitVec.ofNat 32 (i 0).val
  let c1_i32_15 : BitVec 32 := 1#32
  let v29 : BitVec 32 := Scalar.addi arg0 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v226 : Index := Scalar.indexCast v39
  let c11_100 : Index := 11#32
  let c16_101 : Index := 16#32
  let c0_102 : Index := 0#32
  ![v226.toNat, 11, 16, 0]
def k1_off19 (i : grid1.Coords) : Fin 4 → Nat :=
  let arg0 : BitVec 32 := BitVec.ofNat 32 (i 0).val
  let c4_i32 : BitVec 32 := 4#32
  let c0_i32_3 : BitVec 32 := 0#32
  let v7 : BitVec 1 := Scalar.cmpi .eq c4_i32 c0_i32_3
  let c1_i32 : BitVec 32 := 1#32
  let v8 : BitVec 32 := Scalar.select v7 c1_i32 c4_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v251 : Index := Scalar.indexCast v16
  let c2 : Index := 2#32
  let c192_113 : Index := 192#32
  let c0_114 : Index := 0#32
  ![v251.toNat, 2, 192, 0]
def k1_off20 (i : grid1.Coords) : Fin 4 → Nat :=
  let arg0 : BitVec 32 := BitVec.ofNat 32 (i 0).val
  let c4_i32_7 : BitVec 32 := 4#32
  let v17 : BitVec 32 := Scalar.addi arg0 c4_i32_7
  let c1_i32_8 : BitVec 32 := 1#32
  let v18 : BitVec 32 := Scalar.subi v17 c1_i32_8
  let c4_i32_9 : BitVec 32 := 4#32
  let c0_i32_10 : BitVec 32 := 0#32
  let v19 : BitVec 1 := Scalar.cmpi .eq c4_i32_9 c0_i32_10
  let c1_i32_11 : BitVec 32 := 1#32
  let v20 : BitVec 32 := Scalar.select v19 c1_i32_11 c4_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v258 : Index := Scalar.indexCast v28
  let c2_115 : Index := 2#32
  let c896_116 : Index := 896#32
  let c0_117 : Index := 0#32
  ![v258.toNat, 2, 896, 0]
def k1_off21 (i : grid1.Coords) : Fin 4 → Nat :=
  let arg0 : BitVec 32 := BitVec.ofNat 32 (i 0).val
  let c1_i32_15 : BitVec 32 := 1#32
  let v29 : BitVec 32 := Scalar.addi arg0 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v265 : Index := Scalar.indexCast v39
  let c2_118 : Index := 2#32
  let c16_119 : Index := 16#32
  let c0_120 : Index := 0#32
  ![v265.toNat, 2, 16, 0]
def k1_off22 (i : grid1.Coords) : Fin 4 → Nat :=
  let arg0 : BitVec 32 := BitVec.ofNat 32 (i 0).val
  let c4_i32 : BitVec 32 := 4#32
  let c0_i32_3 : BitVec 32 := 0#32
  let v7 : BitVec 1 := Scalar.cmpi .eq c4_i32 c0_i32_3
  let c1_i32 : BitVec 32 := 1#32
  let v8 : BitVec 32 := Scalar.select v7 c1_i32 c4_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v269 : Index := Scalar.indexCast v16
  let c7 : Index := 7#32
  let c192_121 : Index := 192#32
  let c0_122 : Index := 0#32
  ![v269.toNat, 7, 192, 0]
def k1_off23 (i : grid1.Coords) : Fin 4 → Nat :=
  let arg0 : BitVec 32 := BitVec.ofNat 32 (i 0).val
  let c4_i32_7 : BitVec 32 := 4#32
  let v17 : BitVec 32 := Scalar.addi arg0 c4_i32_7
  let c1_i32_8 : BitVec 32 := 1#32
  let v18 : BitVec 32 := Scalar.subi v17 c1_i32_8
  let c4_i32_9 : BitVec 32 := 4#32
  let c0_i32_10 : BitVec 32 := 0#32
  let v19 : BitVec 1 := Scalar.cmpi .eq c4_i32_9 c0_i32_10
  let c1_i32_11 : BitVec 32 := 1#32
  let v20 : BitVec 32 := Scalar.select v19 c1_i32_11 c4_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v276 : Index := Scalar.indexCast v28
  let c7_123 : Index := 7#32
  let c896_124 : Index := 896#32
  let c0_125 : Index := 0#32
  ![v276.toNat, 7, 896, 0]
def k1_off24 (i : grid1.Coords) : Fin 4 → Nat :=
  let arg0 : BitVec 32 := BitVec.ofNat 32 (i 0).val
  let c1_i32_15 : BitVec 32 := 1#32
  let v29 : BitVec 32 := Scalar.addi arg0 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v283 : Index := Scalar.indexCast v39
  let c7_126 : Index := 7#32
  let c16_127 : Index := 16#32
  let c0_128 : Index := 0#32
  ![v283.toNat, 7, 16, 0]
def k1_off25 (i : grid1.Coords) : Fin 4 → Nat :=
  let arg0 : BitVec 32 := BitVec.ofNat 32 (i 0).val
  let c4_i32 : BitVec 32 := 4#32
  let c0_i32_3 : BitVec 32 := 0#32
  let v7 : BitVec 1 := Scalar.cmpi .eq c4_i32 c0_i32_3
  let c1_i32 : BitVec 32 := 1#32
  let v8 : BitVec 32 := Scalar.select v7 c1_i32 c4_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v287 : Index := Scalar.indexCast v16
  let c12 : Index := 12#32
  let c192_129 : Index := 192#32
  let c0_130 : Index := 0#32
  ![v287.toNat, 12, 192, 0]
def k1_off26 (i : grid1.Coords) : Fin 4 → Nat :=
  let arg0 : BitVec 32 := BitVec.ofNat 32 (i 0).val
  let c4_i32_7 : BitVec 32 := 4#32
  let v17 : BitVec 32 := Scalar.addi arg0 c4_i32_7
  let c1_i32_8 : BitVec 32 := 1#32
  let v18 : BitVec 32 := Scalar.subi v17 c1_i32_8
  let c4_i32_9 : BitVec 32 := 4#32
  let c0_i32_10 : BitVec 32 := 0#32
  let v19 : BitVec 1 := Scalar.cmpi .eq c4_i32_9 c0_i32_10
  let c1_i32_11 : BitVec 32 := 1#32
  let v20 : BitVec 32 := Scalar.select v19 c1_i32_11 c4_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v294 : Index := Scalar.indexCast v28
  let c12_131 : Index := 12#32
  let c896_132 : Index := 896#32
  let c0_133 : Index := 0#32
  ![v294.toNat, 12, 896, 0]
def k1_off27 (i : grid1.Coords) : Fin 4 → Nat :=
  let arg0 : BitVec 32 := BitVec.ofNat 32 (i 0).val
  let c1_i32_15 : BitVec 32 := 1#32
  let v29 : BitVec 32 := Scalar.addi arg0 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v301 : Index := Scalar.indexCast v39
  let c12_134 : Index := 12#32
  let c16_135 : Index := 16#32
  let c0_136 : Index := 0#32
  ![v301.toNat, 12, 16, 0]
def k1_off28 (i : grid1.Coords) : Fin 4 → Nat :=
  let arg0 : BitVec 32 := BitVec.ofNat 32 (i 0).val
  let c4_i32 : BitVec 32 := 4#32
  let c0_i32_3 : BitVec 32 := 0#32
  let v7 : BitVec 1 := Scalar.cmpi .eq c4_i32 c0_i32_3
  let c1_i32 : BitVec 32 := 1#32
  let v8 : BitVec 32 := Scalar.select v7 c1_i32 c4_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v326 : Index := Scalar.indexCast v16
  let c3 : Index := 3#32
  let c192_147 : Index := 192#32
  let c0_148 : Index := 0#32
  ![v326.toNat, 3, 192, 0]
def k1_off29 (i : grid1.Coords) : Fin 4 → Nat :=
  let arg0 : BitVec 32 := BitVec.ofNat 32 (i 0).val
  let c4_i32_7 : BitVec 32 := 4#32
  let v17 : BitVec 32 := Scalar.addi arg0 c4_i32_7
  let c1_i32_8 : BitVec 32 := 1#32
  let v18 : BitVec 32 := Scalar.subi v17 c1_i32_8
  let c4_i32_9 : BitVec 32 := 4#32
  let c0_i32_10 : BitVec 32 := 0#32
  let v19 : BitVec 1 := Scalar.cmpi .eq c4_i32_9 c0_i32_10
  let c1_i32_11 : BitVec 32 := 1#32
  let v20 : BitVec 32 := Scalar.select v19 c1_i32_11 c4_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v333 : Index := Scalar.indexCast v28
  let c3_149 : Index := 3#32
  let c896_150 : Index := 896#32
  let c0_151 : Index := 0#32
  ![v333.toNat, 3, 896, 0]
def k1_off30 (i : grid1.Coords) : Fin 4 → Nat :=
  let arg0 : BitVec 32 := BitVec.ofNat 32 (i 0).val
  let c1_i32_15 : BitVec 32 := 1#32
  let v29 : BitVec 32 := Scalar.addi arg0 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v340 : Index := Scalar.indexCast v39
  let c3_152 : Index := 3#32
  let c16_153 : Index := 16#32
  let c0_154 : Index := 0#32
  ![v340.toNat, 3, 16, 0]
def k1_off31 (i : grid1.Coords) : Fin 4 → Nat :=
  let arg0 : BitVec 32 := BitVec.ofNat 32 (i 0).val
  let c4_i32 : BitVec 32 := 4#32
  let c0_i32_3 : BitVec 32 := 0#32
  let v7 : BitVec 1 := Scalar.cmpi .eq c4_i32 c0_i32_3
  let c1_i32 : BitVec 32 := 1#32
  let v8 : BitVec 32 := Scalar.select v7 c1_i32 c4_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v344 : Index := Scalar.indexCast v16
  let c8_155 : Index := 8#32
  let c192_156 : Index := 192#32
  let c0_157 : Index := 0#32
  ![v344.toNat, 8, 192, 0]
def k1_off32 (i : grid1.Coords) : Fin 4 → Nat :=
  let arg0 : BitVec 32 := BitVec.ofNat 32 (i 0).val
  let c4_i32_7 : BitVec 32 := 4#32
  let v17 : BitVec 32 := Scalar.addi arg0 c4_i32_7
  let c1_i32_8 : BitVec 32 := 1#32
  let v18 : BitVec 32 := Scalar.subi v17 c1_i32_8
  let c4_i32_9 : BitVec 32 := 4#32
  let c0_i32_10 : BitVec 32 := 0#32
  let v19 : BitVec 1 := Scalar.cmpi .eq c4_i32_9 c0_i32_10
  let c1_i32_11 : BitVec 32 := 1#32
  let v20 : BitVec 32 := Scalar.select v19 c1_i32_11 c4_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v351 : Index := Scalar.indexCast v28
  let c8_158 : Index := 8#32
  let c896_159 : Index := 896#32
  let c0_160 : Index := 0#32
  ![v351.toNat, 8, 896, 0]
def k1_off33 (i : grid1.Coords) : Fin 4 → Nat :=
  let arg0 : BitVec 32 := BitVec.ofNat 32 (i 0).val
  let c1_i32_15 : BitVec 32 := 1#32
  let v29 : BitVec 32 := Scalar.addi arg0 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v358 : Index := Scalar.indexCast v39
  let c8_161 : Index := 8#32
  let c16_162 : Index := 16#32
  let c0_163 : Index := 0#32
  ![v358.toNat, 8, 16, 0]
def k1_off34 (i : grid1.Coords) : Fin 4 → Nat :=
  let arg0 : BitVec 32 := BitVec.ofNat 32 (i 0).val
  let c4_i32 : BitVec 32 := 4#32
  let c0_i32_3 : BitVec 32 := 0#32
  let v7 : BitVec 1 := Scalar.cmpi .eq c4_i32 c0_i32_3
  let c1_i32 : BitVec 32 := 1#32
  let v8 : BitVec 32 := Scalar.select v7 c1_i32 c4_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v362 : Index := Scalar.indexCast v16
  let c13 : Index := 13#32
  let c192_164 : Index := 192#32
  let c0_165 : Index := 0#32
  ![v362.toNat, 13, 192, 0]
def k1_off35 (i : grid1.Coords) : Fin 4 → Nat :=
  let arg0 : BitVec 32 := BitVec.ofNat 32 (i 0).val
  let c4_i32_7 : BitVec 32 := 4#32
  let v17 : BitVec 32 := Scalar.addi arg0 c4_i32_7
  let c1_i32_8 : BitVec 32 := 1#32
  let v18 : BitVec 32 := Scalar.subi v17 c1_i32_8
  let c4_i32_9 : BitVec 32 := 4#32
  let c0_i32_10 : BitVec 32 := 0#32
  let v19 : BitVec 1 := Scalar.cmpi .eq c4_i32_9 c0_i32_10
  let c1_i32_11 : BitVec 32 := 1#32
  let v20 : BitVec 32 := Scalar.select v19 c1_i32_11 c4_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v369 : Index := Scalar.indexCast v28
  let c13_166 : Index := 13#32
  let c896_167 : Index := 896#32
  let c0_168 : Index := 0#32
  ![v369.toNat, 13, 896, 0]
def k1_off36 (i : grid1.Coords) : Fin 4 → Nat :=
  let arg0 : BitVec 32 := BitVec.ofNat 32 (i 0).val
  let c1_i32_15 : BitVec 32 := 1#32
  let v29 : BitVec 32 := Scalar.addi arg0 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v376 : Index := Scalar.indexCast v39
  let c13_169 : Index := 13#32
  let c16_170 : Index := 16#32
  let c0_171 : Index := 0#32
  ![v376.toNat, 13, 16, 0]
def k1_off37 (i : grid1.Coords) : Fin 4 → Nat :=
  let arg0 : BitVec 32 := BitVec.ofNat 32 (i 0).val
  let c4_i32 : BitVec 32 := 4#32
  let c0_i32_3 : BitVec 32 := 0#32
  let v7 : BitVec 1 := Scalar.cmpi .eq c4_i32 c0_i32_3
  let c1_i32 : BitVec 32 := 1#32
  let v8 : BitVec 32 := Scalar.select v7 c1_i32 c4_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v401 : Index := Scalar.indexCast v16
  let c4 : Index := 4#32
  let c192_182 : Index := 192#32
  let c0_183 : Index := 0#32
  ![v401.toNat, 4, 192, 0]
def k1_off38 (i : grid1.Coords) : Fin 4 → Nat :=
  let arg0 : BitVec 32 := BitVec.ofNat 32 (i 0).val
  let c4_i32_7 : BitVec 32 := 4#32
  let v17 : BitVec 32 := Scalar.addi arg0 c4_i32_7
  let c1_i32_8 : BitVec 32 := 1#32
  let v18 : BitVec 32 := Scalar.subi v17 c1_i32_8
  let c4_i32_9 : BitVec 32 := 4#32
  let c0_i32_10 : BitVec 32 := 0#32
  let v19 : BitVec 1 := Scalar.cmpi .eq c4_i32_9 c0_i32_10
  let c1_i32_11 : BitVec 32 := 1#32
  let v20 : BitVec 32 := Scalar.select v19 c1_i32_11 c4_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v408 : Index := Scalar.indexCast v28
  let c4_184 : Index := 4#32
  let c896_185 : Index := 896#32
  let c0_186 : Index := 0#32
  ![v408.toNat, 4, 896, 0]
def k1_off39 (i : grid1.Coords) : Fin 4 → Nat :=
  let arg0 : BitVec 32 := BitVec.ofNat 32 (i 0).val
  let c1_i32_15 : BitVec 32 := 1#32
  let v29 : BitVec 32 := Scalar.addi arg0 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v415 : Index := Scalar.indexCast v39
  let c4_187 : Index := 4#32
  let c16_188 : Index := 16#32
  let c0_189 : Index := 0#32
  ![v415.toNat, 4, 16, 0]
def k1_off40 (i : grid1.Coords) : Fin 4 → Nat :=
  let arg0 : BitVec 32 := BitVec.ofNat 32 (i 0).val
  let c4_i32 : BitVec 32 := 4#32
  let c0_i32_3 : BitVec 32 := 0#32
  let v7 : BitVec 1 := Scalar.cmpi .eq c4_i32 c0_i32_3
  let c1_i32 : BitVec 32 := 1#32
  let v8 : BitVec 32 := Scalar.select v7 c1_i32 c4_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v419 : Index := Scalar.indexCast v16
  let c9 : Index := 9#32
  let c192_190 : Index := 192#32
  let c0_191 : Index := 0#32
  ![v419.toNat, 9, 192, 0]
def k1_off41 (i : grid1.Coords) : Fin 4 → Nat :=
  let arg0 : BitVec 32 := BitVec.ofNat 32 (i 0).val
  let c4_i32_7 : BitVec 32 := 4#32
  let v17 : BitVec 32 := Scalar.addi arg0 c4_i32_7
  let c1_i32_8 : BitVec 32 := 1#32
  let v18 : BitVec 32 := Scalar.subi v17 c1_i32_8
  let c4_i32_9 : BitVec 32 := 4#32
  let c0_i32_10 : BitVec 32 := 0#32
  let v19 : BitVec 1 := Scalar.cmpi .eq c4_i32_9 c0_i32_10
  let c1_i32_11 : BitVec 32 := 1#32
  let v20 : BitVec 32 := Scalar.select v19 c1_i32_11 c4_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v426 : Index := Scalar.indexCast v28
  let c9_192 : Index := 9#32
  let c896_193 : Index := 896#32
  let c0_194 : Index := 0#32
  ![v426.toNat, 9, 896, 0]
def k1_off42 (i : grid1.Coords) : Fin 4 → Nat :=
  let arg0 : BitVec 32 := BitVec.ofNat 32 (i 0).val
  let c1_i32_15 : BitVec 32 := 1#32
  let v29 : BitVec 32 := Scalar.addi arg0 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v433 : Index := Scalar.indexCast v39
  let c9_195 : Index := 9#32
  let c16_196 : Index := 16#32
  let c0_197 : Index := 0#32
  ![v433.toNat, 9, 16, 0]
def k1_off43 (i : grid1.Coords) : Fin 4 → Nat :=
  let arg0 : BitVec 32 := BitVec.ofNat 32 (i 0).val
  let c4_i32 : BitVec 32 := 4#32
  let c0_i32_3 : BitVec 32 := 0#32
  let v7 : BitVec 1 := Scalar.cmpi .eq c4_i32 c0_i32_3
  let c1_i32 : BitVec 32 := 1#32
  let v8 : BitVec 32 := Scalar.select v7 c1_i32 c4_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v437 : Index := Scalar.indexCast v16
  let c14 : Index := 14#32
  let c192_198 : Index := 192#32
  let c0_199 : Index := 0#32
  ![v437.toNat, 14, 192, 0]
def k1_off44 (i : grid1.Coords) : Fin 4 → Nat :=
  let arg0 : BitVec 32 := BitVec.ofNat 32 (i 0).val
  let c4_i32_7 : BitVec 32 := 4#32
  let v17 : BitVec 32 := Scalar.addi arg0 c4_i32_7
  let c1_i32_8 : BitVec 32 := 1#32
  let v18 : BitVec 32 := Scalar.subi v17 c1_i32_8
  let c4_i32_9 : BitVec 32 := 4#32
  let c0_i32_10 : BitVec 32 := 0#32
  let v19 : BitVec 1 := Scalar.cmpi .eq c4_i32_9 c0_i32_10
  let c1_i32_11 : BitVec 32 := 1#32
  let v20 : BitVec 32 := Scalar.select v19 c1_i32_11 c4_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v444 : Index := Scalar.indexCast v28
  let c14_200 : Index := 14#32
  let c896_201 : Index := 896#32
  let c0_202 : Index := 0#32
  ![v444.toNat, 14, 896, 0]
def k1_off45 (i : grid1.Coords) : Fin 4 → Nat :=
  let arg0 : BitVec 32 := BitVec.ofNat 32 (i 0).val
  let c1_i32_15 : BitVec 32 := 1#32
  let v29 : BitVec 32 := Scalar.addi arg0 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v451 : Index := Scalar.indexCast v39
  let c14_203 : Index := 14#32
  let c16_204 : Index := 16#32
  let c0_205 : Index := 0#32
  ![v451.toNat, 14, 16, 0]
def k1_off46 (i : grid1.Coords) : Fin 3 → Nat :=
  let arg0 : BitVec 32 := BitVec.ofNat 32 (i 0).val
  let c4_i32 : BitVec 32 := 4#32
  let c0_i32_3 : BitVec 32 := 0#32
  let v7 : BitVec 1 := Scalar.cmpi .eq c4_i32 c0_i32_3
  let c1_i32 : BitVec 32 := 1#32
  let v8 : BitVec 32 := Scalar.select v7 c1_i32 c4_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v465 : Index := Scalar.indexCast v16
  let c192_211 : Index := 192#32
  let c0_212 : Index := 0#32
  ![v465.toNat, 192, 0]
def k1_off47 (i : grid1.Coords) : Fin 3 → Nat :=
  let arg0 : BitVec 32 := BitVec.ofNat 32 (i 0).val
  let c4_i32_7 : BitVec 32 := 4#32
  let v17 : BitVec 32 := Scalar.addi arg0 c4_i32_7
  let c1_i32_8 : BitVec 32 := 1#32
  let v18 : BitVec 32 := Scalar.subi v17 c1_i32_8
  let c4_i32_9 : BitVec 32 := 4#32
  let c0_i32_10 : BitVec 32 := 0#32
  let v19 : BitVec 1 := Scalar.cmpi .eq c4_i32_9 c0_i32_10
  let c1_i32_11 : BitVec 32 := 1#32
  let v20 : BitVec 32 := Scalar.select v19 c1_i32_11 c4_i32_9
  let v21 : BitVec 32 := Scalar.remsi v18 v20
  let c0_i32_13 : BitVec 32 := 0#32
  let v23 : BitVec 1 := Scalar.cmpi .slt v21 c0_i32_13
  let c0_i32_14 : BitVec 32 := 0#32
  let v24 : BitVec 1 := Scalar.cmpi .slt v20 c0_i32_14
  let v25 : BitVec 1 := Scalar.xori v23 v24
  let c0_i32_12 : BitVec 32 := 0#32
  let v22 : BitVec 1 := Scalar.cmpi .ne v21 c0_i32_12
  let v26 : BitVec 1 := Scalar.andi v25 v22
  let v27 : BitVec 32 := Scalar.addi v21 v20
  let v28 : BitVec 32 := Scalar.select v26 v27 v21
  let v472 : Index := Scalar.indexCast v28
  let c896_214 : Index := 896#32
  let c0_215 : Index := 0#32
  ![v472.toNat, 896, 0]
def k1_off48 (i : grid1.Coords) : Fin 3 → Nat :=
  let arg0 : BitVec 32 := BitVec.ofNat 32 (i 0).val
  let c1_i32_15 : BitVec 32 := 1#32
  let v29 : BitVec 32 := Scalar.addi arg0 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let v479 : Index := Scalar.indexCast v39
  let c16_217 : Index := 16#32
  let c0_218 : Index := 0#32
  ![v479.toNat, 16, 0]
def k1_cond2 (i : grid1.Coords) : BitVec 1 :=
  let arg0 : BitVec 32 := BitVec.ofNat 32 (i 0).val
  let c2_i32 : BitVec 32 := 2#32
  let v483 : BitVec 1 := Scalar.cmpi .sge arg0 c2_i32
  let v484 : BitVec 32 := Scalar.extui v483
  let c0_i32_219 : BitVec 32 := 0#32
  let v485 : BitVec 1 := Scalar.cmpi .ne v484 c0_i32_219
  v485

def k1_off49 (i : grid1.Coords) : Fin 3 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v515 : Index := Scalar.indexCast v497
  let c15 : Index := 15#32
  let c0_234 : Index := 0#32
  ![v515.toNat, 15, 0]
def k1_off50 (i : grid1.Coords) : Fin 3 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v523 : Index := Scalar.indexCast v497
  let c16_237 : Index := 16#32
  let c0_238 : Index := 0#32
  ![v523.toNat, 16, 0]
def k1_off51 (i : grid1.Coords) : Fin 3 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v527 : Index := Scalar.indexCast v497
  let c17 : Index := 17#32
  let c0_239 : Index := 0#32
  ![v527.toNat, 17, 0]
def k1_off52 (i : grid1.Coords) : Fin 3 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v535 : Index := Scalar.indexCast v497
  let c191 : Index := 191#32
  let c0_242 : Index := 0#32
  ![v535.toNat, 191, 0]
def k1_off53 (i : grid1.Coords) : Fin 3 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v543 : Index := Scalar.indexCast v497
  let c192_245 : Index := 192#32
  let c0_246 : Index := 0#32
  ![v543.toNat, 192, 0]
def k1_off54 (i : grid1.Coords) : Fin 3 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v547 : Index := Scalar.indexCast v497
  let c193 : Index := 193#32
  let c0_247 : Index := 0#32
  ![v547.toNat, 193, 0]
def k1_off55 (i : grid1.Coords) : Fin 3 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v555 : Index := Scalar.indexCast v497
  let c367 : Index := 367#32
  let c0_250 : Index := 0#32
  ![v555.toNat, 367, 0]
def k1_off56 (i : grid1.Coords) : Fin 3 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v563 : Index := Scalar.indexCast v497
  let c368 : Index := 368#32
  let c0_253 : Index := 0#32
  ![v563.toNat, 368, 0]
def k1_off57 (i : grid1.Coords) : Fin 3 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v567 : Index := Scalar.indexCast v497
  let c369 : Index := 369#32
  let c0_254 : Index := 0#32
  ![v567.toNat, 369, 0]
@[reducible] def k1_t1_loop : Scf.Loop 32 :=
  let c0_i32_260 : BitVec 32 := 0#32
  let c5_i32 : BitVec 32 := 5#32
  let v580 : BitVec 32 := Scalar.addi c0_i32_260 c5_i32
  let c1_i32_261 : BitVec 32 := 1#32
  ⟨c0_i32_260, v580, c1_i32_261⟩
def k1_mult1 (k1_t1 : Fin k1_t1_loop.trips) : BitVec 32 :=
  let c0_i32_260 : BitVec 32 := 0#32
  let c1_i32_261 : BitVec 32 := 1#32
  let arg13 : BitVec 32 := Scf.iv c0_i32_260 c1_i32_261 k1_t1
  let c256_i32 : BitVec 32 := 256#32
  let v581 : BitVec 32 := Scalar.muli arg13 c256_i32
  v581
def k1_off58 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v583 : Index := Scalar.indexCast v497
  let c0_263 : Index := 0#32
  let c16_264 : Index := 16#32
  let c0_265 : Index := 0#32
  ![v583.toNat, 0, 16, 0]
def k1_off59 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v586 : Index := Scalar.indexCast v497
  let c1_266 : Index := 1#32
  let c16_267 : Index := 16#32
  let c0_268 : Index := 0#32
  ![v586.toNat, 1, 16, 0]
def k1_off60 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v589 : Index := Scalar.indexCast v497
  let c2_269 : Index := 2#32
  let c16_270 : Index := 16#32
  let c0_271 : Index := 0#32
  ![v589.toNat, 2, 16, 0]
def k1_off61 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v592 : Index := Scalar.indexCast v497
  let c3_272 : Index := 3#32
  let c16_273 : Index := 16#32
  let c0_274 : Index := 0#32
  ![v592.toNat, 3, 16, 0]
def k1_off62 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v595 : Index := Scalar.indexCast v497
  let c4_275 : Index := 4#32
  let c16_276 : Index := 16#32
  let c0_277 : Index := 0#32
  ![v595.toNat, 4, 16, 0]
def k1_off63 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v598 : Index := Scalar.indexCast v497
  let c5_278 : Index := 5#32
  let c16_279 : Index := 16#32
  let c0_280 : Index := 0#32
  ![v598.toNat, 5, 16, 0]
def k1_off64 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v601 : Index := Scalar.indexCast v497
  let c6_281 : Index := 6#32
  let c16_282 : Index := 16#32
  let c0_283 : Index := 0#32
  ![v601.toNat, 6, 16, 0]
def k1_off65 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v604 : Index := Scalar.indexCast v497
  let c7_284 : Index := 7#32
  let c16_285 : Index := 16#32
  let c0_286 : Index := 0#32
  ![v604.toNat, 7, 16, 0]
def k1_off66 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v607 : Index := Scalar.indexCast v497
  let c8_287 : Index := 8#32
  let c16_288 : Index := 16#32
  let c0_289 : Index := 0#32
  ![v607.toNat, 8, 16, 0]
def k1_off67 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v610 : Index := Scalar.indexCast v497
  let c9_290 : Index := 9#32
  let c16_291 : Index := 16#32
  let c0_292 : Index := 0#32
  ![v610.toNat, 9, 16, 0]
def k1_off68 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v613 : Index := Scalar.indexCast v497
  let c10_293 : Index := 10#32
  let c16_294 : Index := 16#32
  let c0_295 : Index := 0#32
  ![v613.toNat, 10, 16, 0]
def k1_off69 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v616 : Index := Scalar.indexCast v497
  let c11_296 : Index := 11#32
  let c16_297 : Index := 16#32
  let c0_298 : Index := 0#32
  ![v616.toNat, 11, 16, 0]
def k1_off70 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v619 : Index := Scalar.indexCast v497
  let c12_299 : Index := 12#32
  let c16_300 : Index := 16#32
  let c0_301 : Index := 0#32
  ![v619.toNat, 12, 16, 0]
def k1_off71 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v622 : Index := Scalar.indexCast v497
  let c13_302 : Index := 13#32
  let c16_303 : Index := 16#32
  let c0_304 : Index := 0#32
  ![v622.toNat, 13, 16, 0]
def k1_off72 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v625 : Index := Scalar.indexCast v497
  let c14_305 : Index := 14#32
  let c16_306 : Index := 16#32
  let c0_307 : Index := 0#32
  ![v625.toNat, 14, 16, 0]
def k1_off73 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v628 : Index := Scalar.indexCast v497
  let c0_308 : Index := 0#32
  let c192_309 : Index := 192#32
  let c0_310 : Index := 0#32
  ![v628.toNat, 0, 192, 0]
def k1_off74 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v631 : Index := Scalar.indexCast v497
  let c1_311 : Index := 1#32
  let c192_312 : Index := 192#32
  let c0_313 : Index := 0#32
  ![v631.toNat, 1, 192, 0]
def k1_off75 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v634 : Index := Scalar.indexCast v497
  let c2_314 : Index := 2#32
  let c192_315 : Index := 192#32
  let c0_316 : Index := 0#32
  ![v634.toNat, 2, 192, 0]
def k1_off76 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v637 : Index := Scalar.indexCast v497
  let c3_317 : Index := 3#32
  let c192_318 : Index := 192#32
  let c0_319 : Index := 0#32
  ![v637.toNat, 3, 192, 0]
def k1_off77 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v640 : Index := Scalar.indexCast v497
  let c4_320 : Index := 4#32
  let c192_321 : Index := 192#32
  let c0_322 : Index := 0#32
  ![v640.toNat, 4, 192, 0]
def k1_off78 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v643 : Index := Scalar.indexCast v497
  let c5_323 : Index := 5#32
  let c192_324 : Index := 192#32
  let c0_325 : Index := 0#32
  ![v643.toNat, 5, 192, 0]
def k1_off79 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v646 : Index := Scalar.indexCast v497
  let c6_326 : Index := 6#32
  let c192_327 : Index := 192#32
  let c0_328 : Index := 0#32
  ![v646.toNat, 6, 192, 0]
def k1_off80 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v649 : Index := Scalar.indexCast v497
  let c7_329 : Index := 7#32
  let c192_330 : Index := 192#32
  let c0_331 : Index := 0#32
  ![v649.toNat, 7, 192, 0]
def k1_off81 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v652 : Index := Scalar.indexCast v497
  let c8_332 : Index := 8#32
  let c192_333 : Index := 192#32
  let c0_334 : Index := 0#32
  ![v652.toNat, 8, 192, 0]
def k1_off82 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v655 : Index := Scalar.indexCast v497
  let c9_335 : Index := 9#32
  let c192_336 : Index := 192#32
  let c0_337 : Index := 0#32
  ![v655.toNat, 9, 192, 0]
def k1_off83 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v658 : Index := Scalar.indexCast v497
  let c10_338 : Index := 10#32
  let c192_339 : Index := 192#32
  let c0_340 : Index := 0#32
  ![v658.toNat, 10, 192, 0]
def k1_off84 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v661 : Index := Scalar.indexCast v497
  let c11_341 : Index := 11#32
  let c192_342 : Index := 192#32
  let c0_343 : Index := 0#32
  ![v661.toNat, 11, 192, 0]
def k1_off85 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v664 : Index := Scalar.indexCast v497
  let c12_344 : Index := 12#32
  let c192_345 : Index := 192#32
  let c0_346 : Index := 0#32
  ![v664.toNat, 12, 192, 0]
def k1_off86 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v667 : Index := Scalar.indexCast v497
  let c13_347 : Index := 13#32
  let c192_348 : Index := 192#32
  let c0_349 : Index := 0#32
  ![v667.toNat, 13, 192, 0]
def k1_off87 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v670 : Index := Scalar.indexCast v497
  let c14_350 : Index := 14#32
  let c192_351 : Index := 192#32
  let c0_352 : Index := 0#32
  ![v670.toNat, 14, 192, 0]
def k1_off88 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v673 : Index := Scalar.indexCast v497
  let c0_353 : Index := 0#32
  let c368_354 : Index := 368#32
  let c0_355 : Index := 0#32
  ![v673.toNat, 0, 368, 0]
def k1_off89 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v676 : Index := Scalar.indexCast v497
  let c1_356 : Index := 1#32
  let c368_357 : Index := 368#32
  let c0_358 : Index := 0#32
  ![v676.toNat, 1, 368, 0]
def k1_off90 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v679 : Index := Scalar.indexCast v497
  let c2_359 : Index := 2#32
  let c368_360 : Index := 368#32
  let c0_361 : Index := 0#32
  ![v679.toNat, 2, 368, 0]
def k1_off91 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v682 : Index := Scalar.indexCast v497
  let c3_362 : Index := 3#32
  let c368_363 : Index := 368#32
  let c0_364 : Index := 0#32
  ![v682.toNat, 3, 368, 0]
def k1_off92 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v685 : Index := Scalar.indexCast v497
  let c4_365 : Index := 4#32
  let c368_366 : Index := 368#32
  let c0_367 : Index := 0#32
  ![v685.toNat, 4, 368, 0]
def k1_off93 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v688 : Index := Scalar.indexCast v497
  let c5_368 : Index := 5#32
  let c368_369 : Index := 368#32
  let c0_370 : Index := 0#32
  ![v688.toNat, 5, 368, 0]
def k1_off94 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v691 : Index := Scalar.indexCast v497
  let c6_371 : Index := 6#32
  let c368_372 : Index := 368#32
  let c0_373 : Index := 0#32
  ![v691.toNat, 6, 368, 0]
def k1_off95 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v694 : Index := Scalar.indexCast v497
  let c7_374 : Index := 7#32
  let c368_375 : Index := 368#32
  let c0_376 : Index := 0#32
  ![v694.toNat, 7, 368, 0]
def k1_off96 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v697 : Index := Scalar.indexCast v497
  let c8_377 : Index := 8#32
  let c368_378 : Index := 368#32
  let c0_379 : Index := 0#32
  ![v697.toNat, 8, 368, 0]
def k1_off97 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v700 : Index := Scalar.indexCast v497
  let c9_380 : Index := 9#32
  let c368_381 : Index := 368#32
  let c0_382 : Index := 0#32
  ![v700.toNat, 9, 368, 0]
def k1_off98 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v703 : Index := Scalar.indexCast v497
  let c10_383 : Index := 10#32
  let c368_384 : Index := 368#32
  let c0_385 : Index := 0#32
  ![v703.toNat, 10, 368, 0]
def k1_off99 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v706 : Index := Scalar.indexCast v497
  let c11_386 : Index := 11#32
  let c368_387 : Index := 368#32
  let c0_388 : Index := 0#32
  ![v706.toNat, 11, 368, 0]
def k1_off100 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v709 : Index := Scalar.indexCast v497
  let c12_389 : Index := 12#32
  let c368_390 : Index := 368#32
  let c0_391 : Index := 0#32
  ![v709.toNat, 12, 368, 0]
def k1_off101 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v712 : Index := Scalar.indexCast v497
  let c13_392 : Index := 13#32
  let c368_393 : Index := 368#32
  let c0_394 : Index := 0#32
  ![v712.toNat, 13, 368, 0]
def k1_off102 (i : grid1.Coords) : Fin 4 → Nat :=
  let arg0 : BitVec 32 := BitVec.ofNat 32 (i 0).val
  let c4_i32_220 : BitVec 32 := 4#32
  let v486 : BitVec 32 := Scalar.addi arg0 c4_i32_220
  let c2_i32_221 : BitVec 32 := 2#32
  let v487 : BitVec 32 := Scalar.subi v486 c2_i32_221
  let c4_i32_222 : BitVec 32 := 4#32
  let c0_i32_223 : BitVec 32 := 0#32
  let v488 : BitVec 1 := Scalar.cmpi .eq c4_i32_222 c0_i32_223
  let c1_i32_224 : BitVec 32 := 1#32
  let v489 : BitVec 32 := Scalar.select v488 c1_i32_224 c4_i32_222
  let v490 : BitVec 32 := Scalar.remsi v487 v489
  let c0_i32_226 : BitVec 32 := 0#32
  let v492 : BitVec 1 := Scalar.cmpi .slt v490 c0_i32_226
  let c0_i32_227 : BitVec 32 := 0#32
  let v493 : BitVec 1 := Scalar.cmpi .slt v489 c0_i32_227
  let v494 : BitVec 1 := Scalar.xori v492 v493
  let c0_i32_225 : BitVec 32 := 0#32
  let v491 : BitVec 1 := Scalar.cmpi .ne v490 c0_i32_225
  let v495 : BitVec 1 := Scalar.andi v494 v491
  let v496 : BitVec 32 := Scalar.addi v490 v489
  let v497 : BitVec 32 := Scalar.select v495 v496 v490
  let v715 : Index := Scalar.indexCast v497
  let c14_395 : Index := 14#32
  let c368_396 : Index := 368#32
  let c0_397 : Index := 0#32
  ![v715.toNat, 14, 368, 0]
def k1_off103 (k1_t1 : Fin k1_t1_loop.trips) : Fin 2 → Nat :=
  let c0_398 : Index := 0#32
  let c0_i32_260 : BitVec 32 := 0#32
  let c1_i32_261 : BitVec 32 := 1#32
  let arg13 : BitVec 32 := Scf.iv c0_i32_260 c1_i32_261 k1_t1
  let c256_i32 : BitVec 32 := 256#32
  let v581 : BitVec 32 := Scalar.muli arg13 c256_i32
  let v582 : BitVec 32 := v581
  let v719 : Index := Scalar.indexCast v582
  ![0, v719.toNat]
def k1_off104 (k1_t1 : Fin k1_t1_loop.trips) : Fin 2 → Nat :=
  let c0_400 : Index := 0#32
  let c0_i32_260 : BitVec 32 := 0#32
  let c1_i32_261 : BitVec 32 := 1#32
  let arg13 : BitVec 32 := Scf.iv c0_i32_260 c1_i32_261 k1_t1
  let c256_i32 : BitVec 32 := 256#32
  let v581 : BitVec 32 := Scalar.muli arg13 c256_i32
  let v582 : BitVec 32 := v581
  let v723 : Index := Scalar.indexCast v582
  ![0, v723.toNat]
def k1_off105 (k1_t1 : Fin k1_t1_loop.trips) : Fin 2 → Nat :=
  let c0_402 : Index := 0#32
  let c0_i32_260 : BitVec 32 := 0#32
  let c1_i32_261 : BitVec 32 := 1#32
  let arg13 : BitVec 32 := Scf.iv c0_i32_260 c1_i32_261 k1_t1
  let c256_i32 : BitVec 32 := 256#32
  let v581 : BitVec 32 := Scalar.muli arg13 c256_i32
  let v582 : BitVec 32 := v581
  let v730 : Index := Scalar.indexCast v582
  ![0, v730.toNat]
def k1_off106 (k1_t1 : Fin k1_t1_loop.trips) : Fin 2 → Nat :=
  let c0_405 : Index := 0#32
  let c0_i32_260 : BitVec 32 := 0#32
  let c1_i32_261 : BitVec 32 := 1#32
  let arg13 : BitVec 32 := Scf.iv c0_i32_260 c1_i32_261 k1_t1
  let c256_i32 : BitVec 32 := 256#32
  let v581 : BitVec 32 := Scalar.muli arg13 c256_i32
  let v582 : BitVec 32 := v581
  let v744 : Index := Scalar.indexCast v582
  ![0, v744.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_9 (i : grid1.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

abbrev stage1_0 : Fin 1 → Memref sig .tc .vmem S16x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S704x640 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5760x1280 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1280 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1280 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S640x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1152x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1280 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S704x1280 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S704x640 .fp8e4m3 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S2x256x176x640 : Shape := ⟨4, ![2, 256, 176, 640]⟩
abbrev S3x3x640x1280 : Shape := ⟨4, ![3, 3, 640, 1280]⟩
abbrev S1280 : Shape := ⟨1, ![1280]⟩
abbrev S640x20 : Shape := ⟨2, ![640, 20]⟩
abbrev S3x3x20x20 : Shape := ⟨4, ![3, 3, 20, 20]⟩
abbrev S20x1280 : Shape := ⟨2, ![20, 1280]⟩
abbrev S_ : Shape := ⟨0, ![]⟩
abbrev S247 : Shape := ⟨1, ![247]⟩
abbrev S1x1 : Shape := ⟨2, ![1, 1]⟩
abbrev S90112x640 : Shape := ⟨2, ![90112, 640]⟩
abbrev S5760x1280 : Shape := ⟨2, ![5760, 1280]⟩
abbrev S2x258x178x640 : Shape := ⟨4, ![2, 258, 178, 640]⟩
abbrev S1x1x640x1280 : Shape := ⟨4, ![1, 1, 640, 1280]⟩
abbrev S640x1280 : Shape := ⟨2, ![640, 1280]⟩
abbrev S2x256x176x1280 : Shape := ⟨4, ![2, 256, 176, 1280]⟩
abbrev S1x1x1x1280 : Shape := ⟨4, ![1, 1, 1, 1280]⟩
abbrev S2x256x176x20 : Shape := ⟨4, ![2, 256, 176, 20]⟩
abbrev S2x258x178x20 : Shape := ⟨4, ![2, 258, 178, 20]⟩
abbrev S1x1x20x20 : Shape := ⟨4, ![1, 1, 20, 20]⟩
abbrev S20x20 : Shape := ⟨2, ![20, 20]⟩
abbrev S90112x1280 : Shape := ⟨2, ![90112, 1280]⟩

abbrev nBuf : Space → Nat
  | .hbm => 158
  | .vmem => 6
  | .smem => 0
  | _ => 0

abbrev hbmTy0_0 (i : Nat) : BufTy := match i % 128 with
  | 0 => ⟨S2x256x176x640, .bf16⟩
  | 1 => ⟨S3x3x640x1280, .fp8e4m3⟩
  | 2 => ⟨S1280, .f32⟩
  | 3 => ⟨S1280, .f32⟩
  | 4 => ⟨S640x20, .bf16⟩
  | 5 => ⟨S3x3x20x20, .bf16⟩
  | 6 => ⟨S20x1280, .bf16⟩
  | 7 => ⟨S2x256x176x640, .f32⟩
  | 8 => ⟨S2x256x176x640, .f32⟩
  | 9 => ⟨S_, .f32⟩
  | 10 => ⟨S_, .f32⟩
  | 11 => ⟨S_, .f32⟩
  | 12 => ⟨S_, .f32⟩
  | 13 => ⟨S247, .i32⟩
  | 14 => ⟨S_, .i32⟩
  | 15 => ⟨S247, .i32⟩
  | 16 => ⟨S247, .i32⟩
  | 17 => ⟨S247, .f32⟩
  | 18 => ⟨S_, .f32⟩
  | 19 => ⟨S247, .f32⟩
  | 20 => ⟨S247, .f32⟩
  | 21 => ⟨S247, .f32⟩
  | 22 => ⟨S247, .i1⟩
  | 23 => ⟨S_, .f32⟩
  | 24 => ⟨S_, .f32⟩
  | 25 => ⟨S247, .f32⟩
  | 26 => ⟨S247, .f32⟩
  | 27 => ⟨S_, .f32⟩
  | 28 => ⟨S_, .f32⟩
  | 29 => ⟨S_, .f32⟩
  | 30 => ⟨S_, .i1⟩
  | 31 => ⟨S_, .f32⟩
  | 32 => ⟨S_, .f32⟩
  | 33 => ⟨S_, .f32⟩
  | 34 => ⟨S_, .f32⟩
  | 35 => ⟨S_, .f32⟩
  | 36 => ⟨S1x1, .f32⟩
  | 37 => ⟨S90112x640, .bf16⟩
  | 38 => ⟨S5760x1280, .fp8e4m3⟩
  | 39 => ⟨S90112x640, .fp8e4m3⟩
  | 40 => ⟨S90112x640, .bf16⟩
  | 41 => ⟨S5760x1280, .bf16⟩
  | 42 => ⟨S2x256x176x640, .bf16⟩
  | 43 => ⟨S3x3x640x1280, .bf16⟩
  | 44 => ⟨S_, .i32⟩
  | 45 => ⟨S_, .bf16⟩
  | 46 => ⟨S2x258x178x640, .bf16⟩
  | 47 => ⟨S2x256x176x640, .bf16⟩
  | 48 => ⟨S1x1x640x1280, .bf16⟩
  | 49 => ⟨S640x1280, .bf16⟩
  | 50 => ⟨S2x256x176x1280, .f32⟩
  | 51 => ⟨S2x256x176x640, .bf16⟩
  | 52 => ⟨S1x1x640x1280, .bf16⟩
  | 53 => ⟨S640x1280, .bf16⟩
  | 54 => ⟨S2x256x176x1280, .f32⟩
  | 55 => ⟨S2x256x176x640, .bf16⟩
  | 56 => ⟨S1x1x640x1280, .bf16⟩
  | 57 => ⟨S640x1280, .bf16⟩
  | 58 => ⟨S2x256x176x1280, .f32⟩
  | 59 => ⟨S2x256x176x640, .bf16⟩
  | 60 => ⟨S1x1x640x1280, .bf16⟩
  | 61 => ⟨S640x1280, .bf16⟩
  | 62 => ⟨S2x256x176x1280, .f32⟩
  | 63 => ⟨S2x256x176x640, .bf16⟩
  | 64 => ⟨S1x1x640x1280, .bf16⟩
  | 65 => ⟨S640x1280, .bf16⟩
  | 66 => ⟨S2x256x176x1280, .f32⟩
  | 67 => ⟨S2x256x176x640, .bf16⟩
  | 68 => ⟨S1x1x640x1280, .bf16⟩
  | 69 => ⟨S640x1280, .bf16⟩
  | 70 => ⟨S2x256x176x1280, .f32⟩
  | 71 => ⟨S2x256x176x640, .bf16⟩
  | 72 => ⟨S1x1x640x1280, .bf16⟩
  | 73 => ⟨S640x1280, .bf16⟩
  | 74 => ⟨S2x256x176x1280, .f32⟩
  | 75 => ⟨S2x256x176x640, .bf16⟩
  | 76 => ⟨S1x1x640x1280, .bf16⟩
  | 77 => ⟨S640x1280, .bf16⟩
  | 78 => ⟨S2x256x176x1280, .f32⟩
  | 79 => ⟨S2x256x176x640, .bf16⟩
  | 80 => ⟨S1x1x640x1280, .bf16⟩
  | 81 => ⟨S640x1280, .bf16⟩
  | 82 => ⟨S2x256x176x1280, .f32⟩
  | 83 => ⟨S2x256x176x1280, .f32⟩
  | 84 => ⟨S2x256x176x1280, .f32⟩
  | 85 => ⟨S2x256x176x1280, .f32⟩
  | 86 => ⟨S2x256x176x1280, .f32⟩
  | 87 => ⟨S2x256x176x1280, .f32⟩
  | 88 => ⟨S2x256x176x1280, .f32⟩
  | 89 => ⟨S2x256x176x1280, .f32⟩
  | 90 => ⟨S2x256x176x1280, .f32⟩
  | 91 => ⟨S2x256x176x1280, .f32⟩
  | 92 => ⟨S2x256x176x1280, .f32⟩
  | 93 => ⟨S1x1x1x1280, .f32⟩
  | 94 => ⟨S2x256x176x1280, .f32⟩
  | 95 => ⟨S2x256x176x1280, .f32⟩
  | 96 => ⟨S1x1x1x1280, .f32⟩
  | 97 => ⟨S2x256x176x1280, .f32⟩
  | 98 => ⟨S2x256x176x1280, .f32⟩
  | 99 => ⟨S2x256x176x20, .f32⟩
  | 100 => ⟨S2x256x176x20, .f32⟩
  | 101 => ⟨S2x256x176x20, .f32⟩
  | 102 => ⟨S2x256x176x20, .bf16⟩
  | 103 => ⟨S_, .i32⟩
  | 104 => ⟨S_, .bf16⟩
  | 105 => ⟨S2x258x178x20, .bf16⟩
  | 106 => ⟨S2x256x176x20, .bf16⟩
  | 107 => ⟨S1x1x20x20, .bf16⟩
  | 108 => ⟨S20x20, .bf16⟩
  | 109 => ⟨S2x256x176x20, .f32⟩
  | 110 => ⟨S2x256x176x20, .bf16⟩
  | 111 => ⟨S1x1x20x20, .bf16⟩
  | 112 => ⟨S20x20, .bf16⟩
  | 113 => ⟨S2x256x176x20, .f32⟩
  | 114 => ⟨S2x256x176x20, .bf16⟩
  | 115 => ⟨S1x1x20x20, .bf16⟩
  | 116 => ⟨S20x20, .bf16⟩
  | 117 => ⟨S2x256x176x20, .f32⟩
  | 118 => ⟨S2x256x176x20, .bf16⟩
  | 119 => ⟨S1x1x20x20, .bf16⟩
  | 120 => ⟨S20x20, .bf16⟩
  | 121 => ⟨S2x256x176x20, .f32⟩
  | 122 => ⟨S2x256x176x20, .bf16⟩
  | 123 => ⟨S1x1x20x20, .bf16⟩
  | 124 => ⟨S20x20, .bf16⟩
  | 125 => ⟨S2x256x176x20, .f32⟩
  | 126 => ⟨S2x256x176x20, .bf16⟩
  | 127 => ⟨S1x1x20x20, .bf16⟩
  | _ => ⟨S2x256x176x640, .bf16⟩

abbrev hbmTy0_1 (i : Nat) : BufTy := match i % 128 with
  | 0 => ⟨S20x20, .bf16⟩
  | 1 => ⟨S2x256x176x20, .f32⟩
  | 2 => ⟨S2x256x176x20, .bf16⟩
  | 3 => ⟨S1x1x20x20, .bf16⟩
  | 4 => ⟨S20x20, .bf16⟩
  | 5 => ⟨S2x256x176x20, .f32⟩
  | 6 => ⟨S2x256x176x20, .bf16⟩
  | 7 => ⟨S1x1x20x20, .bf16⟩
  | 8 => ⟨S20x20, .bf16⟩
  | 9 => ⟨S2x256x176x20, .f32⟩
  | 10 => ⟨S2x256x176x20, .bf16⟩
  | 11 => ⟨S1x1x20x20, .bf16⟩
  | 12 => ⟨S20x20, .bf16⟩
  | 13 => ⟨S2x256x176x20, .f32⟩
  | 14 => ⟨S2x256x176x20, .f32⟩
  | 15 => ⟨S2x256x176x20, .f32⟩
  | 16 => ⟨S2x256x176x20, .f32⟩
  | 17 => ⟨S2x256x176x20, .f32⟩
  | 18 => ⟨S2x256x176x20, .f32⟩
  | 19 => ⟨S2x256x176x20, .f32⟩
  | 20 => ⟨S2x256x176x20, .f32⟩
  | 21 => ⟨S2x256x176x20, .f32⟩
  | 22 => ⟨S2x256x176x20, .bf16⟩
  | 23 => ⟨S2x256x176x1280, .f32⟩
  | 24 => ⟨S_, .f32⟩
  | 25 => ⟨S2x256x176x1280, .f32⟩
  | 26 => ⟨S2x256x176x1280, .f32⟩
  | 27 => ⟨S2x256x176x1280, .f32⟩
  | 28 => ⟨S2x256x176x1280, .bf16⟩
  | 29 => ⟨S90112x1280, .bf16⟩
  | _ => ⟨S2x256x176x640, .bf16⟩

abbrev hbmTy (i : Nat) : BufTy := match i / 128 with
  | 0 => hbmTy0_0 i
  | 1 => hbmTy0_1 i
  | _ => ⟨S2x256x176x640, .bf16⟩

abbrev bufTy : (tb : Table) → Fin (tcTables nBuf tb) → BufTy
  | .hbm, ⟨i, _⟩ => hbmTy i
  | .local _ .vmem, ⟨0, _⟩ => ⟨S1x1, .f32⟩
  | .local _ .vmem, ⟨1, _⟩ => ⟨S90112x640, .bf16⟩
  | .local _ .vmem, ⟨2, _⟩ => ⟨S5760x1280, .fp8e4m3⟩
  | .local _ .vmem, ⟨3, _⟩ => ⟨S90112x640, .fp8e4m3⟩
  | .local _ .vmem, ⟨4, _⟩ => ⟨S90112x640, .bf16⟩
  | .local _ .vmem, ⟨5, _⟩ => ⟨S5760x1280, .bf16⟩
  | _, _ => ⟨S2x256x176x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_cst_5 : Ref sig .tc := ⟨.hbm, 31, rfl⟩
abbrev main_call1_v0 : Ref sig .tc := ⟨.hbm, 32, rfl⟩
abbrev main_v15 : Ref sig .tc := ⟨.hbm, 33, rfl⟩
abbrev main_cst_6 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20_0 : Ref sig .tc := ⟨.hbm, 39, rfl⟩
abbrev main_v20_1 : Ref sig .tc := ⟨.hbm, 40, rfl⟩
abbrev main_v20_2 : Ref sig .tc := ⟨.hbm, 41, rfl⟩
abbrev main_v21 : Ref sig .tc := ⟨.hbm, 42, rfl⟩
abbrev main_v22 : Ref sig .tc := ⟨.hbm, 43, rfl⟩
abbrev main_c_7 : Ref sig .tc := ⟨.hbm, 44, rfl⟩
abbrev main_call2_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_c_8 : Ref sig .tc := ⟨.hbm, 103, rfl⟩
abbrev main_call3_v0 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_cst_9 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S90112x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5760x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S90112x640 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S90112x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5760x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Amax.lean ====
abbrev S2x256x176x640 : Shape := ⟨4, ![2, 256, 176, 640]⟩
abbrev S90112x640 : Shape := ⟨2, ![90112, 640]⟩
abbrev S16x128 : Shape := ⟨2, ![16, 128]⟩
abbrev S2048x640 : Shape := ⟨2, ![2048, 640]⟩
abbrev S16x640 : Shape := ⟨2, ![16, 640]⟩
abbrev S128x16x640 : Shape := ⟨3, ![128, 16, 640]⟩
abbrev S640 : Shape := ⟨1, ![640]⟩
abbrev S1x640 : Shape := ⟨2, ![1, 640]⟩
abbrev S1 : Shape := ⟨1, ![1]⟩
abbrev S1x1 : Shape := ⟨2, ![1, 1]⟩
abbrev S1x128 : Shape := ⟨2, ![1, 128]⟩
abbrev S8x128 : Shape := ⟨2, ![8, 128]⟩

abbrev nBuf : Space → Nat
  | .hbm => 3
  | .vmem => 4
  | .smem => 0
  | _ => 0

abbrev bufTy : (tb : Table) → Fin (tcTables nBuf tb) → BufTy
  | .hbm, ⟨0, _⟩ => ⟨S2x256x176x640, .bf16⟩
  | .hbm, ⟨1, _⟩ => ⟨S90112x640, .bf16⟩
  | .hbm, ⟨2, _⟩ => ⟨S16x128, .f32⟩
  | .local _ .vmem, ⟨0, _⟩ => ⟨S2048x640, .bf16⟩
  | .local _ .vmem, ⟨1, _⟩ => ⟨S2048x640, .bf16⟩
  | .local _ .vmem, ⟨2, _⟩ => ⟨S16x128, .f32⟩
  | .local _ .vmem, ⟨3, _⟩ => ⟨S16x640, .bf16⟩
  | _, _ => ⟨S2x256x176x640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![44], ![false]⟩

def k0_cond2 (i : grid0.Coords) : BitVec 1 :=
  let arg0 : BitVec 32 := BitVec.ofNat 32 (i 0).val
  let c43_i32 : BitVec 32 := 43#32
  let v13 : BitVec 1 := Scalar.cmpi .eq arg0 c43_i32
  let v14 : BitVec 32 := Scalar.extui v13
  let c0_i32_6 : BitVec 32 := 0#32
  let v15 : BitVec 1 := Scalar.cmpi .ne v14 c0_i32_6
  v15

@[reducible] def k0_t1_loop : Scf.Loop 32 :=
  let c0_i32_13 : BitVec 32 := 0#32
  let c246_i32 : BitVec 32 := 246#32
  let v29 : BitVec 32 := Scalar.addi c0_i32_13 c246_i32
  let c1_i32 : BitVec 32 := 1#32
  ⟨c0_i32_13, v29, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== AmaxReferenceIdeal.lean ====
abbrev S2x256x176x640 : Shape := ⟨4, ![2, 256, 176, 640]⟩
abbrev S_ : Shape := ⟨0, ![]⟩
abbrev S247 : Shape := ⟨1, ![247]⟩
abbrev S8x128 : Shape := ⟨2, ![8, 128]⟩
abbrev S16x128 : Shape := ⟨2, ![16, 128]⟩

abbrev nBuf : Space → Nat
  | .hbm => 33
  | .vmem => 0
  | .smem => 0
  | _ => 0

abbrev bufTy : (tb : Table) → Fin (tcTables nBuf tb) → BufTy
  | .hbm, ⟨0, _⟩ => ⟨S2x256x176x640, .bf16⟩
  | .hbm, ⟨1, _⟩ => ⟨S2x256x176x640, .f32⟩
  | .hbm, ⟨2, _⟩ => ⟨S2x256x176x640, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S247, .i32⟩
  | .hbm, ⟨8, _⟩ => ⟨S_, .i32⟩
  | .hbm, ⟨9, _⟩ => ⟨S247, .i32⟩
  | .hbm, ⟨10, _⟩ => ⟨S247, .i32⟩
  | .hbm, ⟨11, _⟩ => ⟨S247, .f32⟩
  | .hbm, ⟨12, _⟩ => ⟨S_, .f32⟩
  | .hbm, ⟨13, _⟩ => ⟨S247, .f32⟩
  | .hbm, ⟨14, _⟩ => ⟨S247, .f32⟩
  | .hbm, ⟨15, _⟩ => ⟨S247, .f32⟩
  | .hbm, ⟨16, _⟩ => ⟨S247, .i1⟩
  | .hbm, ⟨17, _⟩ => ⟨S_, .f32⟩
  | .hbm, ⟨18, _⟩ => ⟨S_, .f32⟩
  | .hbm, ⟨19, _⟩ => ⟨S247, .f32⟩
  | .hbm, ⟨20, _⟩ => ⟨S247, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8x128, .f32⟩
  | .hbm, ⟨31, _⟩ => ⟨S8x128, .f32⟩
  | .hbm, ⟨32, _⟩ => ⟨S16x128, .f32⟩
  | _, _ => ⟨S2x256x176x640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_cst_5 : Ref sig .tc := ⟨.hbm, 25, rfl⟩
abbrev main_call1_v0 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== Proof.KernelOffsets.lean ====
/-
  The closed forms of the offsets at which the kernel `Kernel` addresses its two ring buffers: the slot is the grid point, the point before,
  the point after or the point two before, modulo four; the plane and the row are literals.
-/
module

public import proofs.«01_k».proof.Proof.Gen.Kernel.Points
public import proofs.«01_k».proof.Proof.Gen.Kernel.Skeleton
public import Idealize.ShloMosaic.Lib.Exec

@[expose] public section

namespace Cert.Kernel.Hand

open Idealize.ShloMosaic Idealize.ShloMosaic.Tactic
open Cert.Kernel

theorem off1_eq : ∀ i : grid1.Coords, k1_off1 i = ![(i 0).val % 4, 0, 192, 0] := by decide +kernel
instance closedOff1 (i : grid1.Coords) : ClosedOff (k1_off1 i) := ⟨![(i 0).val % 4, 0, 192, 0], off1_eq i⟩
theorem off2_eq : ∀ i : grid1.Coords, k1_off2 i = ![((i 0).val + 3) % 4, 0, 896, 0] := by decide +kernel
instance closedOff2 (i : grid1.Coords) : ClosedOff (k1_off2 i) := ⟨![((i 0).val + 3) % 4, 0, 896, 0], off2_eq i⟩
theorem off3_eq : ∀ i : grid1.Coords, k1_off3 i = ![((i 0).val + 1) % 4, 0, 16, 0] := by decide +kernel
instance closedOff3 (i : grid1.Coords) : ClosedOff (k1_off3 i) := ⟨![((i 0).val + 1) % 4, 0, 16, 0], off3_eq i⟩
theorem off4_eq : ∀ i : grid1.Coords, k1_off4 i = ![(i 0).val % 4, 5, 192, 0] := by decide +kernel
instance closedOff4 (i : grid1.Coords) : ClosedOff (k1_off4 i) := ⟨![(i 0).val % 4, 5, 192, 0], off4_eq i⟩
theorem off5_eq : ∀ i : grid1.Coords, k1_off5 i = ![((i 0).val + 3) % 4, 5, 896, 0] := by decide +kernel
instance closedOff5 (i : grid1.Coords) : ClosedOff (k1_off5 i) := ⟨![((i 0).val + 3) % 4, 5, 896, 0], off5_eq i⟩
theorem off6_eq : ∀ i : grid1.Coords, k1_off6 i = ![((i 0).val + 1) % 4, 5, 16, 0] := by decide +kernel
instance closedOff6 (i : grid1.Coords) : ClosedOff (k1_off6 i) := ⟨![((i 0).val + 1) % 4, 5, 16, 0], off6_eq i⟩
theorem off7_eq : ∀ i : grid1.Coords, k1_off7 i = ![(i 0).val % 4, 10, 192, 0] := by decide +kernel
instance closedOff7 (i : grid1.Coords) : ClosedOff (k1_off7 i) := ⟨![(i 0).val % 4, 10, 192, 0], off7_eq i⟩
theorem off8_eq : ∀ i : grid1.Coords, k1_off8 i = ![((i 0).val + 3) % 4, 10, 896, 0] := by decide +kernel
instance closedOff8 (i : grid1.Coords) : ClosedOff (k1_off8 i) := ⟨![((i 0).val + 3) % 4, 10, 896, 0], off8_eq i⟩
theorem off9_eq : ∀ i : grid1.Coords, k1_off9 i = ![((i 0).val + 1) % 4, 10, 16, 0] := by decide +kernel
instance closedOff9 (i : grid1.Coords) : ClosedOff (k1_off9 i) := ⟨![((i 0).val + 1) % 4, 10, 16, 0], off9_eq i⟩
theorem off10_eq : ∀ i : grid1.Coords, k1_off10 i = ![(i 0).val % 4, 1, 192, 0] := by decide +kernel
instance closedOff10 (i : grid1.Coords) : ClosedOff (k1_off10 i) := ⟨![(i 0).val % 4, 1, 192, 0], off10_eq i⟩
theorem off11_eq : ∀ i : grid1.Coords, k1_off11 i = ![((i 0).val + 3) % 4, 1, 896, 0] := by decide +kernel
instance closedOff11 (i : grid1.Coords) : ClosedOff (k1_off11 i) := ⟨![((i 0).val + 3) % 4, 1, 896, 0], off11_eq i⟩
theorem off12_eq : ∀ i : grid1.Coords, k1_off12 i = ![((i 0).val + 1) % 4, 1, 16, 0] := by decide +kernel
instance closedOff12 (i : grid1.Coords) : ClosedOff (k1_off12 i) := ⟨![((i 0).val + 1) % 4, 1, 16, 0], off12_eq i⟩
theorem off13_eq : ∀ i : grid1.Coords, k1_off13 i = ![(i 0).val % 4, 6, 192, 0] := by decide +kernel
instance closedOff13 (i : grid1.Coords) : ClosedOff (k1_off13 i) := ⟨![(i 0).val % 4, 6, 192, 0], off13_eq i⟩
theorem off14_eq : ∀ i : grid1.Coords, k1_off14 i = ![((i 0).val + 3) % 4, 6, 896, 0] := by decide +kernel
instance closedOff14 (i : grid1.Coords) : ClosedOff (k1_off14 i) := ⟨![((i 0).val + 3) % 4, 6, 896, 0], off14_eq i⟩
theorem off15_eq : ∀ i : grid1.Coords, k1_off15 i = ![((i 0).val + 1) % 4, 6, 16, 0] := by decide +kernel
instance closedOff15 (i : grid1.Coords) : ClosedOff (k1_off15 i) := ⟨![((i 0).val + 1) % 4, 6, 16, 0], off15_eq i⟩
theorem off16_eq : ∀ i : grid1.Coords, k1_off16 i = ![(i 0).val % 4, 11, 192, 0] := by decide +kernel
instance closedOff16 (i : grid1.Coords) : ClosedOff (k1_off16 i) := ⟨![(i 0).val % 4, 11, 192, 0], off16_eq i⟩
theorem off17_eq : ∀ i : grid1.Coords, k1_off17 i = ![((i 0).val + 3) % 4, 11, 896, 0] := by decide +kernel
instance closedOff17 (i : grid1.Coords) : ClosedOff (k1_off17 i) := ⟨![((i 0).val + 3) % 4, 11, 896, 0], off17_eq i⟩
theorem off18_eq : ∀ i : grid1.Coords, k1_off18 i = ![((i 0).val + 1) % 4, 11, 16, 0] := by decide +kernel
instance closedOff18 (i : grid1.Coords) : ClosedOff (k1_off18 i) := ⟨![((i 0).val + 1) % 4, 11, 16, 0], off18_eq i⟩
theorem off19_eq : ∀ i : grid1.Coords, k1_off19 i = ![(i 0).val % 4, 2, 192, 0] := by decide +kernel
instance closedOff19 (i : grid1.Coords) : ClosedOff (k1_off19 i) := ⟨![(i 0).val % 4, 2, 192, 0], off19_eq i⟩
theorem off20_eq : ∀ i : grid1.Coords, k1_off20 i = ![((i 0).val + 3) % 4, 2, 896, 0] := by decide +kernel
instance closedOff20 (i : grid1.Coords) : ClosedOff (k1_off20 i) := ⟨![((i 0).val + 3) % 4, 2, 896, 0], off20_eq i⟩
theorem off21_eq : ∀ i : grid1.Coords, k1_off21 i = ![((i 0).val + 1) % 4, 2, 16, 0] := by decide +kernel
instance closedOff21 (i : grid1.Coords) : ClosedOff (k1_off21 i) := ⟨![((i 0).val + 1) % 4, 2, 16, 0], off21_eq i⟩
theorem off22_eq : ∀ i : grid1.Coords, k1_off22 i = ![(i 0).val % 4, 7, 192, 0] := by decide +kernel
instance closedOff22 (i : grid1.Coords) : ClosedOff (k1_off22 i) := ⟨![(i 0).val % 4, 7, 192, 0], off22_eq i⟩
theorem off23_eq : ∀ i : grid1.Coords, k1_off23 i = ![((i 0).val + 3) % 4, 7, 896, 0] := by decide +kernel
instance closedOff23 (i : grid1.Coords) : ClosedOff (k1_off23 i) := ⟨![((i 0).val + 3) % 4, 7, 896, 0], off23_eq i⟩
theorem off24_eq : ∀ i : grid1.Coords, k1_off24 i = ![((i 0).val + 1) % 4, 7, 16, 0] := by decide +kernel
instance closedOff24 (i : grid1.Coords) : ClosedOff (k1_off24 i) := ⟨![((i 0).val + 1) % 4, 7, 16, 0], off24_eq i⟩
theorem off25_eq : ∀ i : grid1.Coords, k1_off25 i = ![(i 0).val % 4, 12, 192, 0] := by decide +kernel
instance closedOff25 (i : grid1.Coords) : ClosedOff (k1_off25 i) := ⟨![(i 0).val % 4, 12, 192, 0], off25_eq i⟩
theorem off26_eq : ∀ i : grid1.Coords, k1_off26 i = ![((i 0).val + 3) % 4, 12, 896, 0] := by decide +kernel
instance closedOff26 (i : grid1.Coords) : ClosedOff (k1_off26 i) := ⟨![((i 0).val + 3) % 4, 12, 896, 0], off26_eq i⟩
theorem off27_eq : ∀ i : grid1.Coords, k1_off27 i = ![((i 0).val + 1) % 4, 12, 16, 0] := by decide +kernel
instance closedOff27 (i : grid1.Coords) : ClosedOff (k1_off27 i) := ⟨![((i 0).val + 1) % 4, 12, 16, 0], off27_eq i⟩
theorem off28_eq : ∀ i : grid1.Coords, k1_off28 i = ![(i 0).val % 4, 3, 192, 0] := by decide +kernel
instance closedOff28 (i : grid1.Coords) : ClosedOff (k1_off28 i) := ⟨![(i 0).val % 4, 3, 192, 0], off28_eq i⟩
theorem off29_eq : ∀ i : grid1.Coords, k1_off29 i = ![((i 0).val + 3) % 4, 3, 896, 0] := by decide +kernel
instance closedOff29 (i : grid1.Coords) : ClosedOff (k1_off29 i) := ⟨![((i 0).val + 3) % 4, 3, 896, 0], off29_eq i⟩
theorem off30_eq : ∀ i : grid1.Coords, k1_off30 i = ![((i 0).val + 1) % 4, 3, 16, 0] := by decide +kernel
instance closedOff30 (i : grid1.Coords) : ClosedOff (k1_off30 i) := ⟨![((i 0).val + 1) % 4, 3, 16, 0], off30_eq i⟩
theorem off31_eq : ∀ i : grid1.Coords, k1_off31 i = ![(i 0).val % 4, 8, 192, 0] := by decide +kernel
instance closedOff31 (i : grid1.Coords) : ClosedOff (k1_off31 i) := ⟨![(i 0).val % 4, 8, 192, 0], off31_eq i⟩
theorem off32_eq : ∀ i : grid1.Coords, k1_off32 i = ![((i 0).val + 3) % 4, 8, 896, 0] := by decide +kernel
instance closedOff32 (i : grid1.Coords) : ClosedOff (k1_off32 i) := ⟨![((i 0).val + 3) % 4, 8, 896, 0], off32_eq i⟩
theorem off33_eq : ∀ i : grid1.Coords, k1_off33 i = ![((i 0).val + 1) % 4, 8, 16, 0] := by decide +kernel
instance closedOff33 (i : grid1.Coords) : ClosedOff (k1_off33 i) := ⟨![((i 0).val + 1) % 4, 8, 16, 0], off33_eq i⟩
theorem off34_eq : ∀ i : grid1.Coords, k1_off34 i = ![(i 0).val % 4, 13, 192, 0] := by decide +kernel
instance closedOff34 (i : grid1.Coords) : ClosedOff (k1_off34 i) := ⟨![(i 0).val % 4, 13, 192, 0], off34_eq i⟩
theorem off35_eq : ∀ i : grid1.Coords, k1_off35 i = ![((i 0).val + 3) % 4, 13, 896, 0] := by decide +kernel
instance closedOff35 (i : grid1.Coords) : ClosedOff (k1_off35 i) := ⟨![((i 0).val + 3) % 4, 13, 896, 0], off35_eq i⟩
theorem off36_eq : ∀ i : grid1.Coords, k1_off36 i = ![((i 0).val + 1) % 4, 13, 16, 0] := by decide +kernel
instance closedOff36 (i : grid1.Coords) : ClosedOff (k1_off36 i) := ⟨![((i 0).val + 1) % 4, 13, 16, 0], off36_eq i⟩
theorem off37_eq : ∀ i : grid1.Coords, k1_off37 i = ![(i 0).val % 4, 4, 192, 0] := by decide +kernel
instance closedOff37 (i : grid1.Coords) : ClosedOff (k1_off37 i) := ⟨![(i 0).val % 4, 4, 192, 0], off37_eq i⟩
theorem off38_eq : ∀ i : grid1.Coords, k1_off38 i = ![((i 0).val + 3) % 4, 4, 896, 0] := by decide +kernel
instance closedOff38 (i : grid1.Coords) : ClosedOff (k1_off38 i) := ⟨![((i 0).val + 3) % 4, 4, 896, 0], off38_eq i⟩
theorem off39_eq : ∀ i : grid1.Coords, k1_off39 i = ![((i 0).val + 1) % 4, 4, 16, 0] := by decide +kernel
instance closedOff39 (i : grid1.Coords) : ClosedOff (k1_off39 i) := ⟨![((i 0).val + 1) % 4, 4, 16, 0], off39_eq i⟩
theorem off40_eq : ∀ i : grid1.Coords, k1_off40 i = ![(i 0).val % 4, 9, 192, 0] := by decide +kernel
instance closedOff40 (i : grid1.Coords) : ClosedOff (k1_off40 i) := ⟨![(i 0).val % 4, 9, 192, 0], off40_eq i⟩
theorem off41_eq : ∀ i : grid1.Coords, k1_off41 i = ![((i 0).val + 3) % 4, 9, 896, 0] := by decide +kernel
instance closedOff41 (i : grid1.Coords) : ClosedOff (k1_off41 i) := ⟨![((i 0).val + 3) % 4, 9, 896, 0], off41_eq i⟩
theorem off42_eq : ∀ i : grid1.Coords, k1_off42 i = ![((i 0).val + 1) % 4, 9, 16, 0] := by decide +kernel
instance closedOff42 (i : grid1.Coords) : ClosedOff (k1_off42 i) := ⟨![((i 0).val + 1) % 4, 9, 16, 0], off42_eq i⟩
theorem off43_eq : ∀ i : grid1.Coords, k1_off43 i = ![(i 0).val % 4, 14, 192, 0] := by decide +kernel
instance closedOff43 (i : grid1.Coords) : ClosedOff (k1_off43 i) := ⟨![(i 0).val % 4, 14, 192, 0], off43_eq i⟩
theorem off44_eq : ∀ i : grid1.Coords, k1_off44 i = ![((i 0).val + 3) % 4, 14, 896, 0] := by decide +kernel
instance closedOff44 (i : grid1.Coords) : ClosedOff (k1_off44 i) := ⟨![((i 0).val + 3) % 4, 14, 896, 0], off44_eq i⟩
theorem off45_eq : ∀ i : grid1.Coords, k1_off45 i = ![((i 0).val + 1) % 4, 14, 16, 0] := by decide +kernel
instance closedOff45 (i : grid1.Coords) : ClosedOff (k1_off45 i) := ⟨![((i 0).val + 1) % 4, 14, 16, 0], off45_eq i⟩
theorem off46_eq : ∀ i : grid1.Coords, k1_off46 i = ![(i 0).val % 4, 192, 0] := by decide +kernel
instance closedOff46 (i : grid1.Coords) : ClosedOff (k1_off46 i) := ⟨![(i 0).val % 4, 192, 0], off46_eq i⟩
theorem off47_eq : ∀ i : grid1.Coords, k1_off47 i = ![((i 0).val + 3) % 4, 896, 0] := by decide +kernel
instance closedOff47 (i : grid1.Coords) : ClosedOff (k1_off47 i) := ⟨![((i 0).val + 3) % 4, 896, 0], off47_eq i⟩
theorem off48_eq : ∀ i : grid1.Coords, k1_off48 i = ![((i 0).val + 1) % 4, 16, 0] := by decide +kernel
instance closedOff48 (i : grid1.Coords) : ClosedOff (k1_off48 i) := ⟨![((i 0).val + 1) % 4, 16, 0], off48_eq i⟩
theorem off49_eq : ∀ i : grid1.Coords, k1_off49 i = ![((i 0).val + 2) % 4, 15, 0] := by decide +kernel
instance closedOff49 (i : grid1.Coords) : ClosedOff (k1_off49 i) := ⟨![((i 0).val + 2) % 4, 15, 0], off49_eq i⟩
theorem off50_eq : ∀ i : grid1.Coords, k1_off50 i = ![((i 0).val + 2) % 4, 16, 0] := by decide +kernel
instance closedOff50 (i : grid1.Coords) : ClosedOff (k1_off50 i) := ⟨![((i 0).val + 2) % 4, 16, 0], off50_eq i⟩
theorem off51_eq : ∀ i : grid1.Coords, k1_off51 i = ![((i 0).val + 2) % 4, 17, 0] := by decide +kernel
instance closedOff51 (i : grid1.Coords) : ClosedOff (k1_off51 i) := ⟨![((i 0).val + 2) % 4, 17, 0], off51_eq i⟩
theorem off52_eq : ∀ i : grid1.Coords, k1_off52 i = ![((i 0).val + 2) % 4, 191, 0] := by decide +kernel
instance closedOff52 (i : grid1.Coords) : ClosedOff (k1_off52 i) := ⟨![((i 0).val + 2) % 4, 191, 0], off52_eq i⟩
theorem off53_eq : ∀ i : grid1.Coords, k1_off53 i = ![((i 0).val + 2) % 4, 192, 0] := by decide +kernel
instance closedOff53 (i : grid1.Coords) : ClosedOff (k1_off53 i) := ⟨![((i 0).val + 2) % 4, 192, 0], off53_eq i⟩
theorem off54_eq : ∀ i : grid1.Coords, k1_off54 i = ![((i 0).val + 2) % 4, 193, 0] := by decide +kernel
instance closedOff54 (i : grid1.Coords) : ClosedOff (k1_off54 i) := ⟨![((i 0).val + 2) % 4, 193, 0], off54_eq i⟩
theorem off55_eq : ∀ i : grid1.Coords, k1_off55 i = ![((i 0).val + 2) % 4, 367, 0] := by decide +kernel
instance closedOff55 (i : grid1.Coords) : ClosedOff (k1_off55 i) := ⟨![((i 0).val + 2) % 4, 367, 0], off55_eq i⟩
theorem off56_eq : ∀ i : grid1.Coords, k1_off56 i = ![((i 0).val + 2) % 4, 368, 0] := by decide +kernel
instance closedOff56 (i : grid1.Coords) : ClosedOff (k1_off56 i) := ⟨![((i 0).val + 2) % 4, 368, 0], off56_eq i⟩
theorem off57_eq : ∀ i : grid1.Coords, k1_off57 i = ![((i 0).val + 2) % 4, 369, 0] := by decide +kernel
instance closedOff57 (i : grid1.Coords) : ClosedOff (k1_off57 i) := ⟨![((i 0).val + 2) % 4, 369, 0], off57_eq i⟩
theorem off58_eq : ∀ i : grid1.Coords, k1_off58 i = ![((i 0).val + 2) % 4, 0, 16, 0] := by decide +kernel
instance closedOff58 (i : grid1.Coords) : ClosedOff (k1_off58 i) := ⟨![((i 0).val + 2) % 4, 0, 16, 0], off58_eq i⟩
theorem off59_eq : ∀ i : grid1.Coords, k1_off59 i = ![((i 0).val + 2) % 4, 1, 16, 0] := by decide +kernel
instance closedOff59 (i : grid1.Coords) : ClosedOff (k1_off59 i) := ⟨![((i 0).val + 2) % 4, 1, 16, 0], off59_eq i⟩
theorem off60_eq : ∀ i : grid1.Coords, k1_off60 i = ![((i 0).val + 2) % 4, 2, 16, 0] := by decide +kernel
instance closedOff60 (i : grid1.Coords) : ClosedOff (k1_off60 i) := ⟨![((i 0).val + 2) % 4, 2, 16, 0], off60_eq i⟩
theorem off61_eq : ∀ i : grid1.Coords, k1_off61 i = ![((i 0).val + 2) % 4, 3, 16, 0] := by decide +kernel
instance closedOff61 (i : grid1.Coords) : ClosedOff (k1_off61 i) := ⟨![((i 0).val + 2) % 4, 3, 16, 0], off61_eq i⟩
theorem off62_eq : ∀ i : grid1.Coords, k1_off62 i = ![((i 0).val + 2) % 4, 4, 16, 0] := by decide +kernel
instance closedOff62 (i : grid1.Coords) : ClosedOff (k1_off62 i) := ⟨![((i 0).val + 2) % 4, 4, 16, 0], off62_eq i⟩
theorem off63_eq : ∀ i : grid1.Coords, k1_off63 i = ![((i 0).val + 2) % 4, 5, 16, 0] := by decide +kernel
instance closedOff63 (i : grid1.Coords) : ClosedOff (k1_off63 i) := ⟨![((i 0).val + 2) % 4, 5, 16, 0], off63_eq i⟩
theorem off64_eq : ∀ i : grid1.Coords, k1_off64 i = ![((i 0).val + 2) % 4, 6, 16, 0] := by decide +kernel
instance closedOff64 (i : grid1.Coords) : ClosedOff (k1_off64 i) := ⟨![((i 0).val + 2) % 4, 6, 16, 0], off64_eq i⟩
theorem off65_eq : ∀ i : grid1.Coords, k1_off65 i = ![((i 0).val + 2) % 4, 7, 16, 0] := by decide +kernel
instance closedOff65 (i : grid1.Coords) : ClosedOff (k1_off65 i) := ⟨![((i 0).val + 2) % 4, 7, 16, 0], off65_eq i⟩
theorem off66_eq : ∀ i : grid1.Coords, k1_off66 i = ![((i 0).val + 2) % 4, 8, 16, 0] := by decide +kernel
instance closedOff66 (i : grid1.Coords) : ClosedOff (k1_off66 i) := ⟨![((i 0).val + 2) % 4, 8, 16, 0], off66_eq i⟩
theorem off67_eq : ∀ i : grid1.Coords, k1_off67 i = ![((i 0).val + 2) % 4, 9, 16, 0] := by decide +kernel
instance closedOff67 (i : grid1.Coords) : ClosedOff (k1_off67 i) := ⟨![((i 0).val + 2) % 4, 9, 16, 0], off67_eq i⟩
theorem off68_eq : ∀ i : grid1.Coords, k1_off68 i = ![((i 0).val + 2) % 4, 10, 16, 0] := by decide +kernel
instance closedOff68 (i : grid1.Coords) : ClosedOff (k1_off68 i) := ⟨![((i 0).val + 2) % 4, 10, 16, 0], off68_eq i⟩
theorem off69_eq : ∀ i : grid1.Coords, k1_off69 i = ![((i 0).val + 2) % 4, 11, 16, 0] := by decide +kernel
instance closedOff69 (i : grid1.Coords) : ClosedOff (k1_off69 i) := ⟨![((i 0).val + 2) % 4, 11, 16, 0], off69_eq i⟩
theorem off70_eq : ∀ i : grid1.Coords, k1_off70 i = ![((i 0).val + 2) % 4, 12, 16, 0] := by decide +kernel
instance closedOff70 (i : grid1.Coords) : ClosedOff (k1_off70 i) := ⟨![((i 0).val + 2) % 4, 12, 16, 0], off70_eq i⟩
theorem off71_eq : ∀ i : grid1.Coords, k1_off71 i = ![((i 0).val + 2) % 4, 13, 16, 0] := by decide +kernel
instance closedOff71 (i : grid1.Coords) : ClosedOff (k1_off71 i) := ⟨![((i 0).val + 2) % 4, 13, 16, 0], off71_eq i⟩
theorem off72_eq : ∀ i : grid1.Coords, k1_off72 i = ![((i 0).val + 2) % 4, 14, 16, 0] := by decide +kernel
instance closedOff72 (i : grid1.Coords) : ClosedOff (k1_off72 i) := ⟨![((i 0).val + 2) % 4, 14, 16, 0], off72_eq i⟩
theorem off73_eq : ∀ i : grid1.Coords, k1_off73 i = ![((i 0).val + 2) % 4, 0, 192, 0] := by decide +kernel
instance closedOff73 (i : grid1.Coords) : ClosedOff (k1_off73 i) := ⟨![((i 0).val + 2) % 4, 0, 192, 0], off73_eq i⟩
theorem off74_eq : ∀ i : grid1.Coords, k1_off74 i = ![((i 0).val + 2) % 4, 1, 192, 0] := by decide +kernel
instance closedOff74 (i : grid1.Coords) : ClosedOff (k1_off74 i) := ⟨![((i 0).val + 2) % 4, 1, 192, 0], off74_eq i⟩
theorem off75_eq : ∀ i : grid1.Coords, k1_off75 i = ![((i 0).val + 2) % 4, 2, 192, 0] := by decide +kernel
instance closedOff75 (i : grid1.Coords) : ClosedOff (k1_off75 i) := ⟨![((i 0).val + 2) % 4, 2, 192, 0], off75_eq i⟩
theorem off76_eq : ∀ i : grid1.Coords, k1_off76 i = ![((i 0).val + 2) % 4, 3, 192, 0] := by decide +kernel
instance closedOff76 (i : grid1.Coords) : ClosedOff (k1_off76 i) := ⟨![((i 0).val + 2) % 4, 3, 192, 0], off76_eq i⟩
theorem off77_eq : ∀ i : grid1.Coords, k1_off77 i = ![((i 0).val + 2) % 4, 4, 192, 0] := by decide +kernel
instance closedOff77 (i : grid1.Coords) : ClosedOff (k1_off77 i) := ⟨![((i 0).val + 2) % 4, 4, 192, 0], off77_eq i⟩
theorem off78_eq : ∀ i : grid1.Coords, k1_off78 i = ![((i 0).val + 2) % 4, 5, 192, 0] := by decide +kernel
instance closedOff78 (i : grid1.Coords) : ClosedOff (k1_off78 i) := ⟨![((i 0).val + 2) % 4, 5, 192, 0], off78_eq i⟩
theorem off79_eq : ∀ i : grid1.Coords, k1_off79 i = ![((i 0).val + 2) % 4, 6, 192, 0] := by decide +kernel
instance closedOff79 (i : grid1.Coords) : ClosedOff (k1_off79 i) := ⟨![((i 0).val + 2) % 4, 6, 192, 0], off79_eq i⟩
theorem off80_eq : ∀ i : grid1.Coords, k1_off80 i = ![((i 0).val + 2) % 4, 7, 192, 0] := by decide +kernel
instance closedOff80 (i : grid1.Coords) : ClosedOff (k1_off80 i) := ⟨![((i 0).val + 2) % 4, 7, 192, 0], off80_eq i⟩
theorem off81_eq : ∀ i : grid1.Coords, k1_off81 i = ![((i 0).val + 2) % 4, 8, 192, 0] := by decide +kernel
instance closedOff81 (i : grid1.Coords) : ClosedOff (k1_off81 i) := ⟨![((i 0).val + 2) % 4, 8, 192, 0], off81_eq i⟩
theorem off82_eq : ∀ i : grid1.Coords, k1_off82 i = ![((i 0).val + 2) % 4, 9, 192, 0] := by decide +kernel
instance closedOff82 (i : grid1.Coords) : ClosedOff (k1_off82 i) := ⟨![((i 0).val + 2) % 4, 9, 192, 0], off82_eq i⟩
theorem off83_eq : ∀ i : grid1.Coords, k1_off83 i = ![((i 0).val + 2) % 4, 10, 192, 0] := by decide +kernel
instance closedOff83 (i : grid1.Coords) : ClosedOff (k1_off83 i) := ⟨![((i 0).val + 2) % 4, 10, 192, 0], off83_eq i⟩
theorem off84_eq : ∀ i : grid1.Coords, k1_off84 i = ![((i 0).val + 2) % 4, 11, 192, 0] := by decide +kernel
instance closedOff84 (i : grid1.Coords) : ClosedOff (k1_off84 i) := ⟨![((i 0).val + 2) % 4, 11, 192, 0], off84_eq i⟩
theorem off85_eq : ∀ i : grid1.Coords, k1_off85 i = ![((i 0).val + 2) % 4, 12, 192, 0] := by decide +kernel
instance closedOff85 (i : grid1.Coords) : ClosedOff (k1_off85 i) := ⟨![((i 0).val + 2) % 4, 12, 192, 0], off85_eq i⟩
theorem off86_eq : ∀ i : grid1.Coords, k1_off86 i = ![((i 0).val + 2) % 4, 13, 192, 0] := by decide +kernel
instance closedOff86 (i : grid1.Coords) : ClosedOff (k1_off86 i) := ⟨![((i 0).val + 2) % 4, 13, 192, 0], off86_eq i⟩
theorem off87_eq : ∀ i : grid1.Coords, k1_off87 i = ![((i 0).val + 2) % 4, 14, 192, 0] := by decide +kernel
instance closedOff87 (i : grid1.Coords) : ClosedOff (k1_off87 i) := ⟨![((i 0).val + 2) % 4, 14, 192, 0], off87_eq i⟩
theorem off88_eq : ∀ i : grid1.Coords, k1_off88 i = ![((i 0).val + 2) % 4, 0, 368, 0] := by decide +kernel
instance closedOff88 (i : grid1.Coords) : ClosedOff (k1_off88 i) := ⟨![((i 0).val + 2) % 4, 0, 368, 0], off88_eq i⟩
theorem off89_eq : ∀ i : grid1.Coords, k1_off89 i = ![((i 0).val + 2) % 4, 1, 368, 0] := by decide +kernel
instance closedOff89 (i : grid1.Coords) : ClosedOff (k1_off89 i) := ⟨![((i 0).val + 2) % 4, 1, 368, 0], off89_eq i⟩
theorem off90_eq : ∀ i : grid1.Coords, k1_off90 i = ![((i 0).val + 2) % 4, 2, 368, 0] := by decide +kernel
instance closedOff90 (i : grid1.Coords) : ClosedOff (k1_off90 i) := ⟨![((i 0).val + 2) % 4, 2, 368, 0], off90_eq i⟩
theorem off91_eq : ∀ i : grid1.Coords, k1_off91 i = ![((i 0).val + 2) % 4, 3, 368, 0] := by decide +kernel
instance closedOff91 (i : grid1.Coords) : ClosedOff (k1_off91 i) := ⟨![((i 0).val + 2) % 4, 3, 368, 0], off91_eq i⟩
theorem off92_eq : ∀ i : grid1.Coords, k1_off92 i = ![((i 0).val + 2) % 4, 4, 368, 0] := by decide +kernel
instance closedOff92 (i : grid1.Coords) : ClosedOff (k1_off92 i) := ⟨![((i 0).val + 2) % 4, 4, 368, 0], off92_eq i⟩
theorem off93_eq : ∀ i : grid1.Coords, k1_off93 i = ![((i 0).val + 2) % 4, 5, 368, 0] := by decide +kernel
instance closedOff93 (i : grid1.Coords) : ClosedOff (k1_off93 i) := ⟨![((i 0).val + 2) % 4, 5, 368, 0], off93_eq i⟩
theorem off94_eq : ∀ i : grid1.Coords, k1_off94 i = ![((i 0).val + 2) % 4, 6, 368, 0] := by decide +kernel
instance closedOff94 (i : grid1.Coords) : ClosedOff (k1_off94 i) := ⟨![((i 0).val + 2) % 4, 6, 368, 0], off94_eq i⟩
theorem off95_eq : ∀ i : grid1.Coords, k1_off95 i = ![((i 0).val + 2) % 4, 7, 368, 0] := by decide +kernel
instance closedOff95 (i : grid1.Coords) : ClosedOff (k1_off95 i) := ⟨![((i 0).val + 2) % 4, 7, 368, 0], off95_eq i⟩
theorem off96_eq : ∀ i : grid1.Coords, k1_off96 i = ![((i 0).val + 2) % 4, 8, 368, 0] := by decide +kernel
instance closedOff96 (i : grid1.Coords) : ClosedOff (k1_off96 i) := ⟨![((i 0).val + 2) % 4, 8, 368, 0], off96_eq i⟩
theorem off97_eq : ∀ i : grid1.Coords, k1_off97 i = ![((i 0).val + 2) % 4, 9, 368, 0] := by decide +kernel
instance closedOff97 (i : grid1.Coords) : ClosedOff (k1_off97 i) := ⟨![((i 0).val + 2) % 4, 9, 368, 0], off97_eq i⟩
theorem off98_eq : ∀ i : grid1.Coords, k1_off98 i = ![((i 0).val + 2) % 4, 10, 368, 0] := by decide +kernel
instance closedOff98 (i : grid1.Coords) : ClosedOff (k1_off98 i) := ⟨![((i 0).val + 2) % 4, 10, 368, 0], off98_eq i⟩
theorem off99_eq : ∀ i : grid1.Coords, k1_off99 i = ![((i 0).val + 2) % 4, 11, 368, 0] := by decide +kernel
instance closedOff99 (i : grid1.Coords) : ClosedOff (k1_off99 i) := ⟨![((i 0).val + 2) % 4, 11, 368, 0], off99_eq i⟩
theorem off100_eq : ∀ i : grid1.Coords, k1_off100 i = ![((i 0).val + 2) % 4, 12, 368, 0] := by decide +kernel
instance closedOff100 (i : grid1.Coords) : ClosedOff (k1_off100 i) := ⟨![((i 0).val + 2) % 4, 12, 368, 0], off100_eq i⟩
theorem off101_eq : ∀ i : grid1.Coords, k1_off101 i = ![((i 0).val + 2) % 4, 13, 368, 0] := by decide +kernel
instance closedOff101 (i : grid1.Coords) : ClosedOff (k1_off101 i) := ⟨![((i 0).val + 2) % 4, 13, 368, 0], off101_eq i⟩
theorem off102_eq : ∀ i : grid1.Coords, k1_off102 i = ![((i 0).val + 2) % 4, 14, 368, 0] := by decide +kernel
instance closedOff102 (i : grid1.Coords) : ClosedOff (k1_off102 i) := ⟨![((i 0).val + 2) % 4, 14, 368, 0], off102_eq i⟩

end Cert.Kernel.Hand
-- ==== Proof.KernelScaleRuns.lean ====
/-
  The first call of the kernel `Kernel` (the largest magnitude of the activations): what its three cases' runs are stated over — the branch conditions over
  the grid points, where the result window is idle, the staging and scratch buffers, the invariant of the buffers the call leaves alone.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Scale0

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 44 = 0 :=
  (fun t => by
    have ht : t.val < 44 := Nat.lt_of_lt_of_eq t.isLt N_0
    have e0 : (grid0.coords t 0).val = t.val / 1 % 44 := Pipeline.Grid.coords_val t 0 (by decide) rfl
    simp only [cond0_0, e0]
    word_cmp
   : ∀ t : Fin grid0.N, cond0_0 (grid0.coords t) ↔ t.val % 44 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 44 = 43 :=
  (fun t => by
    have ht : t.val < 44 := Nat.lt_of_lt_of_eq t.isLt N_0
    have e0 : (grid0.coords t 0).val = t.val / 1 % 44 := Pipeline.Grid.coords_val t 0 (by decide) rfl
    simp only [cond0_1, k0_cond2, e0]
    word_cmp
   : ∀ t : Fin grid0.N, cond0_1 (grid0.coords t) ↔ t.val % 44 = 43)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cfg0.idle 1 (grid0.coords t) = false := by decide +kernel

/-! ## The kernel body on any staging memrefs: a subtype the run finds -/

/-- One staging buffer of output window 1, through which its contents are stated (`View.read_writes_of_cover`: the
    choice does not matter). -/
abbrev VO0_1 : View sig .tc .vmem S16x128 .f32 := (Memref.whole cc0_stg1_0 : Memref sig .tc .vmem S16x128 .f32).view
/-- Each window's current staging memref at point `t`, spelled as the pipeline passes it (`bodyAt0`), and its wholeness. -/
abbrev ms0_0 (t : Fin cfg0.N) : Memref sig .tc .vmem S2048x640 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x128 .f32 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S16x640 .bf16 := Memref.whole cc0_scratch0
/-- The scratch `arg3` the kernel carries between points, as a view: what it holds is stated through it. -/
abbrev VS0_0 : View sig .tc .vmem S16x640 .bf16 := scM0_0.view

/-- The scoped buffers of the other call, each at some contents, and the generator register at some state: what the first call leaves alone. -/
def rest (c : Dev nD) : sProp 𝕄 :=
  iprop(iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ ∃ r, prngReg c r)

/-- The invariant with the scratch as a memref owned at some contents, beside what the call leaves alone. -/
theorem PhiA0_eq (c : Dev nD) :
    (Pipeline.ΦA spec0 c : sProp 𝕄)
      = iprop(iprop((∃ d, owns (c : Thread nD τ) scM0_0 fullShare d)) ∗ rest c) := by
  unfold Pipeline.ΦA rest; rw [scopedRest0_eq]; simp only [scM0_0, owns_whole]; exact BI.Entails.antisymm BI.sep_assoc BI.sep_assoc'

end Cert.Kernel.Scale0

end
-- ==== Proof.KernelScaleRunA.lean ====
/-
  The first call's body of the kernel `Kernel` run in case A of its grid points, with the pieces it stores.
-/
module

public import proofs.«01_k».proof.Proof.KernelScaleRuns

@[expose] public section

-- membership in a rectangle of production extents (`View.cover_of_tiled`): the elaborator's structural look
-- recurses once per coordinate of the long axes
set_option maxRecDepth 16384

noncomputable section

namespace Cert.Kernel.Scale0

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : cond0_0 i) (hc1 : ¬cond0_1 i)
    (x0 : Vec F S2048x640 .bf16) :
    Σ' (L1 : List (View.Piece (Elt F) S16x128 .f32)), { LS0 : List (View.Piece (Elt F) S16x640 .bf16) //
      ∀ (xi1 : Vec F S16x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_amax i arg1 harg1 arg2 harg2 arg3 harg3) K } := by
  refine ⟨[], ?_, fun xi1 E K => ?run⟩
  case run =>
    simp only [cc0_amax_eq_skeleton]; unfold cc0_amax_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Scale0

end
-- ==== Proof.KernelScaleRunB.lean ====
/-
  The first call's body of the kernel `Kernel` run in case B of its grid points, with the pieces it stores.
-/
module

public import proofs.«01_k».proof.Proof.KernelScaleRunA

@[expose] public section

-- membership in a rectangle of production extents (`View.cover_of_tiled`): the elaborator's structural look
-- recurses once per coordinate of the long axes
set_option maxRecDepth 16384

noncomputable section

namespace Cert.Kernel.Scale0

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 42: 42 of 44), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : ¬cond0_0 i) (hc1 : ¬cond0_1 i)
    (x0 : Vec F S2048x640 .bf16) (xs0 : Vec F S16x640 .bf16) :
    Σ' (L1 : List (View.Piece (Elt F) S16x128 .f32)), { LS0 : List (View.Piece (Elt F) S16x640 .bf16) //
      ∀ (xi1 : Vec F S16x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_amax i arg1 harg1 arg2 harg2 arg3 harg3) K } := by
  refine ⟨[], ?_, fun xi1 E K => ?run⟩
  case run =>
    simp only [cc0_amax_eq_skeleton]; unfold cc0_amax_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Scale0

end
-- ==== Proof.KernelScaleRunC.lean ====
/-
  The first call's body of the kernel `Kernel` run in case C of its grid points, with the pieces it stores.
-/
module

public import proofs.«01_k».proof.Proof.KernelScaleRunB

@[expose] public section

-- membership in a rectangle of production extents (`View.cover_of_tiled`): the elaborator's structural look
-- recurses once per coordinate of the long axes
set_option maxRecDepth 16384

noncomputable section

namespace Cert.Kernel.Scale0

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 43), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : ¬cond0_0 i) (hc1 : cond0_1 i)
    (x0 : Vec F S2048x640 .bf16) (xs0 : Vec F S16x640 .bf16) :
    Σ' (L1 : List (View.Piece (Elt F) S16x128 .f32)), { LS0 : List (View.Piece (Elt F) S16x640 .bf16) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0_amax i arg1 harg1 arg2 harg2 arg3 harg3) K } := by
  refine ⟨?_, ?_, fun E K => ?run⟩
  case run =>
    simp only [cc0_amax_eq_skeleton]; unfold cc0_amax_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    iexists _; iexact HS0

end Cert.Kernel.Scale0

end
-- ==== Proof.KernelScaleData.lean ====
/-
  The first call of the kernel `Kernel`: what its result and its scratch hold after each grid point, its proof data, and the body at every point.
-/
module

public import proofs.«01_k».proof.Proof.KernelScaleRunC
public import Idealize.ShloMosaic.Lib.Claim

@[expose] public section

-- membership in a rectangle of production extents (`View.cover_of_tiled`): the elaborator's structural look
-- recurses once per coordinate of the long axes
set_option maxRecDepth 16384

noncomputable section

namespace Cert.Kernel.Scale0

open Cert.Kernel Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : cond0_0 i) (hc1 : ¬cond0_1 i)
    (x0 : Vec F S2048x640 .bf16) : Vec F S16x128 .f32 :=
  VO0_1.read (Elt F) (VO0_1.writes (Elt F) VO0_1.junk (kernelRun0_A c i arg1 harg1 arg2 harg2 arg3 harg3 hc0 hc1 x0).1)

/-- Case A's pieces for scratch `arg3`, which the kernel carries between points, cover it: 2 pieces of `S16x640` tiling it (Lib/Ring.lean `Piece.tiledL`). -/
theorem scover0_A_0 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : cond0_0 i) (hc1 : ¬cond0_1 i)
    (x0 : Vec F S2048x640 .bf16) (y : S16x640.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S16x640.size (by sl_kernel_rfl) y

/-- What case A leaves in scratch `arg3`: its pieces read back over junk. -/
def sout0_A_0 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : cond0_0 i) (hc1 : ¬cond0_1 i)
    (x0 : Vec F S2048x640 .bf16) : Vec F S16x640 .bf16 :=
  VS0_0.read (Elt F) (VS0_0.writes (Elt F) VS0_0.junk (kernelRun0_A c i arg1 harg1 arg2 harg2 arg3 harg3 hc0 hc1 x0).2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : ¬cond0_0 i) (hc1 : ¬cond0_1 i)
    (x0 : Vec F S2048x640 .bf16) (xs0 : Vec F S16x640 .bf16) : Vec F S16x128 .f32 :=
  VO0_1.read (Elt F) (VO0_1.writes (Elt F) VO0_1.junk (kernelRun0_B c i arg1 harg1 arg2 harg2 arg3 harg3 hc0 hc1 x0 xs0).1)

/-- Case B's pieces for scratch `arg3`, which the kernel carries between points, cover it: 1 piece of `S16x640` tiling it (Lib/Ring.lean `Piece.tiledL`). -/
theorem scover0_B_0 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : ¬cond0_0 i) (hc1 : ¬cond0_1 i)
    (x0 : Vec F S2048x640 .bf16) (xs0 : Vec F S16x640 .bf16) (y : S16x640.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S16x640.size (by sl_kernel_rfl) y

/-- What case B leaves in scratch `arg3`: its pieces read back over junk. -/
def sout0_B_0 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : ¬cond0_0 i) (hc1 : ¬cond0_1 i)
    (x0 : Vec F S2048x640 .bf16) (xs0 : Vec F S16x640 .bf16) : Vec F S16x640 .bf16 :=
  VS0_0.read (Elt F) (VS0_0.writes (Elt F) VS0_0.junk (kernelRun0_B c i arg1 harg1 arg2 harg2 arg3 harg3 hc0 hc1 x0 xs0).2.1)

/-- Case C's pieces for output 1 tile its block (2 stores of `S8x128`, checked by the kernel's evaluation: Lib/Ring.lean `Piece.tiledL`, linear in the pieces, through a loop's `@[irreducible]` trip theorem too), so they cover it. -/
theorem cover0_C_1 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : ¬cond0_0 i) (hc1 : cond0_1 i)
    (x0 : Vec F S2048x640 .bf16) (xs0 : Vec F S16x640 .bf16) (y : S16x128.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S8x128.size (by sl_kernel_rfl) y

/-- What case C leaves in output 1's staging buffer: its pieces read back over junk. -/
def out0_C_1 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : ¬cond0_0 i) (hc1 : cond0_1 i)
    (x0 : Vec F S2048x640 .bf16) (xs0 : Vec F S16x640 .bf16) : Vec F S16x128 .f32 :=
  VO0_1.read (Elt F) (VO0_1.writes (Elt F) VO0_1.junk (kernelRun0_C c i arg1 harg1 arg2 harg2 arg3 harg3 hc0 hc1 x0 xs0).1)

/-- Case C's pieces for scratch `arg3`, which the kernel carries between points, cover it: 1 piece of `S16x640` tiling it (Lib/Ring.lean `Piece.tiledL`). -/
theorem scover0_C_0 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : ¬cond0_0 i) (hc1 : cond0_1 i)
    (x0 : Vec F S2048x640 .bf16) (xs0 : Vec F S16x640 .bf16) (y : S16x640.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S16x640.size (by sl_kernel_rfl) y

/-- What case C leaves in scratch `arg3`: its pieces read back over junk. -/
def sout0_C_0 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : ¬cond0_0 i) (hc1 : cond0_1 i)
    (x0 : Vec F S2048x640 .bf16) (xs0 : Vec F S16x640 .bf16) : Vec F S16x640 .bf16 :=
  VS0_0.read (Elt F) (VS0_0.writes (Elt F) VS0_0.junk (kernelRun0_C c i arg1 harg1 arg2 harg2 arg3 harg3 hc0 hc1 x0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S16x128 .f32 × Vec F S16x640 .bf16
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 44 = 0 then
      if h1 : (n + 1) % 44 = 43 then
        False.elim (by have hN : n + 1 < 44 := lt_of_lt_of_eq hn (show cfg0.N = 44 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 44 = 43 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

/-- `outsAt0` at a point of case A: that case's contents. -/
theorem outsAt0_A (c : Dev nD) (t : Fin cfg0.N) (h0 : t.val % 44 = 0) (h1 : ¬t.val % 44 = 43) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 44 = 0) (h1 : ¬t.val % 44 = 43) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 44 = 0) (h1 : t.val % 44 = 43) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ rest c)

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ rest c) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ rest c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 44 := lt_of_lt_of_eq t.isLt (show cfg0.N = 44 from N_0)
  by_cases h0 : t.val % 44 = 0
  · by_cases h1 : t.val % 44 = 43
    · exfalso; omega
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_A t ((hcond0_0 t).mpr h0) (fun h => h1 ((hcond0_1 t).mp h))) (noFlush0_1_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0; (try dsimp only)
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · exfalso; have hN : t.val < 44 := lt_of_lt_of_eq t.isLt (show cfg0.N = 44 from N_0); omega
  · by_cases h1 : t.val % 44 = 43
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1_C t (fun h => h0 ((hcond0_0 t).mp h)) ((hcond0_1 t).mpr h1)], after0_1]
      by_cases hz : t.val = 0
      · exfalso; have hN : t.val < 44 := lt_of_lt_of_eq t.isLt (show cfg0.N = 44 from N_0); omega
      · rw [PhiS_castSucc m c t, PhiS_pos m c _ _ hz]
        rw [outsAt0_C m c t h0 h1]
        unfold out0_C_1 sout0_C_0; (try dsimp only)
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk m c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      by_cases hz : t.val = 0
      · exfalso; have hN : t.val < 44 := lt_of_lt_of_eq t.isLt (show cfg0.N = 44 from N_0); omega
      · rw [PhiS_castSucc m c t, PhiS_pos m c _ _ hz]
        rw [outsAt0_B m c t h0 h1]
        unfold sout0_B_0; (try dsimp only)
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk m c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 44 := N_0; omega)

end Cert.Kernel.Scale0

end
-- ==== Proof.KernelEntry.lean ====
/-
  The second call of the kernel `Kernel` as it is entered: the arrays after the first call and the host operations between the two, the windows' blocks,
  the invariant of the buffers the call leaves alone.
-/
module

public import proofs.«01_k».proof.Proof.Gen.Kernel.Regions
public import proofs.«01_k».proof.Proof.KernelScaleData
public import Idealize.ShloMosaic.Lib.Pipeline.DatRel

@[expose] public section
set_option maxRecDepth 16384

noncomputable section
namespace Cert.Kernel.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Cert.Kernel Cert.Kernel.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- What the first call leaves in the one array it writes. -/
def outs : Outs (F := F) := fun _ r c =>
  Function.update (fun r : Ref sig .tc => m ((c : Thread nD τ).loc r)) main_v1 ((Scale0.dats m 0 c).arrAt 1 cfg0.N) r

/-- The array of scales is what the first call leaves in it. -/
theorem outs_scale (j : ℕ) (c : Dev nD) : outs m j main_v1 c = (Scale0.dats m 0 c).arrAt 1 cfg0.N := by
  unfold outs; rw [Function.update_self]

/-- Core `c`'s buffers when the second call is entered. -/
abbrev V (c : Dev nD) (b : Ref sig .tc) : Buf (Elt F) ((c : Thread nD τ).loc b) := V9 m (outs m) c b

theorem V_main_arg0 (c : Dev nD) : V m c main_arg0 = m ((c : Thread nD τ).loc main_arg0) :=
  (V9_of m (outs m) c main_arg0 (by decide)).trans <| (V8_of m (outs m) c main_arg0 (by decide)).trans <| (V7_of m (outs m) c main_arg0 (by decide)).trans <| (V6_of m (outs m) c main_arg0 (by decide)).trans <| (V5_of m (outs m) c main_arg0 (by decide)).trans <| (V4_of m (outs m) c main_arg0 (by decide)).trans <| (V3_of m (outs m) c main_arg0 (by decide)).trans <| (V2_of m (outs m) c main_arg0 (by decide)).trans <| (V1_of m c main_arg0 (by decide)).trans rfl
theorem V_main_arg1 (c : Dev nD) : V m c main_arg1 = m ((c : Thread nD τ).loc main_arg1) :=
  (V9_of m (outs m) c main_arg1 (by decide)).trans <| (V8_of m (outs m) c main_arg1 (by decide)).trans <| (V7_of m (outs m) c main_arg1 (by decide)).trans <| (V6_of m (outs m) c main_arg1 (by decide)).trans <| (V5_of m (outs m) c main_arg1 (by decide)).trans <| (V4_of m (outs m) c main_arg1 (by decide)).trans <| (V3_of m (outs m) c main_arg1 (by decide)).trans <| (V2_of m (outs m) c main_arg1 (by decide)).trans <| (V1_of m c main_arg1 (by decide)).trans rfl
theorem V_main_arg2 (c : Dev nD) : V m c main_arg2 = m ((c : Thread nD τ).loc main_arg2) :=
  (V9_of m (outs m) c main_arg2 (by decide)).trans <| (V8_of m (outs m) c main_arg2 (by decide)).trans <| (V7_of m (outs m) c main_arg2 (by decide)).trans <| (V6_of m (outs m) c main_arg2 (by decide)).trans <| (V5_of m (outs m) c main_arg2 (by decide)).trans <| (V4_of m (outs m) c main_arg2 (by decide)).trans <| (V3_of m (outs m) c main_arg2 (by decide)).trans <| (V2_of m (outs m) c main_arg2 (by decide)).trans <| (V1_of m c main_arg2 (by decide)).trans rfl
theorem V_main_arg3 (c : Dev nD) : V m c main_arg3 = m ((c : Thread nD τ).loc main_arg3) :=
  (V9_of m (outs m) c main_arg3 (by decide)).trans <| (V8_of m (outs m) c main_arg3 (by decide)).trans <| (V7_of m (outs m) c main_arg3 (by decide)).trans <| (V6_of m (outs m) c main_arg3 (by decide)).trans <| (V5_of m (outs m) c main_arg3 (by decide)).trans <| (V4_of m (outs m) c main_arg3 (by decide)).trans <| (V3_of m (outs m) c main_arg3 (by decide)).trans <| (V2_of m (outs m) c main_arg3 (by decide)).trans <| (V1_of m c main_arg3 (by decide)).trans rfl
theorem V_main_arg4 (c : Dev nD) : V m c main_arg4 = m ((c : Thread nD τ).loc main_arg4) :=
  (V9_of m (outs m) c main_arg4 (by decide)).trans <| (V8_of m (outs m) c main_arg4 (by decide)).trans <| (V7_of m (outs m) c main_arg4 (by decide)).trans <| (V6_of m (outs m) c main_arg4 (by decide)).trans <| (V5_of m (outs m) c main_arg4 (by decide)).trans <| (V4_of m (outs m) c main_arg4 (by decide)).trans <| (V3_of m (outs m) c main_arg4 (by decide)).trans <| (V2_of m (outs m) c main_arg4 (by decide)).trans <| (V1_of m c main_arg4 (by decide)).trans rfl
theorem V_main_arg5 (c : Dev nD) : V m c main_arg5 = m ((c : Thread nD τ).loc main_arg5) :=
  (V9_of m (outs m) c main_arg5 (by decide)).trans <| (V8_of m (outs m) c main_arg5 (by decide)).trans <| (V7_of m (outs m) c main_arg5 (by decide)).trans <| (V6_of m (outs m) c main_arg5 (by decide)).trans <| (V5_of m (outs m) c main_arg5 (by decide)).trans <| (V4_of m (outs m) c main_arg5 (by decide)).trans <| (V3_of m (outs m) c main_arg5 (by decide)).trans <| (V2_of m (outs m) c main_arg5 (by decide)).trans <| (V1_of m c main_arg5 (by decide)).trans rfl
theorem V_main_arg6 (c : Dev nD) : V m c main_arg6 = m ((c : Thread nD τ).loc main_arg6) :=
  (V9_of m (outs m) c main_arg6 (by decide)).trans <| (V8_of m (outs m) c main_arg6 (by decide)).trans <| (V7_of m (outs m) c main_arg6 (by decide)).trans <| (V6_of m (outs m) c main_arg6 (by decide)).trans <| (V5_of m (outs m) c main_arg6 (by decide)).trans <| (V4_of m (outs m) c main_arg6 (by decide)).trans <| (V3_of m (outs m) c main_arg6 (by decide)).trans <| (V2_of m (outs m) c main_arg6 (by decide)).trans <| (V1_of m c main_arg6 (by decide)).trans rfl

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V m c (Pipeline.arrRef spec1 1))
    (hafter : ∀ t, dat.after 1 t = iblk m c 1 t) (t : Fin cfg1.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V m c (Pipeline.arrRef spec1 2))
    (hafter : ∀ t, dat.after 2 t = iblk m c 2 t) (t : Fin cfg1.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V m c (Pipeline.arrRef spec1 4))
    (hafter : ∀ t, dat.after 4 t = iblk m c 4 t) (t : Fin cfg1.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V m c (Pipeline.arrRef spec1 5))
    (hafter : ∀ t, dat.after 5 t = iblk m c 5 t) (t : Fin cfg1.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V m c (Pipeline.arrRef spec1 6))
    (hafter : ∀ t, dat.after 6 t = iblk m c 6 t) (t : Fin cfg1.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V m c (Pipeline.arrRef spec1 7))
    (hafter : ∀ t, dat.after 7 t = iblk m c 7 t) (t : Fin cfg1.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The scoped buffers of the first call, each at some contents, and the generator register at some state: what the second call leaves alone. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ ∃ r, prngReg c r)

/-- The invariant of the second call's scratch: the two ring buffers, beside what the call leaves alone. -/
theorem PhiA1_eq (c : Dev nD) :
    (Pipeline.ΦA spec1 c : sProp 𝕄)
      = iprop(((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ rest1 c) := by
  unfold Pipeline.ΦA rest1; rw [scopedRest1_eq]
  refine BI.Entails.antisymm (show (_ : sProp 𝕄) ⊢ _ from ?_) (show (_ : sProp 𝕄) ⊢ _ from ?_)
  · iintro ⟨⟨H0, H1, H2, H3, HG, HH⟩, HP⟩
    isplitl [HG HH]
    · isplitl [HG]; · iexact HG
      iexact HH
    isplitl [H0]; · iexact H0
    isplitl [H1]; · iexact H1
    isplitl [H2]; · iexact H2
    isplitl [H3]; · iexact H3
    iexact HP
  · iintro ⟨⟨HG, HH⟩, H0, H1, H2, H3, HP⟩
    isplitr [HP]
    · isplitl [H0]; · iexact H0
      isplitl [H1]; · iexact H1
      isplitl [H2]; · iexact H2
      isplitl [H3]; · iexact H3
      isplitl [HG]; · iexact HG
      iexact HH
    iexact HP

end Cert.Kernel.Entry
-- ==== Proof.KernelLaunch.lean ====
/-
  The run of the kernel `Kernel`: the host operations, the first call, the host operations between the two calls, the second call. For any data about
  the second call whose invariant begins and ends as the buffers the call leaves alone, the run ends with the second call's arrays as the data say and with
  every other array as the second call found it.
-/
module

public import proofs.«01_k».proof.Proof.KernelEntry

@[expose] public section
set_option maxRecDepth 16384

noncomputable section
namespace Cert.Kernel.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Cert.Kernel Cert.Kernel.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)
variable (rd : (c : Dev nD) → RDat τ (Elt F) Unit ℕ (UR sig nD τ) ℕ cfg1 c)

/-- The data of the two calls: the first call's as its own module gives them, the second call's any. -/
def rdats : (p : Fin 2) → (c : Dev nD) → RDat τ (Elt F) Unit ℕ (UR sig nD τ) ℕ (Pipeline.pin (pcfgs (F := F)) adm p) c
  | 0 => fun c => (Scale0.dats m 0 c).toR
  | 1 => fun c => rd c

/-- Exact data of both calls, of which only the first call's is read. -/
def sdats : (p : Fin 2) → (c : Dev nD) → Dat τ (Elt F) Unit ℕ (UR sig nD τ) ℕ (Pipeline.pin (pcfgs (F := F)) adm p) c
  | 0 => fun c => Scale0.dats m 0 c
  | 1 => fun c =>
    { A := fun w => V m c (Pipeline.arrRef spec1 w)
      after := fun w _ _ => Classical.arbitrary _
      Φ := fun _ => Pipeline.ΦA spec1 c
      q := fun _ => fullShare
      owed := fun _ => 0 }

/-- No semaphore carries a due. -/
abbrev noDue : GSem nD τ sig → Finset Unit := fun _ => ∅
/-- Every level is zero. -/
abbrev noLevel : GSem nD τ sig → Unit → ℕ := fun _ _ => 0

/-- What a core holds between two calls beside its arrays: its generator register and that it owes nothing. -/
abbrev between (c : Dev nD) : sProp 𝕄 :=
  iprop((∃ r, prngReg c r) ∗ ∃ W, owes (c : Thread nD τ) (0 : CellTallies nD τ sig Unit) W)

theorem scale_in : ∀ c : Dev nD, (Scale0.dats m 0 c).arrAt 0 cfg0.N = V2 m (outs m) c main_v0 := fun c => by
  rw [(Scale0.dats m 0 c).arrAt_in 0 rfl]
  exact (Scale0.A_eq m c 0).trans (V2_of m (outs m) c main_v0 (by decide)).symm

theorem scale_out : ∀ c : Dev nD, (Scale0.dats m 0 c).arrAt 1 cfg0.N = V2 m (outs m) c main_v1 := fun c => by
  rw [← outs_scale m 2 c]
  exact (Function.update_self (Proc.devRef .tc main_v1 : DevRef τ sig) _ (V1 m c)).symm

set_option backward.isDefEq.respectTransparency.types false in
/-- The first call: entered with the arrays after the first host operations, left with the array of scales written. -/
def region0 : RDat.RegionSeg (pcfgs (F := F)) adm (rdats m rd) () defs₀ Variants.none noDue noLevel 0 where
  win := launch0.win.to₀
  block_pos := launch0.block_pos
  stage_whole := launch0.stage_whole
  K := PEmpty
  osem k := k.elim
  ho := Pipeline.OwnSemFacts.none _
  hbody c := (Scale0.body_obligation m c).loose.toR
  hwaits := RDat.hwaits_of_owed_zero _ _ _ _ noDue noLevel 0 fun _ _ => rfl
  pre c := iprop(StableHlo.held (c : Thread nD τ) (Pipeline.ucRefs τ sig) (V1 m c) ∗ between c)
  post c := iprop(StableHlo.held (c : Thread nD τ) (Pipeline.ucRefs τ sig) (V2 m (outs m) c) ∗ between c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := RDat.arrays_of_unscopedBufs (pcfgs (F := F)) adm (rdats m rd) (p := 0) launch0.win launch0.arr_whole c
      ((Scale0.dats m 0 c).share_full fun _ => rfl) (fun b => V1 m c b) (Scale0.A_eq m c)
    rw [Pipeline.unscopedBufs_held c (V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (show (_ : sProp 𝕄) ⊢ _ from ?_) (Scale0.hin m c)
    unfold Pipeline.ΦA
    iintro ⟨Hp, -, Hr⟩
    isplitl [Hr]; · iexact Hr
    iexact Hp
  hout c := by
    refine BI.Entails.trans (Scale0.hout m c) (show (_ : sProp 𝕄) ⊢ _ from ?_)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (pcfgs (F := F)) adm (p := 0) launch0.win launch0.arr_whole c (sdats m)
      ((Scale0.dats m 0 c).share_full fun _ => rfl) (fun b => V1 m c b) (fun b => V2 m (outs m) c b)
      (fun w => (Scale0.dats m 0 c).arrAt w cfg0.N)
      (fun | 0 => scale_in m c | 1 => scale_out m c)
      (fun b hb => V2_of m (outs m) c b (by
        intro h; rw [List.mem_singleton] at h; subst h; exact hb (Finset.mem_image.mpr ⟨1, Finset.mem_univ _, rfl⟩)))
    rw [Pipeline.unscopedBufs_held c (V2 m (outs m) c)] at hjoin
    iintro ⟨Ha, HO, HY, Hrest⟩
    ihave Ha' := (show (rdats m rd 0 c).arraysAt (Pipeline.pin (pcfgs (F := F)) adm 0).N ⊢ ((Scale0.dats m 0 c).arrays fun w => (Scale0.dats m 0 c).arrAt w cfg0.N : sProp 𝕄)
      from (Scale0.dats m 0 c).toR_arraysAt_post cfg0.N) $$ Ha
    imodintro
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

variable (hbody : ∀ c, (rd c).BodyObligation (defs₀ (F := F)) Variants.none () Set.univ)
  (hshare : ∀ c w, (rd c).share w = fullShare) (howed : ∀ c t, (rd c).owed t = 0)
  (hrec : ∀ c, (rd c).recorded 0 = Set.univ)
  (hA : ∀ c w, (rd c).A w = V m c (Pipeline.arrRef spec1 w))
  (hin : ∀ c, Pipeline.ΦA spec1 c ⊢ (rd c).Φ 0) (hout : ∀ c, (rd c).Φ (Fin.last cfg1.N) ⊢ Pipeline.ΦA spec1 c)

/-- What a core holds when the second call has ended. -/
abbrev ended (c : Dev nD) : sProp 𝕄 :=
  iprop((rd c).arraysAt cfg1.N ∗ Pipeline.unscopedRest (Ix := Unit) (Name := ℕ) (U := UR sig nD τ) (Lvl := ℕ) spec1 c (V m c))

set_option backward.isDefEq.respectTransparency.types false in
/-- The second call: entered with the arrays after the host operations between the calls. -/
def region1 : RDat.RegionSeg (pcfgs (F := F)) adm (rdats m rd) () defs₀ Variants.none noDue noLevel 1 where
  win := launch1.win.to₀
  block_pos := launch1.block_pos
  stage_whole := launch1.stage_whole
  K := PEmpty
  osem k := k.elim
  ho := Pipeline.OwnSemFacts.none _
  hbody c := hbody c
  hwaits := RDat.hwaits_of_owed_zero _ _ _ _ noDue noLevel 1 howed
  pre c := iprop(StableHlo.held (c : Thread nD τ) (Pipeline.ucRefs τ sig) (V9 m (outs m) c) ∗ between c)
  post c := iprop(ended m rd c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V m c)
  hentry c := by
    rw [Pipeline.ownSems0_none]
    have hsplit := RDat.arrays_of_unscopedBufs (pcfgs (F := F)) adm (rdats m rd) (p := 1) launch1.win launch1.arr_whole c
      (hshare c) (fun b => V9 m (outs m) c b) (hA c)
    rw [Pipeline.unscopedBufs_held c (V9 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      rw [show ((rdats m rd) 1 c).owed 0 = 0 from howed c 0]
      icases HO with ⟨%W, HO⟩; iexists W; isplitr; · ipureintro; exact fun x _ => Or.inl (show x ∈ (rd c).recorded 0 from (hrec c).symm ▸ trivial)
      iexact HO
    isplitl [Hp]; · iexact Hp
    iexact Hrest
  hin c := by
    refine BI.Entails.trans (show (_ : sProp 𝕄) ⊢ _ from ?_) (hin c)
    unfold Pipeline.ΦA
    iintro ⟨Hp, -, Hr⟩
    isplitl [Hr]; · iexact Hr
    iexact Hp
  hout c := by
    refine BI.Entails.trans (hout c) (show (_ : sProp 𝕄) ⊢ _ from ?_)
    rw [Pipeline.ownSems0_none]; unfold Pipeline.ΦA
    iintro ⟨Hr, Hp⟩
    isplitl [Hp]; · iexact Hp
    isplitr; · iempintro
    iexact Hr
  hexit c := by
    iintro ⟨Ha, HO, -, Hrest⟩
    imodintro
    isplitl [Ha Hrest]
    · isplitl [Ha]; · iexact Ha
      iexact Hrest
    unfold Pipeline.RDat.owesAt Pipeline.owesWithin
    rw [show ((rdats m rd) 1 c).owed (Fin.last _) = 0 from howed c _]
    icases HO with ⟨%W, -, HO⟩; iexists W; iexact HO

/-- The program as the two calls and the host operations around them. -/
abbrev segments (c : Dev nD) : List (RDat.Seg (pcfgs (F := F)) adm (rdats m rd) () defs₀ Variants.none noDue noLevel) :=
  [.host (seg0 m Variants.none noDue noLevel fun _ => between), .region (region0 m rd),
   .host (seg2 m (outs m) Variants.none noDue noLevel fun _ => between), .host (seg3 m (outs m) Variants.none noDue noLevel fun _ => between),
   .host (seg4 m (outs m) Variants.none noDue noLevel fun _ => between), .host (seg5 m (outs m) Variants.none noDue noLevel fun _ => between),
   .host (seg6 m (outs m) Variants.none noDue noLevel fun _ => between), .host (seg7 m (outs m) Variants.none noDue noLevel fun _ => between),
   .host (seg8 m (outs m) Variants.none noDue noLevel fun _ => between), .region (region1 m rd hbody hshare howed hrec hA hin hout)]

include hbody hshare howed hrec hA hin hout in
set_option backward.isDefEq.respectTransparency.types false in
/-- The whole run ends with the second call's arrays as its data say and with every other array as the second call found it, every semaphore at zero. -/
theorem run_two : θ_run defs (onTc (τ := τ) (main (F := F))) (s₀ m ρ)
    (fun r => RDat.FramePost cfg1 rd (V m) r ∧ r.2.sem = fun _ => 0) := by
  refine RDat.θ_run_regions_kit_dev_sems (pcfgs (F := F)) adm (rdats m rd) () cellOf_inj emb₁ defs₀ Variants.none noDue noLevel m ρ main
    (segments m rd hbody hshare howed hrec hA hin hout)
    (fun c Q => by
      rewrite [main_chain c, RDat.Seg.run_eq_chain,
        show (segments m rd hbody hshare howed hrec hA hin hout c).map RDat.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()) ] from rfl]
      dsimp (config := { failIfUnchanged := false }) only
      exact .rfl)
    (fun c => by simp only [segments, RDat.Seg.pipes_host, RDat.Seg.pipes_region, RDat.Seg.pipes_nil]; decide)
    (fun _ => 0) (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ between c))
    (Tₙ := fun c => ended m rd c)
    (hch := fun c => ⟨.rfl, .rfl, .rfl, .rfl, .rfl, .rfl, .rfl, .rfl, .rfl, .rfl, .rfl⟩)
    (hinit := ?_)
    (QY := fun c s => (∀ w, (rd c).ArrAt w cfg1.N (s.mem ((cfg1.spec w).arr.view.loc (c.tc : Thread nD τ))))
      ∧ ∀ b ∈ Pipeline.restRefs sig cfg1.spec, s.mem ((c.tc : Thread nD τ).loc b) = V m c b)
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach noDue noLevel fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅
    iexact HO
  · iintro ⟨⟨Ha, Hrest⟩, HSI⟩
    ihave Hr := (RDat.arrays_read (pcfgs (F := F)) adm (rdats m rd) (p := 1) launch1.arr_whole c cfg1.N s') $$ [Ha HSI]
    · isplitl [Ha]; · iexact Ha
      iexact HSI
    icases Hr with ⟨%ha, HSI⟩
    unfold Pipeline.unscopedRest
    ihave Hq := (pointsTo_read_all (Pipeline.restRefs sig spec1) (fun b => (c : Thread nD τ).loc b) (V m c) s') $$ [Hrest HSI]
    · isplitl [Hrest]; · iexact Hrest
      iexact HSI
    icases Hq with ⟨%hq, HSI⟩
    imodintro
    isplitr
    · ipureintro
      exact ⟨ha, hq⟩
    iexact HSI

end Cert.Kernel.Entry

end
-- ==== Proof.KernelForget.lean ====
/-
  One point of the kernel `Kernel`, its contents forgotten: whatever the ring buffers and the result windows hold, the body runs to its end and
  leaves the input windows as they were.
-/
module

public import proofs.«01_k».proof.Proof.KernelOffsets
public import proofs.«01_k».proof.Proof.KernelLaunch
public import proofs.«01_k».proof.Proof.Gen.Kernel.Loops
public import Idealize.ShloMosaic.Lib.Pipeline.DatRel

@[expose] public section
set_option maxRecDepth 16384

noncomputable section
namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.Kernel Cert.Kernel.Gen Cert.Kernel.Entry

variable {F : FTy → Type} [FloatOps F]
local notation "𝕄" => MT nD τ sig Unit (Elt F) ℕ (UR sig nD τ) ℕ

/-- The point is the first one. -/
abbrev IsFirst (i : grid1.Coords) : Prop :=
  Scalar.cmpi .ne (Scalar.extui (Scalar.cmpi .eq (BitVec.ofNat 32 (i 0).val) 0#32) : BitVec 32) 0#32 = 1#1

set_option maxHeartbeats 4000000 in
/-- The first point: the ring buffers are zeroed, a block is quantised into them, nothing is convolved. -/
theorem forget_first (c : Dev nD) (E : Set ℕ) (i : grid1.Coords) (arg1 : Memref sig .tc .vmem S16x128 .f32) (harg1 : arg1.IsWhole) (arg2 : Memref sig .tc .vmem S704x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x128 .bf16) (harg6 : arg6.IsWhole) (arg7 : Memref sig .tc .vmem S1152x128 .bf16) (harg7 : arg7.IsWhole) (arg8 : Memref sig .tc .vmem S128x1280 .bf16) (harg8 : arg8.IsWhole) (arg9 : Memref sig .tc .vmem S704x1280 .bf16) (harg9 : arg9.IsWhole) (arg10 : Memref sig .tc .vmem S704x640 .fp8e4m3) (harg10 : arg10.IsWhole) (arg11 : Memref sig .tc .vmem S4x15x1088x128 .fp8e4m3) (harg11 : arg11.IsWhole) (arg12 : Memref sig .tc .vmem S4x1088x128 .f32) (harg12 : arg12.IsWhole)
    (x1 : Vec F S16x128 .f32) (x2 : Vec F S704x640 .bf16) (x3 : Vec F S5760x1280 .fp8e4m3) (x4 : Vec F S1x1280 .f32) (x5 : Vec F S1x1280 .f32) (x6 : Vec F S640x128 .bf16) (x7 : Vec F S1152x128 .bf16) (x8 : Vec F S128x1280 .bf16) (K : PUnit → sProp 𝕄) (h1 : IsFirst i) (h2 : ¬ k1_cond2 i = 1#1) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc1_conv i arg1 harg1 arg2 harg2 arg3 harg3 arg4 harg4 arg5 harg5 arg6 harg6 arg7 harg7 arg8 harg8 arg9 harg9 arg10 harg10 arg11 harg11 arg12 harg12) K := by
  simp only [cc1_conv_eq_skeleton]; unfold cc1_conv_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  iexists _; iexists _; isplitr; swap; · iexact H12
  ipureintro; rfl

set_option maxHeartbeats 4000000 in
/-- The second point: a block is quantised into the ring buffers, nothing is convolved. -/
theorem forget_fill (c : Dev nD) (E : Set ℕ) (i : grid1.Coords) (arg1 : Memref sig .tc .vmem S16x128 .f32) (harg1 : arg1.IsWhole) (arg2 : Memref sig .tc .vmem S704x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x128 .bf16) (harg6 : arg6.IsWhole) (arg7 : Memref sig .tc .vmem S1152x128 .bf16) (harg7 : arg7.IsWhole) (arg8 : Memref sig .tc .vmem S128x1280 .bf16) (harg8 : arg8.IsWhole) (arg9 : Memref sig .tc .vmem S704x1280 .bf16) (harg9 : arg9.IsWhole) (arg10 : Memref sig .tc .vmem S704x640 .fp8e4m3) (harg10 : arg10.IsWhole) (arg11 : Memref sig .tc .vmem S4x15x1088x128 .fp8e4m3) (harg11 : arg11.IsWhole) (arg12 : Memref sig .tc .vmem S4x1088x128 .f32) (harg12 : arg12.IsWhole)
    (x1 : Vec F S16x128 .f32) (x2 : Vec F S704x640 .bf16) (x3 : Vec F S5760x1280 .fp8e4m3) (x4 : Vec F S1x1280 .f32) (x5 : Vec F S1x1280 .f32) (x6 : Vec F S640x128 .bf16) (x7 : Vec F S1152x128 .bf16) (x8 : Vec F S128x1280 .bf16) (K : PUnit → sProp 𝕄) (h1 : ¬ IsFirst i) (h2 : ¬ k1_cond2 i = 1#1) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc1_conv i arg1 harg1 arg2 harg2 arg3 harg3 arg4 harg4 arg5 harg5 arg6 harg6 arg7 harg7 arg8 harg8 arg9 harg9 arg10 harg10 arg11 harg11 arg12 harg12) K := by
  simp only [cc1_conv_eq_skeleton]; unfold cc1_conv_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  iexists _; iexists _; isplitr; swap; · iexact H12
  ipureintro; rfl

set_option maxHeartbeats 4000000 in
/-- A later point: a block is quantised into the ring buffers, and the block two points before is convolved. -/
theorem forget_conv (c : Dev nD) (E : Set ℕ) (i : grid1.Coords) (arg1 : Memref sig .tc .vmem S16x128 .f32) (harg1 : arg1.IsWhole) (arg2 : Memref sig .tc .vmem S704x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x128 .bf16) (harg6 : arg6.IsWhole) (arg7 : Memref sig .tc .vmem S1152x128 .bf16) (harg7 : arg7.IsWhole) (arg8 : Memref sig .tc .vmem S128x1280 .bf16) (harg8 : arg8.IsWhole) (arg9 : Memref sig .tc .vmem S704x1280 .bf16) (harg9 : arg9.IsWhole) (arg10 : Memref sig .tc .vmem S704x640 .fp8e4m3) (harg10 : arg10.IsWhole) (arg11 : Memref sig .tc .vmem S4x15x1088x128 .fp8e4m3) (harg11 : arg11.IsWhole) (arg12 : Memref sig .tc .vmem S4x1088x128 .f32) (harg12 : arg12.IsWhole)
    (x1 : Vec F S16x128 .f32) (x2 : Vec F S704x640 .bf16) (x3 : Vec F S5760x1280 .fp8e4m3) (x4 : Vec F S1x1280 .f32) (x5 : Vec F S1x1280 .f32) (x6 : Vec F S640x128 .bf16) (x7 : Vec F S1152x128 .bf16) (x8 : Vec F S128x1280 .bf16) (K : PUnit → sProp 𝕄) (h1 : ¬ IsFirst i) (h2 : k1_cond2 i = 1#1) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc1_conv i arg1 harg1 arg2 harg2 arg3 harg3 arg4 harg4 arg5 harg5 arg6 harg6 arg7 harg7 arg8 harg8 arg9 harg9 arg10 harg10 arg11 harg11 arg12 harg12) K := by
  simp only [cc1_conv_eq_skeleton]; unfold cc1_conv_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  iexists _; iexists _; isplitr; swap; · iexact H12
  ipureintro; rfl

variable (m : (ℓ : Loc nD τ sig) → Buf (Elt F) ℓ) (ρ : Dev nD → PrngReg)

/-- Window 8 (the convolution's result) and window 9 (the codes) are forgotten. -/
def fgt : Fin cfg1.W → Bool := fun w => w == 8 || w == 9

/-- The proof data with nothing said of the two result windows: each input window holds its block at every point; the ring buffers hold
    anything. -/
def fdats (_ : Fin 1) (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ _ := Pipeline.ΦA spec1 c
  q _ := fullShare
  owed _ := 0

theorem fA_eq (c : Dev nD) (w : Fin cfg1.W) : (fdats m 0 c).A w = V m c (Pipeline.arrRef spec1 w) := by
  dsimp only [fdats]

theorem fafter1_0 (c : Dev nD) (t : Fin cfg1.N) : (fdats m 0 c).after 0 t = iblk m c 0 t := by dsimp only [fdats]
theorem fafter1_1 (c : Dev nD) (t : Fin cfg1.N) : (fdats m 0 c).after 1 t = iblk m c 1 t := by dsimp only [fdats]
theorem fafter1_2 (c : Dev nD) (t : Fin cfg1.N) : (fdats m 0 c).after 2 t = iblk m c 2 t := by dsimp only [fdats]
theorem fafter1_3 (c : Dev nD) (t : Fin cfg1.N) : (fdats m 0 c).after 3 t = iblk m c 3 t := by dsimp only [fdats]
theorem fafter1_4 (c : Dev nD) (t : Fin cfg1.N) : (fdats m 0 c).after 4 t = iblk m c 4 t := by dsimp only [fdats]
theorem fafter1_5 (c : Dev nD) (t : Fin cfg1.N) : (fdats m 0 c).after 5 t = iblk m c 5 t := by dsimp only [fdats]
theorem fafter1_6 (c : Dev nD) (t : Fin cfg1.N) : (fdats m 0 c).after 6 t = iblk m c 6 t := by dsimp only [fdats]
theorem fafter1_7 (c : Dev nD) (t : Fin cfg1.N) : (fdats m 0 c).after 7 t = iblk m c 7 t := by dsimp only [fdats]
theorem fbefore1_0 (c : Dev nD) (t : Fin cfg1.N) (d) : (fdats m 0 c).before 0 t d = iblk m c 0 t :=
  before1_0_of m (fdats m 0 c) (fA_eq m c 0) (fafter1_0 m c) t d
theorem fbefore1_1 (c : Dev nD) (t : Fin cfg1.N) (d) : (fdats m 0 c).before 1 t d = iblk m c 1 t :=
  before1_1_of m (fdats m 0 c) (fA_eq m c 1) (fafter1_1 m c) t d
theorem fbefore1_2 (c : Dev nD) (t : Fin cfg1.N) (d) : (fdats m 0 c).before 2 t d = iblk m c 2 t :=
  before1_2_of m (fdats m 0 c) (fA_eq m c 2) (fafter1_2 m c) t d
theorem fbefore1_3 (c : Dev nD) (t : Fin cfg1.N) (d) : (fdats m 0 c).before 3 t d = iblk m c 3 t :=
  before1_3_of m (fdats m 0 c) (fA_eq m c 3) (fafter1_3 m c) t d
theorem fbefore1_4 (c : Dev nD) (t : Fin cfg1.N) (d) : (fdats m 0 c).before 4 t d = iblk m c 4 t :=
  before1_4_of m (fdats m 0 c) (fA_eq m c 4) (fafter1_4 m c) t d
theorem fbefore1_5 (c : Dev nD) (t : Fin cfg1.N) (d) : (fdats m 0 c).before 5 t d = iblk m c 5 t :=
  before1_5_of m (fdats m 0 c) (fA_eq m c 5) (fafter1_5 m c) t d
theorem fbefore1_6 (c : Dev nD) (t : Fin cfg1.N) (d) : (fdats m 0 c).before 6 t d = iblk m c 6 t :=
  before1_6_of m (fdats m 0 c) (fA_eq m c 6) (fafter1_6 m c) t d
theorem fbefore1_7 (c : Dev nD) (t : Fin cfg1.N) (d) : (fdats m 0 c).before 7 t d = iblk m c 7 t :=
  before1_7_of m (fdats m 0 c) (fA_eq m c 7) (fafter1_7 m c) t d

/-- What the body is called with at point `t`, window by window, -/
def fbodyPre (c : Dev nD) (t : Fin cfg1.N) : sProp 𝕄 :=
  iprop((fdats m 0 c).Φ t.castSucc ∗ (fdats m 0 c).owesAt () t.castSucc
    ∗ (∃ d, owns (c : Thread nD τ) (st1_0 t) fullShare ((fdats m 0 c).before 0 t d))
    ∗ (∃ d, owns (c : Thread nD τ) (st1_1 t) fullShare ((fdats m 0 c).before 1 t d))
    ∗ (∃ d, owns (c : Thread nD τ) (st1_2 t) fullShare ((fdats m 0 c).before 2 t d))
    ∗ (∃ d, owns (c : Thread nD τ) (st1_3 t) fullShare ((fdats m 0 c).before 3 t d))
    ∗ (∃ d, owns (c : Thread nD τ) (st1_4 t) fullShare ((fdats m 0 c).before 4 t d))
    ∗ (∃ d, owns (c : Thread nD τ) (st1_5 t) fullShare ((fdats m 0 c).before 5 t d))
    ∗ (∃ d, owns (c : Thread nD τ) (st1_6 t) fullShare ((fdats m 0 c).before 6 t d))
    ∗ (∃ d, owns (c : Thread nD τ) (st1_7 t) fullShare ((fdats m 0 c).before 7 t d))
    ∗ (∃ X, owns (c : Thread nD τ) (st1_8 t) fullShare X)
    ∗ (∃ X, owns (c : Thread nD τ) (st1_9 t) fullShare X))

/-- and what it returns. -/
def fbodyPost (c : Dev nD) (t : Fin cfg1.N) : sProp 𝕄 :=
  iprop((fdats m 0 c).Φ t.succ ∗ (fdats m 0 c).owesAt () t.succ
    ∗ owns (c : Thread nD τ) (st1_0 t) fullShare ((fdats m 0 c).after 0 t)
    ∗ owns (c : Thread nD τ) (st1_1 t) fullShare ((fdats m 0 c).after 1 t)
    ∗ owns (c : Thread nD τ) (st1_2 t) fullShare ((fdats m 0 c).after 2 t)
    ∗ owns (c : Thread nD τ) (st1_3 t) fullShare ((fdats m 0 c).after 3 t)
    ∗ owns (c : Thread nD τ) (st1_4 t) fullShare ((fdats m 0 c).after 4 t)
    ∗ owns (c : Thread nD τ) (st1_5 t) fullShare ((fdats m 0 c).after 5 t)
    ∗ owns (c : Thread nD τ) (st1_6 t) fullShare ((fdats m 0 c).after 6 t)
    ∗ owns (c : Thread nD τ) (st1_7 t) fullShare ((fdats m 0 c).after 7 t)
    ∗ (∃ X, owns (c : Thread nD τ) (st1_8 t) fullShare X)
    ∗ (∃ X, owns (c : Thread nD τ) (st1_9 t) fullShare X))

/-- No point is both the first and one that convolves. -/
theorem not_first_conv : ∀ i : grid1.Coords, IsFirst i → ¬ k1_cond2 i = 1#1 := by decide +kernel

/-- The body at any point, whichever of the three kinds it is. -/
theorem forget_body (c : Dev nD) (E : Set ℕ) (i : grid1.Coords) (arg1 : Memref sig .tc .vmem S16x128 .f32) (harg1 : arg1.IsWhole) (arg2 : Memref sig .tc .vmem S704x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x128 .bf16) (harg6 : arg6.IsWhole) (arg7 : Memref sig .tc .vmem S1152x128 .bf16) (harg7 : arg7.IsWhole) (arg8 : Memref sig .tc .vmem S128x1280 .bf16) (harg8 : arg8.IsWhole) (arg9 : Memref sig .tc .vmem S704x1280 .bf16) (harg9 : arg9.IsWhole) (arg10 : Memref sig .tc .vmem S704x640 .fp8e4m3) (harg10 : arg10.IsWhole) (arg11 : Memref sig .tc .vmem S4x15x1088x128 .fp8e4m3) (harg11 : arg11.IsWhole) (arg12 : Memref sig .tc .vmem S4x1088x128 .f32) (harg12 : arg12.IsWhole)
    (x1 : Vec F S16x128 .f32) (x2 : Vec F S704x640 .bf16) (x3 : Vec F S5760x1280 .fp8e4m3) (x4 : Vec F S1x1280 .f32) (x5 : Vec F S1x1280 .f32) (x6 : Vec F S640x128 .bf16) (x7 : Vec F S1152x128 .bf16) (x8 : Vec F S128x1280 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc1_conv i arg1 harg1 arg2 harg2 arg3 harg3 arg4 harg4 arg5 harg5 arg6 harg6 arg7 harg7 arg8 harg8 arg9 harg9 arg10 harg10 arg11 harg11 arg12 harg12) K := by
  by_cases h1 : IsFirst i
  · exact forget_first c E i arg1 harg1 arg2 harg2 arg3 harg3 arg4 harg4 arg5 harg5 arg6 harg6 arg7 harg7 arg8 harg8 arg9 harg9 arg10 harg10 arg11 harg11 arg12 harg12 x1 x2 x3 x4 x5 x6 x7 x8 K h1 (not_first_conv i h1)
  · by_cases h2 : k1_cond2 i = 1#1
    · exact forget_conv c E i arg1 harg1 arg2 harg2 arg3 harg3 arg4 harg4 arg5 harg5 arg6 harg6 arg7 harg7 arg8 harg8 arg9 harg9 arg10 harg10 arg11 harg11 arg12 harg12 x1 x2 x3 x4 x5 x6 x7 x8 K h1 h2
    · exact forget_fill c E i arg1 harg1 arg2 harg2 arg3 harg3 arg4 harg4 arg5 harg5 arg6 harg6 arg7 harg7 arg8 harg8 arg9 harg9 arg10 harg10 arg11 harg11 arg12 harg12 x1 x2 x3 x4 x5 x6 x7 x8 K h1 h2

set_option maxHeartbeats 1000000 in
theorem fsound_body (c : Dev nD) (t : Fin cfg1.N) :
    fbodyPre m c t ⊢ wp frame (wpE (defs₀ (F := F)) Variants.none c none) Set.univ (bodyAt1 t) (fun _ => fbodyPost m c t) := by
  unfold fbodyPre fbodyPost bodyAt1
  simp only [fbefore1_0, fbefore1_1, fbefore1_2, fbefore1_3, fbefore1_4, fbefore1_5, fbefore1_6, fbefore1_7]
  rw [show (fdats m 0 c).Φ t.succ = Pipeline.ΦA spec1 c from rfl, show (fdats m 0 c).Φ t.castSucc = Pipeline.ΦA spec1 c from rfl,
    show (fdats m 0 c).owesAt () t.succ = (fdats m 0 c).owesAt () t.castSucc from rfl,
    fafter1_0, fafter1_1, fafter1_2, fafter1_3, fafter1_4, fafter1_5, fafter1_6, fafter1_7]
  rw [PhiA1_eq]
  iintro ⟨⟨⟨⟨%g, HG⟩, %h, HH⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%X8, H8⟩, ⟨%X9, H9⟩⟩
  iapply (forget_body c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HG]; · iexists _; rw [owns_whole]; iexact HG
  isplitl [HH]; · iexists _; rw [owns_whole]; iexact HH
  iintro ⟨H0, H1, H2, H3, H4, H5, H6, H7, H8, H9, ⟨%g', HG⟩, %h', HH⟩
  isplitl [HP HG HH]
  · isplitr [HP]
    · isplitl [HG]
      · iexists g'; rw [owns_whole]; exact .rfl
      · iexists h'; rw [owns_whole]; exact .rfl
    · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

theorem fbody_obligation (c : Dev nD) :
    Pipeline.BodyObligationLoose (fdats (F := F) m 0 c) (defs₀ (F := F)) Variants.none () Set.univ fgt := fun t => by
  rw [bigSep_W1, bigSep_W1, defs₀_row]
  exact triple_restated (fsound_body m c t) rfl .rfl fun _ => .rfl

set_option backward.isDefEq.respectTransparency.types false in
/-- The whole run ends, with every other array than the results as launched or as the host operations leave it, every semaphore at zero. -/
theorem frun_main (ρ : Dev nD → PrngReg) : θ_run defs (onTc (τ := τ) (main (F := F))) (s₀ m ρ)
    (fun r => RDat.FramePost cfg1 (fun c => (fdats m 0 c).toRForget fgt) (V m) r ∧ r.2.sem = fun _ => 0) :=
  Entry.run_two m ρ (fun c => (fdats m 0 c).toRForget fgt) (fun c => (fbody_obligation m c).toRForget)
    (fun c => (fdats m 0 c).share_full fun _ => rfl) (fun _ _ => rfl) (fun _ => rfl) (fun _ _ => rfl) (fun _ => .rfl) (fun _ => .rfl)

/-- `frame_Kernel`: every run ends, and leaves the arguments as launched and the semaphores at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (frun_main m ρ)

end Cert.Kernel.Hand
-- ==== Proof.KernelIdealOffsets.lean ====
/-
  The closed forms of the offsets at which the kernel `KernelIdeal` addresses its two ring buffers: the slot is the grid point, the point before,
  the point after or the point two before, modulo four; the plane and the row are literals.
-/
module

public import proofs.«01_k».proof.Proof.Gen.KernelIdeal.Points
public import proofs.«01_k».proof.Proof.Gen.KernelIdeal.Skeleton
public import Idealize.ShloMosaic.Lib.Exec

@[expose] public section

namespace Cert.KernelIdeal.Hand

open Idealize.ShloMosaic Idealize.ShloMosaic.Tactic
open Cert.KernelIdeal

theorem off1_eq : ∀ i : grid1.Coords, k1_off1 i = ![(i 0).val % 4, 0, 192, 0] := by decide +kernel
instance closedOff1 (i : grid1.Coords) : ClosedOff (k1_off1 i) := ⟨![(i 0).val % 4, 0, 192, 0], off1_eq i⟩
theorem off2_eq : ∀ i : grid1.Coords, k1_off2 i = ![((i 0).val + 3) % 4, 0, 896, 0] := by decide +kernel
instance closedOff2 (i : grid1.Coords) : ClosedOff (k1_off2 i) := ⟨![((i 0).val + 3) % 4, 0, 896, 0], off2_eq i⟩
theorem off3_eq : ∀ i : grid1.Coords, k1_off3 i = ![((i 0).val + 1) % 4, 0, 16, 0] := by decide +kernel
instance closedOff3 (i : grid1.Coords) : ClosedOff (k1_off3 i) := ⟨![((i 0).val + 1) % 4, 0, 16, 0], off3_eq i⟩
theorem off4_eq : ∀ i : grid1.Coords, k1_off4 i = ![(i 0).val % 4, 5, 192, 0] := by decide +kernel
instance closedOff4 (i : grid1.Coords) : ClosedOff (k1_off4 i) := ⟨![(i 0).val % 4, 5, 192, 0], off4_eq i⟩
theorem off5_eq : ∀ i : grid1.Coords, k1_off5 i = ![((i 0).val + 3) % 4, 5, 896, 0] := by decide +kernel
instance closedOff5 (i : grid1.Coords) : ClosedOff (k1_off5 i) := ⟨![((i 0).val + 3) % 4, 5, 896, 0], off5_eq i⟩
theorem off6_eq : ∀ i : grid1.Coords, k1_off6 i = ![((i 0).val + 1) % 4, 5, 16, 0] := by decide +kernel
instance closedOff6 (i : grid1.Coords) : ClosedOff (k1_off6 i) := ⟨![((i 0).val + 1) % 4, 5, 16, 0], off6_eq i⟩
theorem off7_eq : ∀ i : grid1.Coords, k1_off7 i = ![(i 0).val % 4, 10, 192, 0] := by decide +kernel
instance closedOff7 (i : grid1.Coords) : ClosedOff (k1_off7 i) := ⟨![(i 0).val % 4, 10, 192, 0], off7_eq i⟩
theorem off8_eq : ∀ i : grid1.Coords, k1_off8 i = ![((i 0).val + 3) % 4, 10, 896, 0] := by decide +kernel
instance closedOff8 (i : grid1.Coords) : ClosedOff (k1_off8 i) := ⟨![((i 0).val + 3) % 4, 10, 896, 0], off8_eq i⟩
theorem off9_eq : ∀ i : grid1.Coords, k1_off9 i = ![((i 0).val + 1) % 4, 10, 16, 0] := by decide +kernel
instance closedOff9 (i : grid1.Coords) : ClosedOff (k1_off9 i) := ⟨![((i 0).val + 1) % 4, 10, 16, 0], off9_eq i⟩
theorem off10_eq : ∀ i : grid1.Coords, k1_off10 i = ![(i 0).val % 4, 1, 192, 0] := by decide +kernel
instance closedOff10 (i : grid1.Coords) : ClosedOff (k1_off10 i) := ⟨![(i 0).val % 4, 1, 192, 0], off10_eq i⟩
theorem off11_eq : ∀ i : grid1.Coords, k1_off11 i = ![((i 0).val + 3) % 4, 1, 896, 0] := by decide +kernel
instance closedOff11 (i : grid1.Coords) : ClosedOff (k1_off11 i) := ⟨![((i 0).val + 3) % 4, 1, 896, 0], off11_eq i⟩
theorem off12_eq : ∀ i : grid1.Coords, k1_off12 i = ![((i 0).val + 1) % 4, 1, 16, 0] := by decide +kernel
instance closedOff12 (i : grid1.Coords) : ClosedOff (k1_off12 i) := ⟨![((i 0).val + 1) % 4, 1, 16, 0], off12_eq i⟩
theorem off13_eq : ∀ i : grid1.Coords, k1_off13 i = ![(i 0).val % 4, 6, 192, 0] := by decide +kernel
instance closedOff13 (i : grid1.Coords) : ClosedOff (k1_off13 i) := ⟨![(i 0).val % 4, 6, 192, 0], off13_eq i⟩
theorem off14_eq : ∀ i : grid1.Coords, k1_off14 i = ![((i 0).val + 3) % 4, 6, 896, 0] := by decide +kernel
instance closedOff14 (i : grid1.Coords) : ClosedOff (k1_off14 i) := ⟨![((i 0).val + 3) % 4, 6, 896, 0], off14_eq i⟩
theorem off15_eq : ∀ i : grid1.Coords, k1_off15 i = ![((i 0).val + 1) % 4, 6, 16, 0] := by decide +kernel
instance closedOff15 (i : grid1.Coords) : ClosedOff (k1_off15 i) := ⟨![((i 0).val + 1) % 4, 6, 16, 0], off15_eq i⟩
theorem off16_eq : ∀ i : grid1.Coords, k1_off16 i = ![(i 0).val % 4, 11, 192, 0] := by decide +kernel
instance closedOff16 (i : grid1.Coords) : ClosedOff (k1_off16 i) := ⟨![(i 0).val % 4, 11, 192, 0], off16_eq i⟩
theorem off17_eq : ∀ i : grid1.Coords, k1_off17 i = ![((i 0).val + 3) % 4, 11, 896, 0] := by decide +kernel
instance closedOff17 (i : grid1.Coords) : ClosedOff (k1_off17 i) := ⟨![((i 0).val + 3) % 4, 11, 896, 0], off17_eq i⟩
theorem off18_eq : ∀ i : grid1.Coords, k1_off18 i = ![((i 0).val + 1) % 4, 11, 16, 0] := by decide +kernel
instance closedOff18 (i : grid1.Coords) : ClosedOff (k1_off18 i) := ⟨![((i 0).val + 1) % 4, 11, 16, 0], off18_eq i⟩
theorem off19_eq : ∀ i : grid1.Coords, k1_off19 i = ![(i 0).val % 4, 2, 192, 0] := by decide +kernel
instance closedOff19 (i : grid1.Coords) : ClosedOff (k1_off19 i) := ⟨![(i 0).val % 4, 2, 192, 0], off19_eq i⟩
theorem off20_eq : ∀ i : grid1.Coords, k1_off20 i = ![((i 0).val + 3) % 4, 2, 896, 0] := by decide +kernel
instance closedOff20 (i : grid1.Coords) : ClosedOff (k1_off20 i) := ⟨![((i 0).val + 3) % 4, 2, 896, 0], off20_eq i⟩
theorem off21_eq : ∀ i : grid1.Coords, k1_off21 i = ![((i 0).val + 1) % 4, 2, 16, 0] := by decide +kernel
instance closedOff21 (i : grid1.Coords) : ClosedOff (k1_off21 i) := ⟨![((i 0).val + 1) % 4, 2, 16, 0], off21_eq i⟩
theorem off22_eq : ∀ i : grid1.Coords, k1_off22 i = ![(i 0).val % 4, 7, 192, 0] := by decide +kernel
instance closedOff22 (i : grid1.Coords) : ClosedOff (k1_off22 i) := ⟨![(i 0).val % 4, 7, 192, 0], off22_eq i⟩
theorem off23_eq : ∀ i : grid1.Coords, k1_off23 i = ![((i 0).val + 3) % 4, 7, 896, 0] := by decide +kernel
instance closedOff23 (i : grid1.Coords) : ClosedOff (k1_off23 i) := ⟨![((i 0).val + 3) % 4, 7, 896, 0], off23_eq i⟩
theorem off24_eq : ∀ i : grid1.Coords, k1_off24 i = ![((i 0).val + 1) % 4, 7, 16, 0] := by decide +kernel
instance closedOff24 (i : grid1.Coords) : ClosedOff (k1_off24 i) := ⟨![((i 0).val + 1) % 4, 7, 16, 0], off24_eq i⟩
theorem off25_eq : ∀ i : grid1.Coords, k1_off25 i = ![(i 0).val % 4, 12, 192, 0] := by decide +kernel
instance closedOff25 (i : grid1.Coords) : ClosedOff (k1_off25 i) := ⟨![(i 0).val % 4, 12, 192, 0], off25_eq i⟩
theorem off26_eq : ∀ i : grid1.Coords, k1_off26 i = ![((i 0).val + 3) % 4, 12, 896, 0] := by decide +kernel
instance closedOff26 (i : grid1.Coords) : ClosedOff (k1_off26 i) := ⟨![((i 0).val + 3) % 4, 12, 896, 0], off26_eq i⟩
theorem off27_eq : ∀ i : grid1.Coords, k1_off27 i = ![((i 0).val + 1) % 4, 12, 16, 0] := by decide +kernel
instance closedOff27 (i : grid1.Coords) : ClosedOff (k1_off27 i) := ⟨![((i 0).val + 1) % 4, 12, 16, 0], off27_eq i⟩
theorem off28_eq : ∀ i : grid1.Coords, k1_off28 i = ![(i 0).val % 4, 3, 192, 0] := by decide +kernel
instance closedOff28 (i : grid1.Coords) : ClosedOff (k1_off28 i) := ⟨![(i 0).val % 4, 3, 192, 0], off28_eq i⟩
theorem off29_eq : ∀ i : grid1.Coords, k1_off29 i = ![((i 0).val + 3) % 4, 3, 896, 0] := by decide +kernel
instance closedOff29 (i : grid1.Coords) : ClosedOff (k1_off29 i) := ⟨![((i 0).val + 3) % 4, 3, 896, 0], off29_eq i⟩
theorem off30_eq : ∀ i : grid1.Coords, k1_off30 i = ![((i 0).val + 1) % 4, 3, 16, 0] := by decide +kernel
instance closedOff30 (i : grid1.Coords) : ClosedOff (k1_off30 i) := ⟨![((i 0).val + 1) % 4, 3, 16, 0], off30_eq i⟩
theorem off31_eq : ∀ i : grid1.Coords, k1_off31 i = ![(i 0).val % 4, 8, 192, 0] := by decide +kernel
instance closedOff31 (i : grid1.Coords) : ClosedOff (k1_off31 i) := ⟨![(i 0).val % 4, 8, 192, 0], off31_eq i⟩
theorem off32_eq : ∀ i : grid1.Coords, k1_off32 i = ![((i 0).val + 3) % 4, 8, 896, 0] := by decide +kernel
instance closedOff32 (i : grid1.Coords) : ClosedOff (k1_off32 i) := ⟨![((i 0).val + 3) % 4, 8, 896, 0], off32_eq i⟩
theorem off33_eq : ∀ i : grid1.Coords, k1_off33 i = ![((i 0).val + 1) % 4, 8, 16, 0] := by decide +kernel
instance closedOff33 (i : grid1.Coords) : ClosedOff (k1_off33 i) := ⟨![((i 0).val + 1) % 4, 8, 16, 0], off33_eq i⟩
theorem off34_eq : ∀ i : grid1.Coords, k1_off34 i = ![(i 0).val % 4, 13, 192, 0] := by decide +kernel
instance closedOff34 (i : grid1.Coords) : ClosedOff (k1_off34 i) := ⟨![(i 0).val % 4, 13, 192, 0], off34_eq i⟩
theorem off35_eq : ∀ i : grid1.Coords, k1_off35 i = ![((i 0).val + 3) % 4, 13, 896, 0] := by decide +kernel
instance closedOff35 (i : grid1.Coords) : ClosedOff (k1_off35 i) := ⟨![((i 0).val + 3) % 4, 13, 896, 0], off35_eq i⟩
theorem off36_eq : ∀ i : grid1.Coords, k1_off36 i = ![((i 0).val + 1) % 4, 13, 16, 0] := by decide +kernel
instance closedOff36 (i : grid1.Coords) : ClosedOff (k1_off36 i) := ⟨![((i 0).val + 1) % 4, 13, 16, 0], off36_eq i⟩
theorem off37_eq : ∀ i : grid1.Coords, k1_off37 i = ![(i 0).val % 4, 4, 192, 0] := by decide +kernel
instance closedOff37 (i : grid1.Coords) : ClosedOff (k1_off37 i) := ⟨![(i 0).val % 4, 4, 192, 0], off37_eq i⟩
theorem off38_eq : ∀ i : grid1.Coords, k1_off38 i = ![((i 0).val + 3) % 4, 4, 896, 0] := by decide +kernel
instance closedOff38 (i : grid1.Coords) : ClosedOff (k1_off38 i) := ⟨![((i 0).val + 3) % 4, 4, 896, 0], off38_eq i⟩
theorem off39_eq : ∀ i : grid1.Coords, k1_off39 i = ![((i 0).val + 1) % 4, 4, 16, 0] := by decide +kernel
instance closedOff39 (i : grid1.Coords) : ClosedOff (k1_off39 i) := ⟨![((i 0).val + 1) % 4, 4, 16, 0], off39_eq i⟩
theorem off40_eq : ∀ i : grid1.Coords, k1_off40 i = ![(i 0).val % 4, 9, 192, 0] := by decide +kernel
instance closedOff40 (i : grid1.Coords) : ClosedOff (k1_off40 i) := ⟨![(i 0).val % 4, 9, 192, 0], off40_eq i⟩
theorem off41_eq : ∀ i : grid1.Coords, k1_off41 i = ![((i 0).val + 3) % 4, 9, 896, 0] := by decide +kernel
instance closedOff41 (i : grid1.Coords) : ClosedOff (k1_off41 i) := ⟨![((i 0).val + 3) % 4, 9, 896, 0], off41_eq i⟩
theorem off42_eq : ∀ i : grid1.Coords, k1_off42 i = ![((i 0).val + 1) % 4, 9, 16, 0] := by decide +kernel
instance closedOff42 (i : grid1.Coords) : ClosedOff (k1_off42 i) := ⟨![((i 0).val + 1) % 4, 9, 16, 0], off42_eq i⟩
theorem off43_eq : ∀ i : grid1.Coords, k1_off43 i = ![(i 0).val % 4, 14, 192, 0] := by decide +kernel
instance closedOff43 (i : grid1.Coords) : ClosedOff (k1_off43 i) := ⟨![(i 0).val % 4, 14, 192, 0], off43_eq i⟩
theorem off44_eq : ∀ i : grid1.Coords, k1_off44 i = ![((i 0).val + 3) % 4, 14, 896, 0] := by decide +kernel
instance closedOff44 (i : grid1.Coords) : ClosedOff (k1_off44 i) := ⟨![((i 0).val + 3) % 4, 14, 896, 0], off44_eq i⟩
theorem off45_eq : ∀ i : grid1.Coords, k1_off45 i = ![((i 0).val + 1) % 4, 14, 16, 0] := by decide +kernel
instance closedOff45 (i : grid1.Coords) : ClosedOff (k1_off45 i) := ⟨![((i 0).val + 1) % 4, 14, 16, 0], off45_eq i⟩
theorem off46_eq : ∀ i : grid1.Coords, k1_off46 i = ![(i 0).val % 4, 192, 0] := by decide +kernel
instance closedOff46 (i : grid1.Coords) : ClosedOff (k1_off46 i) := ⟨![(i 0).val % 4, 192, 0], off46_eq i⟩
theorem off47_eq : ∀ i : grid1.Coords, k1_off47 i = ![((i 0).val + 3) % 4, 896, 0] := by decide +kernel
instance closedOff47 (i : grid1.Coords) : ClosedOff (k1_off47 i) := ⟨![((i 0).val + 3) % 4, 896, 0], off47_eq i⟩
theorem off48_eq : ∀ i : grid1.Coords, k1_off48 i = ![((i 0).val + 1) % 4, 16, 0] := by decide +kernel
instance closedOff48 (i : grid1.Coords) : ClosedOff (k1_off48 i) := ⟨![((i 0).val + 1) % 4, 16, 0], off48_eq i⟩
theorem off49_eq : ∀ i : grid1.Coords, k1_off49 i = ![((i 0).val + 2) % 4, 15, 0] := by decide +kernel
instance closedOff49 (i : grid1.Coords) : ClosedOff (k1_off49 i) := ⟨![((i 0).val + 2) % 4, 15, 0], off49_eq i⟩
theorem off50_eq : ∀ i : grid1.Coords, k1_off50 i = ![((i 0).val + 2) % 4, 16, 0] := by decide +kernel
instance closedOff50 (i : grid1.Coords) : ClosedOff (k1_off50 i) := ⟨![((i 0).val + 2) % 4, 16, 0], off50_eq i⟩
theorem off51_eq : ∀ i : grid1.Coords, k1_off51 i = ![((i 0).val + 2) % 4, 17, 0] := by decide +kernel
instance closedOff51 (i : grid1.Coords) : ClosedOff (k1_off51 i) := ⟨![((i 0).val + 2) % 4, 17, 0], off51_eq i⟩
theorem off52_eq : ∀ i : grid1.Coords, k1_off52 i = ![((i 0).val + 2) % 4, 191, 0] := by decide +kernel
instance closedOff52 (i : grid1.Coords) : ClosedOff (k1_off52 i) := ⟨![((i 0).val + 2) % 4, 191, 0], off52_eq i⟩
theorem off53_eq : ∀ i : grid1.Coords, k1_off53 i = ![((i 0).val + 2) % 4, 192, 0] := by decide +kernel
instance closedOff53 (i : grid1.Coords) : ClosedOff (k1_off53 i) := ⟨![((i 0).val + 2) % 4, 192, 0], off53_eq i⟩
theorem off54_eq : ∀ i : grid1.Coords, k1_off54 i = ![((i 0).val + 2) % 4, 193, 0] := by decide +kernel
instance closedOff54 (i : grid1.Coords) : ClosedOff (k1_off54 i) := ⟨![((i 0).val + 2) % 4, 193, 0], off54_eq i⟩
theorem off55_eq : ∀ i : grid1.Coords, k1_off55 i = ![((i 0).val + 2) % 4, 367, 0] := by decide +kernel
instance closedOff55 (i : grid1.Coords) : ClosedOff (k1_off55 i) := ⟨![((i 0).val + 2) % 4, 367, 0], off55_eq i⟩
theorem off56_eq : ∀ i : grid1.Coords, k1_off56 i = ![((i 0).val + 2) % 4, 368, 0] := by decide +kernel
instance closedOff56 (i : grid1.Coords) : ClosedOff (k1_off56 i) := ⟨![((i 0).val + 2) % 4, 368, 0], off56_eq i⟩
theorem off57_eq : ∀ i : grid1.Coords, k1_off57 i = ![((i 0).val + 2) % 4, 369, 0] := by decide +kernel
instance closedOff57 (i : grid1.Coords) : ClosedOff (k1_off57 i) := ⟨![((i 0).val + 2) % 4, 369, 0], off57_eq i⟩
theorem off58_eq : ∀ i : grid1.Coords, k1_off58 i = ![((i 0).val + 2) % 4, 0, 16, 0] := by decide +kernel
instance closedOff58 (i : grid1.Coords) : ClosedOff (k1_off58 i) := ⟨![((i 0).val + 2) % 4, 0, 16, 0], off58_eq i⟩
theorem off59_eq : ∀ i : grid1.Coords, k1_off59 i = ![((i 0).val + 2) % 4, 1, 16, 0] := by decide +kernel
instance closedOff59 (i : grid1.Coords) : ClosedOff (k1_off59 i) := ⟨![((i 0).val + 2) % 4, 1, 16, 0], off59_eq i⟩
theorem off60_eq : ∀ i : grid1.Coords, k1_off60 i = ![((i 0).val + 2) % 4, 2, 16, 0] := by decide +kernel
instance closedOff60 (i : grid1.Coords) : ClosedOff (k1_off60 i) := ⟨![((i 0).val + 2) % 4, 2, 16, 0], off60_eq i⟩
theorem off61_eq : ∀ i : grid1.Coords, k1_off61 i = ![((i 0).val + 2) % 4, 3, 16, 0] := by decide +kernel
instance closedOff61 (i : grid1.Coords) : ClosedOff (k1_off61 i) := ⟨![((i 0).val + 2) % 4, 3, 16, 0], off61_eq i⟩
theorem off62_eq : ∀ i : grid1.Coords, k1_off62 i = ![((i 0).val + 2) % 4, 4, 16, 0] := by decide +kernel
instance closedOff62 (i : grid1.Coords) : ClosedOff (k1_off62 i) := ⟨![((i 0).val + 2) % 4, 4, 16, 0], off62_eq i⟩
theorem off63_eq : ∀ i : grid1.Coords, k1_off63 i = ![((i 0).val + 2) % 4, 5, 16, 0] := by decide +kernel
instance closedOff63 (i : grid1.Coords) : ClosedOff (k1_off63 i) := ⟨![((i 0).val + 2) % 4, 5, 16, 0], off63_eq i⟩
theorem off64_eq : ∀ i : grid1.Coords, k1_off64 i = ![((i 0).val + 2) % 4, 6, 16, 0] := by decide +kernel
instance closedOff64 (i : grid1.Coords) : ClosedOff (k1_off64 i) := ⟨![((i 0).val + 2) % 4, 6, 16, 0], off64_eq i⟩
theorem off65_eq : ∀ i : grid1.Coords, k1_off65 i = ![((i 0).val + 2) % 4, 7, 16, 0] := by decide +kernel
instance closedOff65 (i : grid1.Coords) : ClosedOff (k1_off65 i) := ⟨![((i 0).val + 2) % 4, 7, 16, 0], off65_eq i⟩
theorem off66_eq : ∀ i : grid1.Coords, k1_off66 i = ![((i 0).val + 2) % 4, 8, 16, 0] := by decide +kernel
instance closedOff66 (i : grid1.Coords) : ClosedOff (k1_off66 i) := ⟨![((i 0).val + 2) % 4, 8, 16, 0], off66_eq i⟩
theorem off67_eq : ∀ i : grid1.Coords, k1_off67 i = ![((i 0).val + 2) % 4, 9, 16, 0] := by decide +kernel
instance closedOff67 (i : grid1.Coords) : ClosedOff (k1_off67 i) := ⟨![((i 0).val + 2) % 4, 9, 16, 0], off67_eq i⟩
theorem off68_eq : ∀ i : grid1.Coords, k1_off68 i = ![((i 0).val + 2) % 4, 10, 16, 0] := by decide +kernel
instance closedOff68 (i : grid1.Coords) : ClosedOff (k1_off68 i) := ⟨![((i 0).val + 2) % 4, 10, 16, 0], off68_eq i⟩
theorem off69_eq : ∀ i : grid1.Coords, k1_off69 i = ![((i 0).val + 2) % 4, 11, 16, 0] := by decide +kernel
instance closedOff69 (i : grid1.Coords) : ClosedOff (k1_off69 i) := ⟨![((i 0).val + 2) % 4, 11, 16, 0], off69_eq i⟩
theorem off70_eq : ∀ i : grid1.Coords, k1_off70 i = ![((i 0).val + 2) % 4, 12, 16, 0] := by decide +kernel
instance closedOff70 (i : grid1.Coords) : ClosedOff (k1_off70 i) := ⟨![((i 0).val + 2) % 4, 12, 16, 0], off70_eq i⟩
theorem off71_eq : ∀ i : grid1.Coords, k1_off71 i = ![((i 0).val + 2) % 4, 13, 16, 0] := by decide +kernel
instance closedOff71 (i : grid1.Coords) : ClosedOff (k1_off71 i) := ⟨![((i 0).val + 2) % 4, 13, 16, 0], off71_eq i⟩
theorem off72_eq : ∀ i : grid1.Coords, k1_off72 i = ![((i 0).val + 2) % 4, 14, 16, 0] := by decide +kernel
instance closedOff72 (i : grid1.Coords) : ClosedOff (k1_off72 i) := ⟨![((i 0).val + 2) % 4, 14, 16, 0], off72_eq i⟩
theorem off73_eq : ∀ i : grid1.Coords, k1_off73 i = ![((i 0).val + 2) % 4, 0, 192, 0] := by decide +kernel
instance closedOff73 (i : grid1.Coords) : ClosedOff (k1_off73 i) := ⟨![((i 0).val + 2) % 4, 0, 192, 0], off73_eq i⟩
theorem off74_eq : ∀ i : grid1.Coords, k1_off74 i = ![((i 0).val + 2) % 4, 1, 192, 0] := by decide +kernel
instance closedOff74 (i : grid1.Coords) : ClosedOff (k1_off74 i) := ⟨![((i 0).val + 2) % 4, 1, 192, 0], off74_eq i⟩
theorem off75_eq : ∀ i : grid1.Coords, k1_off75 i = ![((i 0).val + 2) % 4, 2, 192, 0] := by decide +kernel
instance closedOff75 (i : grid1.Coords) : ClosedOff (k1_off75 i) := ⟨![((i 0).val + 2) % 4, 2, 192, 0], off75_eq i⟩
theorem off76_eq : ∀ i : grid1.Coords, k1_off76 i = ![((i 0).val + 2) % 4, 3, 192, 0] := by decide +kernel
instance closedOff76 (i : grid1.Coords) : ClosedOff (k1_off76 i) := ⟨![((i 0).val + 2) % 4, 3, 192, 0], off76_eq i⟩
theorem off77_eq : ∀ i : grid1.Coords, k1_off77 i = ![((i 0).val + 2) % 4, 4, 192, 0] := by decide +kernel
instance closedOff77 (i : grid1.Coords) : ClosedOff (k1_off77 i) := ⟨![((i 0).val + 2) % 4, 4, 192, 0], off77_eq i⟩
theorem off78_eq : ∀ i : grid1.Coords, k1_off78 i = ![((i 0).val + 2) % 4, 5, 192, 0] := by decide +kernel
instance closedOff78 (i : grid1.Coords) : ClosedOff (k1_off78 i) := ⟨![((i 0).val + 2) % 4, 5, 192, 0], off78_eq i⟩
theorem off79_eq : ∀ i : grid1.Coords, k1_off79 i = ![((i 0).val + 2) % 4, 6, 192, 0] := by decide +kernel
instance closedOff79 (i : grid1.Coords) : ClosedOff (k1_off79 i) := ⟨![((i 0).val + 2) % 4, 6, 192, 0], off79_eq i⟩
theorem off80_eq : ∀ i : grid1.Coords, k1_off80 i = ![((i 0).val + 2) % 4, 7, 192, 0] := by decide +kernel
instance closedOff80 (i : grid1.Coords) : ClosedOff (k1_off80 i) := ⟨![((i 0).val + 2) % 4, 7, 192, 0], off80_eq i⟩
theorem off81_eq : ∀ i : grid1.Coords, k1_off81 i = ![((i 0).val + 2) % 4, 8, 192, 0] := by decide +kernel
instance closedOff81 (i : grid1.Coords) : ClosedOff (k1_off81 i) := ⟨![((i 0).val + 2) % 4, 8, 192, 0], off81_eq i⟩
theorem off82_eq : ∀ i : grid1.Coords, k1_off82 i = ![((i 0).val + 2) % 4, 9, 192, 0] := by decide +kernel
instance closedOff82 (i : grid1.Coords) : ClosedOff (k1_off82 i) := ⟨![((i 0).val + 2) % 4, 9, 192, 0], off82_eq i⟩
theorem off83_eq : ∀ i : grid1.Coords, k1_off83 i = ![((i 0).val + 2) % 4, 10, 192, 0] := by decide +kernel
instance closedOff83 (i : grid1.Coords) : ClosedOff (k1_off83 i) := ⟨![((i 0).val + 2) % 4, 10, 192, 0], off83_eq i⟩
theorem off84_eq : ∀ i : grid1.Coords, k1_off84 i = ![((i 0).val + 2) % 4, 11, 192, 0] := by decide +kernel
instance closedOff84 (i : grid1.Coords) : ClosedOff (k1_off84 i) := ⟨![((i 0).val + 2) % 4, 11, 192, 0], off84_eq i⟩
theorem off85_eq : ∀ i : grid1.Coords, k1_off85 i = ![((i 0).val + 2) % 4, 12, 192, 0] := by decide +kernel
instance closedOff85 (i : grid1.Coords) : ClosedOff (k1_off85 i) := ⟨![((i 0).val + 2) % 4, 12, 192, 0], off85_eq i⟩
theorem off86_eq : ∀ i : grid1.Coords, k1_off86 i = ![((i 0).val + 2) % 4, 13, 192, 0] := by decide +kernel
instance closedOff86 (i : grid1.Coords) : ClosedOff (k1_off86 i) := ⟨![((i 0).val + 2) % 4, 13, 192, 0], off86_eq i⟩
theorem off87_eq : ∀ i : grid1.Coords, k1_off87 i = ![((i 0).val + 2) % 4, 14, 192, 0] := by decide +kernel
instance closedOff87 (i : grid1.Coords) : ClosedOff (k1_off87 i) := ⟨![((i 0).val + 2) % 4, 14, 192, 0], off87_eq i⟩
theorem off88_eq : ∀ i : grid1.Coords, k1_off88 i = ![((i 0).val + 2) % 4, 0, 368, 0] := by decide +kernel
instance closedOff88 (i : grid1.Coords) : ClosedOff (k1_off88 i) := ⟨![((i 0).val + 2) % 4, 0, 368, 0], off88_eq i⟩
theorem off89_eq : ∀ i : grid1.Coords, k1_off89 i = ![((i 0).val + 2) % 4, 1, 368, 0] := by decide +kernel
instance closedOff89 (i : grid1.Coords) : ClosedOff (k1_off89 i) := ⟨![((i 0).val + 2) % 4, 1, 368, 0], off89_eq i⟩
theorem off90_eq : ∀ i : grid1.Coords, k1_off90 i = ![((i 0).val + 2) % 4, 2, 368, 0] := by decide +kernel
instance closedOff90 (i : grid1.Coords) : ClosedOff (k1_off90 i) := ⟨![((i 0).val + 2) % 4, 2, 368, 0], off90_eq i⟩
theorem off91_eq : ∀ i : grid1.Coords, k1_off91 i = ![((i 0).val + 2) % 4, 3, 368, 0] := by decide +kernel
instance closedOff91 (i : grid1.Coords) : ClosedOff (k1_off91 i) := ⟨![((i 0).val + 2) % 4, 3, 368, 0], off91_eq i⟩
theorem off92_eq : ∀ i : grid1.Coords, k1_off92 i = ![((i 0).val + 2) % 4, 4, 368, 0] := by decide +kernel
instance closedOff92 (i : grid1.Coords) : ClosedOff (k1_off92 i) := ⟨![((i 0).val + 2) % 4, 4, 368, 0], off92_eq i⟩
theorem off93_eq : ∀ i : grid1.Coords, k1_off93 i = ![((i 0).val + 2) % 4, 5, 368, 0] := by decide +kernel
instance closedOff93 (i : grid1.Coords) : ClosedOff (k1_off93 i) := ⟨![((i 0).val + 2) % 4, 5, 368, 0], off93_eq i⟩
theorem off94_eq : ∀ i : grid1.Coords, k1_off94 i = ![((i 0).val + 2) % 4, 6, 368, 0] := by decide +kernel
instance closedOff94 (i : grid1.Coords) : ClosedOff (k1_off94 i) := ⟨![((i 0).val + 2) % 4, 6, 368, 0], off94_eq i⟩
theorem off95_eq : ∀ i : grid1.Coords, k1_off95 i = ![((i 0).val + 2) % 4, 7, 368, 0] := by decide +kernel
instance closedOff95 (i : grid1.Coords) : ClosedOff (k1_off95 i) := ⟨![((i 0).val + 2) % 4, 7, 368, 0], off95_eq i⟩
theorem off96_eq : ∀ i : grid1.Coords, k1_off96 i = ![((i 0).val + 2) % 4, 8, 368, 0] := by decide +kernel
instance closedOff96 (i : grid1.Coords) : ClosedOff (k1_off96 i) := ⟨![((i 0).val + 2) % 4, 8, 368, 0], off96_eq i⟩
theorem off97_eq : ∀ i : grid1.Coords, k1_off97 i = ![((i 0).val + 2) % 4, 9, 368, 0] := by decide +kernel
instance closedOff97 (i : grid1.Coords) : ClosedOff (k1_off97 i) := ⟨![((i 0).val + 2) % 4, 9, 368, 0], off97_eq i⟩
theorem off98_eq : ∀ i : grid1.Coords, k1_off98 i = ![((i 0).val + 2) % 4, 10, 368, 0] := by decide +kernel
instance closedOff98 (i : grid1.Coords) : ClosedOff (k1_off98 i) := ⟨![((i 0).val + 2) % 4, 10, 368, 0], off98_eq i⟩
theorem off99_eq : ∀ i : grid1.Coords, k1_off99 i = ![((i 0).val + 2) % 4, 11, 368, 0] := by decide +kernel
instance closedOff99 (i : grid1.Coords) : ClosedOff (k1_off99 i) := ⟨![((i 0).val + 2) % 4, 11, 368, 0], off99_eq i⟩
theorem off100_eq : ∀ i : grid1.Coords, k1_off100 i = ![((i 0).val + 2) % 4, 12, 368, 0] := by decide +kernel
instance closedOff100 (i : grid1.Coords) : ClosedOff (k1_off100 i) := ⟨![((i 0).val + 2) % 4, 12, 368, 0], off100_eq i⟩
theorem off101_eq : ∀ i : grid1.Coords, k1_off101 i = ![((i 0).val + 2) % 4, 13, 368, 0] := by decide +kernel
instance closedOff101 (i : grid1.Coords) : ClosedOff (k1_off101 i) := ⟨![((i 0).val + 2) % 4, 13, 368, 0], off101_eq i⟩
theorem off102_eq : ∀ i : grid1.Coords, k1_off102 i = ![((i 0).val + 2) % 4, 14, 368, 0] := by decide +kernel
instance closedOff102 (i : grid1.Coords) : ClosedOff (k1_off102 i) := ⟨![((i 0).val + 2) % 4, 14, 368, 0], off102_eq i⟩

end Cert.KernelIdeal.Hand
-- ==== Proof.KernelIdealScaleRuns.lean ====
/-
  The first call of the kernel `KernelIdeal` (the largest magnitude of the activations): what its three cases' runs are stated over — the branch conditions over
  the grid points, where the result window is idle, the staging and scratch buffers, the invariant of the buffers the call leaves alone.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Scale0

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 44 = 0 :=
  (fun t => by
    have ht : t.val < 44 := Nat.lt_of_lt_of_eq t.isLt N_0
    have e0 : (grid0.coords t 0).val = t.val / 1 % 44 := Pipeline.Grid.coords_val t 0 (by decide) rfl
    simp only [cond0_0, e0]
    word_cmp
   : ∀ t : Fin grid0.N, cond0_0 (grid0.coords t) ↔ t.val % 44 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 44 = 43 :=
  (fun t => by
    have ht : t.val < 44 := Nat.lt_of_lt_of_eq t.isLt N_0
    have e0 : (grid0.coords t 0).val = t.val / 1 % 44 := Pipeline.Grid.coords_val t 0 (by decide) rfl
    simp only [cond0_1, k0_cond2, e0]
    word_cmp
   : ∀ t : Fin grid0.N, cond0_1 (grid0.coords t) ↔ t.val % 44 = 43)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → ¬cond0_1 (grid0.coords t) → cfg0.idle 1 (grid0.coords t) = true := by decide +kernel
/-- At the points of case B the pipeline does not write output 1's block back. -/
theorem noFlush0_1_B : ∀ t : Fin cfg0.N, ¬cond0_0 (grid0.coords t) → ¬cond0_1 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cfg0.idle 1 (grid0.coords t) = false := by decide +kernel

/-! ## The kernel body on any staging memrefs: a subtype the run finds -/

/-- One staging buffer of output window 1, through which its contents are stated (`View.read_writes_of_cover`: the
    choice does not matter). -/
abbrev VO0_1 : View sig .tc .vmem S16x128 .f32 := (Memref.whole cc0_stg1_0 : Memref sig .tc .vmem S16x128 .f32).view
/-- Each window's current staging memref at point `t`, spelled as the pipeline passes it (`bodyAt0`), and its wholeness. -/
abbrev ms0_0 (t : Fin cfg0.N) : Memref sig .tc .vmem S2048x640 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x128 .f32 := win0_1.stage (cfg0.slots t 1)
abbrev hs0_1 (t : Fin cfg0.N) : (ms0_1 t).IsWhole := hstage0_1 ((cfg0.slots t 1).cast nbuf0_1)
/-- The scratch operands: whole scoped buffers of the kernel's own, passed beside the windows. -/
abbrev scM0_0 : Memref sig .tc .vmem S16x640 .bf16 := Memref.whole cc0_scratch0
/-- The scratch `arg3` the kernel carries between points, as a view: what it holds is stated through it. -/
abbrev VS0_0 : View sig .tc .vmem S16x640 .bf16 := scM0_0.view

/-- The scoped buffers of the other call, each at some contents, and the generator register at some state: what the first call leaves alone. -/
def rest (c : Dev nD) : sProp 𝕄 :=
  iprop(iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ ∃ r, prngReg c r)

/-- The invariant with the scratch as a memref owned at some contents, beside what the call leaves alone. -/
theorem PhiA0_eq (c : Dev nD) :
    (Pipeline.ΦA spec0 c : sProp 𝕄)
      = iprop(iprop((∃ d, owns (c : Thread nD τ) scM0_0 fullShare d)) ∗ rest c) := by
  unfold Pipeline.ΦA rest; rw [scopedRest0_eq]; simp only [scM0_0, owns_whole]; exact BI.Entails.antisymm BI.sep_assoc BI.sep_assoc'

end Cert.KernelIdeal.Scale0

end
-- ==== Proof.KernelIdealScaleRunA.lean ====
/-
  The first call's body of the kernel `KernelIdeal` run in case A of its grid points, with the pieces it stores.
-/
module

public import proofs.«01_k».proof.Proof.KernelIdealScaleRuns

@[expose] public section

-- membership in a rectangle of production extents (`View.cover_of_tiled`): the elaborator's structural look
-- recurses once per coordinate of the long axes
set_option maxRecDepth 16384

noncomputable section

namespace Cert.KernelIdeal.Scale0

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : cond0_0 i) (hc1 : ¬cond0_1 i)
    (x0 : Vec F S2048x640 .bf16) :
    Σ' (L1 : List (View.Piece (Elt F) S16x128 .f32)), { LS0 : List (View.Piece (Elt F) S16x640 .bf16) //
      ∀ (xi1 : Vec F S16x128 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_amax i arg1 harg1 arg2 harg2 arg3 harg3) K } := by
  refine ⟨[], ?_, fun xi1 E K => ?run⟩
  case run =>
    simp only [cc0_amax_eq_skeleton]; unfold cc0_amax_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Scale0

end
-- ==== Proof.KernelIdealScaleRunB.lean ====
/-
  The first call's body of the kernel `KernelIdeal` run in case B of its grid points, with the pieces it stores.
-/
module

public import proofs.«01_k».proof.Proof.KernelIdealScaleRunA

@[expose] public section

-- membership in a rectangle of production extents (`View.cover_of_tiled`): the elaborator's structural look
-- recurses once per coordinate of the long axes
set_option maxRecDepth 16384

noncomputable section

namespace Cert.KernelIdeal.Scale0

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 42: 42 of 44), WITH the
    proof that on whole staging memrefs — the inputs' at their contents, the outputs it leaves idle (1: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : ¬cond0_0 i) (hc1 : ¬cond0_1 i)
    (x0 : Vec F S2048x640 .bf16) (xs0 : Vec F S16x640 .bf16) :
    Σ' (L1 : List (View.Piece (Elt F) S16x128 .f32)), { LS0 : List (View.Piece (Elt F) S16x640 .bf16) //
      ∀ (xi1 : Vec F S16x128 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_amax i arg1 harg1 arg2 harg2 arg3 harg3) K } := by
  refine ⟨[], ?_, fun xi1 E K => ?run⟩
  case run =>
    simp only [cc0_amax_eq_skeleton]; unfold cc0_amax_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Scale0

end
-- ==== Proof.KernelIdealScaleRunC.lean ====
/-
  The first call's body of the kernel `KernelIdeal` run in case C of its grid points, with the pieces it stores.
-/
module

public import proofs.«01_k».proof.Proof.KernelIdealScaleRunB

@[expose] public section

-- membership in a rectangle of production extents (`View.cover_of_tiled`): the elaborator's structural look
-- recurses once per coordinate of the long axes
set_option maxRecDepth 16384

noncomputable section

namespace Cert.KernelIdeal.Scale0

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 43), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : ¬cond0_0 i) (hc1 : cond0_1 i)
    (x0 : Vec F S2048x640 .bf16) (xs0 : Vec F S16x640 .bf16) :
    Σ' (L1 : List (View.Piece (Elt F) S16x128 .f32)), { LS0 : List (View.Piece (Elt F) S16x640 .bf16) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0_amax i arg1 harg1 arg2 harg2 arg3 harg3) K } := by
  refine ⟨?_, ?_, fun E K => ?run⟩
  case run =>
    simp only [cc0_amax_eq_skeleton]; unfold cc0_amax_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    iexists _; iexact HS0

end Cert.KernelIdeal.Scale0

end
-- ==== Proof.KernelIdealScaleData.lean ====
/-
  The first call of the kernel `KernelIdeal`: what its result and its scratch hold after each grid point, its proof data, and the body at every point.
-/
module

public import proofs.«01_k».proof.Proof.KernelIdealScaleRunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Scale0

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : cond0_0 i) (hc1 : ¬cond0_1 i)
    (x0 : Vec F S2048x640 .bf16) : Vec F S16x128 .f32 :=
  VO0_1.read (Elt F) (VO0_1.writes (Elt F) VO0_1.junk (kernelRun0_A c i arg1 harg1 arg2 harg2 arg3 harg3 hc0 hc1 x0).1)

/-- Case A's pieces for scratch `arg3`, which the kernel carries between points, cover it: 2 pieces of `S16x640` tiling it (Lib/Ring.lean `Piece.tiledL`). -/
theorem scover0_A_0 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : cond0_0 i) (hc1 : ¬cond0_1 i)
    (x0 : Vec F S2048x640 .bf16) (y : S16x640.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S16x640.size (by sl_kernel_rfl) y

/-- What case A leaves in scratch `arg3`: its pieces read back over junk. -/
def sout0_A_0 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : cond0_0 i) (hc1 : ¬cond0_1 i)
    (x0 : Vec F S2048x640 .bf16) : Vec F S16x640 .bf16 :=
  VS0_0.read (Elt F) (VS0_0.writes (Elt F) VS0_0.junk (kernelRun0_A c i arg1 harg1 arg2 harg2 arg3 harg3 hc0 hc1 x0).2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : ¬cond0_0 i) (hc1 : ¬cond0_1 i)
    (x0 : Vec F S2048x640 .bf16) (xs0 : Vec F S16x640 .bf16) : Vec F S16x128 .f32 :=
  VO0_1.read (Elt F) (VO0_1.writes (Elt F) VO0_1.junk (kernelRun0_B c i arg1 harg1 arg2 harg2 arg3 harg3 hc0 hc1 x0 xs0).1)

/-- Case B's pieces for scratch `arg3`, which the kernel carries between points, cover it: 1 piece of `S16x640` tiling it (Lib/Ring.lean `Piece.tiledL`). -/
theorem scover0_B_0 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : ¬cond0_0 i) (hc1 : ¬cond0_1 i)
    (x0 : Vec F S2048x640 .bf16) (xs0 : Vec F S16x640 .bf16) (y : S16x640.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S16x640.size (by sl_kernel_rfl) y

/-- What case B leaves in scratch `arg3`: its pieces read back over junk. -/
def sout0_B_0 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : ¬cond0_0 i) (hc1 : ¬cond0_1 i)
    (x0 : Vec F S2048x640 .bf16) (xs0 : Vec F S16x640 .bf16) : Vec F S16x640 .bf16 :=
  VS0_0.read (Elt F) (VS0_0.writes (Elt F) VS0_0.junk (kernelRun0_B c i arg1 harg1 arg2 harg2 arg3 harg3 hc0 hc1 x0 xs0).2.1)

/-- Case C's pieces for output 1 tile its block (2 stores of `S8x128`, checked by the kernel's evaluation: Lib/Ring.lean `Piece.tiledL`, linear in the pieces, through a loop's `@[irreducible]` trip theorem too), so they cover it. -/
theorem cover0_C_1 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : ¬cond0_0 i) (hc1 : cond0_1 i)
    (x0 : Vec F S2048x640 .bf16) (xs0 : Vec F S16x640 .bf16) (y : S16x128.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S8x128.size (by sl_kernel_rfl) y

/-- What case C leaves in output 1's staging buffer: its pieces read back over junk. -/
def out0_C_1 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : ¬cond0_0 i) (hc1 : cond0_1 i)
    (x0 : Vec F S2048x640 .bf16) (xs0 : Vec F S16x640 .bf16) : Vec F S16x128 .f32 :=
  VO0_1.read (Elt F) (VO0_1.writes (Elt F) VO0_1.junk (kernelRun0_C c i arg1 harg1 arg2 harg2 arg3 harg3 hc0 hc1 x0 xs0).1)

/-- Case C's pieces for scratch `arg3`, which the kernel carries between points, cover it: 1 piece of `S16x640` tiling it (Lib/Ring.lean `Piece.tiledL`). -/
theorem scover0_C_0 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : ¬cond0_0 i) (hc1 : cond0_1 i)
    (x0 : Vec F S2048x640 .bf16) (xs0 : Vec F S16x640 .bf16) (y : S16x640.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S16x640.size (by sl_kernel_rfl) y

/-- What case C leaves in scratch `arg3`: its pieces read back over junk. -/
def sout0_C_0 (c : Dev nD) (i : grid0.Coords) (arg1 : Memref sig .tc .vmem S2048x640 .bf16) (harg1 : arg1.IsWhole) (arg2 : Memref sig .tc .vmem S16x128 .f32) (harg2 : arg2.IsWhole) (arg3 : Memref sig .tc .vmem S16x640 .bf16) (harg3 : arg3.IsWhole) (hc0 : ¬cond0_0 i) (hc1 : cond0_1 i)
    (x0 : Vec F S2048x640 .bf16) (xs0 : Vec F S16x640 .bf16) : Vec F S16x640 .bf16 :=
  VS0_0.read (Elt F) (VS0_0.writes (Elt F) VS0_0.junk (kernelRun0_C c i arg1 harg1 arg2 harg2 arg3 harg3 hc0 hc1 x0 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S16x128 .f32 × Vec F S16x640 .bf16
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩))
  | n + 1, hn =>
    if h0 : (n + 1) % 44 = 0 then
      if h1 : (n + 1) % 44 = 43 then
        False.elim (by have hN : n + 1 < 44 := lt_of_lt_of_eq hn (show cfg0.N = 44 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩))
    else
      if h1 : (n + 1) % 44 = 43 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (outsAt0 c n (Nat.lt_of_succ_lt hn)).2)

/-- `outsAt0` at a point of case A: that case's contents. -/
theorem outsAt0_A (c : Dev nD) (t : Fin cfg0.N) (h0 : t.val % 44 = 0) (h1 : ¬t.val % 44 = 43) :
    outsAt0 m c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 44 = 0) (h1 : ¬t.val % 44 = 43) :
    outsAt0 m c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 44 = 0) (h1 : t.val % 44 = 43) :
    outsAt0 m c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ rest c)

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ rest c) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ rest c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl]
  rw [show (dats m 0 c).Φ t.succ = PhiS m c (t.val + 1) t.isLt from rfl, PhiS_succ]
  have hN : t.val < 44 := lt_of_lt_of_eq t.isLt (show cfg0.N = 44 from N_0)
  by_cases h0 : t.val % 44 = 0
  · by_cases h1 : t.val % 44 = 43
    · exfalso; omega
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_A t ((hcond0_0 t).mpr h0) (fun h => h1 ((hcond0_1 t).mp h))) (noFlush0_1_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0; (try dsimp only)
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk m c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · exfalso; have hN : t.val < 44 := lt_of_lt_of_eq t.isLt (show cfg0.N = 44 from N_0); omega
  · by_cases h1 : t.val % 44 = 43
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1_C t (fun h => h0 ((hcond0_0 t).mp h)) ((hcond0_1 t).mpr h1)], after0_1]
      by_cases hz : t.val = 0
      · exfalso; have hN : t.val < 44 := lt_of_lt_of_eq t.isLt (show cfg0.N = 44 from N_0); omega
      · rw [PhiS_castSucc m c t, PhiS_pos m c _ _ hz]
        rw [outsAt0_C m c t h0 h1]
        unfold out0_C_1 sout0_C_0; (try dsimp only)
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk m c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [Dat.leavesExact_idle (dats m 0 c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      by_cases hz : t.val = 0
      · exfalso; have hN : t.val < 44 := lt_of_lt_of_eq t.isLt (show cfg0.N = 44 from N_0); omega
      · rw [PhiS_castSucc m c t, PhiS_pos m c _ _ hz]
        rw [outsAt0_B m c t h0 h1]
        unfold sout0_B_0; (try dsimp only)
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk m c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 44 := N_0; omega)

end Cert.KernelIdeal.Scale0

end
-- ==== Proof.KernelIdealEntry.lean ====
/-
  The second call of the kernel `KernelIdeal` as it is entered: the arrays after the first call and the host operations between the two, the windows' blocks,
  the invariant of the buffers the call leaves alone.
-/
module

public import proofs.«01_k».proof.Proof.Gen.KernelIdeal.Regions
public import proofs.«01_k».proof.Proof.KernelIdealScaleData
public import Idealize.ShloMosaic.Lib.Pipeline.DatRel

@[expose] public section
set_option maxRecDepth 16384

noncomputable section
namespace Cert.KernelIdeal.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Cert.KernelIdeal Cert.KernelIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- What the first call leaves in the one array it writes. -/
def outs : Outs (F := F) := fun _ r c =>
  Function.update (fun r : Ref sig .tc => m ((c : Thread nD τ).loc r)) main_v1 ((Scale0.dats m 0 c).arrAt 1 cfg0.N) r

/-- The array of scales is what the first call leaves in it. -/
theorem outs_scale (j : ℕ) (c : Dev nD) : outs m j main_v1 c = (Scale0.dats m 0 c).arrAt 1 cfg0.N := by
  unfold outs; rw [Function.update_self]

/-- Core `c`'s buffers when the second call is entered. -/
abbrev V (c : Dev nD) (b : Ref sig .tc) : Buf (Elt F) ((c : Thread nD τ).loc b) := V9 m (outs m) c b

theorem V_main_arg0 (c : Dev nD) : V m c main_arg0 = m ((c : Thread nD τ).loc main_arg0) :=
  (V9_of m (outs m) c main_arg0 (by decide)).trans <| (V8_of m (outs m) c main_arg0 (by decide)).trans <| (V7_of m (outs m) c main_arg0 (by decide)).trans <| (V6_of m (outs m) c main_arg0 (by decide)).trans <| (V5_of m (outs m) c main_arg0 (by decide)).trans <| (V4_of m (outs m) c main_arg0 (by decide)).trans <| (V3_of m (outs m) c main_arg0 (by decide)).trans <| (V2_of m (outs m) c main_arg0 (by decide)).trans <| (V1_of m c main_arg0 (by decide)).trans rfl
theorem V_main_arg1 (c : Dev nD) : V m c main_arg1 = m ((c : Thread nD τ).loc main_arg1) :=
  (V9_of m (outs m) c main_arg1 (by decide)).trans <| (V8_of m (outs m) c main_arg1 (by decide)).trans <| (V7_of m (outs m) c main_arg1 (by decide)).trans <| (V6_of m (outs m) c main_arg1 (by decide)).trans <| (V5_of m (outs m) c main_arg1 (by decide)).trans <| (V4_of m (outs m) c main_arg1 (by decide)).trans <| (V3_of m (outs m) c main_arg1 (by decide)).trans <| (V2_of m (outs m) c main_arg1 (by decide)).trans <| (V1_of m c main_arg1 (by decide)).trans rfl
theorem V_main_arg2 (c : Dev nD) : V m c main_arg2 = m ((c : Thread nD τ).loc main_arg2) :=
  (V9_of m (outs m) c main_arg2 (by decide)).trans <| (V8_of m (outs m) c main_arg2 (by decide)).trans <| (V7_of m (outs m) c main_arg2 (by decide)).trans <| (V6_of m (outs m) c main_arg2 (by decide)).trans <| (V5_of m (outs m) c main_arg2 (by decide)).trans <| (V4_of m (outs m) c main_arg2 (by decide)).trans <| (V3_of m (outs m) c main_arg2 (by decide)).trans <| (V2_of m (outs m) c main_arg2 (by decide)).trans <| (V1_of m c main_arg2 (by decide)).trans rfl
theorem V_main_arg3 (c : Dev nD) : V m c main_arg3 = m ((c : Thread nD τ).loc main_arg3) :=
  (V9_of m (outs m) c main_arg3 (by decide)).trans <| (V8_of m (outs m) c main_arg3 (by decide)).trans <| (V7_of m (outs m) c main_arg3 (by decide)).trans <| (V6_of m (outs m) c main_arg3 (by decide)).trans <| (V5_of m (outs m) c main_arg3 (by decide)).trans <| (V4_of m (outs m) c main_arg3 (by decide)).trans <| (V3_of m (outs m) c main_arg3 (by decide)).trans <| (V2_of m (outs m) c main_arg3 (by decide)).trans <| (V1_of m c main_arg3 (by decide)).trans rfl
theorem V_main_arg4 (c : Dev nD) : V m c main_arg4 = m ((c : Thread nD τ).loc main_arg4) :=
  (V9_of m (outs m) c main_arg4 (by decide)).trans <| (V8_of m (outs m) c main_arg4 (by decide)).trans <| (V7_of m (outs m) c main_arg4 (by decide)).trans <| (V6_of m (outs m) c main_arg4 (by decide)).trans <| (V5_of m (outs m) c main_arg4 (by decide)).trans <| (V4_of m (outs m) c main_arg4 (by decide)).trans <| (V3_of m (outs m) c main_arg4 (by decide)).trans <| (V2_of m (outs m) c main_arg4 (by decide)).trans <| (V1_of m c main_arg4 (by decide)).trans rfl
theorem V_main_arg5 (c : Dev nD) : V m c main_arg5 = m ((c : Thread nD τ).loc main_arg5) :=
  (V9_of m (outs m) c main_arg5 (by decide)).trans <| (V8_of m (outs m) c main_arg5 (by decide)).trans <| (V7_of m (outs m) c main_arg5 (by decide)).trans <| (V6_of m (outs m) c main_arg5 (by decide)).trans <| (V5_of m (outs m) c main_arg5 (by decide)).trans <| (V4_of m (outs m) c main_arg5 (by decide)).trans <| (V3_of m (outs m) c main_arg5 (by decide)).trans <| (V2_of m (outs m) c main_arg5 (by decide)).trans <| (V1_of m c main_arg5 (by decide)).trans rfl
theorem V_main_arg6 (c : Dev nD) : V m c main_arg6 = m ((c : Thread nD τ).loc main_arg6) :=
  (V9_of m (outs m) c main_arg6 (by decide)).trans <| (V8_of m (outs m) c main_arg6 (by decide)).trans <| (V7_of m (outs m) c main_arg6 (by decide)).trans <| (V6_of m (outs m) c main_arg6 (by decide)).trans <| (V5_of m (outs m) c main_arg6 (by decide)).trans <| (V4_of m (outs m) c main_arg6 (by decide)).trans <| (V3_of m (outs m) c main_arg6 (by decide)).trans <| (V2_of m (outs m) c main_arg6 (by decide)).trans <| (V1_of m c main_arg6 (by decide)).trans rfl

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V m c (Pipeline.arrRef spec1 1))
    (hafter : ∀ t, dat.after 1 t = iblk m c 1 t) (t : Fin cfg1.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V m c (Pipeline.arrRef spec1 2))
    (hafter : ∀ t, dat.after 2 t = iblk m c 2 t) (t : Fin cfg1.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V m c (Pipeline.arrRef spec1 4))
    (hafter : ∀ t, dat.after 4 t = iblk m c 4 t) (t : Fin cfg1.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V m c (Pipeline.arrRef spec1 5))
    (hafter : ∀ t, dat.after 5 t = iblk m c 5 t) (t : Fin cfg1.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V m c (Pipeline.arrRef spec1 6))
    (hafter : ∀ t, dat.after 6 t = iblk m c 6 t) (t : Fin cfg1.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V m c (Pipeline.arrRef spec1 7))
    (hafter : ∀ t, dat.after 7 t = iblk m c 7 t) (t : Fin cfg1.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The scoped buffers of the first call, each at some contents, and the generator register at some state: what the second call leaves alone. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ ∃ r, prngReg c r)

/-- The invariant of the second call's scratch: the two ring buffers, beside what the call leaves alone. -/
theorem PhiA1_eq (c : Dev nD) :
    (Pipeline.ΦA spec1 c : sProp 𝕄)
      = iprop(((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ rest1 c) := by
  unfold Pipeline.ΦA rest1; rw [scopedRest1_eq]
  refine BI.Entails.antisymm (show (_ : sProp 𝕄) ⊢ _ from ?_) (show (_ : sProp 𝕄) ⊢ _ from ?_)
  · iintro ⟨⟨H0, H1, H2, H3, HG, HH⟩, HP⟩
    isplitl [HG HH]
    · isplitl [HG]; · iexact HG
      iexact HH
    isplitl [H0]; · iexact H0
    isplitl [H1]; · iexact H1
    isplitl [H2]; · iexact H2
    isplitl [H3]; · iexact H3
    iexact HP
  · iintro ⟨⟨HG, HH⟩, H0, H1, H2, H3, HP⟩
    isplitr [HP]
    · isplitl [H0]; · iexact H0
      isplitl [H1]; · iexact H1
      isplitl [H2]; · iexact H2
      isplitl [H3]; · iexact H3
      isplitl [HG]; · iexact HG
      iexact HH
    iexact HP

end Cert.KernelIdeal.Entry
-- ==== Proof.KernelIdealLaunch.lean ====
/-
  The run of the kernel `KernelIdeal`: the host operations, the first call, the host operations between the two calls, the second call. For any data about
  the second call whose invariant begins and ends as the buffers the call leaves alone, the run ends with the second call's arrays as the data say and with
  every other array as the second call found it.
-/
module

public import proofs.«01_k».proof.Proof.KernelIdealEntry

@[expose] public section
set_option maxRecDepth 16384

noncomputable section
namespace Cert.KernelIdeal.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)
open Cert.KernelIdeal Cert.KernelIdeal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)
variable (rd : (c : Dev nD) → RDat τ (Elt F) Unit ℕ (UR sig nD τ) ℕ cfg1 c)

/-- The data of the two calls: the first call's as its own module gives them, the second call's any. -/
def rdats : (p : Fin 2) → (c : Dev nD) → RDat τ (Elt F) Unit ℕ (UR sig nD τ) ℕ (Pipeline.pin (pcfgs (F := F)) adm p) c
  | 0 => fun c => (Scale0.dats m 0 c).toR
  | 1 => fun c => rd c

/-- Exact data of both calls, of which only the first call's is read. -/
def sdats : (p : Fin 2) → (c : Dev nD) → Dat τ (Elt F) Unit ℕ (UR sig nD τ) ℕ (Pipeline.pin (pcfgs (F := F)) adm p) c
  | 0 => fun c => Scale0.dats m 0 c
  | 1 => fun c =>
    { A := fun w => V m c (Pipeline.arrRef spec1 w)
      after := fun w _ _ => Classical.arbitrary _
      Φ := fun _ => Pipeline.ΦA spec1 c
      q := fun _ => fullShare
      owed := fun _ => 0 }

/-- No semaphore carries a due. -/
abbrev noDue : GSem nD τ sig → Finset Unit := fun _ => ∅
/-- Every level is zero. -/
abbrev noLevel : GSem nD τ sig → Unit → ℕ := fun _ _ => 0

/-- What a core holds between two calls beside its arrays: its generator register and that it owes nothing. -/
abbrev between (c : Dev nD) : sProp 𝕄 :=
  iprop((∃ r, prngReg c r) ∗ ∃ W, owes (c : Thread nD τ) (0 : CellTallies nD τ sig Unit) W)

theorem scale_in : ∀ c : Dev nD, (Scale0.dats m 0 c).arrAt 0 cfg0.N = V2 m (outs m) c main_v0 := fun c => by
  rw [(Scale0.dats m 0 c).arrAt_in 0 rfl]
  exact (Scale0.A_eq m c 0).trans (V2_of m (outs m) c main_v0 (by decide)).symm

theorem scale_out : ∀ c : Dev nD, (Scale0.dats m 0 c).arrAt 1 cfg0.N = V2 m (outs m) c main_v1 := fun c => by
  rw [← outs_scale m 2 c]
  exact (Function.update_self (Proc.devRef .tc main_v1 : DevRef τ sig) _ (V1 m c)).symm

set_option backward.isDefEq.respectTransparency.types false in
/-- The first call: entered with the arrays after the first host operations, left with the array of scales written. -/
def region0 : RDat.RegionSeg (pcfgs (F := F)) adm (rdats m rd) () defs₀ Variants.none noDue noLevel 0 where
  win := launch0.win.to₀
  block_pos := launch0.block_pos
  stage_whole := launch0.stage_whole
  K := PEmpty
  osem k := k.elim
  ho := Pipeline.OwnSemFacts.none _
  hbody c := (Scale0.body_obligation m c).loose.toR
  hwaits := RDat.hwaits_of_owed_zero _ _ _ _ noDue noLevel 0 fun _ _ => rfl
  pre c := iprop(StableHlo.held (c : Thread nD τ) (Pipeline.ucRefs τ sig) (V1 m c) ∗ between c)
  post c := iprop(StableHlo.held (c : Thread nD τ) (Pipeline.ucRefs τ sig) (V2 m (outs m) c) ∗ between c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    rw [Pipeline.ownSems0_none]
    have hsplit := RDat.arrays_of_unscopedBufs (pcfgs (F := F)) adm (rdats m rd) (p := 0) launch0.win launch0.arr_whole c
      ((Scale0.dats m 0 c).share_full fun _ => rfl) (fun b => V1 m c b) (Scale0.A_eq m c)
    rw [Pipeline.unscopedBufs_held c (V1 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (show (_ : sProp 𝕄) ⊢ _ from ?_) (Scale0.hin m c)
    unfold Pipeline.ΦA
    iintro ⟨Hp, -, Hr⟩
    isplitl [Hr]; · iexact Hr
    iexact Hp
  hout c := by
    refine BI.Entails.trans (Scale0.hout m c) (show (_ : sProp 𝕄) ⊢ _ from ?_)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (pcfgs (F := F)) adm (p := 0) launch0.win launch0.arr_whole c (sdats m)
      ((Scale0.dats m 0 c).share_full fun _ => rfl) (fun b => V1 m c b) (fun b => V2 m (outs m) c b)
      (fun w => (Scale0.dats m 0 c).arrAt w cfg0.N)
      (fun | 0 => scale_in m c | 1 => scale_out m c)
      (fun b hb => V2_of m (outs m) c b (by
        intro h; rw [List.mem_singleton] at h; subst h; exact hb (Finset.mem_image.mpr ⟨1, Finset.mem_univ _, rfl⟩)))
    rw [Pipeline.unscopedBufs_held c (V2 m (outs m) c)] at hjoin
    iintro ⟨Ha, HO, HY, Hrest⟩
    ihave Ha' := (show (rdats m rd 0 c).arraysAt (Pipeline.pin (pcfgs (F := F)) adm 0).N ⊢ ((Scale0.dats m 0 c).arrays fun w => (Scale0.dats m 0 c).arrAt w cfg0.N : sProp 𝕄)
      from (Scale0.dats m 0 c).toR_arraysAt_post cfg0.N) $$ Ha
    imodintro
    isplitl [Ha' Hrest]
    · iapply hjoin
      isplitl [Ha']; · iexact Ha'
      iexact Hrest
    isplitl [HY]; · iexact HY
    unfold Pipeline.RDat.owesAt Pipeline.owesWithin
    icases HO with ⟨%W, -, HO⟩; iexists W; iexact HO

variable (hbody : ∀ c, (rd c).BodyObligation (defs₀ (F := F)) Variants.none () Set.univ)
  (hshare : ∀ c w, (rd c).share w = fullShare) (howed : ∀ c t, (rd c).owed t = 0)
  (hrec : ∀ c, (rd c).recorded 0 = Set.univ)
  (hA : ∀ c w, (rd c).A w = V m c (Pipeline.arrRef spec1 w))
  (hin : ∀ c, Pipeline.ΦA spec1 c ⊢ (rd c).Φ 0) (hout : ∀ c, (rd c).Φ (Fin.last cfg1.N) ⊢ Pipeline.ΦA spec1 c)

/-- What a core holds when the second call has ended. -/
abbrev ended (c : Dev nD) : sProp 𝕄 :=
  iprop((rd c).arraysAt cfg1.N ∗ Pipeline.unscopedRest (Ix := Unit) (Name := ℕ) (U := UR sig nD τ) (Lvl := ℕ) spec1 c (V m c))

set_option backward.isDefEq.respectTransparency.types false in
/-- The second call: entered with the arrays after the host operations between the calls. -/
def region1 : RDat.RegionSeg (pcfgs (F := F)) adm (rdats m rd) () defs₀ Variants.none noDue noLevel 1 where
  win := launch1.win.to₀
  block_pos := launch1.block_pos
  stage_whole := launch1.stage_whole
  K := PEmpty
  osem k := k.elim
  ho := Pipeline.OwnSemFacts.none _
  hbody c := hbody c
  hwaits := RDat.hwaits_of_owed_zero _ _ _ _ noDue noLevel 1 howed
  pre c := iprop(StableHlo.held (c : Thread nD τ) (Pipeline.ucRefs τ sig) (V9 m (outs m) c) ∗ between c)
  post c := iprop(ended m rd c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V m c)
  hentry c := by
    rw [Pipeline.ownSems0_none]
    have hsplit := RDat.arrays_of_unscopedBufs (pcfgs (F := F)) adm (rdats m rd) (p := 1) launch1.win launch1.arr_whole c
      (hshare c) (fun b => V9 m (outs m) c b) (hA c)
    rw [Pipeline.unscopedBufs_held c (V9 m (outs m) c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      rw [show ((rdats m rd) 1 c).owed 0 = 0 from howed c 0]
      icases HO with ⟨%W, HO⟩; iexists W; isplitr; · ipureintro; exact fun x _ => Or.inl (show x ∈ (rd c).recorded 0 from (hrec c).symm ▸ trivial)
      iexact HO
    isplitl [Hp]; · iexact Hp
    iexact Hrest
  hin c := by
    refine BI.Entails.trans (show (_ : sProp 𝕄) ⊢ _ from ?_) (hin c)
    unfold Pipeline.ΦA
    iintro ⟨Hp, -, Hr⟩
    isplitl [Hr]; · iexact Hr
    iexact Hp
  hout c := by
    refine BI.Entails.trans (hout c) (show (_ : sProp 𝕄) ⊢ _ from ?_)
    rw [Pipeline.ownSems0_none]; unfold Pipeline.ΦA
    iintro ⟨Hr, Hp⟩
    isplitl [Hp]; · iexact Hp
    isplitr; · iempintro
    iexact Hr
  hexit c := by
    iintro ⟨Ha, HO, -, Hrest⟩
    imodintro
    isplitl [Ha Hrest]
    · isplitl [Ha]; · iexact Ha
      iexact Hrest
    unfold Pipeline.RDat.owesAt Pipeline.owesWithin
    rw [show ((rdats m rd) 1 c).owed (Fin.last _) = 0 from howed c _]
    icases HO with ⟨%W, -, HO⟩; iexists W; iexact HO

/-- The program as the two calls and the host operations around them. -/
abbrev segments (c : Dev nD) : List (RDat.Seg (pcfgs (F := F)) adm (rdats m rd) () defs₀ Variants.none noDue noLevel) :=
  [.host (seg0 m Variants.none noDue noLevel fun _ => between), .region (region0 m rd),
   .host (seg2 m (outs m) Variants.none noDue noLevel fun _ => between), .host (seg3 m (outs m) Variants.none noDue noLevel fun _ => between),
   .host (seg4 m (outs m) Variants.none noDue noLevel fun _ => between), .host (seg5 m (outs m) Variants.none noDue noLevel fun _ => between),
   .host (seg6 m (outs m) Variants.none noDue noLevel fun _ => between), .host (seg7 m (outs m) Variants.none noDue noLevel fun _ => between),
   .host (seg8 m (outs m) Variants.none noDue noLevel fun _ => between), .region (region1 m rd hbody hshare howed hrec hA hin hout)]

include hbody hshare howed hrec hA hin hout in
set_option backward.isDefEq.respectTransparency.types false in
/-- The whole run ends with the second call's arrays as its data say and with every other array as the second call found it, every semaphore at zero. -/
theorem run_two : θ_run defs (onTc (τ := τ) (main (F := F))) (s₀ m ρ)
    (fun r => RDat.FramePost cfg1 rd (V m) r ∧ r.2.sem = fun _ => 0) := by
  refine RDat.θ_run_regions_kit_dev_sems (pcfgs (F := F)) adm (rdats m rd) () cellOf_inj emb₁ defs₀ Variants.none noDue noLevel m ρ main
    (segments m rd hbody hshare howed hrec hA hin hout)
    (fun c Q => by
      rewrite [main_chain c, RDat.Seg.run_eq_chain,
        show (segments m rd hbody hshare howed hrec hA hin hout c).map RDat.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()) ] from rfl]
      dsimp (config := { failIfUnchanged := false }) only
      exact .rfl)
    (fun c => by simp only [segments, RDat.Seg.pipes_host, RDat.Seg.pipes_region, RDat.Seg.pipes_nil]; decide)
    (fun _ => 0) (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ between c))
    (Tₙ := fun c => ended m rd c)
    (hch := fun c => ⟨.rfl, .rfl, .rfl, .rfl, .rfl, .rfl, .rfl, .rfl, .rfl, .rfl, .rfl⟩)
    (hinit := ?_)
    (QY := fun c s => (∀ w, (rd c).ArrAt w cfg1.N (s.mem ((cfg1.spec w).arr.view.loc (c.tc : Thread nD τ))))
      ∧ ∀ b ∈ Pipeline.restRefs sig cfg1.spec, s.mem ((c.tc : Thread nD τ).loc b) = V m c b)
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach noDue noLevel fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅
    iexact HO
  · iintro ⟨⟨Ha, Hrest⟩, HSI⟩
    ihave Hr := (RDat.arrays_read (pcfgs (F := F)) adm (rdats m rd) (p := 1) launch1.arr_whole c cfg1.N s') $$ [Ha HSI]
    · isplitl [Ha]; · iexact Ha
      iexact HSI
    icases Hr with ⟨%ha, HSI⟩
    unfold Pipeline.unscopedRest
    ihave Hq := (pointsTo_read_all (Pipeline.restRefs sig spec1) (fun b => (c : Thread nD τ).loc b) (V m c) s') $$ [Hrest HSI]
    · isplitl [Hrest]; · iexact Hrest
      iexact HSI
    icases Hq with ⟨%hq, HSI⟩
    imodintro
    isplitr
    · ipureintro
      exact ⟨ha, hq⟩
    iexact HSI

end Cert.KernelIdeal.Entry

end
-- ==== Proof.KernelIdealForget.lean ====
/-
  One point of the kernel `KernelIdeal`, its contents forgotten: whatever the ring buffers and the result windows hold, the body runs to its end and
  leaves the input windows as they were.
-/
module

public import proofs.«01_k».proof.Proof.KernelIdealOffsets
public import proofs.«01_k».proof.Proof.KernelIdealLaunch
public import proofs.«01_k».proof.Proof.Gen.KernelIdeal.Loops
public import Idealize.ShloMosaic.Lib.Pipeline.DatRel

@[expose] public section
set_option maxRecDepth 16384

noncomputable section
namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal Cert.KernelIdeal.Gen Cert.KernelIdeal.Entry

variable {F : FTy → Type} [FloatOps F]
local notation "𝕄" => MT nD τ sig Unit (Elt F) ℕ (UR sig nD τ) ℕ

/-- The point is the first one. -/
abbrev IsFirst (i : grid1.Coords) : Prop :=
  Scalar.cmpi .ne (Scalar.extui (Scalar.cmpi .eq (BitVec.ofNat 32 (i 0).val) 0#32) : BitVec 32) 0#32 = 1#1

set_option maxHeartbeats 4000000 in
/-- The first point: the ring buffers are zeroed, a block is quantised into them, nothing is convolved. -/
theorem forget_first (c : Dev nD) (E : Set ℕ) (i : grid1.Coords) (arg1 : Memref sig .tc .vmem S16x128 .f32) (harg1 : arg1.IsWhole) (arg2 : Memref sig .tc .vmem S704x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x128 .bf16) (harg6 : arg6.IsWhole) (arg7 : Memref sig .tc .vmem S1152x128 .bf16) (harg7 : arg7.IsWhole) (arg8 : Memref sig .tc .vmem S128x1280 .bf16) (harg8 : arg8.IsWhole) (arg9 : Memref sig .tc .vmem S704x1280 .bf16) (harg9 : arg9.IsWhole) (arg10 : Memref sig .tc .vmem S704x640 .fp8e4m3) (harg10 : arg10.IsWhole) (arg11 : Memref sig .tc .vmem S4x15x1088x128 .fp8e4m3) (harg11 : arg11.IsWhole) (arg12 : Memref sig .tc .vmem S4x1088x128 .f32) (harg12 : arg12.IsWhole)
    (x1 : Vec F S16x128 .f32) (x2 : Vec F S704x640 .bf16) (x3 : Vec F S5760x1280 .fp8e4m3) (x4 : Vec F S1x1280 .f32) (x5 : Vec F S1x1280 .f32) (x6 : Vec F S640x128 .bf16) (x7 : Vec F S1152x128 .bf16) (x8 : Vec F S128x1280 .bf16) (K : PUnit → sProp 𝕄) (h1 : IsFirst i) (h2 : ¬ k1_cond2 i = 1#1) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc1_conv i arg1 harg1 arg2 harg2 arg3 harg3 arg4 harg4 arg5 harg5 arg6 harg6 arg7 harg7 arg8 harg8 arg9 harg9 arg10 harg10 arg11 harg11 arg12 harg12) K := by
  simp only [cc1_conv_eq_skeleton]; unfold cc1_conv_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  iexists _; iexists _; isplitr; swap; · iexact H12
  ipureintro; rfl

set_option maxHeartbeats 4000000 in
/-- The second point: a block is quantised into the ring buffers, nothing is convolved. -/
theorem forget_fill (c : Dev nD) (E : Set ℕ) (i : grid1.Coords) (arg1 : Memref sig .tc .vmem S16x128 .f32) (harg1 : arg1.IsWhole) (arg2 : Memref sig .tc .vmem S704x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x128 .bf16) (harg6 : arg6.IsWhole) (arg7 : Memref sig .tc .vmem S1152x128 .bf16) (harg7 : arg7.IsWhole) (arg8 : Memref sig .tc .vmem S128x1280 .bf16) (harg8 : arg8.IsWhole) (arg9 : Memref sig .tc .vmem S704x1280 .bf16) (harg9 : arg9.IsWhole) (arg10 : Memref sig .tc .vmem S704x640 .fp8e4m3) (harg10 : arg10.IsWhole) (arg11 : Memref sig .tc .vmem S4x15x1088x128 .fp8e4m3) (harg11 : arg11.IsWhole) (arg12 : Memref sig .tc .vmem S4x1088x128 .f32) (harg12 : arg12.IsWhole)
    (x1 : Vec F S16x128 .f32) (x2 : Vec F S704x640 .bf16) (x3 : Vec F S5760x1280 .fp8e4m3) (x4 : Vec F S1x1280 .f32) (x5 : Vec F S1x1280 .f32) (x6 : Vec F S640x128 .bf16) (x7 : Vec F S1152x128 .bf16) (x8 : Vec F S128x1280 .bf16) (K : PUnit → sProp 𝕄) (h1 : ¬ IsFirst i) (h2 : ¬ k1_cond2 i = 1#1) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc1_conv i arg1 harg1 arg2 harg2 arg3 harg3 arg4 harg4 arg5 harg5 arg6 harg6 arg7 harg7 arg8 harg8 arg9 harg9 arg10 harg10 arg11 harg11 arg12 harg12) K := by
  simp only [cc1_conv_eq_skeleton]; unfold cc1_conv_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  iexists _; iexists _; isplitr; swap; · iexact H12
  ipureintro; rfl

set_option maxHeartbeats 4000000 in
/-- A later point: a block is quantised into the ring buffers, and the block two points before is convolved. -/
theorem forget_conv (c : Dev nD) (E : Set ℕ) (i : grid1.Coords) (arg1 : Memref sig .tc .vmem S16x128 .f32) (harg1 : arg1.IsWhole) (arg2 : Memref sig .tc .vmem S704x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x128 .bf16) (harg6 : arg6.IsWhole) (arg7 : Memref sig .tc .vmem S1152x128 .bf16) (harg7 : arg7.IsWhole) (arg8 : Memref sig .tc .vmem S128x1280 .bf16) (harg8 : arg8.IsWhole) (arg9 : Memref sig .tc .vmem S704x1280 .bf16) (harg9 : arg9.IsWhole) (arg10 : Memref sig .tc .vmem S704x640 .fp8e4m3) (harg10 : arg10.IsWhole) (arg11 : Memref sig .tc .vmem S4x15x1088x128 .fp8e4m3) (harg11 : arg11.IsWhole) (arg12 : Memref sig .tc .vmem S4x1088x128 .f32) (harg12 : arg12.IsWhole)
    (x1 : Vec F S16x128 .f32) (x2 : Vec F S704x640 .bf16) (x3 : Vec F S5760x1280 .fp8e4m3) (x4 : Vec F S1x1280 .f32) (x5 : Vec F S1x1280 .f32) (x6 : Vec F S640x128 .bf16) (x7 : Vec F S1152x128 .bf16) (x8 : Vec F S128x1280 .bf16) (K : PUnit → sProp 𝕄) (h1 : ¬ IsFirst i) (h2 : k1_cond2 i = 1#1) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc1_conv i arg1 harg1 arg2 harg2 arg3 harg3 arg4 harg4 arg5 harg5 arg6 harg6 arg7 harg7 arg8 harg8 arg9 harg9 arg10 harg10 arg11 harg11 arg12 harg12) K := by
  simp only [cc1_conv_eq_skeleton]; unfold cc1_conv_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  iexists _; iexists _; isplitr; swap; · iexact H12
  ipureintro; rfl

variable (m : (ℓ : Loc nD τ sig) → Buf (Elt F) ℓ) (ρ : Dev nD → PrngReg)

/-- Window 8 (the convolution's result) and window 9 (the codes) are forgotten. -/
def fgt : Fin cfg1.W → Bool := fun w => w == 8 || w == 9

/-- The proof data with nothing said of the two result windows: each input window holds its block at every point; the ring buffers hold
    anything. -/
def fdats (_ : Fin 1) (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ _ := Pipeline.ΦA spec1 c
  q _ := fullShare
  owed _ := 0

theorem fA_eq (c : Dev nD) (w : Fin cfg1.W) : (fdats m 0 c).A w = V m c (Pipeline.arrRef spec1 w) := by
  dsimp only [fdats]

theorem fafter1_0 (c : Dev nD) (t : Fin cfg1.N) : (fdats m 0 c).after 0 t = iblk m c 0 t := by dsimp only [fdats]
theorem fafter1_1 (c : Dev nD) (t : Fin cfg1.N) : (fdats m 0 c).after 1 t = iblk m c 1 t := by dsimp only [fdats]
theorem fafter1_2 (c : Dev nD) (t : Fin cfg1.N) : (fdats m 0 c).after 2 t = iblk m c 2 t := by dsimp only [fdats]
theorem fafter1_3 (c : Dev nD) (t : Fin cfg1.N) : (fdats m 0 c).after 3 t = iblk m c 3 t := by dsimp only [fdats]
theorem fafter1_4 (c : Dev nD) (t : Fin cfg1.N) : (fdats m 0 c).after 4 t = iblk m c 4 t := by dsimp only [fdats]
theorem fafter1_5 (c : Dev nD) (t : Fin cfg1.N) : (fdats m 0 c).after 5 t = iblk m c 5 t := by dsimp only [fdats]
theorem fafter1_6 (c : Dev nD) (t : Fin cfg1.N) : (fdats m 0 c).after 6 t = iblk m c 6 t := by dsimp only [fdats]
theorem fafter1_7 (c : Dev nD) (t : Fin cfg1.N) : (fdats m 0 c).after 7 t = iblk m c 7 t := by dsimp only [fdats]
theorem fbefore1_0 (c : Dev nD) (t : Fin cfg1.N) (d) : (fdats m 0 c).before 0 t d = iblk m c 0 t :=
  before1_0_of m (fdats m 0 c) (fA_eq m c 0) (fafter1_0 m c) t d
theorem fbefore1_1 (c : Dev nD) (t : Fin cfg1.N) (d) : (fdats m 0 c).before 1 t d = iblk m c 1 t :=
  before1_1_of m (fdats m 0 c) (fA_eq m c 1) (fafter1_1 m c) t d
theorem fbefore1_2 (c : Dev nD) (t : Fin cfg1.N) (d) : (fdats m 0 c).before 2 t d = iblk m c 2 t :=
  before1_2_of m (fdats m 0 c) (fA_eq m c 2) (fafter1_2 m c) t d
theorem fbefore1_3 (c : Dev nD) (t : Fin cfg1.N) (d) : (fdats m 0 c).before 3 t d = iblk m c 3 t :=
  before1_3_of m (fdats m 0 c) (fA_eq m c 3) (fafter1_3 m c) t d
theorem fbefore1_4 (c : Dev nD) (t : Fin cfg1.N) (d) : (fdats m 0 c).before 4 t d = iblk m c 4 t :=
  before1_4_of m (fdats m 0 c) (fA_eq m c 4) (fafter1_4 m c) t d
theorem fbefore1_5 (c : Dev nD) (t : Fin cfg1.N) (d) : (fdats m 0 c).before 5 t d = iblk m c 5 t :=
  before1_5_of m (fdats m 0 c) (fA_eq m c 5) (fafter1_5 m c) t d
theorem fbefore1_6 (c : Dev nD) (t : Fin cfg1.N) (d) : (fdats m 0 c).before 6 t d = iblk m c 6 t :=
  before1_6_of m (fdats m 0 c) (fA_eq m c 6) (fafter1_6 m c) t d
theorem fbefore1_7 (c : Dev nD) (t : Fin cfg1.N) (d) : (fdats m 0 c).before 7 t d = iblk m c 7 t :=
  before1_7_of m (fdats m 0 c) (fA_eq m c 7) (fafter1_7 m c) t d

/-- What the body is called with at point `t`, window by window, -/
def fbodyPre (c : Dev nD) (t : Fin cfg1.N) : sProp 𝕄 :=
  iprop((fdats m 0 c).Φ t.castSucc ∗ (fdats m 0 c).owesAt () t.castSucc
    ∗ (∃ d, owns (c : Thread nD τ) (st1_0 t) fullShare ((fdats m 0 c).before 0 t d))
    ∗ (∃ d, owns (c : Thread nD τ) (st1_1 t) fullShare ((fdats m 0 c).before 1 t d))
    ∗ (∃ d, owns (c : Thread nD τ) (st1_2 t) fullShare ((fdats m 0 c).before 2 t d))
    ∗ (∃ d, owns (c : Thread nD τ) (st1_3 t) fullShare ((fdats m 0 c).before 3 t d))
    ∗ (∃ d, owns (c : Thread nD τ) (st1_4 t) fullShare ((fdats m 0 c).before 4 t d))
    ∗ (∃ d, owns (c : Thread nD τ) (st1_5 t) fullShare ((fdats m 0 c).before 5 t d))
    ∗ (∃ d, owns (c : Thread nD τ) (st1_6 t) fullShare ((fdats m 0 c).before 6 t d))
    ∗ (∃ d, owns (c : Thread nD τ) (st1_7 t) fullShare ((fdats m 0 c).before 7 t d))
    ∗ (∃ X, owns (c : Thread nD τ) (st1_8 t) fullShare X)
    ∗ (∃ X, owns (c : Thread nD τ) (st1_9 t) fullShare X))

/-- and what it returns. -/
def fbodyPost (c : Dev nD) (t : Fin cfg1.N) : sProp 𝕄 :=
  iprop((fdats m 0 c).Φ t.succ ∗ (fdats m 0 c).owesAt () t.succ
    ∗ owns (c : Thread nD τ) (st1_0 t) fullShare ((fdats m 0 c).after 0 t)
    ∗ owns (c : Thread nD τ) (st1_1 t) fullShare ((fdats m 0 c).after 1 t)
    ∗ owns (c : Thread nD τ) (st1_2 t) fullShare ((fdats m 0 c).after 2 t)
    ∗ owns (c : Thread nD τ) (st1_3 t) fullShare ((fdats m 0 c).after 3 t)
    ∗ owns (c : Thread nD τ) (st1_4 t) fullShare ((fdats m 0 c).after 4 t)
    ∗ owns (c : Thread nD τ) (st1_5 t) fullShare ((fdats m 0 c).after 5 t)
    ∗ owns (c : Thread nD τ) (st1_6 t) fullShare ((fdats m 0 c).after 6 t)
    ∗ owns (c : Thread nD τ) (st1_7 t) fullShare ((fdats m 0 c).after 7 t)
    ∗ (∃ X, owns (c : Thread nD τ) (st1_8 t) fullShare X)
    ∗ (∃ X, owns (c : Thread nD τ) (st1_9 t) fullShare X))

/-- No point is both the first and one that convolves. -/
theorem not_first_conv : ∀ i : grid1.Coords, IsFirst i → ¬ k1_cond2 i = 1#1 := by decide +kernel

/-- The body at any point, whichever of the three kinds it is. -/
theorem forget_body (c : Dev nD) (E : Set ℕ) (i : grid1.Coords) (arg1 : Memref sig .tc .vmem S16x128 .f32) (harg1 : arg1.IsWhole) (arg2 : Memref sig .tc .vmem S704x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x128 .bf16) (harg6 : arg6.IsWhole) (arg7 : Memref sig .tc .vmem S1152x128 .bf16) (harg7 : arg7.IsWhole) (arg8 : Memref sig .tc .vmem S128x1280 .bf16) (harg8 : arg8.IsWhole) (arg9 : Memref sig .tc .vmem S704x1280 .bf16) (harg9 : arg9.IsWhole) (arg10 : Memref sig .tc .vmem S704x640 .fp8e4m3) (harg10 : arg10.IsWhole) (arg11 : Memref sig .tc .vmem S4x15x1088x128 .fp8e4m3) (harg11 : arg11.IsWhole) (arg12 : Memref sig .tc .vmem S4x1088x128 .f32) (harg12 : arg12.IsWhole)
    (x1 : Vec F S16x128 .f32) (x2 : Vec F S704x640 .bf16) (x3 : Vec F S5760x1280 .fp8e4m3) (x4 : Vec F S1x1280 .f32) (x5 : Vec F S1x1280 .f32) (x6 : Vec F S640x128 .bf16) (x7 : Vec F S1152x128 .bf16) (x8 : Vec F S128x1280 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc1_conv i arg1 harg1 arg2 harg2 arg3 harg3 arg4 harg4 arg5 harg5 arg6 harg6 arg7 harg7 arg8 harg8 arg9 harg9 arg10 harg10 arg11 harg11 arg12 harg12) K := by
  by_cases h1 : IsFirst i
  · exact forget_first c E i arg1 harg1 arg2 harg2 arg3 harg3 arg4 harg4 arg5 harg5 arg6 harg6 arg7 harg7 arg8 harg8 arg9 harg9 arg10 harg10 arg11 harg11 arg12 harg12 x1 x2 x3 x4 x5 x6 x7 x8 K h1 (not_first_conv i h1)
  · by_cases h2 : k1_cond2 i = 1#1
    · exact forget_conv c E i arg1 harg1 arg2 harg2 arg3 harg3 arg4 harg4 arg5 harg5 arg6 harg6 arg7 harg7 arg8 harg8 arg9 harg9 arg10 harg10 arg11 harg11 arg12 harg12 x1 x2 x3 x4 x5 x6 x7 x8 K h1 h2
    · exact forget_fill c E i arg1 harg1 arg2 harg2 arg3 harg3 arg4 harg4 arg5 harg5 arg6 harg6 arg7 harg7 arg8 harg8 arg9 harg9 arg10 harg10 arg11 harg11 arg12 harg12 x1 x2 x3 x4 x5 x6 x7 x8 K h1 h2

set_option maxHeartbeats 1000000 in
theorem fsound_body (c : Dev nD) (t : Fin cfg1.N) :
    fbodyPre m c t ⊢ wp frame (wpE (defs₀ (F := F)) Variants.none c none) Set.univ (bodyAt1 t) (fun _ => fbodyPost m c t) := by
  unfold fbodyPre fbodyPost bodyAt1
  simp only [fbefore1_0, fbefore1_1, fbefore1_2, fbefore1_3, fbefore1_4, fbefore1_5, fbefore1_6, fbefore1_7]
  rw [show (fdats m 0 c).Φ t.succ = Pipeline.ΦA spec1 c from rfl, show (fdats m 0 c).Φ t.castSucc = Pipeline.ΦA spec1 c from rfl,
    show (fdats m 0 c).owesAt () t.succ = (fdats m 0 c).owesAt () t.castSucc from rfl,
    fafter1_0, fafter1_1, fafter1_2, fafter1_3, fafter1_4, fafter1_5, fafter1_6, fafter1_7]
  rw [PhiA1_eq]
  iintro ⟨⟨⟨⟨%g, HG⟩, %h, HH⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%X8, H8⟩, ⟨%X9, H9⟩⟩
  iapply (forget_body c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HG]; · iexists _; rw [owns_whole]; iexact HG
  isplitl [HH]; · iexists _; rw [owns_whole]; iexact HH
  iintro ⟨H0, H1, H2, H3, H4, H5, H6, H7, H8, H9, ⟨%g', HG⟩, %h', HH⟩
  isplitl [HP HG HH]
  · isplitr [HP]
    · isplitl [HG]
      · iexists g'; rw [owns_whole]; exact .rfl
      · iexists h'; rw [owns_whole]; exact .rfl
    · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

theorem fbody_obligation (c : Dev nD) :
    Pipeline.BodyObligationLoose (fdats (F := F) m 0 c) (defs₀ (F := F)) Variants.none () Set.univ fgt := fun t => by
  rw [bigSep_W1, bigSep_W1, defs₀_row]
  exact triple_restated (fsound_body m c t) rfl .rfl fun _ => .rfl

set_option backward.isDefEq.respectTransparency.types false in
/-- The whole run ends, with every other array than the results as launched or as the host operations leave it, every semaphore at zero. -/
theorem frun_main (ρ : Dev nD → PrngReg) : θ_run defs (onTc (τ := τ) (main (F := F))) (s₀ m ρ)
    (fun r => RDat.FramePost cfg1 (fun c => (fdats m 0 c).toRForget fgt) (V m) r ∧ r.2.sem = fun _ => 0) :=
  Entry.run_two m ρ (fun c => (fdats m 0 c).toRForget fgt) (fun c => (fbody_obligation m c).toRForget)
    (fun c => (fdats m 0 c).share_full fun _ => rfl) (fun _ _ => rfl) (fun _ => rfl) (fun _ _ => rfl) (fun _ => .rfl) (fun _ => .rfl)

/-- `frame_KernelIdeal`: every run ends, and leaves the arguments as launched and the semaphores at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (frun_main m ρ)

end Cert.KernelIdeal.Hand
-- ==== Proof.KernelIdealPieces.lean ====
/-
  The pieces that one point of the kernel `KernelIdeal` stores into the ring buffers and into the two result windows, as functions of what the windows
  and the ring buffers hold.
-/
module

public import proofs.«01_k».proof.Proof.KernelIdealForget
public import Idealize.ShloMosaic.Lib.Pipeline.ReadBack

@[expose] public section
set_option maxRecDepth 16384

noncomputable section
namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal Cert.KernelIdeal.Gen
open Cert.KernelIdeal.Hand (IsFirst)

variable {F : FTy → Type} [FloatOps F]
local notation "𝕄" => MT nD τ sig Unit (Elt F) ℕ (UR sig nD τ) ℕ

/-! ## Stored pieces -/

/-- `x'` is what `x` becomes when the pieces `L` are stored over it: it is any function of which every piece is a block and which is `x` off the
    pieces. -/
def Stored {s : Shape} {e : EltTy} (x : s.Idx → Elt F e) (L : List (View.Piece (Elt F) s e)) (x' : s.Idx → Elt F e) : Prop :=
  ∀ G : s.Idx → Elt F e, View.PiecesOf G L → (∀ y, (∀ p ∈ L, y ∉ p.1.set) → G y = x y) → x' = G

/-- A buffer read after the writes `L` holds what it held before with the pieces `L` stored over it. -/
theorem stored_writes {sg : RefSig} {κ : Kind} {sp : Space} {s : Shape} {e : EltTy} (v : View sg κ sp s e) (f : v.ty.Contents (Elt F))
    {L L' : List (View.Piece (Elt F) s e)} (h : L' = L) : Stored (v.read (Elt F) f) L (v.read (Elt F) (v.writes (Elt F) f L')) := by
  subst h
  intro G hG hx
  funext y
  by_cases hy : ∃ p ∈ L', y ∈ p.1.set
  · exact View.read_writes_apply_of_pieces v f G L' hG.mem y hy
  · rw [View.read_writes_apply_of_forall_not_mem v f y L' (fun p hp hm => hy ⟨p, hp, hm⟩)]
    exact (hx y fun p hp hm => hy ⟨p, hp, hm⟩).symm

/-- A buffer filled whole with `Z` and then written with the pieces `L` holds `Z` with the pieces `L` stored over it. -/
theorem stored_writes_over {sg : RefSig} {κ : Kind} {sp : Space} {s : Shape} {e : EltTy} (v : View sg κ sp s e) (f : v.ty.Contents (Elt F))
    {L L' : List (View.Piece (Elt F) s e)} {off : Fin s.rank → ℕ} {inb : ∀ a, off a + s.size a ≤ s.size a} {Z : s.Idx → Elt F e}
    (h : L' = L ++ [⟨Rect.unit off s.size inb, Z⟩]) : Stored Z L (v.read (Elt F) (v.writes (Elt F) f L')) := by
  subst h
  rw [View.writes_append]
  have hz : v.read (Elt F) (v.writes (Elt F) f [⟨Rect.unit off s.size inb, Z⟩]) = Z := by
    funext y
    have h := View.read_writes_cons_emb v f (Rect.unit off s.size inb) Z [] y
    have e : (Rect.unit off s.size inb).emb y = y := by
      funext a; apply Fin.ext
      show off a + 1 * (y a).val = (y a).val
      have := inb a
      omega
    rwa [e] at h
  have h := stored_writes v (v.writes (Elt F) f [⟨Rect.unit off s.size inb, Z⟩]) (L := L) (L' := L) rfl
  rwa [hz] at h

/-! ## The pieces of one point -/

/-- The row of scales. -/
def scaleRow (X1 : Vec F S16x128 .f32) : FVec F S1x128 .f32 :=
  k1_pay57 (View.ld X1 (Rect.unit ![0, 0] S1x128.size inb_S16x128_S1x128_0_0))

/-- The row of inverse scales. -/
def invRow (X1 : Vec F S16x128 .f32) : FVec F S1x128 .f32 :=
  k1_pay56 (View.ld X1 (Rect.unit ![8, 0] S1x128.size inb_S16x128_S1x128_8_0))

/-- The codes of one chunk of 128 channels of a block. -/
def qc (X1 : Vec F S16x128 .f32) (v : Vec F S704x128 .bf16) : FVec F S704x128 .fp8e4m3 := k1_pay78 (k1_pay64 (invRow X1)) v

/-- The codes moved one pixel down the row, zero in the row's first column. -/
def wLeft (q : FVec F S704x128 .fp8e4m3) : FVec F S704x128 .fp8e4m3 :=
  select (cmpi .eq k1_pay46 (broadcast S704x128 0#32)) k1_pay66 (dynamicRotate 0 1#32 none q rotates_S704x128_d0)

/-- The codes moved one pixel up the row, zero in the row's last column. -/
def wRight (q : FVec F S704x128 .fp8e4m3) : FVec F S704x128 .fp8e4m3 :=
  select (cmpi .eq k1_pay46 (broadcast S704x128 175#32)) k1_pay66 (dynamicRotate 0 703#32 none q rotates_S704x128_d0)

/-- The block's number within its image. -/
abbrev blkNo (i : grid1.Coords) : BitVec 32 :=
  Scalar.select (Scalar.andi (Scalar.xori (Scalar.cmpi .slt (Scalar.remsi (BitVec.ofNat 32 (i 0).val) (Scalar.select (Scalar.cmpi .eq 64#32 0#32) 1#32 64#32)) 0#32) (Scalar.cmpi .slt (Scalar.select (Scalar.cmpi .eq 64#32 0#32) 1#32 64#32 : BitVec 32) 0#32))
      (Scalar.cmpi .ne (Scalar.remsi (BitVec.ofNat 32 (i 0).val) (Scalar.select (Scalar.cmpi .eq 64#32 0#32) 1#32 64#32)) 0#32))
    (Scalar.addi (Scalar.remsi (BitVec.ofNat 32 (i 0).val) (Scalar.select (Scalar.cmpi .eq 64#32 0#32) 1#32 64#32)) (Scalar.select (Scalar.cmpi .eq 64#32 0#32) 1#32 64#32))
    (Scalar.remsi (BitVec.ofNat 32 (i 0).val) (Scalar.select (Scalar.cmpi .eq 64#32 0#32) 1#32 64#32))

/-- The block is its image's first one, -/
def fstBit (i : grid1.Coords) : BitVec 1 := Scalar.cmpi .eq (blkNo i) 0#32

/-- or its last one. -/
def lstBit (i : grid1.Coords) : BitVec 1 := Scalar.cmpi .eq (blkNo i) 63#32

/-- A block's rows of one plane, -/
def cen (w : FVec F S704x128 .fp8e4m3) : Vec F S1x1x704x128 .fp8e4m3 := shapeCast S1x1x704x128 w shapeCasts_S704x128_S1x1x704x128

/-- its first image row as the halo below the block before, -/
def bot (i : grid1.Coords) (w : FVec F S704x128 .fp8e4m3) : Vec F S1x1x176x128 .fp8e4m3 :=
  shapeCast S1x1x176x128 (Scalar.select (fstBit i) (extractStridedSlice S176x128 ![0, 0] k1_pay66 slices_S704x128_o0_0_S176x128) (extractStridedSlice S176x128 ![0, 0] w slices_S704x128_o0_0_S176x128)) shapeCasts_S176x128_S1x1x176x128

/-- its last image row as the halo above the block after. -/
def top (i : grid1.Coords) (w : FVec F S704x128 .fp8e4m3) : Vec F S1x1x176x128 .fp8e4m3 :=
  shapeCast S1x1x176x128 (Scalar.select (lstBit i) (extractStridedSlice S176x128 ![0, 0] k1_pay66 slices_S704x128_o0_0_S176x128) (extractStridedSlice S176x128 ![528, 0] w slices_S704x128_o528_0_S176x128)) shapeCasts_S176x128_S1x1x176x128

/-- The codes of chunk 0. -/
def q0 (X1 : Vec F S16x128 .f32) (X2 : Vec F S704x640 .bf16) : FVec F S704x128 .fp8e4m3 :=
  qc X1 (View.ld X2 (Rect.unit ![0, 0] S704x128.size inb_S704x640_S704x128_0_0))
/-- The codes of chunk 1. -/
def q1 (X1 : Vec F S16x128 .f32) (X2 : Vec F S704x640 .bf16) : FVec F S704x128 .fp8e4m3 :=
  qc X1 (View.ld X2 (Rect.unit ![0, 128] S704x128.size inb_S704x640_S704x128_0_128))
/-- The codes of chunk 2. -/
def q2 (X1 : Vec F S16x128 .f32) (X2 : Vec F S704x640 .bf16) : FVec F S704x128 .fp8e4m3 :=
  qc X1 (View.ld X2 (Rect.unit ![0, 256] S704x128.size inb_S704x640_S704x128_0_256))
/-- The codes of chunk 3. -/
def q3 (X1 : Vec F S16x128 .f32) (X2 : Vec F S704x640 .bf16) : FVec F S704x128 .fp8e4m3 :=
  qc X1 (View.ld X2 (Rect.unit ![0, 384] S704x128.size inb_S704x640_S704x128_0_384))
/-- The codes of chunk 4. -/
def q4 (X1 : Vec F S16x128 .f32) (X2 : Vec F S704x640 .bf16) : FVec F S704x128 .fp8e4m3 :=
  qc X1 (View.ld X2 (Rect.unit ![0, 512] S704x128.size inb_S704x640_S704x128_0_512))

/-- The pieces stored into the window of codes, last first, -/
def LC (X1 : Vec F S16x128 .f32) (X2 : Vec F S704x640 .bf16) : List (View.Piece (Elt F) S704x640 .fp8e4m3) :=
  [⟨Rect.unit ![0, 512] S704x128.size inb_S704x640_S704x128_0_512, q4 X1 X2⟩,
   ⟨Rect.unit ![0, 384] S704x128.size inb_S704x640_S704x128_0_384, q3 X1 X2⟩,
   ⟨Rect.unit ![0, 256] S704x128.size inb_S704x640_S704x128_0_256, q2 X1 X2⟩,
   ⟨Rect.unit ![0, 128] S704x128.size inb_S704x640_S704x128_0_128, q1 X1 X2⟩,
   ⟨Rect.unit ![0, 0] S704x128.size inb_S704x640_S704x128_0_0, q0 X1 X2⟩]

/-- into the ring of planes: each chunk's three planes (moved down, unmoved, moved up), each with the block's rows and its two halos, -/
def LP (i : grid1.Coords) (X1 : Vec F S16x128 .f32) (X2 : Vec F S704x640 .bf16) : List (View.Piece (Elt F) S4x15x1088x128 .fp8e4m3) :=
  [⟨Rect.unit (k1_off45 i) S1x1x176x128.size (k1_off45_inb i), top i (wRight (q4 X1 X2))⟩,
   ⟨Rect.unit (k1_off44 i) S1x1x176x128.size (k1_off44_inb i), bot i (wRight (q4 X1 X2))⟩,
   ⟨Rect.unit (k1_off43 i) S1x1x704x128.size (k1_off43_inb i), cen (wRight (q4 X1 X2))⟩,
   ⟨Rect.unit (k1_off42 i) S1x1x176x128.size (k1_off42_inb i), top i (q4 X1 X2)⟩,
   ⟨Rect.unit (k1_off41 i) S1x1x176x128.size (k1_off41_inb i), bot i (q4 X1 X2)⟩,
   ⟨Rect.unit (k1_off40 i) S1x1x704x128.size (k1_off40_inb i), cen (q4 X1 X2)⟩,
   ⟨Rect.unit (k1_off39 i) S1x1x176x128.size (k1_off39_inb i), top i (wLeft (q4 X1 X2))⟩,
   ⟨Rect.unit (k1_off38 i) S1x1x176x128.size (k1_off38_inb i), bot i (wLeft (q4 X1 X2))⟩,
   ⟨Rect.unit (k1_off37 i) S1x1x704x128.size (k1_off37_inb i), cen (wLeft (q4 X1 X2))⟩,
   ⟨Rect.unit (k1_off36 i) S1x1x176x128.size (k1_off36_inb i), top i (wRight (q3 X1 X2))⟩,
   ⟨Rect.unit (k1_off35 i) S1x1x176x128.size (k1_off35_inb i), bot i (wRight (q3 X1 X2))⟩,
   ⟨Rect.unit (k1_off34 i) S1x1x704x128.size (k1_off34_inb i), cen (wRight (q3 X1 X2))⟩,
   ⟨Rect.unit (k1_off33 i) S1x1x176x128.size (k1_off33_inb i), top i (q3 X1 X2)⟩,
   ⟨Rect.unit (k1_off32 i) S1x1x176x128.size (k1_off32_inb i), bot i (q3 X1 X2)⟩,
   ⟨Rect.unit (k1_off31 i) S1x1x704x128.size (k1_off31_inb i), cen (q3 X1 X2)⟩,
   ⟨Rect.unit (k1_off30 i) S1x1x176x128.size (k1_off30_inb i), top i (wLeft (q3 X1 X2))⟩,
   ⟨Rect.unit (k1_off29 i) S1x1x176x128.size (k1_off29_inb i), bot i (wLeft (q3 X1 X2))⟩,
   ⟨Rect.unit (k1_off28 i) S1x1x704x128.size (k1_off28_inb i), cen (wLeft (q3 X1 X2))⟩,
   ⟨Rect.unit (k1_off27 i) S1x1x176x128.size (k1_off27_inb i), top i (wRight (q2 X1 X2))⟩,
   ⟨Rect.unit (k1_off26 i) S1x1x176x128.size (k1_off26_inb i), bot i (wRight (q2 X1 X2))⟩,
   ⟨Rect.unit (k1_off25 i) S1x1x704x128.size (k1_off25_inb i), cen (wRight (q2 X1 X2))⟩,
   ⟨Rect.unit (k1_off24 i) S1x1x176x128.size (k1_off24_inb i), top i (q2 X1 X2)⟩,
   ⟨Rect.unit (k1_off23 i) S1x1x176x128.size (k1_off23_inb i), bot i (q2 X1 X2)⟩,
   ⟨Rect.unit (k1_off22 i) S1x1x704x128.size (k1_off22_inb i), cen (q2 X1 X2)⟩,
   ⟨Rect.unit (k1_off21 i) S1x1x176x128.size (k1_off21_inb i), top i (wLeft (q2 X1 X2))⟩,
   ⟨Rect.unit (k1_off20 i) S1x1x176x128.size (k1_off20_inb i), bot i (wLeft (q2 X1 X2))⟩,
   ⟨Rect.unit (k1_off19 i) S1x1x704x128.size (k1_off19_inb i), cen (wLeft (q2 X1 X2))⟩,
   ⟨Rect.unit (k1_off18 i) S1x1x176x128.size (k1_off18_inb i), top i (wRight (q1 X1 X2))⟩,
   ⟨Rect.unit (k1_off17 i) S1x1x176x128.size (k1_off17_inb i), bot i (wRight (q1 X1 X2))⟩,
   ⟨Rect.unit (k1_off16 i) S1x1x704x128.size (k1_off16_inb i), cen (wRight (q1 X1 X2))⟩,
   ⟨Rect.unit (k1_off15 i) S1x1x176x128.size (k1_off15_inb i), top i (q1 X1 X2)⟩,
   ⟨Rect.unit (k1_off14 i) S1x1x176x128.size (k1_off14_inb i), bot i (q1 X1 X2)⟩,
   ⟨Rect.unit (k1_off13 i) S1x1x704x128.size (k1_off13_inb i), cen (q1 X1 X2)⟩,
   ⟨Rect.unit (k1_off12 i) S1x1x176x128.size (k1_off12_inb i), top i (wLeft (q1 X1 X2))⟩,
   ⟨Rect.unit (k1_off11 i) S1x1x176x128.size (k1_off11_inb i), bot i (wLeft (q1 X1 X2))⟩,
   ⟨Rect.unit (k1_off10 i) S1x1x704x128.size (k1_off10_inb i), cen (wLeft (q1 X1 X2))⟩,
   ⟨Rect.unit (k1_off9 i) S1x1x176x128.size (k1_off9_inb i), top i (wRight (q0 X1 X2))⟩,
   ⟨Rect.unit (k1_off8 i) S1x1x176x128.size (k1_off8_inb i), bot i (wRight (q0 X1 X2))⟩,
   ⟨Rect.unit (k1_off7 i) S1x1x704x128.size (k1_off7_inb i), cen (wRight (q0 X1 X2))⟩,
   ⟨Rect.unit (k1_off6 i) S1x1x176x128.size (k1_off6_inb i), top i (q0 X1 X2)⟩,
   ⟨Rect.unit (k1_off5 i) S1x1x176x128.size (k1_off5_inb i), bot i (q0 X1 X2)⟩,
   ⟨Rect.unit (k1_off4 i) S1x1x704x128.size (k1_off4_inb i), cen (q0 X1 X2)⟩,
   ⟨Rect.unit (k1_off3 i) S1x1x176x128.size (k1_off3_inb i), top i (wLeft (q0 X1 X2))⟩,
   ⟨Rect.unit (k1_off2 i) S1x1x176x128.size (k1_off2_inb i), bot i (wLeft (q0 X1 X2))⟩,
   ⟨Rect.unit (k1_off1 i) S1x1x704x128.size (k1_off1_inb i), cen (wLeft (q0 X1 X2))⟩]

/-- The codes of a block, as the down projection loads them. -/
def codesOf (X1 : Vec F S16x128 .f32) (X2 : Vec F S704x640 .bf16) : Vec F S704x640 .fp8e4m3 :=
  fun j => View.canon (LC X1 X2) ((Rect.unit ![0, 0] S704x640.size inb_S704x640_S704x640_0_0).toLoadRect.idx j)

/-- The pieces stored into the ring of down projections, of a block whose codes are `C`, -/
def LD (i : grid1.Coords) (X1 : Vec F S16x128 .f32) (C : Vec F S704x640 .fp8e4m3) (X6 : Vec F S640x128 .bf16) : List (View.Piece (Elt F) S4x1088x128 .f32) :=
  [⟨Rect.unit (k1_off48 i) S1x176x128.size (k1_off48_inb i), k1_pay1 (lstBit i) (k1_pay139 (scaleRow X1) C (View.ld X6 (Rect.unit ![0, 0] S640x128.size inb_S640x128_S640x128_0_0))) k1_pay140⟩,
   ⟨Rect.unit (k1_off47 i) S1x176x128.size (k1_off47_inb i), k1_pay138 (scaleRow X1) (fstBit i) C (View.ld X6 (Rect.unit ![0, 0] S640x128.size inb_S640x128_S640x128_0_0))⟩,
   ⟨Rect.unit (k1_off46 i) S1x704x128.size (k1_off46_inb i), k1_pay137 (scaleRow X1) C (View.ld X6 (Rect.unit ![0, 0] S640x128.size inb_S640x128_S640x128_0_0))⟩]

/-- The second convolution of the down projections `h`. -/
def d2Of (i : grid1.Coords) (h2 : k1_cond2 i = 1#1) (h : Vec F S4x1088x128 .f32) (X7 : Vec F S1152x128 .bf16) : FVec F S704x128 .bf16 :=
  k1_pay2 k1_pay46
    (k1_pay47 (View.ld h (Rect.unit (k1_off49 i) S1x704x128.size (k1_off49_inb i h2))))
    (k1_pay49 (k1_pay48 (View.ld h (Rect.unit (k1_off50 i) S1x704x128.size (k1_off50_inb i h2)))))
    (k1_pay50 k1_pay46 (View.ld h (Rect.unit (k1_off51 i) S1x704x128.size (k1_off51_inb i h2))))
    (k1_pay51 k1_pay46 (View.ld h (Rect.unit (k1_off52 i) S1x704x128.size (k1_off52_inb i h2))))
    (k1_pay52 (View.ld h (Rect.unit (k1_off53 i) S1x704x128.size (k1_off53_inb i h2))))
    (k1_pay53 k1_pay46 (View.ld h (Rect.unit (k1_off54 i) S1x704x128.size (k1_off54_inb i h2))))
    (k1_pay54 k1_pay46 (View.ld h (Rect.unit (k1_off55 i) S1x704x128.size (k1_off55_inb i h2))))
    (k1_pay55 (View.ld h (Rect.unit (k1_off56 i) S1x704x128.size (k1_off56_inb i h2))))
    (View.ld h (Rect.unit (k1_off57 i) S1x704x128.size (k1_off57_inb i h2)))
    (View.ld X7 (Rect.unit ![0, 0] S1152x128.size inb_S1152x128_S1152x128_0_0))

/-- The convolution's sums for column tile `k`, off the planes `g`, scaled. -/
def mainOf (i : grid1.Coords) (h2 : k1_cond2 i = 1#1) (g : Vec F S4x15x1088x128 .fp8e4m3) (X1 : Vec F S16x128 .f32) (X3 : Vec F S5760x1280 .fp8e4m3) (X4 : Vec F S1x1280 .f32) (k : Fin k1_t1_loop.trips) : FVec F S704x256 .f32 :=
  k1_pay44 (scaleRow X1)
    (shapeCast S704x128 (View.ld g (Rect.unit (k1_off58 i) S1x1x704x128.size (k1_off58_inb i h2))) shapeCasts_S1x1x704x128_S704x128)
    (shapeCast S704x128 (View.ld g (Rect.unit (k1_off59 i) S1x1x704x128.size (k1_off59_inb i h2))) shapeCasts_S1x1x704x128_S704x128)
    (shapeCast S704x128 (View.ld g (Rect.unit (k1_off60 i) S1x1x704x128.size (k1_off60_inb i h2))) shapeCasts_S1x1x704x128_S704x128)
    (shapeCast S704x128 (View.ld g (Rect.unit (k1_off61 i) S1x1x704x128.size (k1_off61_inb i h2))) shapeCasts_S1x1x704x128_S704x128)
    (shapeCast S704x128 (View.ld g (Rect.unit (k1_off62 i) S1x1x704x128.size (k1_off62_inb i h2))) shapeCasts_S1x1x704x128_S704x128)
    (shapeCast S704x128 (View.ld g (Rect.unit (k1_off63 i) S1x1x704x128.size (k1_off63_inb i h2))) shapeCasts_S1x1x704x128_S704x128)
    (shapeCast S704x128 (View.ld g (Rect.unit (k1_off64 i) S1x1x704x128.size (k1_off64_inb i h2))) shapeCasts_S1x1x704x128_S704x128)
    (shapeCast S704x128 (View.ld g (Rect.unit (k1_off65 i) S1x1x704x128.size (k1_off65_inb i h2))) shapeCasts_S1x1x704x128_S704x128)
    (shapeCast S704x128 (View.ld g (Rect.unit (k1_off66 i) S1x1x704x128.size (k1_off66_inb i h2))) shapeCasts_S1x1x704x128_S704x128)
    (shapeCast S704x128 (View.ld g (Rect.unit (k1_off67 i) S1x1x704x128.size (k1_off67_inb i h2))) shapeCasts_S1x1x704x128_S704x128)
    (shapeCast S704x128 (View.ld g (Rect.unit (k1_off68 i) S1x1x704x128.size (k1_off68_inb i h2))) shapeCasts_S1x1x704x128_S704x128)
    (shapeCast S704x128 (View.ld g (Rect.unit (k1_off69 i) S1x1x704x128.size (k1_off69_inb i h2))) shapeCasts_S1x1x704x128_S704x128)
    (shapeCast S704x128 (View.ld g (Rect.unit (k1_off70 i) S1x1x704x128.size (k1_off70_inb i h2))) shapeCasts_S1x1x704x128_S704x128)
    (shapeCast S704x128 (View.ld g (Rect.unit (k1_off71 i) S1x1x704x128.size (k1_off71_inb i h2))) shapeCasts_S1x1x704x128_S704x128)
    (shapeCast S704x128 (View.ld g (Rect.unit (k1_off72 i) S1x1x704x128.size (k1_off72_inb i h2))) shapeCasts_S1x1x704x128_S704x128)
    (shapeCast S704x128 (View.ld g (Rect.unit (k1_off73 i) S1x1x704x128.size (k1_off73_inb i h2))) shapeCasts_S1x1x704x128_S704x128)
    (shapeCast S704x128 (View.ld g (Rect.unit (k1_off74 i) S1x1x704x128.size (k1_off74_inb i h2))) shapeCasts_S1x1x704x128_S704x128)
    (shapeCast S704x128 (View.ld g (Rect.unit (k1_off75 i) S1x1x704x128.size (k1_off75_inb i h2))) shapeCasts_S1x1x704x128_S704x128)
    (shapeCast S704x128 (View.ld g (Rect.unit (k1_off76 i) S1x1x704x128.size (k1_off76_inb i h2))) shapeCasts_S1x1x704x128_S704x128)
    (shapeCast S704x128 (View.ld g (Rect.unit (k1_off77 i) S1x1x704x128.size (k1_off77_inb i h2))) shapeCasts_S1x1x704x128_S704x128)
    (shapeCast S704x128 (View.ld g (Rect.unit (k1_off78 i) S1x1x704x128.size (k1_off78_inb i h2))) shapeCasts_S1x1x704x128_S704x128)
    (shapeCast S704x128 (View.ld g (Rect.unit (k1_off79 i) S1x1x704x128.size (k1_off79_inb i h2))) shapeCasts_S1x1x704x128_S704x128)
    (shapeCast S704x128 (View.ld g (Rect.unit (k1_off80 i) S1x1x704x128.size (k1_off80_inb i h2))) shapeCasts_S1x1x704x128_S704x128)
    (shapeCast S704x128 (View.ld g (Rect.unit (k1_off81 i) S1x1x704x128.size (k1_off81_inb i h2))) shapeCasts_S1x1x704x128_S704x128)
    (shapeCast S704x128 (View.ld g (Rect.unit (k1_off82 i) S1x1x704x128.size (k1_off82_inb i h2))) shapeCasts_S1x1x704x128_S704x128)
    (shapeCast S704x128 (View.ld g (Rect.unit (k1_off83 i) S1x1x704x128.size (k1_off83_inb i h2))) shapeCasts_S1x1x704x128_S704x128)
    (shapeCast S704x128 (View.ld g (Rect.unit (k1_off84 i) S1x1x704x128.size (k1_off84_inb i h2))) shapeCasts_S1x1x704x128_S704x128)
    (shapeCast S704x128 (View.ld g (Rect.unit (k1_off85 i) S1x1x704x128.size (k1_off85_inb i h2))) shapeCasts_S1x1x704x128_S704x128)
    (shapeCast S704x128 (View.ld g (Rect.unit (k1_off86 i) S1x1x704x128.size (k1_off86_inb i h2))) shapeCasts_S1x1x704x128_S704x128)
    (shapeCast S704x128 (View.ld g (Rect.unit (k1_off87 i) S1x1x704x128.size (k1_off87_inb i h2))) shapeCasts_S1x1x704x128_S704x128)
    (shapeCast S704x128 (View.ld g (Rect.unit (k1_off88 i) S1x1x704x128.size (k1_off88_inb i h2))) shapeCasts_S1x1x704x128_S704x128)
    (shapeCast S704x128 (View.ld g (Rect.unit (k1_off89 i) S1x1x704x128.size (k1_off89_inb i h2))) shapeCasts_S1x1x704x128_S704x128)
    (shapeCast S704x128 (View.ld g (Rect.unit (k1_off90 i) S1x1x704x128.size (k1_off90_inb i h2))) shapeCasts_S1x1x704x128_S704x128)
    (shapeCast S704x128 (View.ld g (Rect.unit (k1_off91 i) S1x1x704x128.size (k1_off91_inb i h2))) shapeCasts_S1x1x704x128_S704x128)
    (shapeCast S704x128 (View.ld g (Rect.unit (k1_off92 i) S1x1x704x128.size (k1_off92_inb i h2))) shapeCasts_S1x1x704x128_S704x128)
    (shapeCast S704x128 (View.ld g (Rect.unit (k1_off93 i) S1x1x704x128.size (k1_off93_inb i h2))) shapeCasts_S1x1x704x128_S704x128)
    (shapeCast S704x128 (View.ld g (Rect.unit (k1_off94 i) S1x1x704x128.size (k1_off94_inb i h2))) shapeCasts_S1x1x704x128_S704x128)
    (shapeCast S704x128 (View.ld g (Rect.unit (k1_off95 i) S1x1x704x128.size (k1_off95_inb i h2))) shapeCasts_S1x1x704x128_S704x128)
    (shapeCast S704x128 (View.ld g (Rect.unit (k1_off96 i) S1x1x704x128.size (k1_off96_inb i h2))) shapeCasts_S1x1x704x128_S704x128)
    (View.ld g (Rect.unit (k1_off97 i) S1x1x704x128.size (k1_off97_inb i h2)))
    (View.ld g (Rect.unit (k1_off98 i) S1x1x704x128.size (k1_off98_inb i h2)))
    (View.ld g (Rect.unit (k1_off99 i) S1x1x704x128.size (k1_off99_inb i h2)))
    (View.ld g (Rect.unit (k1_off100 i) S1x1x704x128.size (k1_off100_inb i h2)))
    (View.ld g (Rect.unit (k1_off101 i) S1x1x704x128.size (k1_off101_inb i h2)))
    (View.ld g (Rect.unit (k1_off102 i) S1x1x704x128.size (k1_off102_inb i h2)))
    (View.ld X3 (Rect.unit (k1_off103 k) S5760x256.size (k1_off103_inb i k h2)))
    (View.ld X4 (Rect.unit (k1_off105 k) S1x256.size (k1_off105_inb i k h2)))

/-- Column tile `k` of the result block. -/
def yTile (i : grid1.Coords) (h2 : k1_cond2 i = 1#1) (g : Vec F S4x15x1088x128 .fp8e4m3) (h : Vec F S4x1088x128 .f32) (X1 : Vec F S16x128 .f32) (X3 : Vec F S5760x1280 .fp8e4m3) (X4 X5 : Vec F S1x1280 .f32)
    (X7 : Vec F S1152x128 .bf16) (X8 : Vec F S128x1280 .bf16) (k : Fin k1_t1_loop.trips) : FVec F S704x256 .bf16 :=
  k1_pay3 (k1_pay43 (d2Of i h2 h X7) (View.ld X8 (Rect.unit (k1_off104 k) S128x256.size (k1_off104_inb i k h2))))
    (mainOf i h2 g X1 X3 X4 k)
    (k1_pay45 (View.ld X5 (Rect.unit (k1_off105 k) S1x256.size (k1_off105_inb i k h2))))

/-- The pieces stored into the result window. -/
def LY (i : grid1.Coords) (h2 : k1_cond2 i = 1#1) (g : Vec F S4x15x1088x128 .fp8e4m3) (h : Vec F S4x1088x128 .f32) (X1 : Vec F S16x128 .f32) (X3 : Vec F S5760x1280 .fp8e4m3) (X4 X5 : Vec F S1x1280 .f32)
    (X7 : Vec F S1152x128 .bf16) (X8 : Vec F S128x1280 .bf16) : List (View.Piece (Elt F) S704x1280 .bf16) :=
  [⟨Rect.unit (k1_off106 ⟨4, by decide⟩) S704x256.size (k1_off106_inb i ⟨4, by decide⟩ h2), yTile i h2 g h X1 X3 X4 X5 X7 X8 ⟨4, by decide⟩⟩,
   ⟨Rect.unit (k1_off106 ⟨3, by decide⟩) S704x256.size (k1_off106_inb i ⟨3, by decide⟩ h2), yTile i h2 g h X1 X3 X4 X5 X7 X8 ⟨3, by decide⟩⟩,
   ⟨Rect.unit (k1_off106 ⟨2, by decide⟩) S704x256.size (k1_off106_inb i ⟨2, by decide⟩ h2), yTile i h2 g h X1 X3 X4 X5 X7 X8 ⟨2, by decide⟩⟩,
   ⟨Rect.unit (k1_off106 ⟨1, by decide⟩) S704x256.size (k1_off106_inb i ⟨1, by decide⟩ h2), yTile i h2 g h X1 X3 X4 X5 X7 X8 ⟨1, by decide⟩⟩,
   ⟨Rect.unit (k1_off106 ⟨0, by decide⟩) S704x256.size (k1_off106_inb i ⟨0, by decide⟩ h2), yTile i h2 g h X1 X3 X4 X5 X7 X8 ⟨0, by decide⟩⟩]

/-- One trip of the loop over the column tiles stores one tile. -/
theorem trip_eq (𝒱 : Variants) (c : Dev nD) (bd : Option 𝒱.V) (i : grid1.Coords) (arg1 : Memref sig .tc .vmem S16x128 .f32) (harg1 : arg1.IsWhole) (arg2 : Memref sig .tc .vmem S704x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x128 .bf16) (harg6 : arg6.IsWhole) (arg7 : Memref sig .tc .vmem S1152x128 .bf16) (harg7 : arg7.IsWhole) (arg8 : Memref sig .tc .vmem S128x1280 .bf16) (harg8 : arg8.IsWhole) (arg9 : Memref sig .tc .vmem S704x1280 .bf16) (harg9 : arg9.IsWhole) (arg10 : Memref sig .tc .vmem S704x640 .fp8e4m3) (harg10 : arg10.IsWhole) (arg11 : Memref sig .tc .vmem S4x15x1088x128 .fp8e4m3) (harg11 : arg11.IsWhole) (arg12 : Memref sig .tc .vmem S4x1088x128 .f32) (harg12 : arg12.IsWhole) (v3 : FVec F S1x128 .f32) (k1_h2 : k1_cond2 i = 1#1) (v497 : BitVec 32) (v514 : IVec S704x128 32) (v522 : FVec F S704x128 .bf16) (v526 : FVec F S704x128 .bf16) (v534 : FVec F S704x128 .bf16) (v542 : FVec F S704x128 .bf16) (v546 : FVec F S704x128 .bf16) (v554 : FVec F S704x128 .bf16) (v562 : FVec F S704x128 .bf16) (v565 : FVec F S704x128 .f32) (v568 : Vec F S1x704x128 .f32) (v576 : Vec F S1152x128 .bf16) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (X_arg11 : BufTy.Contents (Elt F) arg11.view.ty) (k : Fin k1_t1_loop.trips) :
    tripL_k1_t1 (F := F) 𝒱 c bd i arg1 harg1 arg2 harg2 arg3 harg3 arg4 harg4 arg5 harg5 arg6 harg6 arg7 harg7 arg8 harg8 arg9 harg9 arg10 harg10 arg11 harg11 arg12 harg12 v3 k1_h2 v497 v514 v522 v526 v534 v542 v546 v554 v562 v565 v568 v576 X_arg3 X_arg4 X_arg5 X_arg8 X_arg11 k =
    [⟨Rect.unit (k1_off106 k) S704x256.size (k1_off106_inb i k k1_h2), k1_pay3 (k1_pay43 (k1_pay2 v514 v522 v526 v534 v542 v546 v554 v562 v565 v568 v576) (View.ld (arg8.view.read (Elt F) X_arg8) (Rect.unit (k1_off104 k) S128x256.size (k1_off104_inb i k k1_h2))))
      (k1_pay44 v3
        (shapeCast S704x128 (View.ld (arg11.view.read (Elt F) X_arg11) (Rect.unit (k1_off58 i) S1x1x704x128.size (k1_off58_inb i k1_h2))) shapeCasts_S1x1x704x128_S704x128)
        (shapeCast S704x128 (View.ld (arg11.view.read (Elt F) X_arg11) (Rect.unit (k1_off59 i) S1x1x704x128.size (k1_off59_inb i k1_h2))) shapeCasts_S1x1x704x128_S704x128)
        (shapeCast S704x128 (View.ld (arg11.view.read (Elt F) X_arg11) (Rect.unit (k1_off60 i) S1x1x704x128.size (k1_off60_inb i k1_h2))) shapeCasts_S1x1x704x128_S704x128)
        (shapeCast S704x128 (View.ld (arg11.view.read (Elt F) X_arg11) (Rect.unit (k1_off61 i) S1x1x704x128.size (k1_off61_inb i k1_h2))) shapeCasts_S1x1x704x128_S704x128)
        (shapeCast S704x128 (View.ld (arg11.view.read (Elt F) X_arg11) (Rect.unit (k1_off62 i) S1x1x704x128.size (k1_off62_inb i k1_h2))) shapeCasts_S1x1x704x128_S704x128)
        (shapeCast S704x128 (View.ld (arg11.view.read (Elt F) X_arg11) (Rect.unit (k1_off63 i) S1x1x704x128.size (k1_off63_inb i k1_h2))) shapeCasts_S1x1x704x128_S704x128)
        (shapeCast S704x128 (View.ld (arg11.view.read (Elt F) X_arg11) (Rect.unit (k1_off64 i) S1x1x704x128.size (k1_off64_inb i k1_h2))) shapeCasts_S1x1x704x128_S704x128)
        (shapeCast S704x128 (View.ld (arg11.view.read (Elt F) X_arg11) (Rect.unit (k1_off65 i) S1x1x704x128.size (k1_off65_inb i k1_h2))) shapeCasts_S1x1x704x128_S704x128)
        (shapeCast S704x128 (View.ld (arg11.view.read (Elt F) X_arg11) (Rect.unit (k1_off66 i) S1x1x704x128.size (k1_off66_inb i k1_h2))) shapeCasts_S1x1x704x128_S704x128)
        (shapeCast S704x128 (View.ld (arg11.view.read (Elt F) X_arg11) (Rect.unit (k1_off67 i) S1x1x704x128.size (k1_off67_inb i k1_h2))) shapeCasts_S1x1x704x128_S704x128)
        (shapeCast S704x128 (View.ld (arg11.view.read (Elt F) X_arg11) (Rect.unit (k1_off68 i) S1x1x704x128.size (k1_off68_inb i k1_h2))) shapeCasts_S1x1x704x128_S704x128)
        (shapeCast S704x128 (View.ld (arg11.view.read (Elt F) X_arg11) (Rect.unit (k1_off69 i) S1x1x704x128.size (k1_off69_inb i k1_h2))) shapeCasts_S1x1x704x128_S704x128)
        (shapeCast S704x128 (View.ld (arg11.view.read (Elt F) X_arg11) (Rect.unit (k1_off70 i) S1x1x704x128.size (k1_off70_inb i k1_h2))) shapeCasts_S1x1x704x128_S704x128)
        (shapeCast S704x128 (View.ld (arg11.view.read (Elt F) X_arg11) (Rect.unit (k1_off71 i) S1x1x704x128.size (k1_off71_inb i k1_h2))) shapeCasts_S1x1x704x128_S704x128)
        (shapeCast S704x128 (View.ld (arg11.view.read (Elt F) X_arg11) (Rect.unit (k1_off72 i) S1x1x704x128.size (k1_off72_inb i k1_h2))) shapeCasts_S1x1x704x128_S704x128)
        (shapeCast S704x128 (View.ld (arg11.view.read (Elt F) X_arg11) (Rect.unit (k1_off73 i) S1x1x704x128.size (k1_off73_inb i k1_h2))) shapeCasts_S1x1x704x128_S704x128)
        (shapeCast S704x128 (View.ld (arg11.view.read (Elt F) X_arg11) (Rect.unit (k1_off74 i) S1x1x704x128.size (k1_off74_inb i k1_h2))) shapeCasts_S1x1x704x128_S704x128)
        (shapeCast S704x128 (View.ld (arg11.view.read (Elt F) X_arg11) (Rect.unit (k1_off75 i) S1x1x704x128.size (k1_off75_inb i k1_h2))) shapeCasts_S1x1x704x128_S704x128)
        (shapeCast S704x128 (View.ld (arg11.view.read (Elt F) X_arg11) (Rect.unit (k1_off76 i) S1x1x704x128.size (k1_off76_inb i k1_h2))) shapeCasts_S1x1x704x128_S704x128)
        (shapeCast S704x128 (View.ld (arg11.view.read (Elt F) X_arg11) (Rect.unit (k1_off77 i) S1x1x704x128.size (k1_off77_inb i k1_h2))) shapeCasts_S1x1x704x128_S704x128)
        (shapeCast S704x128 (View.ld (arg11.view.read (Elt F) X_arg11) (Rect.unit (k1_off78 i) S1x1x704x128.size (k1_off78_inb i k1_h2))) shapeCasts_S1x1x704x128_S704x128)
        (shapeCast S704x128 (View.ld (arg11.view.read (Elt F) X_arg11) (Rect.unit (k1_off79 i) S1x1x704x128.size (k1_off79_inb i k1_h2))) shapeCasts_S1x1x704x128_S704x128)
        (shapeCast S704x128 (View.ld (arg11.view.read (Elt F) X_arg11) (Rect.unit (k1_off80 i) S1x1x704x128.size (k1_off80_inb i k1_h2))) shapeCasts_S1x1x704x128_S704x128)
        (shapeCast S704x128 (View.ld (arg11.view.read (Elt F) X_arg11) (Rect.unit (k1_off81 i) S1x1x704x128.size (k1_off81_inb i k1_h2))) shapeCasts_S1x1x704x128_S704x128)
        (shapeCast S704x128 (View.ld (arg11.view.read (Elt F) X_arg11) (Rect.unit (k1_off82 i) S1x1x704x128.size (k1_off82_inb i k1_h2))) shapeCasts_S1x1x704x128_S704x128)
        (shapeCast S704x128 (View.ld (arg11.view.read (Elt F) X_arg11) (Rect.unit (k1_off83 i) S1x1x704x128.size (k1_off83_inb i k1_h2))) shapeCasts_S1x1x704x128_S704x128)
        (shapeCast S704x128 (View.ld (arg11.view.read (Elt F) X_arg11) (Rect.unit (k1_off84 i) S1x1x704x128.size (k1_off84_inb i k1_h2))) shapeCasts_S1x1x704x128_S704x128)
        (shapeCast S704x128 (View.ld (arg11.view.read (Elt F) X_arg11) (Rect.unit (k1_off85 i) S1x1x704x128.size (k1_off85_inb i k1_h2))) shapeCasts_S1x1x704x128_S704x128)
        (shapeCast S704x128 (View.ld (arg11.view.read (Elt F) X_arg11) (Rect.unit (k1_off86 i) S1x1x704x128.size (k1_off86_inb i k1_h2))) shapeCasts_S1x1x704x128_S704x128)
        (shapeCast S704x128 (View.ld (arg11.view.read (Elt F) X_arg11) (Rect.unit (k1_off87 i) S1x1x704x128.size (k1_off87_inb i k1_h2))) shapeCasts_S1x1x704x128_S704x128)
        (shapeCast S704x128 (View.ld (arg11.view.read (Elt F) X_arg11) (Rect.unit (k1_off88 i) S1x1x704x128.size (k1_off88_inb i k1_h2))) shapeCasts_S1x1x704x128_S704x128)
        (shapeCast S704x128 (View.ld (arg11.view.read (Elt F) X_arg11) (Rect.unit (k1_off89 i) S1x1x704x128.size (k1_off89_inb i k1_h2))) shapeCasts_S1x1x704x128_S704x128)
        (shapeCast S704x128 (View.ld (arg11.view.read (Elt F) X_arg11) (Rect.unit (k1_off90 i) S1x1x704x128.size (k1_off90_inb i k1_h2))) shapeCasts_S1x1x704x128_S704x128)
        (shapeCast S704x128 (View.ld (arg11.view.read (Elt F) X_arg11) (Rect.unit (k1_off91 i) S1x1x704x128.size (k1_off91_inb i k1_h2))) shapeCasts_S1x1x704x128_S704x128)
        (shapeCast S704x128 (View.ld (arg11.view.read (Elt F) X_arg11) (Rect.unit (k1_off92 i) S1x1x704x128.size (k1_off92_inb i k1_h2))) shapeCasts_S1x1x704x128_S704x128)
        (shapeCast S704x128 (View.ld (arg11.view.read (Elt F) X_arg11) (Rect.unit (k1_off93 i) S1x1x704x128.size (k1_off93_inb i k1_h2))) shapeCasts_S1x1x704x128_S704x128)
        (shapeCast S704x128 (View.ld (arg11.view.read (Elt F) X_arg11) (Rect.unit (k1_off94 i) S1x1x704x128.size (k1_off94_inb i k1_h2))) shapeCasts_S1x1x704x128_S704x128)
        (shapeCast S704x128 (View.ld (arg11.view.read (Elt F) X_arg11) (Rect.unit (k1_off95 i) S1x1x704x128.size (k1_off95_inb i k1_h2))) shapeCasts_S1x1x704x128_S704x128)
        (shapeCast S704x128 (View.ld (arg11.view.read (Elt F) X_arg11) (Rect.unit (k1_off96 i) S1x1x704x128.size (k1_off96_inb i k1_h2))) shapeCasts_S1x1x704x128_S704x128)
        (View.ld (arg11.view.read (Elt F) X_arg11) (Rect.unit (k1_off97 i) S1x1x704x128.size (k1_off97_inb i k1_h2)))
        (View.ld (arg11.view.read (Elt F) X_arg11) (Rect.unit (k1_off98 i) S1x1x704x128.size (k1_off98_inb i k1_h2)))
        (View.ld (arg11.view.read (Elt F) X_arg11) (Rect.unit (k1_off99 i) S1x1x704x128.size (k1_off99_inb i k1_h2)))
        (View.ld (arg11.view.read (Elt F) X_arg11) (Rect.unit (k1_off100 i) S1x1x704x128.size (k1_off100_inb i k1_h2)))
        (View.ld (arg11.view.read (Elt F) X_arg11) (Rect.unit (k1_off101 i) S1x1x704x128.size (k1_off101_inb i k1_h2)))
        (View.ld (arg11.view.read (Elt F) X_arg11) (Rect.unit (k1_off102 i) S1x1x704x128.size (k1_off102_inb i k1_h2)))
        (View.ld (arg3.view.read (Elt F) X_arg3) (Rect.unit (k1_off103 k) S5760x256.size (k1_off103_inb i k k1_h2)))
        (View.ld (arg4.view.read (Elt F) X_arg4) (Rect.unit (k1_off105 k) S1x256.size (k1_off105_inb i k k1_h2))))
      (k1_pay45 (View.ld (arg5.view.read (Elt F) X_arg5) (Rect.unit (k1_off105 k) S1x256.size (k1_off105_inb i k k1_h2))))⟩] := by
  unfold tripL_k1_t1 trip_k1_t1
  rfl

/-- The loop over the column tiles stores the five tiles. -/
theorem loop_eq (𝒱 : Variants) (c : Dev nD) (bd : Option 𝒱.V) (i : grid1.Coords) (arg1 : Memref sig .tc .vmem S16x128 .f32) (harg1 : arg1.IsWhole) (arg2 : Memref sig .tc .vmem S704x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x128 .bf16) (harg6 : arg6.IsWhole) (arg7 : Memref sig .tc .vmem S1152x128 .bf16) (harg7 : arg7.IsWhole) (arg8 : Memref sig .tc .vmem S128x1280 .bf16) (harg8 : arg8.IsWhole) (arg9 : Memref sig .tc .vmem S704x1280 .bf16) (harg9 : arg9.IsWhole) (arg10 : Memref sig .tc .vmem S704x640 .fp8e4m3) (harg10 : arg10.IsWhole) (arg11 : Memref sig .tc .vmem S4x15x1088x128 .fp8e4m3) (harg11 : arg11.IsWhole) (arg12 : Memref sig .tc .vmem S4x1088x128 .f32) (harg12 : arg12.IsWhole) (v3 : FVec F S1x128 .f32) (k1_h2 : k1_cond2 i = 1#1) (v497 : BitVec 32) (v514 : IVec S704x128 32) (v522 : FVec F S704x128 .bf16) (v526 : FVec F S704x128 .bf16) (v534 : FVec F S704x128 .bf16) (v542 : FVec F S704x128 .bf16) (v546 : FVec F S704x128 .bf16) (v554 : FVec F S704x128 .bf16) (v562 : FVec F S704x128 .bf16) (v565 : FVec F S704x128 .f32) (v568 : Vec F S1x704x128 .f32) (v576 : Vec F S1152x128 .bf16) (X_arg3 : BufTy.Contents (Elt F) arg3.view.ty) (X_arg4 : BufTy.Contents (Elt F) arg4.view.ty) (X_arg5 : BufTy.Contents (Elt F) arg5.view.ty) (X_arg8 : BufTy.Contents (Elt F) arg8.view.ty) (X_arg11 : BufTy.Contents (Elt F) arg11.view.ty)  :
    pb_k1_t1 (F := F) 𝒱 c bd i arg1 harg1 arg2 harg2 arg3 harg3 arg4 harg4 arg5 harg5 arg6 harg6 arg7 harg7 arg8 harg8 arg9 harg9 arg10 harg10 arg11 harg11 arg12 harg12 v3 k1_h2 v497 v514 v522 v526 v534 v542 v546 v554 v562 v565 v568 v576 X_arg3 X_arg4 X_arg5 X_arg8 X_arg11 (Scf.trips k1_t1_loop.lb k1_t1_loop.ub k1_t1_loop.st)
      = tripL_k1_t1 (F := F) 𝒱 c bd i arg1 harg1 arg2 harg2 arg3 harg3 arg4 harg4 arg5 harg5 arg6 harg6 arg7 harg7 arg8 harg8 arg9 harg9 arg10 harg10 arg11 harg11 arg12 harg12 v3 k1_h2 v497 v514 v522 v526 v534 v542 v546 v554 v562 v565 v568 v576 X_arg3 X_arg4 X_arg5 X_arg8 X_arg11 ⟨4, by decide⟩ ++ (tripL_k1_t1 (F := F) 𝒱 c bd i arg1 harg1 arg2 harg2 arg3 harg3 arg4 harg4 arg5 harg5 arg6 harg6 arg7 harg7 arg8 harg8 arg9 harg9 arg10 harg10 arg11 harg11 arg12 harg12 v3 k1_h2 v497 v514 v522 v526 v534 v542 v546 v554 v562 v565 v568 v576 X_arg3 X_arg4 X_arg5 X_arg8 X_arg11 ⟨3, by decide⟩ ++ (tripL_k1_t1 (F := F) 𝒱 c bd i arg1 harg1 arg2 harg2 arg3 harg3 arg4 harg4 arg5 harg5 arg6 harg6 arg7 harg7 arg8 harg8 arg9 harg9 arg10 harg10 arg11 harg11 arg12 harg12 v3 k1_h2 v497 v514 v522 v526 v534 v542 v546 v554 v562 v565 v568 v576 X_arg3 X_arg4 X_arg5 X_arg8 X_arg11 ⟨2, by decide⟩ ++ (tripL_k1_t1 (F := F) 𝒱 c bd i arg1 harg1 arg2 harg2 arg3 harg3 arg4 harg4 arg5 harg5 arg6 harg6 arg7 harg7 arg8 harg8 arg9 harg9 arg10 harg10 arg11 harg11 arg12 harg12 v3 k1_h2 v497 v514 v522 v526 v534 v542 v546 v554 v562 v565 v568 v576 X_arg3 X_arg4 X_arg5 X_arg8 X_arg11 ⟨1, by decide⟩ ++ (tripL_k1_t1 (F := F) 𝒱 c bd i arg1 harg1 arg2 harg2 arg3 harg3 arg4 harg4 arg5 harg5 arg6 harg6 arg7 harg7 arg8 harg8 arg9 harg9 arg10 harg10 arg11 harg11 arg12 harg12 v3 k1_h2 v497 v514 v522 v526 v534 v542 v546 v554 v562 v565 v568 v576 X_arg3 X_arg4 X_arg5 X_arg8 X_arg11 ⟨0, by decide⟩ ++ [])))) := by
  have ht : Scf.trips k1_t1_loop.lb k1_t1_loop.ub k1_t1_loop.st = 5 := by decide
  rw [ht]
  exact (pb_k1_t1_succ (F := F) 𝒱 c bd i arg1 harg1 arg2 harg2 arg3 harg3 arg4 harg4 arg5 harg5 arg6 harg6 arg7 harg7 arg8 harg8 arg9 harg9 arg10 harg10 arg11 harg11 arg12 harg12 v3 k1_h2 v497 v514 v522 v526 v534 v542 v546 v554 v562 v565 v568 v576 X_arg3 X_arg4 X_arg5 X_arg8 X_arg11 ⟨4, by decide⟩).trans (congrArg (_ ++ ·) ((pb_k1_t1_succ (F := F) 𝒱 c bd i arg1 harg1 arg2 harg2 arg3 harg3 arg4 harg4 arg5 harg5 arg6 harg6 arg7 harg7 arg8 harg8 arg9 harg9 arg10 harg10 arg11 harg11 arg12 harg12 v3 k1_h2 v497 v514 v522 v526 v534 v542 v546 v554 v562 v565 v568 v576 X_arg3 X_arg4 X_arg5 X_arg8 X_arg11 ⟨3, by decide⟩).trans (congrArg (_ ++ ·) ((pb_k1_t1_succ (F := F) 𝒱 c bd i arg1 harg1 arg2 harg2 arg3 harg3 arg4 harg4 arg5 harg5 arg6 harg6 arg7 harg7 arg8 harg8 arg9 harg9 arg10 harg10 arg11 harg11 arg12 harg12 v3 k1_h2 v497 v514 v522 v526 v534 v542 v546 v554 v562 v565 v568 v576 X_arg3 X_arg4 X_arg5 X_arg8 X_arg11 ⟨2, by decide⟩).trans (congrArg (_ ++ ·)
    ((pb_k1_t1_succ (F := F) 𝒱 c bd i arg1 harg1 arg2 harg2 arg3 harg3 arg4 harg4 arg5 harg5 arg6 harg6 arg7 harg7 arg8 harg8 arg9 harg9 arg10 harg10 arg11 harg11 arg12 harg12 v3 k1_h2 v497 v514 v522 v526 v534 v542 v546 v554 v562 v565 v568 v576 X_arg3 X_arg4 X_arg5 X_arg8 X_arg11 ⟨1, by decide⟩).trans (congrArg (_ ++ ·) (pb_k1_t1_succ (F := F) 𝒱 c bd i arg1 harg1 arg2 harg2 arg3 harg3 arg4 harg4 arg5 harg5 arg6 harg6 arg7 harg7 arg8 harg8 arg9 harg9 arg10 harg10 arg11 harg11 arg12 harg12 v3 k1_h2 v497 v514 v522 v526 v534 v542 v546 v554 v562 v565 v568 v576 X_arg3 X_arg4 X_arg5 X_arg8 X_arg11 ⟨0, by decide⟩))))))))

end Cert.KernelIdeal.Val
-- ==== Proof.KernelIdealBody.lean ====
/-
  One point of the kernel `KernelIdeal`, its contents kept: what each of the three kinds of points (the first, the second, a later one) leaves in the
  ring buffers and in the two result windows, as lists of stored pieces over what the windows held.
-/
module

public import proofs.«01_k».proof.Proof.KernelIdealPieces

@[expose] public section
set_option maxRecDepth 16384

noncomputable section
namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal Cert.KernelIdeal.Gen
open Cert.KernelIdeal.Hand (IsFirst)

variable {F : FTy → Type} [FloatOps F]
local notation "𝕄" => MT nD τ sig Unit (Elt F) ℕ (UR sig nD τ) ℕ

set_option maxHeartbeats 16000000 in
/-- The first point: the ring buffers are zeroed, then a block is stored into them. -/
theorem step_first (c : Dev nD) (E : Set ℕ) (i : grid1.Coords) (arg1 : Memref sig .tc .vmem S16x128 .f32) (harg1 : arg1.IsWhole) (arg2 : Memref sig .tc .vmem S704x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x128 .bf16) (harg6 : arg6.IsWhole) (arg7 : Memref sig .tc .vmem S1152x128 .bf16) (harg7 : arg7.IsWhole) (arg8 : Memref sig .tc .vmem S128x1280 .bf16) (harg8 : arg8.IsWhole) (arg9 : Memref sig .tc .vmem S704x1280 .bf16) (harg9 : arg9.IsWhole) (arg10 : Memref sig .tc .vmem S704x640 .fp8e4m3) (harg10 : arg10.IsWhole) (arg11 : Memref sig .tc .vmem S4x15x1088x128 .fp8e4m3) (harg11 : arg11.IsWhole) (arg12 : Memref sig .tc .vmem S4x1088x128 .f32) (harg12 : arg12.IsWhole)
    (x1 : Vec F S16x128 .f32) (x2 : Vec F S704x640 .bf16) (x3 : Vec F S5760x1280 .fp8e4m3) (x4 : Vec F S1x1280 .f32) (x5 : Vec F S1x1280 .f32) (x6 : Vec F S640x128 .bf16) (x7 : Vec F S1152x128 .bf16) (x8 : Vec F S128x1280 .bf16) (x11 : Vec F S4x15x1088x128 .fp8e4m3) (x12 : Vec F S4x1088x128 .f32) (K : PUnit → sProp 𝕄) (h1 : IsFirst i) (h2 : ¬ k1_cond2 i = 1#1) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ owns (c : Thread nD τ) arg11 fullShare x11 ∗ owns (c : Thread nD τ) arg12 fullShare x12
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ (y : Vec F S704x1280 .bf16) (d10 q : Vec F S704x640 .fp8e4m3) (g : Vec F S4x15x1088x128 .fp8e4m3) (h : Vec F S4x1088x128 .f32), owns (c : Thread nD τ) arg9 fullShare y ∗ owns (c : Thread nD τ) arg10 fullShare q ∗ owns (c : Thread nD τ) arg11 fullShare g ∗ owns (c : Thread nD τ) arg12 fullShare h
          ∗ ⌜Stored d10 (LC x1 x2) q ∧ Stored k1_pay58 (LP i x1 x2) g ∧ Stored k1_pay59 (LD i x1 (codesOf x1 x2) x6) h⌝)) -∗ K ⟨⟩))
      ⊢ wp frame (wpE (defs₀ (F := F)) Variants.none c none) E (cc1_conv i arg1 harg1 arg2 harg2 arg3 harg3 arg4 harg4 arg5 harg5 arg6 harg6 arg7 harg7 arg8 harg8 arg9 harg9 arg10 harg10 arg11 harg11 arg12 harg12) K := by
  simp only [cc1_conv_eq_skeleton]; unfold cc1_conv_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, Hk⟩
  subst hf1 hf2 hf3 hf4 hf5 hf6 hf7 hf8 hf11 hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _, (arg10.view.read (Elt F) f10), _, _, _
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  ipureintro
  have hC : arg10.view.readCov (LC (arg1.view.read (Elt F) f1) (arg2.view.read (Elt F) f2)) (Rect.unit ![0, 0] S704x640.size inb_S704x640_S704x640_0_0).toLoadRect
      = codesOf (arg1.view.read (Elt F) f1) (arg2.view.read (Elt F) f2) := View.readCov_eq_canon' _ _ _
  rw [← hC]
  exact ⟨stored_writes _ _ rfl,
    stored_writes_over (off := ![0, 0, 0, 0]) (inb := inb_S4x15x1088x128_S4x15x1088x128_0_0_0_0) _ _ rfl,
    stored_writes_over (off := ![0, 0, 0]) (inb := inb_S4x1088x128_S4x1088x128_0_0_0) _ _ rfl⟩

set_option maxHeartbeats 16000000 in
/-- The second point: a block is stored into the ring buffers. -/
theorem step_fill (c : Dev nD) (E : Set ℕ) (i : grid1.Coords) (arg1 : Memref sig .tc .vmem S16x128 .f32) (harg1 : arg1.IsWhole) (arg2 : Memref sig .tc .vmem S704x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x128 .bf16) (harg6 : arg6.IsWhole) (arg7 : Memref sig .tc .vmem S1152x128 .bf16) (harg7 : arg7.IsWhole) (arg8 : Memref sig .tc .vmem S128x1280 .bf16) (harg8 : arg8.IsWhole) (arg9 : Memref sig .tc .vmem S704x1280 .bf16) (harg9 : arg9.IsWhole) (arg10 : Memref sig .tc .vmem S704x640 .fp8e4m3) (harg10 : arg10.IsWhole) (arg11 : Memref sig .tc .vmem S4x15x1088x128 .fp8e4m3) (harg11 : arg11.IsWhole) (arg12 : Memref sig .tc .vmem S4x1088x128 .f32) (harg12 : arg12.IsWhole)
    (x1 : Vec F S16x128 .f32) (x2 : Vec F S704x640 .bf16) (x3 : Vec F S5760x1280 .fp8e4m3) (x4 : Vec F S1x1280 .f32) (x5 : Vec F S1x1280 .f32) (x6 : Vec F S640x128 .bf16) (x7 : Vec F S1152x128 .bf16) (x8 : Vec F S128x1280 .bf16) (x11 : Vec F S4x15x1088x128 .fp8e4m3) (x12 : Vec F S4x1088x128 .f32) (K : PUnit → sProp 𝕄) (h1 : ¬ IsFirst i) (h2 : ¬ k1_cond2 i = 1#1) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ owns (c : Thread nD τ) arg11 fullShare x11 ∗ owns (c : Thread nD τ) arg12 fullShare x12
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ (y : Vec F S704x1280 .bf16) (d10 q : Vec F S704x640 .fp8e4m3) (g : Vec F S4x15x1088x128 .fp8e4m3) (h : Vec F S4x1088x128 .f32), owns (c : Thread nD τ) arg9 fullShare y ∗ owns (c : Thread nD τ) arg10 fullShare q ∗ owns (c : Thread nD τ) arg11 fullShare g ∗ owns (c : Thread nD τ) arg12 fullShare h
          ∗ ⌜Stored d10 (LC x1 x2) q ∧ Stored x11 (LP i x1 x2) g ∧ Stored x12 (LD i x1 (codesOf x1 x2) x6) h⌝)) -∗ K ⟨⟩))
      ⊢ wp frame (wpE (defs₀ (F := F)) Variants.none c none) E (cc1_conv i arg1 harg1 arg2 harg2 arg3 harg3 arg4 harg4 arg5 harg5 arg6 harg6 arg7 harg7 arg8 harg8 arg9 harg9 arg10 harg10 arg11 harg11 arg12 harg12) K := by
  simp only [cc1_conv_eq_skeleton]; unfold cc1_conv_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, Hk⟩
  subst hf1 hf2 hf3 hf4 hf5 hf6 hf7 hf8 hf11 hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _, (arg10.view.read (Elt F) f10), _, _, _
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  ipureintro
  have hC : arg10.view.readCov (LC (arg1.view.read (Elt F) f1) (arg2.view.read (Elt F) f2)) (Rect.unit ![0, 0] S704x640.size inb_S704x640_S704x640_0_0).toLoadRect
      = codesOf (arg1.view.read (Elt F) f1) (arg2.view.read (Elt F) f2) := View.readCov_eq_canon' _ _ _
  rw [← hC]
  exact ⟨stored_writes _ _ rfl, stored_writes _ _ rfl, stored_writes _ _ rfl⟩

set_option maxHeartbeats 16000000 in
/-- A later point: a block is stored into the ring buffers and the block two points before is convolved off them. -/
theorem step_conv (c : Dev nD) (E : Set ℕ) (i : grid1.Coords) (arg1 : Memref sig .tc .vmem S16x128 .f32) (harg1 : arg1.IsWhole) (arg2 : Memref sig .tc .vmem S704x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x128 .bf16) (harg6 : arg6.IsWhole) (arg7 : Memref sig .tc .vmem S1152x128 .bf16) (harg7 : arg7.IsWhole) (arg8 : Memref sig .tc .vmem S128x1280 .bf16) (harg8 : arg8.IsWhole) (arg9 : Memref sig .tc .vmem S704x1280 .bf16) (harg9 : arg9.IsWhole) (arg10 : Memref sig .tc .vmem S704x640 .fp8e4m3) (harg10 : arg10.IsWhole) (arg11 : Memref sig .tc .vmem S4x15x1088x128 .fp8e4m3) (harg11 : arg11.IsWhole) (arg12 : Memref sig .tc .vmem S4x1088x128 .f32) (harg12 : arg12.IsWhole)
    (x1 : Vec F S16x128 .f32) (x2 : Vec F S704x640 .bf16) (x3 : Vec F S5760x1280 .fp8e4m3) (x4 : Vec F S1x1280 .f32) (x5 : Vec F S1x1280 .f32) (x6 : Vec F S640x128 .bf16) (x7 : Vec F S1152x128 .bf16) (x8 : Vec F S128x1280 .bf16) (x11 : Vec F S4x15x1088x128 .fp8e4m3) (x12 : Vec F S4x1088x128 .f32) (K : PUnit → sProp 𝕄) (h1 : ¬ IsFirst i) (h2 : k1_cond2 i = 1#1) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ owns (c : Thread nD τ) arg11 fullShare x11 ∗ owns (c : Thread nD τ) arg12 fullShare x12
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ (y : Vec F S704x1280 .bf16) (d10 q : Vec F S704x640 .fp8e4m3) (g : Vec F S4x15x1088x128 .fp8e4m3) (h : Vec F S4x1088x128 .f32), owns (c : Thread nD τ) arg9 fullShare y ∗ owns (c : Thread nD τ) arg10 fullShare q ∗ owns (c : Thread nD τ) arg11 fullShare g ∗ owns (c : Thread nD τ) arg12 fullShare h
          ∗ ⌜(∃ d9, Stored d9 (LY i h2 g h x1 x3 x4 x5 x7 x8) y) ∧ Stored d10 (LC x1 x2) q ∧ Stored x11 (LP i x1 x2) g ∧ Stored x12 (LD i x1 (codesOf x1 x2) x6) h⌝)) -∗ K ⟨⟩))
      ⊢ wp frame (wpE (defs₀ (F := F)) Variants.none c none) E (cc1_conv i arg1 harg1 arg2 harg2 arg3 harg3 arg4 harg4 arg5 harg5 arg6 harg6 arg7 harg7 arg8 harg8 arg9 harg9 arg10 harg10 arg11 harg11 arg12 harg12) K := by
  simp only [cc1_conv_eq_skeleton]; unfold cc1_conv_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, Hk⟩
  subst hf1 hf2 hf3 hf4 hf5 hf6 hf7 hf8 hf11 hf12
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _, (arg10.view.read (Elt F) arg10.view.junk), _, _, _
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rfl
  isplitl [H12]
  · iexists _; isplitr; swap; · iexact H12
    ipureintro; rfl
  ipureintro
  have hC : arg10.view.readCov (LC (arg1.view.read (Elt F) f1) (arg2.view.read (Elt F) f2)) (Rect.unit ![0, 0] S704x640.size inb_S704x640_S704x640_0_0).toLoadRect
      = codesOf (arg1.view.read (Elt F) f1) (arg2.view.read (Elt F) f2) := View.readCov_eq_canon' _ _ _
  rw [← hC]
  exact ⟨⟨_, stored_writes arg9.view f9 ((loop_eq ..).trans (by simp only [trip_eq]; rfl))⟩, stored_writes _ _ rfl, stored_writes _ _ rfl, stored_writes _ _ rfl⟩

end Cert.KernelIdeal.Val
-- ==== Proof.KernelIdealRing.lean ====
/-
  The ring of four slots, one column at a time: a slot holds a block of 704 pixels with an image row of halo on either side, zero where the halo lies
  outside the image. One point stores its block, the halo below the block before and the halo above the block after; after the point after it, a slot is
  complete.
-/
module

public import Idealize.ShloMosaic.Lib.Pointwise

@[expose] public section

noncomputable section
namespace Cert.KernelIdeal.Val

/-- What row `ρ` of the slot of block `s` is to hold of the image column `W`: the pixel `704 s + ρ - 192`, zero outside the block's image. -/
def slotv (W : ℕ → EReal) (s ρ : ℕ) : EReal :=
  if 45056 * (s / 64) + 192 ≤ 704 * s + ρ ∧ 704 * s + ρ < 45056 * (s / 64) + 45248 then W (704 * s + ρ - 192) else 0

/-- What point `t` leaves at row `ρ` of slot `k`, storing the block `w` over `G`. -/
def stepCol (t : ℕ) (w : ℕ → EReal) (G : Fin 4 → Fin 1088 → EReal) (k : Fin 4) (ρ : Fin 1088) : EReal :=
  if k.val = t % 4 ∧ 192 ≤ ρ.val ∧ ρ.val < 896 then w (ρ.val - 192)
  else if k.val = (t + 3) % 4 ∧ 896 ≤ ρ.val ∧ ρ.val < 1072 then (if t % 64 = 0 then 0 else w (ρ.val - 896))
  else if k.val = (t + 1) % 4 ∧ 16 ≤ ρ.val ∧ ρ.val < 192 then (if t % 64 = 63 then 0 else w (512 + ρ.val))
  else G k ρ

theorem stepCol_cen {t : ℕ} {w : ℕ → EReal} {G : Fin 4 → Fin 1088 → EReal} {k : Fin 4} {ρ : Fin 1088} (hk : k.val = t % 4) (h1 : 192 ≤ ρ.val)
    (h2 : ρ.val < 896) : stepCol t w G k ρ = w (ρ.val - 192) := by
  unfold stepCol
  rw [if_pos ⟨hk, h1, h2⟩]

theorem stepCol_bot {t : ℕ} {w : ℕ → EReal} {G : Fin 4 → Fin 1088 → EReal} {k : Fin 4} {ρ : Fin 1088} (hk : k.val = (t + 3) % 4) (h1 : 896 ≤ ρ.val)
    (h2 : ρ.val < 1072) : stepCol t w G k ρ = if t % 64 = 0 then 0 else w (ρ.val - 896) := by
  unfold stepCol
  rw [if_neg (by omega), if_pos ⟨hk, h1, h2⟩]

theorem stepCol_top {t : ℕ} {w : ℕ → EReal} {G : Fin 4 → Fin 1088 → EReal} {k : Fin 4} {ρ : Fin 1088} (hk : k.val = (t + 1) % 4) (h1 : 16 ≤ ρ.val)
    (h2 : ρ.val < 192) : stepCol t w G k ρ = if t % 64 = 63 then 0 else w (512 + ρ.val) := by
  unfold stepCol
  rw [if_neg (by omega), if_neg (by omega), if_pos ⟨hk, h1, h2⟩]

/-- What the slots hold before point `t`: the block to come its upper halo, the block before all but its lower halo, the block two before everything. -/
def RingInv (W : ℕ → EReal) (t : ℕ) (G : Fin 4 → Fin 1088 → EReal) : Prop :=
  (1 ≤ t → t ≤ 127 → ∀ k ρ, k.val = t % 4 → 16 ≤ ρ.val → ρ.val < 192 → G k ρ = slotv W t ρ)
  ∧ (∀ s, s + 1 = t → s ≤ 127 → ∀ k ρ, k.val = s % 4 → 16 ≤ ρ.val → ρ.val < 896 → G k ρ = slotv W s ρ)
  ∧ (∀ s, s + 2 = t → s ≤ 127 → ∀ k ρ, k.val = s % 4 → 16 ≤ ρ.val → ρ.val < 1072 → G k ρ = slotv W s ρ)

/-- The slot read at point `t` is the one of the block two points before, complete. -/
theorem ring_read {W : ℕ → EReal} {t s : ℕ} {w : ℕ → EReal} {G : Fin 4 → Fin 1088 → EReal} (hs : s + 2 = t) (hs' : s ≤ 127) (h : RingInv W t G)
    (k : Fin 4) (ρ : Fin 1088) (hk : k.val = s % 4) (h1 : 16 ≤ ρ.val) (h2 : ρ.val < 1072) : stepCol t w G k ρ = slotv W s ρ := by
  unfold stepCol
  rw [if_neg (by omega), if_neg (by omega), if_neg (by omega)]
  exact h.2.2 s hs hs' k ρ hk h1 h2

/-- One point carries the ring's invariant on. -/
theorem ring_step {W : ℕ → EReal} {t : ℕ} {w : ℕ → EReal} {G : Fin 4 → Fin 1088 → EReal}
    (hw : ∀ r, r < 704 → w r = W (704 * min t 127 + r)) (h : RingInv W t G) (h0 : t = 0 → ∀ k ρ, G k ρ = 0) : RingInv W (t + 1) (stepCol t w G) := by
  refine ⟨fun _ ht k ρ hk h1 h2 => ?_, fun s hs hs' k ρ hk h1 h2 => ?_, fun s hs hs' k ρ hk h1 h2 => ?_⟩
  · unfold stepCol slotv
    rw [if_neg (by omega), if_neg (by omega), if_pos (by omega)]
    by_cases hl : t % 64 = 63
    · rw [if_pos hl, if_neg (by omega)]
    · rw [if_neg hl, if_pos (by omega), hw _ (by omega)]
      congr 1; omega
  · obtain rfl : s = t := by omega
    by_cases hr : 192 ≤ ρ.val
    · unfold stepCol slotv
      rw [if_pos (by omega), if_pos (by omega), hw _ (by omega)]
      congr 1; omega
    · have hG : stepCol s w G k ρ = G k ρ := by
        unfold stepCol
        rw [if_neg (by omega), if_neg (by omega), if_neg (by omega)]
      rw [hG]
      by_cases h00 : s = 0
      · rw [h0 h00]; unfold slotv; rw [if_neg (by omega)]
      · exact h.1 (by omega) hs' k ρ hk h1 (by omega)
  · obtain rfl : t = s + 1 := by omega
    by_cases hr : 896 ≤ ρ.val
    · unfold stepCol slotv
      rw [if_neg (by omega), if_pos (by omega)]
      by_cases hf : (s + 1) % 64 = 0
      · rw [if_pos hf, if_neg (by omega)]
      · rw [if_neg hf, if_pos (by omega), hw _ (by omega)]
        congr 1; omega
    · have hG : stepCol (s + 1) w G k ρ = G k ρ := by
        unfold stepCol
        rw [if_neg (by omega), if_neg (by omega), if_neg (by omega)]
      rw [hG]
      exact h.2.1 s rfl hs' k ρ hk h1 (by omega)

end Cert.KernelIdeal.Val
-- ==== Proof.KernelIdealRead.lean ====
/-
  The pieces of one point of the kernel `KernelIdeal`, read at an index at the ideal instance: what the point leaves in the ring of planes, in the ring of
  down projections and in the window of codes.
-/
module

public import proofs.«01_k».proof.Proof.KernelIdealPieces
public import proofs.«01_k».proof.Proof.KernelIdealRing

@[expose] public section
set_option maxRecDepth 16384

noncomputable section
namespace Cert.KernelIdeal.Val
open Idealize.ShloMosaic Idealize.ShloMosaic.TcCoe Idealize.ShloMosaic.Tactic Idealize.ShloMosaic.Pointwise
open Cert.KernelIdeal Cert.KernelIdeal.Gen
open Cert.KernelIdeal.Hand

/-- The clip to the range of the codes. -/
def clip (x : EReal) : EReal := min (Ideal.ofBits .f32 1138753536#32) (max (Ideal.ofBits .f32 3286237184#32) x)

theorem invRow_apply (X1 : Vec Ideal S16x128 .f32) (l : Fin 128) : invRow X1 (ix2 0 l) = X1 (ix2 8 l) := by
  pointwise [invRow, k1_pay56]

theorem scaleRow_apply (X1 : Vec Ideal S16x128 .f32) (l : Fin 128) : scaleRow X1 (ix2 0 l) = X1 (ix2 0 l) := by
  pointwise [scaleRow, k1_pay57]

theorem qc_apply (X1 : Vec Ideal S16x128 .f32) (v : Vec Ideal S704x128 .bf16) (r : Fin 704) (l : Fin 128) :
    qc X1 v (ix2 r l) = clip (v (ix2 r l) * X1 (ix2 8 l)) := by
  rw [← invRow_apply X1 l]
  pointwise [qc, k1_pay78, k1_pay64]
  rfl

theorem q0_apply (X1 : Vec Ideal S16x128 .f32) (X2 : Vec Ideal S704x640 .bf16) (r : Fin 704) (l : Fin 128) :
    q0 X1 X2 (ix2 r l) = clip (X2 (ix2 r ⟨0 + l.val, by omega⟩) * X1 (ix2 8 l)) := by
  unfold q0
  rw [qc_apply]
  have e : (Rect.unit (s := S704x640) ![0, 0] S704x128.size inb_S704x640_S704x128_0_0).idx (ix2 r l) = ix2 r ⟨0 + l.val, by omega⟩ := by
    funext a; apply Fin.ext; fin_cases a
    · show 0 + 1 * r.val = r.val; omega
    · show 0 + 1 * l.val = 0 + l.val; omega
  show clip (X2 ((Rect.unit (s := S704x640) ![0, 0] S704x128.size inb_S704x640_S704x128_0_0).idx (ix2 r l)) * X1 (ix2 8 l)) = _
  rw [e]

theorem q1_apply (X1 : Vec Ideal S16x128 .f32) (X2 : Vec Ideal S704x640 .bf16) (r : Fin 704) (l : Fin 128) :
    q1 X1 X2 (ix2 r l) = clip (X2 (ix2 r ⟨128 + l.val, by omega⟩) * X1 (ix2 8 l)) := by
  unfold q1
  rw [qc_apply]
  have e : (Rect.unit (s := S704x640) ![0, 128] S704x128.size inb_S704x640_S704x128_0_128).idx (ix2 r l) = ix2 r ⟨128 + l.val, by omega⟩ := by
    funext a; apply Fin.ext; fin_cases a
    · show 0 + 1 * r.val = r.val; omega
    · show 128 + 1 * l.val = 128 + l.val; omega
  show clip (X2 ((Rect.unit (s := S704x640) ![0, 128] S704x128.size inb_S704x640_S704x128_0_128).idx (ix2 r l)) * X1 (ix2 8 l)) = _
  rw [e]

theorem q2_apply (X1 : Vec Ideal S16x128 .f32) (X2 : Vec Ideal S704x640 .bf16) (r : Fin 704) (l : Fin 128) :
    q2 X1 X2 (ix2 r l) = clip (X2 (ix2 r ⟨256 + l.val, by omega⟩) * X1 (ix2 8 l)) := by
  unfold q2
  rw [qc_apply]
  have e : (Rect.unit (s := S704x640) ![0, 256] S704x128.size inb_S704x640_S704x128_0_256).idx (ix2 r l) = ix2 r ⟨256 + l.val, by omega⟩ := by
    funext a; apply Fin.ext; fin_cases a
    · show 0 + 1 * r.val = r.val; omega
    · show 256 + 1 * l.val = 256 + l.val; omega
  show clip (X2 ((Rect.unit (s := S704x640) ![0, 256] S704x128.size inb_S704x640_S704x128_0_256).idx (ix2 r l)) * X1 (ix2 8 l)) = _
  rw [e]

theorem q3_apply (X1 : Vec Ideal S16x128 .f32) (X2 : Vec Ideal S704x640 .bf16) (r : Fin 704) (l : Fin 128) :
    q3 X1 X2 (ix2 r l) = clip (X2 (ix2 r ⟨384 + l.val, by omega⟩) * X1 (ix2 8 l)) := by
  unfold q3
  rw [qc_apply]
  have e : (Rect.unit (s := S704x640) ![0, 384] S704x128.size inb_S704x640_S704x128_0_384).idx (ix2 r l) = ix2 r ⟨384 + l.val, by omega⟩ := by
    funext a; apply Fin.ext; fin_cases a
    · show 0 + 1 * r.val = r.val; omega
    · show 384 + 1 * l.val = 384 + l.val; omega
  show clip (X2 ((Rect.unit (s := S704x640) ![0, 384] S704x128.size inb_S704x640_S704x128_0_384).idx (ix2 r l)) * X1 (ix2 8 l)) = _
  rw [e]

theorem q4_apply (X1 : Vec Ideal S16x128 .f32) (X2 : Vec Ideal S704x640 .bf16) (r : Fin 704) (l : Fin 128) :
    q4 X1 X2 (ix2 r l) = clip (X2 (ix2 r ⟨512 + l.val, by omega⟩) * X1 (ix2 8 l)) := by
  unfold q4
  rw [qc_apply]
  have e : (Rect.unit (s := S704x640) ![0, 512] S704x128.size inb_S704x640_S704x128_0_512).idx (ix2 r l) = ix2 r ⟨512 + l.val, by omega⟩ := by
    funext a; apply Fin.ext; fin_cases a
    · show 0 + 1 * r.val = r.val; omega
    · show 512 + 1 * l.val = 512 + l.val; omega
  show clip (X2 ((Rect.unit (s := S704x640) ![0, 512] S704x128.size inb_S704x640_S704x128_0_512).idx (ix2 r l)) * X1 (ix2 8 l)) = _
  rw [e]

/-- The column of a pixel of a block, as the kernel computes it. -/
theorem col_apply (r : Fin 704) (l : Fin 128) : k1_pay46 (ix2 r l) = BitVec.ofNat 32 (r.val % 176) := by
  pointwise [k1_pay46]
  revert r
  decide +kernel

theorem col_first : ∀ r : Fin 704, IntOp.cmpi CmpIPredicate.eq (BitVec.ofNat 32 (r.val % 176)) 0#32 = if r.val % 176 = 0 then 1#1 else 0#1 := by decide +kernel

theorem col_last : ∀ r : Fin 704, IntOp.cmpi CmpIPredicate.eq (BitVec.ofNat 32 (r.val % 176)) 175#32 = if r.val % 176 = 175 then 1#1 else 0#1 := by decide +kernel

theorem select_ite {α : Type} (p : Prop) [Decidable p] (a b : α) : Scalar.select (if p then 1#1 else 0#1) a b = if p then a else b := by
  by_cases h : p <;> simp [h, Scalar.select]

theorem wLeft_apply (q : FVec Ideal S704x128 .fp8e4m3) (r : Fin 704) (l : Fin 128) :
    wLeft q (ix2 r l) = if r.val % 176 = 0 then 0 else q (ix2 ⟨(r.val + 704 - 1) % 704, by omega⟩ l) := by
  pointwise [wLeft, k1_pay66]
  rw [col_apply, col_first, select_ite, Ideal.ofBits_zero]

theorem wRight_apply (q : FVec Ideal S704x128 .fp8e4m3) (r : Fin 704) (l : Fin 128) :
    wRight q (ix2 r l) = if r.val % 176 = 175 then 0 else q (ix2 ⟨(r.val + 704 - 703) % 704, by omega⟩ l) := by
  pointwise [wRight, k1_pay66]
  rw [col_apply, col_last, select_ite, Ideal.ofBits_zero]

theorem cen_apply (q : FVec Ideal S704x128 .fp8e4m3) (a b : Fin 1) (r : Fin 704) (l : Fin 128) : cen q (ix4 a b r l) = q (ix2 r l) := by
  pointwise [cen]

theorem fst_eq : ∀ i : grid1.Coords, fstBit i = if (i 0).val % 64 = 0 then 1#1 else 0#1 := by decide +kernel

theorem lst_eq : ∀ i : grid1.Coords, lstBit i = if (i 0).val % 64 = 63 then 1#1 else 0#1 := by decide +kernel

theorem bot_apply (i : grid1.Coords) (q : FVec Ideal S704x128 .fp8e4m3) (a b : Fin 1) (r : Fin 176) (l : Fin 128) :
    bot i q (ix4 a b r l) = if (i 0).val % 64 = 0 then 0 else q (ix2 ⟨r.val, by omega⟩ l) := by
  pointwise [bot, k1_pay66]
  rw [fst_eq, select_ite, Ideal.ofBits_zero]

theorem top_apply (i : grid1.Coords) (q : FVec Ideal S704x128 .fp8e4m3) (a b : Fin 1) (r : Fin 176) (l : Fin 128) :
    top i q (ix4 a b r l) = if (i 0).val % 64 = 63 then 0 else q (ix2 ⟨528 + r.val, by omega⟩ l) := by
  pointwise [top, k1_pay66]
  rw [lst_eq, select_ite, Ideal.ofBits_zero]

/-- The down projection of a block's codes, scaled. -/
def d1Of (X1 : Vec Ideal S16x128 .f32) (C : Vec Ideal S704x640 .fp8e4m3) (X6 : Vec Ideal S640x128 .bf16) (r : Fin 704) (l : Fin 128) : EReal :=
  (∑ x : Fin 640, C (ix2 r x) * X6 (ix2 x l)) * X1 (ix2 0 l)

theorem d1_cen (X1 : Vec Ideal S16x128 .f32) (C : Vec Ideal S704x640 .fp8e4m3) (d : Vec Ideal S640x128 .bf16) (a : Fin 1) (r : Fin 704) (l : Fin 128) :
    k1_pay137 (scaleRow X1) C d (ix3 a r l) = d1Of X1 C d r l := by
  unfold d1Of
  rw [← scaleRow_apply X1 l]
  pointwise [k1_pay137, k1_pay136]

theorem d1_bot (i : grid1.Coords) (X1 : Vec Ideal S16x128 .f32) (C : Vec Ideal S704x640 .fp8e4m3) (d : Vec Ideal S640x128 .bf16) (a : Fin 1) (r : Fin 176) (l : Fin 128) :
    k1_pay138 (scaleRow X1) (fstBit i) C d (ix3 a r l) = if (i 0).val % 64 = 0 then 0 else d1Of X1 C d ⟨r.val, by omega⟩ l := by
  unfold d1Of
  rw [← scaleRow_apply X1 l]
  pointwise [k1_pay138, k1_pay136]
  rw [fst_eq, select_ite]

theorem d1_top (i : grid1.Coords) (X1 : Vec Ideal S16x128 .f32) (C : Vec Ideal S704x640 .fp8e4m3) (d : Vec Ideal S640x128 .bf16) (a : Fin 1) (r : Fin 176) (l : Fin 128) :
    k1_pay1 (lstBit i) (k1_pay139 (scaleRow X1) C d) k1_pay140 (ix3 a r l) = if (i 0).val % 64 = 63 then 0 else d1Of X1 C d ⟨528 + r.val, by omega⟩ l := by
  unfold d1Of
  rw [← scaleRow_apply X1 l]
  pointwise [k1_pay1, k1_pay139, k1_pay140, k1_pay136]
  rw [lst_eq, select_ite]

/-- A whole-block load is the block. -/
theorem ld_X6 (X6 : Vec Ideal S640x128 .bf16) : View.ld X6 (Rect.unit ![0, 0] S640x128.size inb_S640x128_S640x128_0_0) = X6 := by
  funext y
  show X6 _ = X6 _
  congr 1
  funext a; apply Fin.ext; fin_cases a
  · show 0 + 1 * (y 0).val = (y 0).val; omega
  · show 0 + 1 * (y 1).val = (y 1).val; omega

/-! ## The ring of planes -/

/-- Lane `l` of a block, row by row. -/
def colOf (w : Fin 704 → Fin 128 → EReal) (l : Fin 128) : ℕ → EReal := fun r => if h : r < 704 then w ⟨r, h⟩ l else 0

theorem colOf_lt (w : Fin 704 → Fin 128 → EReal) (l : Fin 128) (r : ℕ) (h : r < 704) : colOf w l r = w ⟨r, h⟩ l := dif_pos h

/-- The ring of planes after point `T` stored the planes `W` of its block. -/
def planesT (T : ℕ) (W : Fin 15 → FVec Ideal S704x128 .fp8e4m3) (g : Vec Ideal S4x15x1088x128 .fp8e4m3) : Vec Ideal S4x15x1088x128 .fp8e4m3 := fun y =>
  stepCol T (colOf (fun r l => W (y 1) (ix2 r l)) (y 3)) (fun k ρ => g (ix4 k (y 1) ρ (y 3))) (y 0) (y 2)

theorem planesT_ix4 (T : ℕ) (W : Fin 15 → FVec Ideal S704x128 .fp8e4m3) (g : Vec Ideal S4x15x1088x128 .fp8e4m3) (k : Fin 4) (p : Fin 15) (ρ : Fin 1088) (l : Fin 128) :
    planesT T W g (ix4 k p ρ l) = stepCol T (colOf (fun r l => W p (ix2 r l)) l) (fun k ρ => g (ix4 k p ρ l)) k ρ := rfl

theorem planes_cen {T : ℕ} {W : Fin 15 → FVec Ideal S704x128 .fp8e4m3} {g : Vec Ideal S4x15x1088x128 .fp8e4m3} (p : Fin 15) {off : Fin 4 → ℕ}
    {inb : ∀ a, off a + S1x1x704x128.size a ≤ S4x15x1088x128.size a} (heq : off = ![T % 4, p.val, 192, 0]) {w : FVec Ideal S704x128 .fp8e4m3} (hw : w = W p)
    (x : (Rect.unit (s := S4x15x1088x128) off S1x1x704x128.size inb).shape.Idx) :
    cen w x = planesT T W g ((Rect.unit (s := S4x15x1088x128) off S1x1x704x128.size inb).emb x) := by
  subst heq hw
  obtain ⟨a, b, r, l, rfl⟩ : ∃ (a b : Fin 1) (r : Fin 704) (l : Fin 128), x = ix4 a b r l := ⟨x 0, x 1, x 2, x 3, eq_ix4 x⟩
  have e : (Rect.unit (s := S4x15x1088x128) ![T % 4, p.val, 192, 0] S1x1x704x128.size inb).emb (ix4 a b r l)
      = ix4 ⟨T % 4, by omega⟩ p ⟨192 + r.val, by omega⟩ l := by
    funext c; apply Fin.ext; fin_cases c
    · show T % 4 + 1 * a.val = T % 4; omega
    · show p.val + 1 * b.val = p.val; omega
    · show 192 + 1 * r.val = 192 + r.val; omega
    · show 0 + 1 * l.val = l.val; omega
  rw [e, cen_apply, planesT_ix4]
  rw [stepCol_cen rfl (by show 192 ≤ 192 + r.val; omega) (by show 192 + r.val < 896; omega), colOf_lt _ _ _ (by show 192 + r.val - 192 < 704; omega)]
  congr 2
  apply Fin.ext; show r.val = 192 + r.val - 192; omega

theorem planes_bot {i : grid1.Coords} {W : Fin 15 → FVec Ideal S704x128 .fp8e4m3} {g : Vec Ideal S4x15x1088x128 .fp8e4m3} (p : Fin 15) {off : Fin 4 → ℕ}
    {inb : ∀ a, off a + S1x1x176x128.size a ≤ S4x15x1088x128.size a} (heq : off = ![((i 0).val + 3) % 4, p.val, 896, 0]) {w : FVec Ideal S704x128 .fp8e4m3} (hw : w = W p)
    (x : (Rect.unit (s := S4x15x1088x128) off S1x1x176x128.size inb).shape.Idx) :
    bot i w x = planesT (i 0).val W g ((Rect.unit (s := S4x15x1088x128) off S1x1x176x128.size inb).emb x) := by
  subst heq hw
  obtain ⟨a, b, r, l, rfl⟩ : ∃ (a b : Fin 1) (r : Fin 176) (l : Fin 128), x = ix4 a b r l := ⟨x 0, x 1, x 2, x 3, eq_ix4 x⟩
  generalize hT : (i 0).val = T at *
  have e : (Rect.unit (s := S4x15x1088x128) ![(T + 3) % 4, p.val, 896, 0] S1x1x176x128.size inb).emb (ix4 a b r l)
      = ix4 ⟨(T + 3) % 4, by omega⟩ p ⟨896 + r.val, by omega⟩ l := by
    funext c; apply Fin.ext; fin_cases c
    · show (T + 3) % 4 + 1 * a.val = (T + 3) % 4; omega
    · show p.val + 1 * b.val = p.val; omega
    · show 896 + 1 * r.val = 896 + r.val; omega
    · show 0 + 1 * l.val = l.val; omega
  rw [e, bot_apply, planesT_ix4, hT]
  rw [stepCol_bot rfl (by show 896 ≤ 896 + r.val; omega) (by show 896 + r.val < 1072; omega), colOf_lt _ _ _ (by show 896 + r.val - 896 < 704; omega)]
  congr 3
  apply Fin.ext; show r.val = 896 + r.val - 896; omega

theorem planes_top {i : grid1.Coords} {W : Fin 15 → FVec Ideal S704x128 .fp8e4m3} {g : Vec Ideal S4x15x1088x128 .fp8e4m3} (p : Fin 15) {off : Fin 4 → ℕ}
    {inb : ∀ a, off a + S1x1x176x128.size a ≤ S4x15x1088x128.size a} (heq : off = ![((i 0).val + 1) % 4, p.val, 16, 0]) {w : FVec Ideal S704x128 .fp8e4m3} (hw : w = W p)
    (x : (Rect.unit (s := S4x15x1088x128) off S1x1x176x128.size inb).shape.Idx) :
    top i w x = planesT (i 0).val W g ((Rect.unit (s := S4x15x1088x128) off S1x1x176x128.size inb).emb x) := by
  subst heq hw
  obtain ⟨a, b, r, l, rfl⟩ : ∃ (a b : Fin 1) (r : Fin 176) (l : Fin 128), x = ix4 a b r l := ⟨x 0, x 1, x 2, x 3, eq_ix4 x⟩
  generalize hT : (i 0).val = T at *
  have e : (Rect.unit (s := S4x15x1088x128) ![(T + 1) % 4, p.val, 16, 0] S1x1x176x128.size inb).emb (ix4 a b r l)
      = ix4 ⟨(T + 1) % 4, by omega⟩ p ⟨16 + r.val, by omega⟩ l := by
    funext c; apply Fin.ext; fin_cases c
    · show (T + 1) % 4 + 1 * a.val = (T + 1) % 4; omega
    · show p.val + 1 * b.val = p.val; omega
    · show 16 + 1 * r.val = 16 + r.val; omega
    · show 0 + 1 * l.val = l.val; omega
  rw [e, top_apply, planesT_ix4, hT]
  rw [stepCol_top rfl (by show 16 ≤ 16 + r.val; omega) (by show 16 + r.val < 192; omega), colOf_lt _ _ _ (by show 512 + (16 + r.val) < 704; omega)]
  congr 3
  apply Fin.ext; show 528 + r.val = 512 + (16 + r.val); omega

/-- The fifteen planes of a block: the codes moved down the row, unmoved, moved up the row, each in five chunks. -/
def planeW (X1 : Vec Ideal S16x128 .f32) (X2 : Vec Ideal S704x640 .bf16) : Fin 15 → FVec Ideal S704x128 .fp8e4m3 :=
  ![wLeft (q0 X1 X2), wLeft (q1 X1 X2), wLeft (q2 X1 X2), wLeft (q3 X1 X2), wLeft (q4 X1 X2),
    q0 X1 X2, q1 X1 X2, q2 X1 X2, q3 X1 X2, q4 X1 X2,
    wRight (q0 X1 X2), wRight (q1 X1 X2), wRight (q2 X1 X2), wRight (q3 X1 X2), wRight (q4 X1 X2)]

/-- Every piece stored into the ring of planes is a block of `planesT`. -/
theorem planes_pieces (i : grid1.Coords) (X1 : Vec Ideal S16x128 .f32) (X2 : Vec Ideal S704x640 .bf16) (g : Vec Ideal S4x15x1088x128 .fp8e4m3) :
    View.PiecesOf (planesT (i 0).val (planeW X1 X2) g) (LP i X1 X2) :=
  ⟨planes_top (W := planeW X1 X2) (inb := k1_off45_inb i) 14 (off45_eq i) (by rfl),
   planes_bot (W := planeW X1 X2) (inb := k1_off44_inb i) 14 (off44_eq i) (by rfl),
   planes_cen (W := planeW X1 X2) (inb := k1_off43_inb i) 14 (off43_eq i) (by rfl),
   planes_top (W := planeW X1 X2) (inb := k1_off42_inb i) 9 (off42_eq i) (by rfl),
   planes_bot (W := planeW X1 X2) (inb := k1_off41_inb i) 9 (off41_eq i) (by rfl),
   planes_cen (W := planeW X1 X2) (inb := k1_off40_inb i) 9 (off40_eq i) (by rfl),
   planes_top (W := planeW X1 X2) (inb := k1_off39_inb i) 4 (off39_eq i) (by rfl),
   planes_bot (W := planeW X1 X2) (inb := k1_off38_inb i) 4 (off38_eq i) (by rfl),
   planes_cen (W := planeW X1 X2) (inb := k1_off37_inb i) 4 (off37_eq i) (by rfl),
   planes_top (W := planeW X1 X2) (inb := k1_off36_inb i) 13 (off36_eq i) (by rfl),
   planes_bot (W := planeW X1 X2) (inb := k1_off35_inb i) 13 (off35_eq i) (by rfl),
   planes_cen (W := planeW X1 X2) (inb := k1_off34_inb i) 13 (off34_eq i) (by rfl),
   planes_top (W := planeW X1 X2) (inb := k1_off33_inb i) 8 (off33_eq i) (by rfl),
   planes_bot (W := planeW X1 X2) (inb := k1_off32_inb i) 8 (off32_eq i) (by rfl),
   planes_cen (W := planeW X1 X2) (inb := k1_off31_inb i) 8 (off31_eq i) (by rfl),
   planes_top (W := planeW X1 X2) (inb := k1_off30_inb i) 3 (off30_eq i) (by rfl),
   planes_bot (W := planeW X1 X2) (inb := k1_off29_inb i) 3 (off29_eq i) (by rfl),
   planes_cen (W := planeW X1 X2) (inb := k1_off28_inb i) 3 (off28_eq i) (by rfl),
   planes_top (W := planeW X1 X2) (inb := k1_off27_inb i) 12 (off27_eq i) (by rfl),
   planes_bot (W := planeW X1 X2) (inb := k1_off26_inb i) 12 (off26_eq i) (by rfl),
   planes_cen (W := planeW X1 X2) (inb := k1_off25_inb i) 12 (off25_eq i) (by rfl),
   planes_top (W := planeW X1 X2) (inb := k1_off24_inb i) 7 (off24_eq i) (by rfl),
   planes_bot (W := planeW X1 X2) (inb := k1_off23_inb i) 7 (off23_eq i) (by rfl),
   planes_cen (W := planeW X1 X2) (inb := k1_off22_inb i) 7 (off22_eq i) (by rfl),
   planes_top (W := planeW X1 X2) (inb := k1_off21_inb i) 2 (off21_eq i) (by rfl),
   planes_bot (W := planeW X1 X2) (inb := k1_off20_inb i) 2 (off20_eq i) (by rfl),
   planes_cen (W := planeW X1 X2) (inb := k1_off19_inb i) 2 (off19_eq i) (by rfl),
   planes_top (W := planeW X1 X2) (inb := k1_off18_inb i) 11 (off18_eq i) (by rfl),
   planes_bot (W := planeW X1 X2) (inb := k1_off17_inb i) 11 (off17_eq i) (by rfl),
   planes_cen (W := planeW X1 X2) (inb := k1_off16_inb i) 11 (off16_eq i) (by rfl),
   planes_top (W := planeW X1 X2) (inb := k1_off15_inb i) 6 (off15_eq i) (by rfl),
   planes_bot (W := planeW X1 X2) (inb := k1_off14_inb i) 6 (off14_eq i) (by rfl),
   planes_cen (W := planeW X1 X2) (inb := k1_off13_inb i) 6 (off13_eq i) (by rfl),
   planes_top (W := planeW X1 X2) (inb := k1_off12_inb i) 1 (off12_eq i) (by rfl),
   planes_bot (W := planeW X1 X2) (inb := k1_off11_inb i) 1 (off11_eq i) (by rfl),
   planes_cen (W := planeW X1 X2) (inb := k1_off10_inb i) 1 (off10_eq i) (by rfl),
   planes_top (W := planeW X1 X2) (inb := k1_off9_inb i) 10 (off9_eq i) (by rfl),
   planes_bot (W := planeW X1 X2) (inb := k1_off8_inb i) 10 (off8_eq i) (by rfl),
   planes_cen (W := planeW X1 X2) (inb := k1_off7_inb i) 10 (off7_eq i) (by rfl),
   planes_top (W := planeW X1 X2) (inb := k1_off6_inb i) 5 (off6_eq i) (by rfl),
   planes_bot (W := planeW X1 X2) (inb := k1_off5_inb i) 5 (off5_eq i) (by rfl),
   planes_cen (W := planeW X1 X2) (inb := k1_off4_inb i) 5 (off4_eq i) (by rfl),
   planes_top (W := planeW X1 X2) (inb := k1_off3_inb i) 0 (off3_eq i) (by rfl),
   planes_bot (W := planeW X1 X2) (inb := k1_off2_inb i) 0 (off2_eq i) (by rfl),
   planes_cen (W := planeW X1 X2) (inb := k1_off1_inb i) 0 (off1_eq i) (by rfl), trivial⟩

/-- An index where `planesT` is a stored value lies under a piece. -/
theorem planes_cover (i : grid1.Coords) (X1 : Vec Ideal S16x128 .f32) (X2 : Vec Ideal S704x640 .bf16) (k : Fin 4) (p : Fin 15) (ρ : Fin 1088) (l : Fin 128)
    (h : (k.val = (i 0).val % 4 ∧ 192 ≤ ρ.val ∧ ρ.val < 896) ∨ (k.val = ((i 0).val + 3) % 4 ∧ 896 ≤ ρ.val ∧ ρ.val < 1072)
      ∨ (k.val = ((i 0).val + 1) % 4 ∧ 16 ≤ ρ.val ∧ ρ.val < 192)) :
    ∃ q ∈ LP i X1 X2, ix4 k p ρ l ∈ q.1.set := by
  have key : ∀ (off size : Fin 4 → ℕ) (inb) (w), (⟨Rect.unit (s := S4x15x1088x128) off size inb, w⟩ : View.Piece (Elt Ideal) S4x15x1088x128 .fp8e4m3) ∈ LP i X1 X2
      → (off 0 ≤ k.val ∧ k.val < off 0 + size 0) → (off 1 ≤ p.val ∧ p.val < off 1 + size 1)
      → (off 2 ≤ ρ.val ∧ ρ.val < off 2 + size 2) → (off 3 ≤ l.val ∧ l.val < off 3 + size 3) → ∃ q ∈ LP i X1 X2, ix4 k p ρ l ∈ q.1.set := by
    intro off size inb w hq h0 h1 h2 h3
    refine ⟨_, hq, (Rect.mem_set_unit (s := S4x15x1088x128) (off := off) (size := size) (inb := inb)).mpr fun a => ?_⟩
    fin_cases a
    · exact h0
    · exact h1
    · exact h2
    · exact h3
  fin_cases p
  · rcases h with h | h | h
    · refine key (k1_off1 i) S1x1x704x128.size (k1_off1_inb i) _ (List.get_mem (LP i X1 X2) ⟨44, by show 44 < 45; decide⟩) ?_ ?_ ?_ ?_ <;> [show k1_off1 i 0 ≤ _ ∧ _ < k1_off1 i 0 + 1; show k1_off1 i 1 ≤ 0 ∧ 0 < k1_off1 i 1 + 1; show k1_off1 i 2 ≤ _ ∧ _ < k1_off1 i 2 + 704; show k1_off1 i 3 ≤ _ ∧ _ < k1_off1 i 3 + 128] <;> rw [off1_eq i] <;> [show (i 0).val % 4 ≤ _ ∧ _ < (i 0).val % 4 + 1; show 0 ≤ 0 ∧ 0 < 0 + 1; show 192 ≤ _ ∧ _ < 192 + 704; show 0 ≤ _ ∧ _ < 0 + 128] <;> omega
    · refine key (k1_off2 i) S1x1x176x128.size (k1_off2_inb i) _ (List.get_mem (LP i X1 X2) ⟨43, by show 43 < 45; decide⟩) ?_ ?_ ?_ ?_ <;> [show k1_off2 i 0 ≤ _ ∧ _ < k1_off2 i 0 + 1; show k1_off2 i 1 ≤ 0 ∧ 0 < k1_off2 i 1 + 1; show k1_off2 i 2 ≤ _ ∧ _ < k1_off2 i 2 + 176; show k1_off2 i 3 ≤ _ ∧ _ < k1_off2 i 3 + 128] <;> rw [off2_eq i] <;> [show ((i 0).val + 3) % 4 ≤ _ ∧ _ < ((i 0).val + 3) % 4 + 1; show 0 ≤ 0 ∧ 0 < 0 + 1; show 896 ≤ _ ∧ _ < 896 + 176; show 0 ≤ _ ∧ _ < 0 + 128] <;> omega
    · refine key (k1_off3 i) S1x1x176x128.size (k1_off3_inb i) _ (List.get_mem (LP i X1 X2) ⟨42, by show 42 < 45; decide⟩) ?_ ?_ ?_ ?_ <;> [show k1_off3 i 0 ≤ _ ∧ _ < k1_off3 i 0 + 1; show k1_off3 i 1 ≤ 0 ∧ 0 < k1_off3 i 1 + 1; show k1_off3 i 2 ≤ _ ∧ _ < k1_off3 i 2 + 176; show k1_off3 i 3 ≤ _ ∧ _ < k1_off3 i 3 + 128] <;> rw [off3_eq i] <;> [show ((i 0).val + 1) % 4 ≤ _ ∧ _ < ((i 0).val + 1) % 4 + 1; show 0 ≤ 0 ∧ 0 < 0 + 1; show 16 ≤ _ ∧ _ < 16 + 176; show 0 ≤ _ ∧ _ < 0 + 128] <;> omega
  · rcases h with h | h | h
    · refine key (k1_off10 i) S1x1x704x128.size (k1_off10_inb i) _ (List.get_mem (LP i X1 X2) ⟨35, by show 35 < 45; decide⟩) ?_ ?_ ?_ ?_ <;> [show k1_off10 i 0 ≤ _ ∧ _ < k1_off10 i 0 + 1; show k1_off10 i 1 ≤ 1 ∧ 1 < k1_off10 i 1 + 1; show k1_off10 i 2 ≤ _ ∧ _ < k1_off10 i 2 + 704; show k1_off10 i 3 ≤ _ ∧ _ < k1_off10 i 3 + 128] <;> rw [off10_eq i] <;> [show (i 0).val % 4 ≤ _ ∧ _ < (i 0).val % 4 + 1; show 1 ≤ 1 ∧ 1 < 1 + 1; show 192 ≤ _ ∧ _ < 192 + 704; show 0 ≤ _ ∧ _ < 0 + 128] <;> omega
    · refine key (k1_off11 i) S1x1x176x128.size (k1_off11_inb i) _ (List.get_mem (LP i X1 X2) ⟨34, by show 34 < 45; decide⟩) ?_ ?_ ?_ ?_ <;> [show k1_off11 i 0 ≤ _ ∧ _ < k1_off11 i 0 + 1; show k1_off11 i 1 ≤ 1 ∧ 1 < k1_off11 i 1 + 1; show k1_off11 i 2 ≤ _ ∧ _ < k1_off11 i 2 + 176; show k1_off11 i 3 ≤ _ ∧ _ < k1_off11 i 3 + 128] <;> rw [off11_eq i] <;> [show ((i 0).val + 3) % 4 ≤ _ ∧ _ < ((i 0).val + 3) % 4 + 1; show 1 ≤ 1 ∧ 1 < 1 + 1; show 896 ≤ _ ∧ _ < 896 + 176; show 0 ≤ _ ∧ _ < 0 + 128] <;> omega
    · refine key (k1_off12 i) S1x1x176x128.size (k1_off12_inb i) _ (List.get_mem (LP i X1 X2) ⟨33, by show 33 < 45; decide⟩) ?_ ?_ ?_ ?_ <;> [show k1_off12 i 0 ≤ _ ∧ _ < k1_off12 i 0 + 1; show k1_off12 i 1 ≤ 1 ∧ 1 < k1_off12 i 1 + 1; show k1_off12 i 2 ≤ _ ∧ _ < k1_off12 i 2 + 176; show k1_off12 i 3 ≤ _ ∧ _ < k1_off12 i 3 + 128] <;> rw [off12_eq i] <;> [show ((i 0).val + 1) % 4 ≤ _ ∧ _ < ((i 0).val + 1) % 4 + 1; show 1 ≤ 1 ∧ 1 < 1 + 1; show 16 ≤ _ ∧ _ < 16 + 176; show 0 ≤ _ ∧ _ < 0 + 128] <;> omega
  · rcases h with h | h | h
    · refine key (k1_off19 i) S1x1x704x128.size (k1_off19_inb i) _ (List.get_mem (LP i X1 X2) ⟨26, by show 26 < 45; decide⟩) ?_ ?_ ?_ ?_ <;> [show k1_off19 i 0 ≤ _ ∧ _ < k1_off19 i 0 + 1; show k1_off19 i 1 ≤ 2 ∧ 2 < k1_off19 i 1 + 1; show k1_off19 i 2 ≤ _ ∧ _ < k1_off19 i 2 + 704; show k1_off19 i 3 ≤ _ ∧ _ < k1_off19 i 3 + 128] <;> rw [off19_eq i] <;> [show (i 0).val % 4 ≤ _ ∧ _ < (i 0).val % 4 + 1; show 2 ≤ 2 ∧ 2 < 2 + 1; show 192 ≤ _ ∧ _ < 192 + 704; show 0 ≤ _ ∧ _ < 0 + 128] <;> omega
    · refine key (k1_off20 i) S1x1x176x128.size (k1_off20_inb i) _ (List.get_mem (LP i X1 X2) ⟨25, by show 25 < 45; decide⟩) ?_ ?_ ?_ ?_ <;> [show k1_off20 i 0 ≤ _ ∧ _ < k1_off20 i 0 + 1; show k1_off20 i 1 ≤ 2 ∧ 2 < k1_off20 i 1 + 1; show k1_off20 i 2 ≤ _ ∧ _ < k1_off20 i 2 + 176; show k1_off20 i 3 ≤ _ ∧ _ < k1_off20 i 3 + 128] <;> rw [off20_eq i] <;> [show ((i 0).val + 3) % 4 ≤ _ ∧ _ < ((i 0).val + 3) % 4 + 1; show 2 ≤ 2 ∧ 2 < 2 + 1; show 896 ≤ _ ∧ _ < 896 + 176; show 0 ≤ _ ∧ _ < 0 + 128] <;> omega
    · refine key (k1_off21 i) S1x1x176x128.size (k1_off21_inb i) _ (List.get_mem (LP i X1 X2) ⟨24, by show 24 < 45; decide⟩) ?_ ?_ ?_ ?_ <;> [show k1_off21 i 0 ≤ _ ∧ _ < k1_off21 i 0 + 1; show k1_off21 i 1 ≤ 2 ∧ 2 < k1_off21 i 1 + 1; show k1_off21 i 2 ≤ _ ∧ _ < k1_off21 i 2 + 176; show k1_off21 i 3 ≤ _ ∧ _ < k1_off21 i 3 + 128] <;> rw [off21_eq i] <;> [show ((i 0).val + 1) % 4 ≤ _ ∧ _ < ((i 0).val + 1) % 4 + 1; show 2 ≤ 2 ∧ 2 < 2 + 1; show 16 ≤ _ ∧ _ < 16 + 176; show 0 ≤ _ ∧ _ < 0 + 128] <;> omega
  · rcases h with h | h | h
    · refine key (k1_off28 i) S1x1x704x128.size (k1_off28_inb i) _ (List.get_mem (LP i X1 X2) ⟨17, by show 17 < 45; decide⟩) ?_ ?_ ?_ ?_ <;> [show k1_off28 i 0 ≤ _ ∧ _ < k1_off28 i 0 + 1; show k1_off28 i 1 ≤ 3 ∧ 3 < k1_off28 i 1 + 1; show k1_off28 i 2 ≤ _ ∧ _ < k1_off28 i 2 + 704; show k1_off28 i 3 ≤ _ ∧ _ < k1_off28 i 3 + 128] <;> rw [off28_eq i] <;> [show (i 0).val % 4 ≤ _ ∧ _ < (i 0).val % 4 + 1; show 3 ≤ 3 ∧ 3 < 3 + 1; show 192 ≤ _ ∧ _ < 192 + 704; show 0 ≤ _ ∧ _ < 0 + 128] <;> omega
    · refine key (k1_off29 i) S1x1x176x128.size (k1_off29_inb i) _ (List.get_mem (LP i X1 X2) ⟨16, by show 16 < 45; decide⟩) ?_ ?_ ?_ ?_ <;> [show k1_off29 i 0 ≤ _ ∧ _ < k1_off29 i 0 + 1; show k1_off29 i 1 ≤ 3 ∧ 3 < k1_off29 i 1 + 1; show k1_off29 i 2 ≤ _ ∧ _ < k1_off29 i 2 + 176; show k1_off29 i 3 ≤ _ ∧ _ < k1_off29 i 3 + 128] <;> rw [off29_eq i] <;> [show ((i 0).val + 3) % 4 ≤ _ ∧ _ < ((i 0).val + 3) % 4 + 1; show 3 ≤ 3 ∧ 3 < 3 + 1; show 896 ≤ _ ∧ _ < 896 + 176; show 0 ≤ _ ∧ _ < 0 + 128] <;> omega
    · refine key (k1_off30 i) S1x1x176x128.size (k1_off30_inb i) _ (List.get_mem (LP i X1 X2) ⟨15, by show 15 < 45; decide⟩) ?_ ?_ ?_ ?_ <;> [show k1_off30 i 0 ≤ _ ∧ _ < k1_off30 i 0 + 1; show k1_off30 i 1 ≤ 3 ∧ 3 < k1_off30 i 1 + 1; show k1_off30 i 2 ≤ _ ∧ _ < k1_off30 i 2 + 176; show k1_off30 i 3 ≤ _ ∧ _ < k1_off30 i 3 + 128] <;> rw [off30_eq i] <;> [show ((i 0).val + 1) % 4 ≤ _ ∧ _ < ((i 0).val + 1) % 4 + 1; show 3 ≤ 3 ∧ 3 < 3 + 1; show 16 ≤ _ ∧ _ < 16 + 176; show 0 ≤ _ ∧ _ < 0 + 128] <;> omega
  · rcases h with h | h | h
    · refine key (k1_off37 i) S1x1x704x128.size (k1_off37_inb i) _ (List.get_mem (LP i X1 X2) ⟨8, by show 8 < 45; decide⟩) ?_ ?_ ?_ ?_ <;> [show k1_off37 i 0 ≤ _ ∧ _ < k1_off37 i 0 + 1; show k1_off37 i 1 ≤ 4 ∧ 4 < k1_off37 i 1 + 1; show k1_off37 i 2 ≤ _ ∧ _ < k1_off37 i 2 + 704; show k1_off37 i 3 ≤ _ ∧ _ < k1_off37 i 3 + 128] <;> rw [off37_eq i] <;> [show (i 0).val % 4 ≤ _ ∧ _ < (i 0).val % 4 + 1; show 4 ≤ 4 ∧ 4 < 4 + 1; show 192 ≤ _ ∧ _ < 192 + 704; show 0 ≤ _ ∧ _ < 0 + 128] <;> omega
    · refine key (k1_off38 i) S1x1x176x128.size (k1_off38_inb i) _ (List.get_mem (LP i X1 X2) ⟨7, by show 7 < 45; decide⟩) ?_ ?_ ?_ ?_ <;> [show k1_off38 i 0 ≤ _ ∧ _ < k1_off38 i 0 + 1; show k1_off38 i 1 ≤ 4 ∧ 4 < k1_off38 i 1 + 1; show k1_off38 i 2 ≤ _ ∧ _ < k1_off38 i 2 + 176; show k1_off38 i 3 ≤ _ ∧ _ < k1_off38 i 3 + 128] <;> rw [off38_eq i] <;> [show ((i 0).val + 3) % 4 ≤ _ ∧ _ < ((i 0).val + 3) % 4 + 1; show 4 ≤ 4 ∧ 4 < 4 + 1; show 896 ≤ _ ∧ _ < 896 + 176; show 0 ≤ _ ∧ _ < 0 + 128] <;> omega
    · refine key (k1_off39 i) S1x1x176x128.size (k1_off39_inb i) _ (List.get_mem (LP i X1 X2) ⟨6, by show 6 < 45; decide⟩) ?_ ?_ ?_ ?_ <;> [show k1_off39 i 0 ≤ _ ∧ _ < k1_off39 i 0 + 1; show k1_off39 i 1 ≤ 4 ∧ 4 < k1_off39 i 1 + 1; show k1_off39 i 2 ≤ _ ∧ _ < k1_off39 i 2 + 176; show k1_off39 i 3 ≤ _ ∧ _ < k1_off39 i 3 + 128] <;> rw [off39_eq i] <;> [show ((i 0).val + 1) % 4 ≤ _ ∧ _ < ((i 0).val + 1) % 4 + 1; show 4 ≤ 4 ∧ 4 < 4 + 1; show 16 ≤ _ ∧ _ < 16 + 176; show 0 ≤ _ ∧ _ < 0 + 128] <;> omega
  · rcases h with h | h | h
    · refine key (k1_off4 i) S1x1x704x128.size (k1_off4_inb i) _ (List.get_mem (LP i X1 X2) ⟨41, by show 41 < 45; decide⟩) ?_ ?_ ?_ ?_ <;> [show k1_off4 i 0 ≤ _ ∧ _ < k1_off4 i 0 + 1; show k1_off4 i 1 ≤ 5 ∧ 5 < k1_off4 i 1 + 1; show k1_off4 i 2 ≤ _ ∧ _ < k1_off4 i 2 + 704; show k1_off4 i 3 ≤ _ ∧ _ < k1_off4 i 3 + 128] <;> rw [off4_eq i] <;> [show (i 0).val % 4 ≤ _ ∧ _ < (i 0).val % 4 + 1; show 5 ≤ 5 ∧ 5 < 5 + 1; show 192 ≤ _ ∧ _ < 192 + 704; show 0 ≤ _ ∧ _ < 0 + 128] <;> omega
    · refine key (k1_off5 i) S1x1x176x128.size (k1_off5_inb i) _ (List.get_mem (LP i X1 X2) ⟨40, by show 40 < 45; decide⟩) ?_ ?_ ?_ ?_ <;> [show k1_off5 i 0 ≤ _ ∧ _ < k1_off5 i 0 + 1; show k1_off5 i 1 ≤ 5 ∧ 5 < k1_off5 i 1 + 1; show k1_off5 i 2 ≤ _ ∧ _ < k1_off5 i 2 + 176; show k1_off5 i 3 ≤ _ ∧ _ < k1_off5 i 3 + 128] <;> rw [off5_eq i] <;> [show ((i 0).val + 3) % 4 ≤ _ ∧ _ < ((i 0).val + 3) % 4 + 1; show 5 ≤ 5 ∧ 5 < 5 + 1; show 896 ≤ _ ∧ _ < 896 + 176; show 0 ≤ _ ∧ _ < 0 + 128] <;> omega
    · refine key (k1_off6 i) S1x1x176x128.size (k1_off6_inb i) _ (List.get_mem (LP i X1 X2) ⟨39, by show 39 < 45; decide⟩) ?_ ?_ ?_ ?_ <;> [show k1_off6 i 0 ≤ _ ∧ _ < k1_off6 i 0 + 1; show k1_off6 i 1 ≤ 5 ∧ 5 < k1_off6 i 1 + 1; show k1_off6 i 2 ≤ _ ∧ _ < k1_off6 i 2 + 176; show k1_off6 i 3 ≤ _ ∧ _ < k1_off6 i 3 + 128] <;> rw [off6_eq i] <;> [show ((i 0).val + 1) % 4 ≤ _ ∧ _ < ((i 0).val + 1) % 4 + 1; show 5 ≤ 5 ∧ 5 < 5 + 1; show 16 ≤ _ ∧ _ < 16 + 176; show 0 ≤ _ ∧ _ < 0 + 128] <;> omega
  · rcases h with h | h | h
    · refine key (k1_off13 i) S1x1x704x128.size (k1_off13_inb i) _ (List.get_mem (LP i X1 X2) ⟨32, by show 32 < 45; decide⟩) ?_ ?_ ?_ ?_ <;> [show k1_off13 i 0 ≤ _ ∧ _ < k1_off13 i 0 + 1; show k1_off13 i 1 ≤ 6 ∧ 6 < k1_off13 i 1 + 1; show k1_off13 i 2 ≤ _ ∧ _ < k1_off13 i 2 + 704; show k1_off13 i 3 ≤ _ ∧ _ < k1_off13 i 3 + 128] <;> rw [off13_eq i] <;> [show (i 0).val % 4 ≤ _ ∧ _ < (i 0).val % 4 + 1; show 6 ≤ 6 ∧ 6 < 6 + 1; show 192 ≤ _ ∧ _ < 192 + 704; show 0 ≤ _ ∧ _ < 0 + 128] <;> omega
    · refine key (k1_off14 i) S1x1x176x128.size (k1_off14_inb i) _ (List.get_mem (LP i X1 X2) ⟨31, by show 31 < 45; decide⟩) ?_ ?_ ?_ ?_ <;> [show k1_off14 i 0 ≤ _ ∧ _ < k1_off14 i 0 + 1; show k1_off14 i 1 ≤ 6 ∧ 6 < k1_off14 i 1 + 1; show k1_off14 i 2 ≤ _ ∧ _ < k1_off14 i 2 + 176; show k1_off14 i 3 ≤ _ ∧ _ < k1_off14 i 3 + 128] <;> rw [off14_eq i] <;> [show ((i 0).val + 3) % 4 ≤ _ ∧ _ < ((i 0).val + 3) % 4 + 1; show 6 ≤ 6 ∧ 6 < 6 + 1; show 896 ≤ _ ∧ _ < 896 + 176; show 0 ≤ _ ∧ _ < 0 + 128] <;> omega
    · refine key (k1_off15 i) S1x1x176x128.size (k1_off15_inb i) _ (List.get_mem (LP i X1 X2) ⟨30, by show 30 < 45; decide⟩) ?_ ?_ ?_ ?_ <;> [show k1_off15 i 0 ≤ _ ∧ _ < k1_off15 i 0 + 1; show k1_off15 i 1 ≤ 6 ∧ 6 < k1_off15 i 1 + 1; show k1_off15 i 2 ≤ _ ∧ _ < k1_off15 i 2 + 176; show k1_off15 i 3 ≤ _ ∧ _ < k1_off15 i 3 + 128] <;> rw [off15_eq i] <;> [show ((i 0).val + 1) % 4 ≤ _ ∧ _ < ((i 0).val + 1) % 4 + 1; show 6 ≤ 6 ∧ 6 < 6 + 1; show 16 ≤ _ ∧ _ < 16 + 176; show 0 ≤ _ ∧ _ < 0 + 128] <;> omega
  · rcases h with h | h | h
    · refine key (k1_off22 i) S1x1x704x128.size (k1_off22_inb i) _ (List.get_mem (LP i X1 X2) ⟨23, by show 23 < 45; decide⟩) ?_ ?_ ?_ ?_ <;> [show k1_off22 i 0 ≤ _ ∧ _ < k1_off22 i 0 + 1; show k1_off22 i 1 ≤ 7 ∧ 7 < k1_off22 i 1 + 1; show k1_off22 i 2 ≤ _ ∧ _ < k1_off22 i 2 + 704; show k1_off22 i 3 ≤ _ ∧ _ < k1_off22 i 3 + 128] <;> rw [off22_eq i] <;> [show (i 0).val % 4 ≤ _ ∧ _ < (i 0).val % 4 + 1; show 7 ≤ 7 ∧ 7 < 7 + 1; show 192 ≤ _ ∧ _ < 192 + 704; show 0 ≤ _ ∧ _ < 0 + 128] <;> omega
    · refine key (k1_off23 i) S1x1x176x128.size (k1_off23_inb i) _ (List.get_mem (LP i X1 X2) ⟨22, by show 22 < 45; decide⟩) ?_ ?_ ?_ ?_ <;> [show k1_off23 i 0 ≤ _ ∧ _ < k1_off23 i 0 + 1; show k1_off23 i 1 ≤ 7 ∧ 7 < k1_off23 i 1 + 1; show k1_off23 i 2 ≤ _ ∧ _ < k1_off23 i 2 + 176; show k1_off23 i 3 ≤ _ ∧ _ < k1_off23 i 3 + 128] <;> rw [off23_eq i] <;> [show ((i 0).val + 3) % 4 ≤ _ ∧ _ < ((i 0).val + 3) % 4 + 1; show 7 ≤ 7 ∧ 7 < 7 + 1; show 896 ≤ _ ∧ _ < 896 + 176; show 0 ≤ _ ∧ _ < 0 + 128] <;> omega
    · refine key (k1_off24 i) S1x1x176x128.size (k1_off24_inb i) _ (List.get_mem (LP i X1 X2) ⟨21, by show 21 < 45; decide⟩) ?_ ?_ ?_ ?_ <;> [show k1_off24 i 0 ≤ _ ∧ _ < k1_off24 i 0 + 1; show k1_off24 i 1 ≤ 7 ∧ 7 < k1_off24 i 1 + 1; show k1_off24 i 2 ≤ _ ∧ _ < k1_off24 i 2 + 176; show k1_off24 i 3 ≤ _ ∧ _ < k1_off24 i 3 + 128] <;> rw [off24_eq i] <;> [show ((i 0).val + 1) % 4 ≤ _ ∧ _ < ((i 0).val + 1) % 4 + 1; show 7 ≤ 7 ∧ 7 < 7 + 1; show 16 ≤ _ ∧ _ < 16 + 176; show 0 ≤ _ ∧ _ < 0 + 128] <;> omega
  · rcases h with h | h | h
    · refine key (k1_off31 i) S1x1x704x128.size (k1_off31_inb i) _ (List.get_mem (LP i X1 X2) ⟨14, by show 14 < 45; decide⟩) ?_ ?_ ?_ ?_ <;> [show k1_off31 i 0 ≤ _ ∧ _ < k1_off31 i 0 + 1; show k1_off31 i 1 ≤ 8 ∧ 8 < k1_off31 i 1 + 1; show k1_off31 i 2 ≤ _ ∧ _ < k1_off31 i 2 + 704; show k1_off31 i 3 ≤ _ ∧ _ < k1_off31 i 3 + 128] <;> rw [off31_eq i] <;> [show (i 0).val % 4 ≤ _ ∧ _ < (i 0).val % 4 + 1; show 8 ≤ 8 ∧ 8 < 8 + 1; show 192 ≤ _ ∧ _ < 192 + 704; show 0 ≤ _ ∧ _ < 0 + 128] <;> omega
    · refine key (k1_off32 i) S1x1x176x128.size (k1_off32_inb i) _ (List.get_mem (LP i X1 X2) ⟨13, by show 13 < 45; decide⟩) ?_ ?_ ?_ ?_ <;> [show k1_off32 i 0 ≤ _ ∧ _ < k1_off32 i 0 + 1; show k1_off32 i 1 ≤ 8 ∧ 8 < k1_off32 i 1 + 1; show k1_off32 i 2 ≤ _ ∧ _ < k1_off32 i 2 + 176; show k1_off32 i 3 ≤ _ ∧ _ < k1_off32 i 3 + 128] <;> rw [off32_eq i] <;> [show ((i 0).val + 3) % 4 ≤ _ ∧ _ < ((i 0).val + 3) % 4 + 1; show 8 ≤ 8 ∧ 8 < 8 + 1; show 896 ≤ _ ∧ _ < 896 + 176; show 0 ≤ _ ∧ _ < 0 + 128] <;> omega
    · refine key (k1_off33 i) S1x1x176x128.size (k1_off33_inb i) _ (List.get_mem (LP i X1 X2) ⟨12, by show 12 < 45; decide⟩) ?_ ?_ ?_ ?_ <;> [show k1_off33 i 0 ≤ _ ∧ _ < k1_off33 i 0 + 1; show k1_off33 i 1 ≤ 8 ∧ 8 < k1_off33 i 1 + 1; show k1_off33 i 2 ≤ _ ∧ _ < k1_off33 i 2 + 176; show k1_off33 i 3 ≤ _ ∧ _ < k1_off33 i 3 + 128] <;> rw [off33_eq i] <;> [show ((i 0).val + 1) % 4 ≤ _ ∧ _ < ((i 0).val + 1) % 4 + 1; show 8 ≤ 8 ∧ 8 < 8 + 1; show 16 ≤ _ ∧ _ < 16 + 176; show 0 ≤ _ ∧ _ < 0 + 128] <;> omega
  · rcases h with h | h | h
    · refine key (k1_off40 i) S1x1x704x128.size (k1_off40_inb i) _ (List.get_mem (LP i X1 X2) ⟨5, by show 5 < 45; decide⟩) ?_ ?_ ?_ ?_ <;> [show k1_off40 i 0 ≤ _ ∧ _ < k1_off40 i 0 + 1; show k1_off40 i 1 ≤ 9 ∧ 9 < k1_off40 i 1 + 1; show k1_off40 i 2 ≤ _ ∧ _ < k1_off40 i 2 + 704; show k1_off40 i 3 ≤ _ ∧ _ < k1_off40 i 3 + 128] <;> rw [off40_eq i] <;> [show (i 0).val % 4 ≤ _ ∧ _ < (i 0).val % 4 + 1; show 9 ≤ 9 ∧ 9 < 9 + 1; show 192 ≤ _ ∧ _ < 192 + 704; show 0 ≤ _ ∧ _ < 0 + 128] <;> omega
    · refine key (k1_off41 i) S1x1x176x128.size (k1_off41_inb i) _ (List.get_mem (LP i X1 X2) ⟨4, by show 4 < 45; decide⟩) ?_ ?_ ?_ ?_ <;> [show k1_off41 i 0 ≤ _ ∧ _ < k1_off41 i 0 + 1; show k1_off41 i 1 ≤ 9 ∧ 9 < k1_off41 i 1 + 1; show k1_off41 i 2 ≤ _ ∧ _ < k1_off41 i 2 + 176; show k1_off41 i 3 ≤ _ ∧ _ < k1_off41 i 3 + 128] <;> rw [off41_eq i] <;> [show ((i 0).val + 3) % 4 ≤ _ ∧ _ < ((i 0).val + 3) % 4 + 1; show 9 ≤ 9 ∧ 9 < 9 + 1; show 896 ≤ _ ∧ _ < 896 + 176; show 0 ≤ _ ∧ _ < 0 + 128] <;> omega
    · refine key (k1_off42 i) S1x1x176x128.size (k1_off42_inb i) _ (List.get_mem (LP i X1 X2) ⟨3, by show 3 < 45; decide⟩) ?_ ?_ ?_ ?_ <;> [show k1_off42 i 0 ≤ _ ∧ _ < k1_off42 i 0 + 1; show k1_off42 i 1 ≤ 9 ∧ 9 < k1_off42 i 1 + 1; show k1_off42 i 2 ≤ _ ∧ _ < k1_off42 i 2 + 176; show k1_off42 i 3 ≤ _ ∧ _ < k1_off42 i 3 + 128] <;> rw [off42_eq i] <;> [show ((i 0).val + 1) % 4 ≤ _ ∧ _ < ((i 0).val + 1) % 4 + 1; show 9 ≤ 9 ∧ 9 < 9 + 1; show 16 ≤ _ ∧ _ < 16 + 176; show 0 ≤ _ ∧ _ < 0 + 128] <;> omega
  · rcases h with h | h | h
    · refine key (k1_off7 i) S1x1x704x128.size (k1_off7_inb i) _ (List.get_mem (LP i X1 X2) ⟨38, by show 38 < 45; decide⟩) ?_ ?_ ?_ ?_ <;> [show k1_off7 i 0 ≤ _ ∧ _ < k1_off7 i 0 + 1; show k1_off7 i 1 ≤ 10 ∧ 10 < k1_off7 i 1 + 1; show k1_off7 i 2 ≤ _ ∧ _ < k1_off7 i 2 + 704; show k1_off7 i 3 ≤ _ ∧ _ < k1_off7 i 3 + 128] <;> rw [off7_eq i] <;> [show (i 0).val % 4 ≤ _ ∧ _ < (i 0).val % 4 + 1; show 10 ≤ 10 ∧ 10 < 10 + 1; show 192 ≤ _ ∧ _ < 192 + 704; show 0 ≤ _ ∧ _ < 0 + 128] <;> omega
    · refine key (k1_off8 i) S1x1x176x128.size (k1_off8_inb i) _ (List.get_mem (LP i X1 X2) ⟨37, by show 37 < 45; decide⟩) ?_ ?_ ?_ ?_ <;> [show k1_off8 i 0 ≤ _ ∧ _ < k1_off8 i 0 + 1; show k1_off8 i 1 ≤ 10 ∧ 10 < k1_off8 i 1 + 1; show k1_off8 i 2 ≤ _ ∧ _ < k1_off8 i 2 + 176; show k1_off8 i 3 ≤ _ ∧ _ < k1_off8 i 3 + 128] <;> rw [off8_eq i] <;> [show ((i 0).val + 3) % 4 ≤ _ ∧ _ < ((i 0).val + 3) % 4 + 1; show 10 ≤ 10 ∧ 10 < 10 + 1; show 896 ≤ _ ∧ _ < 896 + 176; show 0 ≤ _ ∧ _ < 0 + 128] <;> omega
    · refine key (k1_off9 i) S1x1x176x128.size (k1_off9_inb i) _ (List.get_mem (LP i X1 X2) ⟨36, by show 36 < 45; decide⟩) ?_ ?_ ?_ ?_ <;> [show k1_off9 i 0 ≤ _ ∧ _ < k1_off9 i 0 + 1; show k1_off9 i 1 ≤ 10 ∧ 10 < k1_off9 i 1 + 1; show k1_off9 i 2 ≤ _ ∧ _ < k1_off9 i 2 + 176; show k1_off9 i 3 ≤ _ ∧ _ < k1_off9 i 3 + 128] <;> rw [off9_eq i] <;> [show ((i 0).val + 1) % 4 ≤ _ ∧ _ < ((i 0).val + 1) % 4 + 1; show 10 ≤ 10 ∧ 10 < 10 + 1; show 16 ≤ _ ∧ _ < 16 + 176; show 0 ≤ _ ∧ _ < 0 + 128] <;> omega
  · rcases h with h | h | h
    · refine key (k1_off16 i) S1x1x704x128.size (k1_off16_inb i) _ (List.get_mem (LP i X1 X2) ⟨29, by show 29 < 45; decide⟩) ?_ ?_ ?_ ?_ <;> [show k1_off16 i 0 ≤ _ ∧ _ < k1_off16 i 0 + 1; show k1_off16 i 1 ≤ 11 ∧ 11 < k1_off16 i 1 + 1; show k1_off16 i 2 ≤ _ ∧ _ < k1_off16 i 2 + 704; show k1_off16 i 3 ≤ _ ∧ _ < k1_off16 i 3 + 128] <;> rw [off16_eq i] <;> [show (i 0).val % 4 ≤ _ ∧ _ < (i 0).val % 4 + 1; show 11 ≤ 11 ∧ 11 < 11 + 1; show 192 ≤ _ ∧ _ < 192 + 704; show 0 ≤ _ ∧ _ < 0 + 128] <;> omega
    · refine key (k1_off17 i) S1x1x176x128.size (k1_off17_inb i) _ (List.get_mem (LP i X1 X2) ⟨28, by show 28 < 45; decide⟩) ?_ ?_ ?_ ?_ <;> [show k1_off17 i 0 ≤ _ ∧ _ < k1_off17 i 0 + 1; show k1_off17 i 1 ≤ 11 ∧ 11 < k1_off17 i 1 + 1; show k1_off17 i 2 ≤ _ ∧ _ < k1_off17 i 2 + 176; show k1_off17 i 3 ≤ _ ∧ _ < k1_off17 i 3 + 128] <;> rw [off17_eq i] <;> [show ((i 0).val + 3) % 4 ≤ _ ∧ _ < ((i 0).val + 3) % 4 + 1; show 11 ≤ 11 ∧ 11 < 11 + 1; show 896 ≤ _ ∧ _ < 896 + 176; show 0 ≤ _ ∧ _ < 0 + 128] <;> omega
    · refine key (k1_off18 i) S1x1x176x128.size (k1_off18_inb i) _ (List.get_mem (LP i X1 X2) ⟨27, by show 27 < 45; decide⟩) ?_ ?_ ?_ ?_ <;> [show k1_off18 i 0 ≤ _ ∧ _ < k1_off18 i 0 + 1; show k1_off18 i 1 ≤ 11 ∧ 11 < k1_off18 i 1 + 1; show k1_off18 i 2 ≤ _ ∧ _ < k1_off18 i 2 + 176; show k1_off18 i 3 ≤ _ ∧ _ < k1_off18 i 3 + 128] <;> rw [off18_eq i] <;> [show ((i 0).val + 1) % 4 ≤ _ ∧ _ < ((i 0).val + 1) % 4 + 1; show 11 ≤ 11 ∧ 11 < 11 + 1; show 16 ≤ _ ∧ _ < 16 + 176; show 0 ≤ _ ∧ _ < 0 + 128] <;> omega
  · rcases h with h | h | h
    · refine key (k1_off25 i) S1x1x704x128.size (k1_off25_inb i) _ (List.get_mem (LP i X1 X2) ⟨20, by show 20 < 45; decide⟩) ?_ ?_ ?_ ?_ <;> [show k1_off25 i 0 ≤ _ ∧ _ < k1_off25 i 0 + 1; show k1_off25 i 1 ≤ 12 ∧ 12 < k1_off25 i 1 + 1; show k1_off25 i 2 ≤ _ ∧ _ < k1_off25 i 2 + 704; show k1_off25 i 3 ≤ _ ∧ _ < k1_off25 i 3 + 128] <;> rw [off25_eq i] <;> [show (i 0).val % 4 ≤ _ ∧ _ < (i 0).val % 4 + 1; show 12 ≤ 12 ∧ 12 < 12 + 1; show 192 ≤ _ ∧ _ < 192 + 704; show 0 ≤ _ ∧ _ < 0 + 128] <;> omega
    · refine key (k1_off26 i) S1x1x176x128.size (k1_off26_inb i) _ (List.get_mem (LP i X1 X2) ⟨19, by show 19 < 45; decide⟩) ?_ ?_ ?_ ?_ <;> [show k1_off26 i 0 ≤ _ ∧ _ < k1_off26 i 0 + 1; show k1_off26 i 1 ≤ 12 ∧ 12 < k1_off26 i 1 + 1; show k1_off26 i 2 ≤ _ ∧ _ < k1_off26 i 2 + 176; show k1_off26 i 3 ≤ _ ∧ _ < k1_off26 i 3 + 128] <;> rw [off26_eq i] <;> [show ((i 0).val + 3) % 4 ≤ _ ∧ _ < ((i 0).val + 3) % 4 + 1; show 12 ≤ 12 ∧ 12 < 12 + 1; show 896 ≤ _ ∧ _ < 896 + 176; show 0 ≤ _ ∧ _ < 0 + 128] <;> omega
    · refine key (k1_off27 i) S1x1x176x128.size (k1_off27_inb i) _ (List.get_mem (LP i X1 X2) ⟨18, by show 18 < 45; decide⟩) ?_ ?_ ?_ ?_ <;> [show k1_off27 i 0 ≤ _ ∧ _ < k1_off27 i 0 + 1; show k1_off27 i 1 ≤ 12 ∧ 12 < k1_off27 i 1 + 1; show k1_off27 i 2 ≤ _ ∧ _ < k1_off27 i 2 + 176; show k1_off27 i 3 ≤ _ ∧ _ < k1_off27 i 3 + 128] <;> rw [off27_eq i] <;> [show ((i 0).val + 1) % 4 ≤ _ ∧ _ < ((i 0).val + 1) % 4 + 1; show 12 ≤ 12 ∧ 12 < 12 + 1; show 16 ≤ _ ∧ _ < 16 + 176; show 0 ≤ _ ∧ _ < 0 + 128] <;> omega
  · rcases h with h | h | h
    · refine key (k1_off34 i) S1x1x704x128.size (k1_off34_inb i) _ (List.get_mem (LP i X1 X2) ⟨11, by show 11 < 45; decide⟩) ?_ ?_ ?_ ?_ <;> [show k1_off34 i 0 ≤ _ ∧ _ < k1_off34 i 0 + 1; show k1_off34 i 1 ≤ 13 ∧ 13 < k1_off34 i 1 + 1; show k1_off34 i 2 ≤ _ ∧ _ < k1_off34 i 2 + 704; show k1_off34 i 3 ≤ _ ∧ _ < k1_off34 i 3 + 128] <;> rw [off34_eq i] <;> [show (i 0).val % 4 ≤ _ ∧ _ < (i 0).val % 4 + 1; show 13 ≤ 13 ∧ 13 < 13 + 1; show 192 ≤ _ ∧ _ < 192 + 704; show 0 ≤ _ ∧ _ < 0 + 128] <;> omega
    · refine key (k1_off35 i) S1x1x176x128.size (k1_off35_inb i) _ (List.get_mem (LP i X1 X2) ⟨10, by show 10 < 45; decide⟩) ?_ ?_ ?_ ?_ <;> [show k1_off35 i 0 ≤ _ ∧ _ < k1_off35 i 0 + 1; show k1_off35 i 1 ≤ 13 ∧ 13 < k1_off35 i 1 + 1; show k1_off35 i 2 ≤ _ ∧ _ < k1_off35 i 2 + 176; show k1_off35 i 3 ≤ _ ∧ _ < k1_off35 i 3 + 128] <;> rw [off35_eq i] <;> [show ((i 0).val + 3) % 4 ≤ _ ∧ _ < ((i 0).val + 3) % 4 + 1; show 13 ≤ 13 ∧ 13 < 13 + 1; show 896 ≤ _ ∧ _ < 896 + 176; show 0 ≤ _ ∧ _ < 0 + 128] <;> omega
    · refine key (k1_off36 i) S1x1x176x128.size (k1_off36_inb i) _ (List.get_mem (LP i X1 X2) ⟨9, by show 9 < 45; decide⟩) ?_ ?_ ?_ ?_ <;> [show k1_off36 i 0 ≤ _ ∧ _ < k1_off36 i 0 + 1; show k1_off36 i 1 ≤ 13 ∧ 13 < k1_off36 i 1 + 1; show k1_off36 i 2 ≤ _ ∧ _ < k1_off36 i 2 + 176; show k1_off36 i 3 ≤ _ ∧ _ < k1_off36 i 3 + 128] <;> rw [off36_eq i] <;> [show ((i 0).val + 1) % 4 ≤ _ ∧ _ < ((i 0).val + 1) % 4 + 1; show 13 ≤ 13 ∧ 13 < 13 + 1; show 16 ≤ _ ∧ _ < 16 + 176; show 0 ≤ _ ∧ _ < 0 + 128] <;> omega
  · rcases h with h | h | h
    · refine key (k1_off43 i) S1x1x704x128.size (k1_off43_inb i) _ (List.get_mem (LP i X1 X2) ⟨2, by show 2 < 45; decide⟩) ?_ ?_ ?_ ?_ <;> [show k1_off43 i 0 ≤ _ ∧ _ < k1_off43 i 0 + 1; show k1_off43 i 1 ≤ 14 ∧ 14 < k1_off43 i 1 + 1; show k1_off43 i 2 ≤ _ ∧ _ < k1_off43 i 2 + 704; show k1_off43 i 3 ≤ _ ∧ _ < k1_off43 i 3 + 128] <;> rw [off43_eq i] <;> [show (i 0).val % 4 ≤ _ ∧ _ < (i 0).val % 4 + 1; show 14 ≤ 14 ∧ 14 < 14 + 1; show 192 ≤ _ ∧ _ < 192 + 704; show 0 ≤ _ ∧ _ < 0 + 128] <;> omega
    · refine key (k1_off44 i) S1x1x176x128.size (k1_off44_inb i) _ (List.get_mem (LP i X1 X2) ⟨1, by show 1 < 45; decide⟩) ?_ ?_ ?_ ?_ <;> [show k1_off44 i 0 ≤ _ ∧ _ < k1_off44 i 0 + 1; show k1_off44 i 1 ≤ 14 ∧ 14 < k1_off44 i 1 + 1; show k1_off44 i 2 ≤ _ ∧ _ < k1_off44 i 2 + 176; show k1_off44 i 3 ≤ _ ∧ _ < k1_off44 i 3 + 128] <;> rw [off44_eq i] <;> [show ((i 0).val + 3) % 4 ≤ _ ∧ _ < ((i 0).val + 3) % 4 + 1; show 14 ≤ 14 ∧ 14 < 14 + 1; show 896 ≤ _ ∧ _ < 896 + 176; show 0 ≤ _ ∧ _ < 0 + 128] <;> omega
    · refine key (k1_off45 i) S1x1x176x128.size (k1_off45_inb i) _ (List.get_mem (LP i X1 X2) ⟨0, by show 0 < 45; decide⟩) ?_ ?_ ?_ ?_ <;> [show k1_off45 i 0 ≤ _ ∧ _ < k1_off45 i 0 + 1; show k1_off45 i 1 ≤ 14 ∧ 14 < k1_off45 i 1 + 1; show k1_off45 i 2 ≤ _ ∧ _ < k1_off45 i 2 + 176; show k1_off45 i 3 ≤ _ ∧ _ < k1_off45 i 3 + 128] <;> rw [off45_eq i] <;> [show ((i 0).val + 1) % 4 ≤ _ ∧ _ < ((i 0).val + 1) % 4 + 1; show 14 ≤ 14 ∧ 14 < 14 + 1; show 16 ≤ _ ∧ _ < 16 + 176; show 0 ≤ _ ∧ _ < 0 + 128] <;> omega

/-- What a point leaves in the ring of planes. -/
theorem planes_stored {i : grid1.Coords} {X1 : Vec Ideal S16x128 .f32} {X2 : Vec Ideal S704x640 .bf16} {g g' : Vec Ideal S4x15x1088x128 .fp8e4m3}
    (h : Stored g (LP i X1 X2) g') : g' = planesT (i 0).val (planeW X1 X2) g := by
  refine h _ (planes_pieces i X1 X2 g) fun y hy => ?_
  obtain ⟨k, p, ρ, l, rfl⟩ : ∃ (k : Fin 4) (p : Fin 15) (ρ : Fin 1088) (l : Fin 128), y = ix4 k p ρ l := ⟨y 0, y 1, y 2, y 3, eq_ix4 y⟩
  have hn := fun h => (fun ⟨q, hq, hm⟩ => hy q hq hm : ¬ ∃ q ∈ LP i X1 X2, ix4 k p ρ l ∈ q.1.set) (planes_cover i X1 X2 k p ρ l h)
  rw [planesT_ix4]
  unfold stepCol
  rw [if_neg (fun h => hn (.inl h)), if_neg (fun h => hn (.inr (.inl h))), if_neg (fun h => hn (.inr (.inr h)))]

/-! ## The ring of down projections -/

/-- The ring of down projections after point `T` stored the block `W`. -/
def d1sT (T : ℕ) (W : Fin 704 → Fin 128 → EReal) (g : Vec Ideal S4x1088x128 .f32) : Vec Ideal S4x1088x128 .f32 := fun y =>
  stepCol T (colOf W (y 2)) (fun k ρ => g (ix3 k ρ (y 2))) (y 0) (y 1)

theorem d1sT_ix3 (T : ℕ) (W : Fin 704 → Fin 128 → EReal) (g : Vec Ideal S4x1088x128 .f32) (k : Fin 4) (ρ : Fin 1088) (l : Fin 128) :
    d1sT T W g (ix3 k ρ l) = stepCol T (colOf W l) (fun k ρ => g (ix3 k ρ l)) k ρ := rfl

/-- Every piece stored into the ring of down projections is a block of `d1sT`. -/
theorem d1s_pieces (i : grid1.Coords) (X1 : Vec Ideal S16x128 .f32) (C : Vec Ideal S704x640 .fp8e4m3) (X6 : Vec Ideal S640x128 .bf16) (g : Vec Ideal S4x1088x128 .f32) :
    View.PiecesOf (d1sT (i 0).val (d1Of X1 C X6) g) (LD i X1 C X6) := by
  unfold LD
  rw [ld_X6]
  refine ⟨fun x => ?_, fun x => ?_, fun x => ?_, trivial⟩
  · obtain ⟨a, r, l, rfl⟩ : ∃ (a : Fin 1) (r : Fin 176) (l : Fin 128), x = ix3 a r l := ⟨x 0, x 1, x 2, eq_ix3 x⟩
    have e : (Rect.unit (s := S4x1088x128) (k1_off48 i) S1x176x128.size (k1_off48_inb i)).emb (ix3 a r l)
        = ix3 ⟨((i 0).val + 1) % 4, by omega⟩ ⟨16 + r.val, by omega⟩ l := by
      funext c; apply Fin.ext
      show k1_off48 i c + 1 * (ix3 a r l c).val = _
      rw [off48_eq i]; fin_cases c
      · show ((i 0).val + 1) % 4 + 1 * a.val = ((i 0).val + 1) % 4; omega
      · show 16 + 1 * r.val = 16 + r.val; omega
      · show 0 + 1 * l.val = l.val; omega
    show _ = d1sT (i 0).val (d1Of X1 C X6) g ((Rect.unit (s := S4x1088x128) (k1_off48 i) S1x176x128.size (k1_off48_inb i)).emb (ix3 a r l))
    rw [e, d1sT_ix3]
    refine (d1_top i X1 C X6 a r l).trans ?_
    rw [stepCol_top rfl (by show 16 ≤ 16 + r.val; omega) (by show 16 + r.val < 192; omega), colOf_lt _ _ _ (by show 512 + (16 + r.val) < 704; omega)]
    congr 2
    apply Fin.ext; show 528 + r.val = 512 + (16 + r.val); omega
  · obtain ⟨a, r, l, rfl⟩ : ∃ (a : Fin 1) (r : Fin 176) (l : Fin 128), x = ix3 a r l := ⟨x 0, x 1, x 2, eq_ix3 x⟩
    have e : (Rect.unit (s := S4x1088x128) (k1_off47 i) S1x176x128.size (k1_off47_inb i)).emb (ix3 a r l)
        = ix3 ⟨((i 0).val + 3) % 4, by omega⟩ ⟨896 + r.val, by omega⟩ l := by
      funext c; apply Fin.ext
      show k1_off47 i c + 1 * (ix3 a r l c).val = _
      rw [off47_eq i]; fin_cases c
      · show ((i 0).val + 3) % 4 + 1 * a.val = ((i 0).val + 3) % 4; omega
      · show 896 + 1 * r.val = 896 + r.val; omega
      · show 0 + 1 * l.val = l.val; omega
    show _ = d1sT (i 0).val (d1Of X1 C X6) g ((Rect.unit (s := S4x1088x128) (k1_off47 i) S1x176x128.size (k1_off47_inb i)).emb (ix3 a r l))
    rw [e, d1sT_ix3]
    refine (d1_bot i X1 C X6 a r l).trans ?_
    rw [stepCol_bot rfl (by show 896 ≤ 896 + r.val; omega) (by show 896 + r.val < 1072; omega), colOf_lt _ _ _ (by show 896 + r.val - 896 < 704; omega)]
    congr 2
    apply Fin.ext; show r.val = 896 + r.val - 896; omega
  · obtain ⟨a, r, l, rfl⟩ : ∃ (a : Fin 1) (r : Fin 704) (l : Fin 128), x = ix3 a r l := ⟨x 0, x 1, x 2, eq_ix3 x⟩
    have e : (Rect.unit (s := S4x1088x128) (k1_off46 i) S1x704x128.size (k1_off46_inb i)).emb (ix3 a r l)
        = ix3 ⟨(i 0).val % 4, by omega⟩ ⟨192 + r.val, by omega⟩ l := by
      funext c; apply Fin.ext
      show k1_off46 i c + 1 * (ix3 a r l c).val = _
      rw [off46_eq i]; fin_cases c
      · show (i 0).val % 4 + 1 * a.val = (i 0).val % 4; omega
      · show 192 + 1 * r.val = 192 + r.val; omega
      · show 0 + 1 * l.val = l.val; omega
    show _ = d1sT (i 0).val (d1Of X1 C X6) g ((Rect.unit (s := S4x1088x128) (k1_off46 i) S1x704x128.size (k1_off46_inb i)).emb (ix3 a r l))
    rw [e, d1sT_ix3]
    refine (d1_cen X1 C X6 a r l).trans ?_
    rw [stepCol_cen rfl (by show 192 ≤ 192 + r.val; omega) (by show 192 + r.val < 896; omega), colOf_lt _ _ _ (by show 192 + r.val - 192 < 704; omega)]
    congr 2
    apply Fin.ext; show r.val = 192 + r.val - 192; omega

/-- What a point leaves in the ring of down projections. -/
theorem d1s_stored {i : grid1.Coords} {X1 : Vec Ideal S16x128 .f32} {C : Vec Ideal S704x640 .fp8e4m3} {X6 : Vec Ideal S640x128 .bf16} {g g' : Vec Ideal S4x1088x128 .f32}
    (h : Stored g (LD i X1 C X6) g') : g' = d1sT (i 0).val (d1Of X1 C X6) g := by
  refine h _ (d1s_pieces i X1 C X6 g) fun y hy => ?_
  obtain ⟨k, ρ, l, rfl⟩ : ∃ (k : Fin 4) (ρ : Fin 1088) (l : Fin 128), y = ix3 k ρ l := ⟨y 0, y 1, y 2, eq_ix3 y⟩
  have m46 := hy ⟨Rect.unit (k1_off46 i) S1x704x128.size (k1_off46_inb i), _⟩ (List.Mem.tail _ (List.Mem.tail _ (List.Mem.head _)))
  have m47 := hy ⟨Rect.unit (k1_off47 i) S1x176x128.size (k1_off47_inb i), _⟩ (List.Mem.tail _ (List.Mem.head _))
  have m48 := hy ⟨Rect.unit (k1_off48 i) S1x176x128.size (k1_off48_inb i), _⟩ (List.Mem.head _)
  dsimp only at m46 m47 m48
  rw [Rect.mem_set_unit, off46_eq i] at m46
  rw [Rect.mem_set_unit, off47_eq i] at m47
  rw [Rect.mem_set_unit, off48_eq i] at m48
  rw [d1sT_ix3]
  unfold stepCol
  rw [if_neg, if_neg, if_neg]
  · intro hh; apply m48; intro a; fin_cases a
    · show ((i 0).val + 1) % 4 ≤ k.val ∧ k.val < ((i 0).val + 1) % 4 + 1; omega
    · show 16 ≤ ρ.val ∧ ρ.val < 16 + 176; omega
    · show 0 ≤ l.val ∧ l.val < 0 + 128; omega
  · intro hh; apply m47; intro a; fin_cases a
    · show ((i 0).val + 3) % 4 ≤ k.val ∧ k.val < ((i 0).val + 3) % 4 + 1; omega
    · show 896 ≤ ρ.val ∧ ρ.val < 896 + 176; omega
    · show 0 ≤ l.val ∧ l.val < 0 + 128; omega
  · intro hh; apply m46; intro a; fin_cases a
    · show (i 0).val % 4 ≤ k.val ∧ k.val < (i 0).val % 4 + 1; omega
    · show 192 ≤ ρ.val ∧ ρ.val < 192 + 704; omega
    · show 0 ≤ l.val ∧ l.val < 0 + 128; omega

end Cert.KernelIdeal.Val
-- ==== Proof.KernelIdealTile.lean ====
/-
  One point of the kernel `KernelIdeal` at the ideal instance: the block of codes it stores and, from the slots it reads, the block of results.
-/
module

public import proofs.«01_k».proof.Proof.KernelIdealRead

@[expose] public section
set_option maxRecDepth 16384
noncomputable section
namespace Cert.KernelIdeal.Val
open Idealize.ShloMosaic Idealize.ShloMosaic.TcCoe Idealize.ShloMosaic.Tactic Idealize.ShloMosaic.Pointwise
open Cert.KernelIdeal Cert.KernelIdeal.Gen
open Cert.KernelIdeal.Hand

/-- Where a trip of the loop over the column tiles loads and stores. -/
theorem off103_eq : ∀ k : Fin k1_t1_loop.trips, k1_off103 k = ![0, 256 * k.val] := by decide +kernel
theorem off104_eq : ∀ k : Fin k1_t1_loop.trips, k1_off104 k = ![0, 256 * k.val] := by decide +kernel
theorem off105_eq : ∀ k : Fin k1_t1_loop.trips, k1_off105 k = ![0, 256 * k.val] := by decide +kernel
theorem off106_eq : ∀ k : Fin k1_t1_loop.trips, k1_off106 k = ![0, 256 * k.val] := by decide +kernel

theorem cat45 : Shape.Concatenates ((List.ofFn fun _ : Fin 45 => S704x128)) S704x5760 1 := concatenates_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x128_S704x5760_d1

theorem map_ofFn_fst {α : Type} {s : Shape} {N : ℕ} (f : Fin N → (s.Idx → α)) : (List.ofFn fun n : Fin N => (⟨s, f n⟩ : (s : Shape) × (s.Idx → α))).map (·.1) = List.ofFn fun _ : Fin N => s := by
  rw [List.map_ofFn]; rfl

/-- The planes of a slot side by side. -/
def cat (P : Fin 45 → FVec Ideal S704x128 .fp8e4m3) : FVec Ideal S704x5760 .fp8e4m3 :=
  concatenate S704x5760 1 (List.ofFn fun p : Fin 45 => (⟨S704x128, P p⟩ : (s : Shape) × (s.Idx → Ideal .fp8e4m3))) (by rw [map_ofFn_fst]; exact cat45)

theorem cat_apply (P : Fin 45 → FVec Ideal S704x128 .fp8e4m3) (r : Fin 704) (κ : Fin 5760) :
    cat P (ix2 r κ) = P ⟨κ.val / 128, by omega⟩ (ix2 r ⟨κ.val % 128, by omega⟩) := by
  unfold cat
  refine Idealize.ShloMosaic.concatenate_ofFn_apply (t := S704x5760) 1 P _ rfl 128 rfl (ix2 r κ) ⟨κ.val / 128, by omega⟩ rfl _ rfl ?_
  intro b hb
  fin_cases b
  · rfl
  · exact absurd rfl hb

theorem pay44_eq (s : FVec Ideal S1x128 .f32) (P : Fin 45 → Vec Ideal S1x1x704x128 .fp8e4m3)
  (w : Vec Ideal S5760x256 .fp8e4m3) (ws : Vec Ideal S1x256 .f32) :
    k1_pay44 s (shapeCast S704x128 (P 0) shapeCasts_S1x1x704x128_S704x128) (shapeCast S704x128 (P 1) shapeCasts_S1x1x704x128_S704x128) (shapeCast S704x128 (P 2) shapeCasts_S1x1x704x128_S704x128) (shapeCast S704x128 (P 3) shapeCasts_S1x1x704x128_S704x128) (shapeCast S704x128 (P 4) shapeCasts_S1x1x704x128_S704x128) (shapeCast S704x128 (P 5) shapeCasts_S1x1x704x128_S704x128) (shapeCast S704x128 (P 6) shapeCasts_S1x1x704x128_S704x128) (shapeCast S704x128 (P 7) shapeCasts_S1x1x704x128_S704x128) (shapeCast S704x128 (P 8) shapeCasts_S1x1x704x128_S704x128) (shapeCast S704x128 (P 9) shapeCasts_S1x1x704x128_S704x128) (shapeCast S704x128 (P 10) shapeCasts_S1x1x704x128_S704x128) (shapeCast S704x128 (P 11) shapeCasts_S1x1x704x128_S704x128) (shapeCast S704x128 (P 12) shapeCasts_S1x1x704x128_S704x128) (shapeCast S704x128 (P 13) shapeCasts_S1x1x704x128_S704x128) (shapeCast S704x128 (P 14) shapeCasts_S1x1x704x128_S704x128) (shapeCast S704x128 (P 15) shapeCasts_S1x1x704x128_S704x128) (shapeCast S704x128 (P 16) shapeCasts_S1x1x704x128_S704x128) (shapeCast S704x128 (P 17) shapeCasts_S1x1x704x128_S704x128) (shapeCast S704x128 (P 18) shapeCasts_S1x1x704x128_S704x128) (shapeCast S704x128 (P 19) shapeCasts_S1x1x704x128_S704x128) (shapeCast S704x128 (P 20) shapeCasts_S1x1x704x128_S704x128) (shapeCast S704x128 (P 21) shapeCasts_S1x1x704x128_S704x128) (shapeCast S704x128 (P 22) shapeCasts_S1x1x704x128_S704x128) (shapeCast S704x128 (P 23) shapeCasts_S1x1x704x128_S704x128) (shapeCast S704x128 (P 24) shapeCasts_S1x1x704x128_S704x128) (shapeCast S704x128 (P 25) shapeCasts_S1x1x704x128_S704x128) (shapeCast S704x128 (P 26) shapeCasts_S1x1x704x128_S704x128) (shapeCast S704x128 (P 27) shapeCasts_S1x1x704x128_S704x128) (shapeCast S704x128 (P 28) shapeCasts_S1x1x704x128_S704x128) (shapeCast S704x128 (P 29) shapeCasts_S1x1x704x128_S704x128) (shapeCast S704x128 (P 30) shapeCasts_S1x1x704x128_S704x128) (shapeCast S704x128 (P 31) shapeCasts_S1x1x704x128_S704x128) (shapeCast S704x128 (P 32) shapeCasts_S1x1x704x128_S704x128) (shapeCast S704x128 (P 33) shapeCasts_S1x1x704x128_S704x128) (shapeCast S704x128 (P 34) shapeCasts_S1x1x704x128_S704x128) (shapeCast S704x128 (P 35) shapeCasts_S1x1x704x128_S704x128) (shapeCast S704x128 (P 36) shapeCasts_S1x1x704x128_S704x128) (shapeCast S704x128 (P 37) shapeCasts_S1x1x704x128_S704x128) (shapeCast S704x128 (P 38) shapeCasts_S1x1x704x128_S704x128) (P 39) (P 40) (P 41) (P 42) (P 43) (P 44) w ws =
  mulf (mulf (matmul dot_S704x5760_S5760x256_S704x256_1_0_0_1_n_n none (cat fun p => shapeCast S704x128 (P p) shapeCasts_S1x1x704x128_S704x128) (shapeCast S5760x256 w shapeCasts_S5760x256_S5760x256 : FVec Ideal S5760x256 .fp8e4m3) (constant S704x256 .f32 0x00000000#32))
    (broadcastTo S704x256 (extractStridedSlice S1x1 ![0, 0] s slices_S1x128_o0_0_S1x1) broadcasts_S1x1_S704x256))
    (broadcastTo S704x256 (shapeCast S1x256 ws shapeCasts_S1x256_S1x256) broadcasts_S1x256_S704x256) := rfl

theorem pay44_apply (s : FVec Ideal S1x128 .f32) (P : Fin 45 → Vec Ideal S1x1x704x128 .fp8e4m3)
  (w : Vec Ideal S5760x256 .fp8e4m3) (ws : Vec Ideal S1x256 .f32) (r : Fin 704) (n : Fin 256) :
    k1_pay44 s (shapeCast S704x128 (P 0) shapeCasts_S1x1x704x128_S704x128) (shapeCast S704x128 (P 1) shapeCasts_S1x1x704x128_S704x128) (shapeCast S704x128 (P 2) shapeCasts_S1x1x704x128_S704x128) (shapeCast S704x128 (P 3) shapeCasts_S1x1x704x128_S704x128) (shapeCast S704x128 (P 4) shapeCasts_S1x1x704x128_S704x128) (shapeCast S704x128 (P 5) shapeCasts_S1x1x704x128_S704x128) (shapeCast S704x128 (P 6) shapeCasts_S1x1x704x128_S704x128) (shapeCast S704x128 (P 7) shapeCasts_S1x1x704x128_S704x128) (shapeCast S704x128 (P 8) shapeCasts_S1x1x704x128_S704x128) (shapeCast S704x128 (P 9) shapeCasts_S1x1x704x128_S704x128) (shapeCast S704x128 (P 10) shapeCasts_S1x1x704x128_S704x128) (shapeCast S704x128 (P 11) shapeCasts_S1x1x704x128_S704x128) (shapeCast S704x128 (P 12) shapeCasts_S1x1x704x128_S704x128) (shapeCast S704x128 (P 13) shapeCasts_S1x1x704x128_S704x128) (shapeCast S704x128 (P 14) shapeCasts_S1x1x704x128_S704x128) (shapeCast S704x128 (P 15) shapeCasts_S1x1x704x128_S704x128) (shapeCast S704x128 (P 16) shapeCasts_S1x1x704x128_S704x128) (shapeCast S704x128 (P 17) shapeCasts_S1x1x704x128_S704x128) (shapeCast S704x128 (P 18) shapeCasts_S1x1x704x128_S704x128) (shapeCast S704x128 (P 19) shapeCasts_S1x1x704x128_S704x128) (shapeCast S704x128 (P 20) shapeCasts_S1x1x704x128_S704x128) (shapeCast S704x128 (P 21) shapeCasts_S1x1x704x128_S704x128) (shapeCast S704x128 (P 22) shapeCasts_S1x1x704x128_S704x128) (shapeCast S704x128 (P 23) shapeCasts_S1x1x704x128_S704x128) (shapeCast S704x128 (P 24) shapeCasts_S1x1x704x128_S704x128) (shapeCast S704x128 (P 25) shapeCasts_S1x1x704x128_S704x128) (shapeCast S704x128 (P 26) shapeCasts_S1x1x704x128_S704x128) (shapeCast S704x128 (P 27) shapeCasts_S1x1x704x128_S704x128) (shapeCast S704x128 (P 28) shapeCasts_S1x1x704x128_S704x128) (shapeCast S704x128 (P 29) shapeCasts_S1x1x704x128_S704x128) (shapeCast S704x128 (P 30) shapeCasts_S1x1x704x128_S704x128) (shapeCast S704x128 (P 31) shapeCasts_S1x1x704x128_S704x128) (shapeCast S704x128 (P 32) shapeCasts_S1x1x704x128_S704x128) (shapeCast S704x128 (P 33) shapeCasts_S1x1x704x128_S704x128) (shapeCast S704x128 (P 34) shapeCasts_S1x1x704x128_S704x128) (shapeCast S704x128 (P 35) shapeCasts_S1x1x704x128_S704x128) (shapeCast S704x128 (P 36) shapeCasts_S1x1x704x128_S704x128) (shapeCast S704x128 (P 37) shapeCasts_S1x1x704x128_S704x128) (shapeCast S704x128 (P 38) shapeCasts_S1x1x704x128_S704x128) (P 39) (P 40) (P 41) (P 42) (P 43) (P 44) w ws (ix2 r n) = (∑ κ : Fin 5760, P ⟨κ.val / 128, by omega⟩ (ix4 0 0 r ⟨κ.val % 128, by omega⟩) * w (ix2 κ n)) * s (ix2 0 0) * ws (ix2 0 n) := by
  rw [pay44_eq]
  have e (κ : Fin 5760) : P ⟨κ.val / 128, by omega⟩ (ix4 0 0 r ⟨κ.val % 128, by omega⟩) = (cat fun p => shapeCast S704x128 (P p) shapeCasts_S1x1x704x128_S704x128) (ix2 r κ) := by
    rw [cat_apply]
    generalize (⟨κ.val / 128, _⟩ : Fin 45) = p
    generalize (⟨κ.val % 128, _⟩ : Fin 128) = l
    pointwise []
  simp only [e]
  generalize (cat fun p => shapeCast S704x128 (P p) shapeCasts_S1x1x704x128_S704x128) = C
  pointwise []

theorem cat9h : Shape.Concatenates (List.ofFn fun _ : Fin 9 => S704x128) S704x1152 1 := concatenates_S704x128_S704x128_S704x128_S704x128_S704x128_S704x128_S704x128_S704x128_S704x128_S704x1152_d1

/-- The taps of the second low-rank convolution side by side. -/
def cat9 (T : Fin 9 → FVec Ideal S704x128 .bf16) : FVec Ideal S704x1152 .bf16 :=
  concatenate S704x1152 1 (List.ofFn fun p : Fin 9 => (⟨S704x128, T p⟩ : (s : Shape) × (s.Idx → Ideal .bf16))) (by rw [map_ofFn_fst]; exact cat9h)

theorem cat9_apply (T : Fin 9 → FVec Ideal S704x128 .bf16) (r : Fin 704) (κ : Fin 1152) :
    cat9 T (ix2 r κ) = T ⟨κ.val / 128, by omega⟩ (ix2 r ⟨κ.val % 128, by omega⟩) := by
  unfold cat9
  refine Idealize.ShloMosaic.concatenate_ofFn_apply (t := S704x1152) 1 T _ rfl 128 rfl (ix2 r κ) ⟨κ.val / 128, by omega⟩ rfl _ rfl ?_
  intro b hb
  fin_cases b
  · rfl
  · exact absurd rfl hb

theorem pay2_eq (T : Fin 9 → FVec Ideal S704x128 .bf16) (c : IVec S704x128 32) (h7 : FVec Ideal S704x128 .f32) (h8 : Vec Ideal S1x704x128 .f32) (m : Vec Ideal S1152x128 .bf16)
    (e7 : truncf .bf16 h7 bitsLt_bf16_f32 = T 7)
    (e8 : truncf .bf16 (select (cmpi .eq c (broadcast S704x128 175#32)) (broadcast S704x128 (Scalar.ofBits (F := Ideal) .f32 0x00000000#32)) (shapeCast S704x128 h8 shapeCasts_S1x704x128_S704x128)) bitsLt_bf16_f32 = T 8) :
    k1_pay2 (F := Ideal) c (T 0) (T 1) (T 2) (T 3) (T 4) (T 5) (T 6) h7 h8 m = truncf .bf16 (matmul dot_S704x1152_S1152x128_S704x128_1_0_0_1_n_n none (cat9 T) (shapeCast S1152x128 m shapeCasts_S1152x128_S1152x128 : FVec Ideal S1152x128 .bf16) (constant S704x128 .f32 0x00000000#32)) bitsLt_bf16_f32 := by
  let K (a b : FVec Ideal S704x128 .bf16) : FVec Ideal S704x128 .bf16 := truncf .bf16 (matmul dot_S704x1152_S1152x128_S704x128_1_0_0_1_n_n none
    (concatenate S704x1152 1 [⟨S704x128, T 0⟩, ⟨S704x128, T 1⟩, ⟨S704x128, T 2⟩, ⟨S704x128, T 3⟩, ⟨S704x128, T 4⟩, ⟨S704x128, T 5⟩, ⟨S704x128, T 6⟩, ⟨S704x128, a⟩, ⟨S704x128, b⟩] cat9h : FVec Ideal S704x1152 .bf16)
    (shapeCast S1152x128 m shapeCasts_S1152x128_S1152x128 : FVec Ideal S1152x128 .bf16) (constant S704x128 .f32 0x00000000#32)) bitsLt_bf16_f32
  have h : k1_pay2 (F := Ideal) c (T 0) (T 1) (T 2) (T 3) (T 4) (T 5) (T 6) h7 h8 m = K (truncf .bf16 h7 bitsLt_bf16_f32)
    (truncf .bf16 (select (cmpi .eq c (broadcast S704x128 175#32)) (broadcast S704x128 (Scalar.ofBits (F := Ideal) .f32 0x00000000#32)) (shapeCast S704x128 h8 shapeCasts_S1x704x128_S704x128)) bitsLt_bf16_f32) := rfl
  rw [h, e7, e8]
  rfl

theorem last_tap (c : IVec S704x128 32) (h8 : Vec Ideal S1x704x128 .f32) (r : Fin 704) (l : Fin 128) :
    truncf .bf16 (select (cmpi .eq c (broadcast S704x128 175#32)) (broadcast S704x128 (Scalar.ofBits (F := Ideal) .f32 0x00000000#32)) (shapeCast S704x128 h8 shapeCasts_S1x704x128_S704x128)) bitsLt_bf16_f32 (ix2 r l)
      = Scalar.select (IntOp.cmpi .eq (c (ix2 r l)) 175#32) 0 (h8 (ix3 0 r l)) := by
  pointwise []

/-- The entry of a slot of the down projections that tap `p` of the second low-rank convolution reads, zero off the image's sides. -/
def tapAt (h : Vec Ideal S4x1088x128 .f32) (T : ℕ) (p : Fin 9) (r : Fin 704) (l : Fin 128) : EReal :=
  if (p.val % 3 = 0 ∧ r.val % 176 = 0) ∨ (p.val % 3 = 2 ∧ r.val % 176 = 175) then 0
  else h (ix3 ⟨(T + 2) % 4, by omega⟩ ⟨15 + 176 * (p.val / 3) + p.val % 3 + r.val, by omega⟩ l)

theorem tapAt_left (h : Vec Ideal S4x1088x128 .f32) (T : ℕ) (p : Fin 9) (r : Fin 704) (l : Fin 128) (hp : p.val % 3 = 0) : tapAt h T p r l = if r.val % 176 = 0 then 0 else h (ix3 ⟨(T + 2) % 4, by omega⟩ ⟨15 + 176 * (p.val / 3) + p.val % 3 + r.val, by omega⟩ l) := by
  unfold tapAt
  exact if_congr ⟨fun e => by omega, fun e => Or.inl ⟨hp, e⟩⟩ rfl rfl

theorem tapAt_right (h : Vec Ideal S4x1088x128 .f32) (T : ℕ) (p : Fin 9) (r : Fin 704) (l : Fin 128) (hp : p.val % 3 = 2) : tapAt h T p r l = if r.val % 176 = 175 then 0 else h (ix3 ⟨(T + 2) % 4, by omega⟩ ⟨15 + 176 * (p.val / 3) + p.val % 3 + r.val, by omega⟩ l) := by
  unfold tapAt
  exact if_congr ⟨fun e => by omega, fun e => Or.inr ⟨hp, e⟩⟩ rfl rfl

theorem tapAt_mid (h : Vec Ideal S4x1088x128 .f32) (T : ℕ) (p : Fin 9) (r : Fin 704) (l : Fin 128) (hp : p.val % 3 = 1) : tapAt h T p r l = h (ix3 ⟨(T + 2) % 4, by omega⟩ ⟨15 + 176 * (p.val / 3) + p.val % 3 + r.val, by omega⟩ l) := by
  unfold tapAt
  exact if_neg (by omega)

theorem ld_d1s (h : Vec Ideal S4x1088x128 .f32) (T b : ℕ) (hb : b + 704 ≤ 1088) (off : Fin 3 → ℕ) (e : off = ![(T + 2) % 4, b, 0]) (inb : ∀ a, off a + S1x704x128.size a ≤ S4x1088x128.size a) (r : Fin 704) (l : Fin 128) :
    View.ld h (Rect.unit off S1x704x128.size inb) (ix3 0 r l) = h (ix3 ⟨(T + 2) % 4, by omega⟩ ⟨b + r.val, by omega⟩ l) := by
  subst e
  refine congrArg h ?_
  funext c; apply Fin.ext; fin_cases c
  · show (T + 2) % 4 + 1 * 0 = (T + 2) % 4; omega
  · show b + 1 * r.val = b + r.val; omega
  · show 0 + 1 * l.val = l.val; omega

theorem ld_plane (g : Vec Ideal S4x15x1088x128 .fp8e4m3) (T p b : ℕ) (hp : p < 15) (hb : b + 704 ≤ 1088) (off : Fin 4 → ℕ) (e : off = ![(T + 2) % 4, p, b, 0]) (inb : ∀ a, off a + S1x1x704x128.size a ≤ S4x15x1088x128.size a) :
    View.ld g (Rect.unit off S1x1x704x128.size inb) = fun j => g (ix4 ⟨(T + 2) % 4, by omega⟩ ⟨p, hp⟩ ⟨b + (j 2).val, by have h2 : (j 2).val < 704 := (j 2).isLt; omega⟩ (j 3)) := by
  subst e
  funext j
  refine congrArg g ?_
  have h0 : (j 0).val < 1 := (j 0).isLt
  have h1 : (j 1).val < 1 := (j 1).isLt
  funext c; apply Fin.ext; fin_cases c
  · show (T + 2) % 4 + 1 * (j 0).val = (T + 2) % 4; omega
  · show p + 1 * (j 1).val = p; omega
  · show b + 1 * (j 2).val = b + (j 2).val; omega
  · show 0 + 1 * (j 3).val = (j 3).val; omega

/-- The taps as vectors. -/
def taps (h : Vec Ideal S4x1088x128 .f32) (T : ℕ) (p : Fin 9) : FVec Ideal S704x128 .bf16 := fun j => tapAt h T p (j 0) (j 1)

theorem d2Of_apply (i : grid1.Coords) (h2 : k1_cond2 i = 1#1) (h : Vec Ideal S4x1088x128 .f32) (X7 : Vec Ideal S1152x128 .bf16) (r : Fin 704) (o : Fin 128) :
    d2Of i h2 h X7 (ix2 r o) = ∑ κ : Fin 1152, tapAt h (i 0).val ⟨κ.val / 128, by omega⟩ r ⟨κ.val % 128, by omega⟩ * X7 (ix2 κ o) := by
  unfold d2Of
  have e0 : k1_pay47 (View.ld h (Rect.unit (k1_off49 i) S1x704x128.size (k1_off49_inb i h2))) = taps h (i 0).val 0 := by
    funext j; idx_vars j
    have E := ld_d1s h (i 0).val 15 (by omega) (k1_off49 i) (off49_eq i) (k1_off49_inb i h2) j0 j1
    generalize (View.ld h (Rect.unit (k1_off49 i) S1x704x128.size (k1_off49_inb i h2))) = L at E ⊢
    show _ = tapAt h (i 0).val 0 j0 j1
    rw [tapAt_left h (i 0).val 0 j0 j1 rfl]
    pointwise [k1_pay47]
    rw [col_apply, col_first, select_ite, E]
  have e1 : k1_pay49 (k1_pay48 (View.ld h (Rect.unit (k1_off50 i) S1x704x128.size (k1_off50_inb i h2)))) = taps h (i 0).val 1 := by
    funext j; idx_vars j
    have E := ld_d1s h (i 0).val 16 (by omega) (k1_off50 i) (off50_eq i) (k1_off50_inb i h2) j0 j1
    generalize (View.ld h (Rect.unit (k1_off50 i) S1x704x128.size (k1_off50_inb i h2))) = L at E ⊢
    show _ = tapAt h (i 0).val 1 j0 j1
    rw [tapAt_mid h (i 0).val 1 j0 j1 rfl]
    pointwise [k1_pay48, k1_pay49]
    rw [E]
  have e2 : k1_pay50 k1_pay46 (View.ld h (Rect.unit (k1_off51 i) S1x704x128.size (k1_off51_inb i h2))) = taps h (i 0).val 2 := by
    funext j; idx_vars j
    have E := ld_d1s h (i 0).val 17 (by omega) (k1_off51 i) (off51_eq i) (k1_off51_inb i h2) j0 j1
    generalize (View.ld h (Rect.unit (k1_off51 i) S1x704x128.size (k1_off51_inb i h2))) = L at E ⊢
    show _ = tapAt h (i 0).val 2 j0 j1
    rw [tapAt_right h (i 0).val 2 j0 j1 rfl]
    pointwise [k1_pay50]
    rw [col_apply, col_last, select_ite, E]
  have e3 : k1_pay51 k1_pay46 (View.ld h (Rect.unit (k1_off52 i) S1x704x128.size (k1_off52_inb i h2))) = taps h (i 0).val 3 := by
    funext j; idx_vars j
    have E := ld_d1s h (i 0).val 191 (by omega) (k1_off52 i) (off52_eq i) (k1_off52_inb i h2) j0 j1
    generalize (View.ld h (Rect.unit (k1_off52 i) S1x704x128.size (k1_off52_inb i h2))) = L at E ⊢
    show _ = tapAt h (i 0).val 3 j0 j1
    rw [tapAt_left h (i 0).val 3 j0 j1 rfl]
    pointwise [k1_pay51]
    rw [col_apply, col_first, select_ite, E]
  have e4 : k1_pay52 (View.ld h (Rect.unit (k1_off53 i) S1x704x128.size (k1_off53_inb i h2))) = taps h (i 0).val 4 := by
    funext j; idx_vars j
    have E := ld_d1s h (i 0).val 192 (by omega) (k1_off53 i) (off53_eq i) (k1_off53_inb i h2) j0 j1
    generalize (View.ld h (Rect.unit (k1_off53 i) S1x704x128.size (k1_off53_inb i h2))) = L at E ⊢
    show _ = tapAt h (i 0).val 4 j0 j1
    rw [tapAt_mid h (i 0).val 4 j0 j1 rfl]
    pointwise [k1_pay52]
    rw [E]
  have e5 : k1_pay53 k1_pay46 (View.ld h (Rect.unit (k1_off54 i) S1x704x128.size (k1_off54_inb i h2))) = taps h (i 0).val 5 := by
    funext j; idx_vars j
    have E := ld_d1s h (i 0).val 193 (by omega) (k1_off54 i) (off54_eq i) (k1_off54_inb i h2) j0 j1
    generalize (View.ld h (Rect.unit (k1_off54 i) S1x704x128.size (k1_off54_inb i h2))) = L at E ⊢
    show _ = tapAt h (i 0).val 5 j0 j1
    rw [tapAt_right h (i 0).val 5 j0 j1 rfl]
    pointwise [k1_pay53]
    rw [col_apply, col_last, select_ite, E]
  have e6 : k1_pay54 k1_pay46 (View.ld h (Rect.unit (k1_off55 i) S1x704x128.size (k1_off55_inb i h2))) = taps h (i 0).val 6 := by
    funext j; idx_vars j
    have E := ld_d1s h (i 0).val 367 (by omega) (k1_off55 i) (off55_eq i) (k1_off55_inb i h2) j0 j1
    generalize (View.ld h (Rect.unit (k1_off55 i) S1x704x128.size (k1_off55_inb i h2))) = L at E ⊢
    show _ = tapAt h (i 0).val 6 j0 j1
    rw [tapAt_left h (i 0).val 6 j0 j1 rfl]
    pointwise [k1_pay54]
    rw [col_apply, col_first, select_ite, E]
  have e7 : truncf .bf16 (k1_pay55 (View.ld h (Rect.unit (k1_off56 i) S1x704x128.size (k1_off56_inb i h2)))) bitsLt_bf16_f32 = taps h (i 0).val 7 := by
    funext j; idx_vars j
    have E := ld_d1s h (i 0).val 368 (by omega) (k1_off56 i) (off56_eq i) (k1_off56_inb i h2) j0 j1
    generalize (View.ld h (Rect.unit (k1_off56 i) S1x704x128.size (k1_off56_inb i h2))) = L at E ⊢
    show _ = tapAt h (i 0).val 7 j0 j1
    rw [tapAt_mid h (i 0).val 7 j0 j1 rfl]
    pointwise [k1_pay55]
    rw [E]
  have e8 : truncf .bf16 (select (cmpi .eq k1_pay46 (broadcast S704x128 175#32)) (broadcast S704x128 (Scalar.ofBits (F := Ideal) .f32 0x00000000#32)) (shapeCast S704x128 (View.ld h (Rect.unit (k1_off57 i) S1x704x128.size (k1_off57_inb i h2))) shapeCasts_S1x704x128_S704x128)) bitsLt_bf16_f32 = taps h (i 0).val 8 := by
    funext j; idx_vars j
    have E := ld_d1s h (i 0).val 369 (by omega) (k1_off57 i) (off57_eq i) (k1_off57_inb i h2) j0 j1
    generalize (View.ld h (Rect.unit (k1_off57 i) S1x704x128.size (k1_off57_inb i h2))) = L at E ⊢
    show _ = tapAt h (i 0).val 8 j0 j1
    rw [tapAt_right h (i 0).val 8 j0 j1 rfl]
    rw [last_tap]
    rw [col_apply, col_last, select_ite, E]
    rfl
  have h7 : View.ld X7 (Rect.unit ![0, 0] S1152x128.size inb_S1152x128_S1152x128_0_0) = X7 := by
    funext j
    refine congrArg X7 ?_
    funext c; apply Fin.ext; fin_cases c
    · show 0 + 1 * (j 0).val = (j 0).val; omega
    · show 0 + 1 * (j 1).val = (j 1).val; omega
  rw [h7, e0, e1, e2, e3, e4, e5, e6, pay2_eq (taps h (i 0).val) _ _ _ _ e7 e8]
  have ec (κ : Fin 1152) : tapAt h (i 0).val ⟨κ.val / 128, by omega⟩ r ⟨κ.val % 128, by omega⟩ = cat9 (taps h (i 0).val) (ix2 r κ) := by rw [cat9_apply]; rfl
  simp only [ec]
  generalize cat9 (taps h (i 0).val) = C
  pointwise []

/-- The planes of the slot read at a point, as loaded. -/
def slotPlanes (i : grid1.Coords) (h2 : k1_cond2 i = 1#1) (g : Vec Ideal S4x15x1088x128 .fp8e4m3) : Fin 45 → Vec Ideal S1x1x704x128 .fp8e4m3 :=
  ![View.ld g (Rect.unit (k1_off58 i) S1x1x704x128.size (k1_off58_inb i h2)),
    View.ld g (Rect.unit (k1_off59 i) S1x1x704x128.size (k1_off59_inb i h2)),
    View.ld g (Rect.unit (k1_off60 i) S1x1x704x128.size (k1_off60_inb i h2)),
    View.ld g (Rect.unit (k1_off61 i) S1x1x704x128.size (k1_off61_inb i h2)),
    View.ld g (Rect.unit (k1_off62 i) S1x1x704x128.size (k1_off62_inb i h2)),
    View.ld g (Rect.unit (k1_off63 i) S1x1x704x128.size (k1_off63_inb i h2)),
    View.ld g (Rect.unit (k1_off64 i) S1x1x704x128.size (k1_off64_inb i h2)),
    View.ld g (Rect.unit (k1_off65 i) S1x1x704x128.size (k1_off65_inb i h2)),
    View.ld g (Rect.unit (k1_off66 i) S1x1x704x128.size (k1_off66_inb i h2)),
    View.ld g (Rect.unit (k1_off67 i) S1x1x704x128.size (k1_off67_inb i h2)),
    View.ld g (Rect.unit (k1_off68 i) S1x1x704x128.size (k1_off68_inb i h2)),
    View.ld g (Rect.unit (k1_off69 i) S1x1x704x128.size (k1_off69_inb i h2)),
    View.ld g (Rect.unit (k1_off70 i) S1x1x704x128.size (k1_off70_inb i h2)),
    View.ld g (Rect.unit (k1_off71 i) S1x1x704x128.size (k1_off71_inb i h2)),
    View.ld g (Rect.unit (k1_off72 i) S1x1x704x128.size (k1_off72_inb i h2)),
    View.ld g (Rect.unit (k1_off73 i) S1x1x704x128.size (k1_off73_inb i h2)),
    View.ld g (Rect.unit (k1_off74 i) S1x1x704x128.size (k1_off74_inb i h2)),
    View.ld g (Rect.unit (k1_off75 i) S1x1x704x128.size (k1_off75_inb i h2)),
    View.ld g (Rect.unit (k1_off76 i) S1x1x704x128.size (k1_off76_inb i h2)),
    View.ld g (Rect.unit (k1_off77 i) S1x1x704x128.size (k1_off77_inb i h2)),
    View.ld g (Rect.unit (k1_off78 i) S1x1x704x128.size (k1_off78_inb i h2)),
    View.ld g (Rect.unit (k1_off79 i) S1x1x704x128.size (k1_off79_inb i h2)),
    View.ld g (Rect.unit (k1_off80 i) S1x1x704x128.size (k1_off80_inb i h2)),
    View.ld g (Rect.unit (k1_off81 i) S1x1x704x128.size (k1_off81_inb i h2)),
    View.ld g (Rect.unit (k1_off82 i) S1x1x704x128.size (k1_off82_inb i h2)),
    View.ld g (Rect.unit (k1_off83 i) S1x1x704x128.size (k1_off83_inb i h2)),
    View.ld g (Rect.unit (k1_off84 i) S1x1x704x128.size (k1_off84_inb i h2)),
    View.ld g (Rect.unit (k1_off85 i) S1x1x704x128.size (k1_off85_inb i h2)),
    View.ld g (Rect.unit (k1_off86 i) S1x1x704x128.size (k1_off86_inb i h2)),
    View.ld g (Rect.unit (k1_off87 i) S1x1x704x128.size (k1_off87_inb i h2)),
    View.ld g (Rect.unit (k1_off88 i) S1x1x704x128.size (k1_off88_inb i h2)),
    View.ld g (Rect.unit (k1_off89 i) S1x1x704x128.size (k1_off89_inb i h2)),
    View.ld g (Rect.unit (k1_off90 i) S1x1x704x128.size (k1_off90_inb i h2)),
    View.ld g (Rect.unit (k1_off91 i) S1x1x704x128.size (k1_off91_inb i h2)),
    View.ld g (Rect.unit (k1_off92 i) S1x1x704x128.size (k1_off92_inb i h2)),
    View.ld g (Rect.unit (k1_off93 i) S1x1x704x128.size (k1_off93_inb i h2)),
    View.ld g (Rect.unit (k1_off94 i) S1x1x704x128.size (k1_off94_inb i h2)),
    View.ld g (Rect.unit (k1_off95 i) S1x1x704x128.size (k1_off95_inb i h2)),
    View.ld g (Rect.unit (k1_off96 i) S1x1x704x128.size (k1_off96_inb i h2)),
    View.ld g (Rect.unit (k1_off97 i) S1x1x704x128.size (k1_off97_inb i h2)),
    View.ld g (Rect.unit (k1_off98 i) S1x1x704x128.size (k1_off98_inb i h2)),
    View.ld g (Rect.unit (k1_off99 i) S1x1x704x128.size (k1_off99_inb i h2)),
    View.ld g (Rect.unit (k1_off100 i) S1x1x704x128.size (k1_off100_inb i h2)),
    View.ld g (Rect.unit (k1_off101 i) S1x1x704x128.size (k1_off101_inb i h2)),
    View.ld g (Rect.unit (k1_off102 i) S1x1x704x128.size (k1_off102_inb i h2))]

theorem slotPlanes_eq (i : grid1.Coords) (h2 : k1_cond2 i = 1#1) (g : Vec Ideal S4x15x1088x128 .fp8e4m3) (p : Fin 45) : slotPlanes i h2 g p =
    fun j => g (ix4 ⟨((i 0).val + 2) % 4, by omega⟩ ⟨p.val % 15, by omega⟩ ⟨16 + 176 * (p.val / 15) + (j 2).val, by have h2 : (j 2).val < 704 := (j 2).isLt; omega⟩ (j 3)) := by
  fin_cases p
  · exact ld_plane g (i 0).val 0 16 (by omega) (by omega) (k1_off58 i) (off58_eq i) _
  · exact ld_plane g (i 0).val 1 16 (by omega) (by omega) (k1_off59 i) (off59_eq i) _
  · exact ld_plane g (i 0).val 2 16 (by omega) (by omega) (k1_off60 i) (off60_eq i) _
  · exact ld_plane g (i 0).val 3 16 (by omega) (by omega) (k1_off61 i) (off61_eq i) _
  · exact ld_plane g (i 0).val 4 16 (by omega) (by omega) (k1_off62 i) (off62_eq i) _
  · exact ld_plane g (i 0).val 5 16 (by omega) (by omega) (k1_off63 i) (off63_eq i) _
  · exact ld_plane g (i 0).val 6 16 (by omega) (by omega) (k1_off64 i) (off64_eq i) _
  · exact ld_plane g (i 0).val 7 16 (by omega) (by omega) (k1_off65 i) (off65_eq i) _
  · exact ld_plane g (i 0).val 8 16 (by omega) (by omega) (k1_off66 i) (off66_eq i) _
  · exact ld_plane g (i 0).val 9 16 (by omega) (by omega) (k1_off67 i) (off67_eq i) _
  · exact ld_plane g (i 0).val 10 16 (by omega) (by omega) (k1_off68 i) (off68_eq i) _
  · exact ld_plane g (i 0).val 11 16 (by omega) (by omega) (k1_off69 i) (off69_eq i) _
  · exact ld_plane g (i 0).val 12 16 (by omega) (by omega) (k1_off70 i) (off70_eq i) _
  · exact ld_plane g (i 0).val 13 16 (by omega) (by omega) (k1_off71 i) (off71_eq i) _
  · exact ld_plane g (i 0).val 14 16 (by omega) (by omega) (k1_off72 i) (off72_eq i) _
  · exact ld_plane g (i 0).val 0 192 (by omega) (by omega) (k1_off73 i) (off73_eq i) _
  · exact ld_plane g (i 0).val 1 192 (by omega) (by omega) (k1_off74 i) (off74_eq i) _
  · exact ld_plane g (i 0).val 2 192 (by omega) (by omega) (k1_off75 i) (off75_eq i) _
  · exact ld_plane g (i 0).val 3 192 (by omega) (by omega) (k1_off76 i) (off76_eq i) _
  · exact ld_plane g (i 0).val 4 192 (by omega) (by omega) (k1_off77 i) (off77_eq i) _
  · exact ld_plane g (i 0).val 5 192 (by omega) (by omega) (k1_off78 i) (off78_eq i) _
  · exact ld_plane g (i 0).val 6 192 (by omega) (by omega) (k1_off79 i) (off79_eq i) _
  · exact ld_plane g (i 0).val 7 192 (by omega) (by omega) (k1_off80 i) (off80_eq i) _
  · exact ld_plane g (i 0).val 8 192 (by omega) (by omega) (k1_off81 i) (off81_eq i) _
  · exact ld_plane g (i 0).val 9 192 (by omega) (by omega) (k1_off82 i) (off82_eq i) _
  · exact ld_plane g (i 0).val 10 192 (by omega) (by omega) (k1_off83 i) (off83_eq i) _
  · exact ld_plane g (i 0).val 11 192 (by omega) (by omega) (k1_off84 i) (off84_eq i) _
  · exact ld_plane g (i 0).val 12 192 (by omega) (by omega) (k1_off85 i) (off85_eq i) _
  · exact ld_plane g (i 0).val 13 192 (by omega) (by omega) (k1_off86 i) (off86_eq i) _
  · exact ld_plane g (i 0).val 14 192 (by omega) (by omega) (k1_off87 i) (off87_eq i) _
  · exact ld_plane g (i 0).val 0 368 (by omega) (by omega) (k1_off88 i) (off88_eq i) _
  · exact ld_plane g (i 0).val 1 368 (by omega) (by omega) (k1_off89 i) (off89_eq i) _
  · exact ld_plane g (i 0).val 2 368 (by omega) (by omega) (k1_off90 i) (off90_eq i) _
  · exact ld_plane g (i 0).val 3 368 (by omega) (by omega) (k1_off91 i) (off91_eq i) _
  · exact ld_plane g (i 0).val 4 368 (by omega) (by omega) (k1_off92 i) (off92_eq i) _
  · exact ld_plane g (i 0).val 5 368 (by omega) (by omega) (k1_off93 i) (off93_eq i) _
  · exact ld_plane g (i 0).val 6 368 (by omega) (by omega) (k1_off94 i) (off94_eq i) _
  · exact ld_plane g (i 0).val 7 368 (by omega) (by omega) (k1_off95 i) (off95_eq i) _
  · exact ld_plane g (i 0).val 8 368 (by omega) (by omega) (k1_off96 i) (off96_eq i) _
  · exact ld_plane g (i 0).val 9 368 (by omega) (by omega) (k1_off97 i) (off97_eq i) _
  · exact ld_plane g (i 0).val 10 368 (by omega) (by omega) (k1_off98 i) (off98_eq i) _
  · exact ld_plane g (i 0).val 11 368 (by omega) (by omega) (k1_off99 i) (off99_eq i) _
  · exact ld_plane g (i 0).val 12 368 (by omega) (by omega) (k1_off100 i) (off100_eq i) _
  · exact ld_plane g (i 0).val 13 368 (by omega) (by omega) (k1_off101 i) (off101_eq i) _
  · exact ld_plane g (i 0).val 14 368 (by omega) (by omega) (k1_off102 i) (off102_eq i) _

/-- The convolution's part of one column tile. -/
theorem mainOf_apply (i : grid1.Coords) (h2 : k1_cond2 i = 1#1) (g : Vec Ideal S4x15x1088x128 .fp8e4m3) (X1 : Vec Ideal S16x128 .f32) (X3 : Vec Ideal S5760x1280 .fp8e4m3) (X4 : Vec Ideal S1x1280 .f32)
    (k : Fin k1_t1_loop.trips) (hk : k.val < 5) (r : Fin 704) (n : Fin 256) :
    mainOf i h2 g X1 X3 X4 k (ix2 r n) = (∑ κ : Fin 5760, g (ix4 ⟨((i 0).val + 2) % 4, by omega⟩ ⟨κ.val / 128 % 15, by omega⟩ ⟨16 + 176 * (κ.val / 128 / 15) + r.val, by omega⟩ ⟨κ.val % 128, by omega⟩)
      * X3 (ix2 κ ⟨256 * k.val + n.val, by omega⟩)) * X1 (ix2 0 0) * X4 (ix2 0 ⟨256 * k.val + n.val, by omega⟩) := by
  have e3 : ∀ κ : Fin 5760, View.ld X3 (Rect.unit (k1_off103 k) S5760x256.size (k1_off103_inb i k h2)) (ix2 κ n) = X3 (ix2 κ ⟨256 * k.val + n.val, by omega⟩) := by
    intro κ
    refine congrArg X3 ?_
    funext c; apply Fin.ext
    show k1_off103 k c + 1 * (ix2 κ n c).val = _
    rw [off103_eq k]
    fin_cases c
    · show 0 + 1 * κ.val = κ.val; omega
    · show 256 * k.val + 1 * n.val = 256 * k.val + n.val; omega
  have e4 : View.ld X4 (Rect.unit (k1_off105 k) S1x256.size (k1_off105_inb i k h2)) (ix2 0 n) = X4 (ix2 0 ⟨256 * k.val + n.val, by omega⟩) := by
    refine congrArg X4 ?_
    funext c; apply Fin.ext
    show k1_off105 k c + 1 * (ix2 0 n c).val = _
    rw [off105_eq k]
    fin_cases c
    · show 0 + 1 * 0 = 0; omega
    · show 256 * k.val + 1 * n.val = 256 * k.val + n.val; omega
  have E : ∀ κ : Fin 5760, g (ix4 ⟨((i 0).val + 2) % 4, by omega⟩ ⟨κ.val / 128 % 15, by omega⟩ ⟨16 + 176 * (κ.val / 128 / 15) + r.val, by omega⟩ ⟨κ.val % 128, by omega⟩)
      = slotPlanes i h2 g ⟨κ.val / 128, by omega⟩ (ix4 0 0 r ⟨κ.val % 128, by omega⟩) := fun κ => by rw [slotPlanes_eq]; rfl
  rw [← e4, ← scaleRow_apply X1 0]
  simp only [← e3, E]
  exact pay44_apply (scaleRow X1) (slotPlanes i h2 g) _ _ r n

/-- One column tile of the result. -/
theorem yTile_apply (i : grid1.Coords) (h2 : k1_cond2 i = 1#1) (g : Vec Ideal S4x15x1088x128 .fp8e4m3) (h : Vec Ideal S4x1088x128 .f32) (X1 : Vec Ideal S16x128 .f32) (X3 : Vec Ideal S5760x1280 .fp8e4m3) (X4 X5 : Vec Ideal S1x1280 .f32)
    (X7 : Vec Ideal S1152x128 .bf16) (X8 : Vec Ideal S128x1280 .bf16) (k : Fin k1_t1_loop.trips) (hk : k.val < 5) (r : Fin 704) (n : Fin 256) :
    yTile i h2 g h X1 X3 X4 X5 X7 X8 k (ix2 r n) = mainOf i h2 g X1 X3 X4 k (ix2 r n) + X5 (ix2 0 ⟨256 * k.val + n.val, by omega⟩)
      + Ideal.ofBits .f32 1053609165#32 * ∑ x : Fin 128, d2Of i h2 h X7 (ix2 r x) * X8 (ix2 x ⟨256 * k.val + n.val, by omega⟩) := by
  have e8 : ∀ x : Fin 128, View.ld X8 (Rect.unit (k1_off104 k) S128x256.size (k1_off104_inb i k h2)) (ix2 x n) = X8 (ix2 x ⟨256 * k.val + n.val, by omega⟩) := by
    intro x
    refine congrArg X8 ?_
    funext c; apply Fin.ext
    show k1_off104 k c + 1 * (ix2 x n c).val = _
    rw [off104_eq k]
    fin_cases c
    · show 0 + 1 * x.val = x.val; omega
    · show 256 * k.val + 1 * n.val = 256 * k.val + n.val; omega
  have e5 : View.ld X5 (Rect.unit (k1_off105 k) S1x256.size (k1_off105_inb i k h2)) (ix2 0 n) = X5 (ix2 0 ⟨256 * k.val + n.val, by omega⟩) := by
    refine congrArg X5 ?_
    funext c; apply Fin.ext
    show k1_off105 k c + 1 * (ix2 0 n c).val = _
    rw [off105_eq k]
    fin_cases c
    · show 0 + 1 * 0 = 0; omega
    · show 256 * k.val + 1 * n.val = 256 * k.val + n.val; omega
  unfold yTile
  rw [← e5]
  simp only [← e8]
  generalize d2Of i h2 h X7 = D
  generalize mainOf i h2 g X1 X3 X4 k = M
  generalize View.ld X8 (Rect.unit (k1_off104 k) S128x256.size (k1_off104_inb i k h2)) = U
  generalize View.ld X5 (Rect.unit (k1_off105 k) S1x256.size (k1_off105_inb i k h2)) = B
  pointwise [k1_pay3, k1_pay43, k1_pay45]

/-! ## The window of codes -/

/-- The codes of a block. -/
def codesT (X1 : Vec Ideal S16x128 .f32) (X2 : Vec Ideal S704x640 .bf16) : Vec Ideal S704x640 .fp8e4m3 := fun y =>
  clip (X2 y * X1 (ix2 8 ⟨(y 1).val % 128, by omega⟩))

theorem codesT_ix2 (X1 : Vec Ideal S16x128 .f32) (X2 : Vec Ideal S704x640 .bf16) (r : Fin 704) (ch : Fin 640) :
    codesT X1 X2 (ix2 r ch) = clip (X2 (ix2 r ch) * X1 (ix2 8 ⟨ch.val % 128, by omega⟩)) := rfl

theorem codes_piece (X1 : Vec Ideal S16x128 .f32) (X2 : Vec Ideal S704x640 .bf16) (b : ℕ) (hb : b + 128 ≤ 640) (hb' : b % 128 = 0)
    (inb : ∀ a, (![0, b] : Fin 2 → ℕ) a + S704x128.size a ≤ S704x640.size a) (r : Fin 704) (l : Fin 128) :
    clip (X2 (ix2 r ⟨b + l.val, by omega⟩) * X1 (ix2 8 l)) = codesT X1 X2 ((Rect.unit (s := S704x640) ![0, b] S704x128.size inb).emb (ix2 r l)) := by
  have e : (Rect.unit (s := S704x640) ![0, b] S704x128.size inb).emb (ix2 r l) = ix2 r ⟨b + l.val, by omega⟩ := by
    funext c; apply Fin.ext; fin_cases c
    · show 0 + 1 * r.val = r.val; omega
    · show b + 1 * l.val = b + l.val; omega
  rw [e, codesT_ix2]
  have e' : (⟨(b + l.val) % 128, by omega⟩ : Fin 128) = l := by apply Fin.ext; show (b + l.val) % 128 = l.val; omega
  show _ = clip (X2 (ix2 r ⟨b + l.val, by omega⟩) * X1 (ix2 8 ⟨(b + l.val) % 128, by omega⟩))
  rw [e']

theorem codes_pieces (X1 : Vec Ideal S16x128 .f32) (X2 : Vec Ideal S704x640 .bf16) : View.PiecesOf (codesT X1 X2) (LC X1 X2) := by
  refine ⟨fun x => ?_, fun x => ?_, fun x => ?_, fun x => ?_, fun x => ?_, trivial⟩ <;>
    obtain ⟨r, l, rfl⟩ : ∃ (r : Fin 704) (l : Fin 128), x = ix2 r l := ⟨x 0, x 1, eq_ix2 x⟩
  · exact (q4_apply X1 X2 r l).trans (codes_piece X1 X2 512 (by omega) (by omega) inb_S704x640_S704x128_0_512 r l)
  · exact (q3_apply X1 X2 r l).trans (codes_piece X1 X2 384 (by omega) (by omega) inb_S704x640_S704x128_0_384 r l)
  · exact (q2_apply X1 X2 r l).trans (codes_piece X1 X2 256 (by omega) (by omega) inb_S704x640_S704x128_0_256 r l)
  · exact (q1_apply X1 X2 r l).trans (codes_piece X1 X2 128 (by omega) (by omega) inb_S704x640_S704x128_0_128 r l)
  · exact (q0_apply X1 X2 r l).trans (codes_piece X1 X2 0 (by omega) (by omega) inb_S704x640_S704x128_0_0 r l)

theorem codes_cover (X1 : Vec Ideal S16x128 .f32) (X2 : Vec Ideal S704x640 .bf16) (y : S704x640.Idx) : ∃ p ∈ LC X1 X2, y ∈ p.1.set := by
  obtain ⟨r, ch, rfl⟩ : ∃ (r : Fin 704) (ch : Fin 640), y = ix2 r ch := ⟨y 0, y 1, eq_ix2 y⟩
  have key : ∀ (b : ℕ) (inb) (w), (⟨Rect.unit (s := S704x640) ![0, b] S704x128.size inb, w⟩ : View.Piece (Elt Ideal) S704x640 .fp8e4m3) ∈ LC X1 X2
      → (b ≤ ch.val ∧ ch.val < b + 128) → ∃ q ∈ LC X1 X2, ix2 r ch ∈ q.1.set := by
    intro b inb w hq h1
    refine ⟨_, hq, (Rect.mem_set_unit (s := S704x640) (off := ![0, b]) (size := S704x128.size) (inb := inb)).mpr fun a => ?_⟩
    fin_cases a
    · show 0 ≤ r.val ∧ r.val < 0 + 704; omega
    · exact h1
  by_cases h4 : 512 ≤ ch.val
  · exact key 512 _ _ (List.Mem.head _) (by omega)
  by_cases h3 : 384 ≤ ch.val
  · exact key 384 _ _ (List.Mem.tail _ (List.Mem.head _)) (by omega)
  by_cases h2 : 256 ≤ ch.val
  · exact key 256 _ _ (List.Mem.tail _ (List.Mem.tail _ (List.Mem.head _))) (by omega)
  by_cases h1 : 128 ≤ ch.val
  · exact key 128 _ _ (List.Mem.tail _ (List.Mem.tail _ (List.Mem.tail _ (List.Mem.head _)))) (by omega)
  · exact key 0 _ _ (List.Mem.tail _ (List.Mem.tail _ (List.Mem.tail _ (List.Mem.tail _ (List.Mem.head _))))) (by omega)

/-- What a point leaves in the window of codes. -/
theorem codes_stored {X1 : Vec Ideal S16x128 .f32} {X2 : Vec Ideal S704x640 .bf16} {d q : Vec Ideal S704x640 .fp8e4m3} (h : Stored d (LC X1 X2) q) : q = codesT X1 X2 := by
  refine h _ (codes_pieces X1 X2) fun y hy => ?_
  obtain ⟨p, hp, hm⟩ := codes_cover X1 X2 y
  exact absurd hm (hy p hp)

theorem codesOf_eq (X1 : Vec Ideal S16x128 .f32) (X2 : Vec Ideal S704x640 .bf16) : codesOf X1 X2 = codesT X1 X2 := by
  funext j
  unfold codesOf
  have e : (Rect.unit ![0, 0] S704x640.size inb_S704x640_S704x640_0_0).toLoadRect.idx j = j := by
    funext c; apply Fin.ext; fin_cases c
    · show 0 + 1 * (j 0).val = (j 0).val; omega
    · show 0 + 1 * (j 1).val = (j 1).val; omega
  rw [e]
  exact View.canon_apply_of_pieces (codesT X1 X2) (LC X1 X2) (codes_pieces X1 X2).mem j (codes_cover X1 X2 j)

/-! ## The window of results -/

/-- The low-rank path's second convolution of the slot read at point `T`. -/
def d2F (T : ℕ) (h : Vec Ideal S4x1088x128 .f32) (X7 : Vec Ideal S1152x128 .bf16) (r : Fin 704) (o : Fin 128) : EReal :=
  ∑ κ : Fin 1152, tapAt h T ⟨κ.val / 128, by omega⟩ r ⟨κ.val % 128, by omega⟩ * X7 (ix2 κ o)

/-- The convolution of the slot read at point `T`, scaled. -/
def mainF (T : ℕ) (g : Vec Ideal S4x15x1088x128 .fp8e4m3) (X1 : Vec Ideal S16x128 .f32) (X3 : Vec Ideal S5760x1280 .fp8e4m3) (X4 : Vec Ideal S1x1280 .f32) (r : Fin 704) (n : Fin 1280) : EReal :=
  (∑ κ : Fin 5760, g (ix4 ⟨(T + 2) % 4, by omega⟩ ⟨κ.val / 128 % 15, by omega⟩ ⟨16 + 176 * (κ.val / 128 / 15) + r.val, by omega⟩ ⟨κ.val % 128, by omega⟩)
    * X3 (ix2 κ n)) * X1 (ix2 0 0) * X4 (ix2 0 n)

/-- The result block of point `T`. -/
def yT (T : ℕ) (g : Vec Ideal S4x15x1088x128 .fp8e4m3) (h : Vec Ideal S4x1088x128 .f32) (X1 : Vec Ideal S16x128 .f32) (X3 : Vec Ideal S5760x1280 .fp8e4m3) (X4 X5 : Vec Ideal S1x1280 .f32)
    (X7 : Vec Ideal S1152x128 .bf16) (X8 : Vec Ideal S128x1280 .bf16) : Vec Ideal S704x1280 .bf16 := fun y =>
  mainF T g X1 X3 X4 (y 0) (y 1) + X5 (ix2 0 (y 1)) + Ideal.ofBits .f32 1053609165#32 * ∑ x : Fin 128, d2F T h X7 (y 0) x * X8 (ix2 x (y 1))

theorem y_piece (i : grid1.Coords) (h2 : k1_cond2 i = 1#1) (g : Vec Ideal S4x15x1088x128 .fp8e4m3) (h : Vec Ideal S4x1088x128 .f32) (X1 : Vec Ideal S16x128 .f32) (X3 : Vec Ideal S5760x1280 .fp8e4m3) (X4 X5 : Vec Ideal S1x1280 .f32)
    (X7 : Vec Ideal S1152x128 .bf16) (X8 : Vec Ideal S128x1280 .bf16) (k : Fin k1_t1_loop.trips) (hk : k.val < 5) (x : (Rect.unit (s := S704x1280) (k1_off106 k) S704x256.size (k1_off106_inb i k h2)).shape.Idx) :
    yTile i h2 g h X1 X3 X4 X5 X7 X8 k x = yT (i 0).val g h X1 X3 X4 X5 X7 X8 ((Rect.unit (s := S704x1280) (k1_off106 k) S704x256.size (k1_off106_inb i k h2)).emb x) := by
  obtain ⟨r, n, rfl⟩ : ∃ (r : Fin 704) (n : Fin 256), x = ix2 r n := ⟨x 0, x 1, eq_ix2 x⟩
  have e : (Rect.unit (s := S704x1280) (k1_off106 k) S704x256.size (k1_off106_inb i k h2)).emb (ix2 r n) = ix2 r ⟨256 * k.val + n.val, by omega⟩ := by
    funext c; apply Fin.ext
    show k1_off106 k c + 1 * (ix2 r n c).val = _
    rw [off106_eq k]
    fin_cases c
    · show 0 + 1 * r.val = r.val; omega
    · show 256 * k.val + 1 * n.val = 256 * k.val + n.val; omega
  rw [e]
  refine (yTile_apply i h2 g h X1 X3 X4 X5 X7 X8 k hk r n).trans ?_
  rw [mainOf_apply i h2 g X1 X3 X4 k hk r n]
  simp only [d2Of_apply]
  rfl

/-- What a later point leaves in the window of results. -/
theorem y_stored {i : grid1.Coords} {h2 : k1_cond2 i = 1#1} {g : Vec Ideal S4x15x1088x128 .fp8e4m3} {h : Vec Ideal S4x1088x128 .f32} {X1 : Vec Ideal S16x128 .f32} {X3 : Vec Ideal S5760x1280 .fp8e4m3} {X4 X5 : Vec Ideal S1x1280 .f32}
    {X7 : Vec Ideal S1152x128 .bf16} {X8 : Vec Ideal S128x1280 .bf16} {d y : Vec Ideal S704x1280 .bf16} (hs : Stored d (LY i h2 g h X1 X3 X4 X5 X7 X8) y) : y = yT (i 0).val g h X1 X3 X4 X5 X7 X8 := by
  refine hs _ ⟨y_piece i h2 g h X1 X3 X4 X5 X7 X8 _ (by decide), y_piece i h2 g h X1 X3 X4 X5 X7 X8 _ (by decide), y_piece i h2 g h X1 X3 X4 X5 X7 X8 _ (by decide),
    y_piece i h2 g h X1 X3 X4 X5 X7 X8 _ (by decide), y_piece i h2 g h X1 X3 X4 X5 X7 X8 _ (by decide), trivial⟩ fun y hy => ?_
  exfalso
  obtain ⟨r, n, rfl⟩ : ∃ (r : Fin 704) (n : Fin 1280), y = ix2 r n := ⟨y 0, y 1, eq_ix2 y⟩
  have key : ∀ (k : Fin k1_t1_loop.trips) (w), (⟨Rect.unit (s := S704x1280) (k1_off106 k) S704x256.size (k1_off106_inb i k h2), w⟩ : View.Piece (Elt Ideal) S704x1280 .bf16) ∈ LY i h2 g h X1 X3 X4 X5 X7 X8
      → (256 * k.val ≤ n.val ∧ n.val < 256 * k.val + 256) → False := by
    intro k w hq h1
    refine hy _ hq ((Rect.mem_set_unit (s := S704x1280) (off := k1_off106 k) (size := S704x256.size) (inb := k1_off106_inb i k h2)).mpr fun a => ?_)
    rw [off106_eq k]
    fin_cases a
    · show 0 ≤ r.val ∧ r.val < 0 + 704; omega
    · exact h1
  by_cases h4 : 1024 ≤ n.val
  · exact key ⟨4, by decide⟩ _ (List.Mem.head _) ⟨h4, by show n.val < 256 * 4 + 256; omega⟩
  by_cases h3 : 768 ≤ n.val
  · exact key ⟨3, by decide⟩ _ (List.Mem.tail _ (List.Mem.head _)) ⟨h3, by show n.val < 256 * 3 + 256; omega⟩
  by_cases h2' : 512 ≤ n.val
  · exact key ⟨2, by decide⟩ _ (List.Mem.tail _ (List.Mem.tail _ (List.Mem.head _))) ⟨h2', by show n.val < 256 * 2 + 256; omega⟩
  by_cases h1 : 256 ≤ n.val
  · exact key ⟨1, by decide⟩ _ (List.Mem.tail _ (List.Mem.tail _ (List.Mem.tail _ (List.Mem.head _)))) ⟨h1, by show n.val < 256 * 1 + 256; omega⟩
  · exact key ⟨0, by decide⟩ _ (List.Mem.tail _ (List.Mem.tail _ (List.Mem.tail _ (List.Mem.tail _ (List.Mem.head _))))) ⟨Nat.zero_le _, by show n.val < 256 * 0 + 256; omega⟩

end Cert.KernelIdeal.Val
-- ==== Proof.KernelIdealSpec.lean ====
/-
  The rings' invariant of the kernel `KernelIdeal` in terms of the whole arrays, and the result of a point as the two convolutions of the zero-padded
  images.
-/
module

public import proofs.«01_k».proof.Proof.KernelIdealTile

@[expose] public section
set_option maxRecDepth 16384

noncomputable section
namespace Cert.KernelIdeal.Val
open Idealize.ShloMosaic Idealize.ShloMosaic.TcCoe Idealize.ShloMosaic.Tactic Idealize.ShloMosaic.Pointwise
open Cert.KernelIdeal Cert.KernelIdeal.Gen

/-- The code of channel `ch` of pixel `P`. -/
def Qn (S : Vec Ideal S16x128 .f32) (X : Vec Ideal S90112x640 .bf16) (ch : Fin 640) (P : ℕ) : EReal :=
  if h : P < 90112 then clip (X (ix2 ⟨P, h⟩ ch) * S (ix2 8 ⟨ch.val % 128, by omega⟩)) else 0

/-- The scaled down projection `l` of pixel `P`. -/
def Dn (S : Vec Ideal S16x128 .f32) (X : Vec Ideal S90112x640 .bf16) (dn : Vec Ideal S640x128 .bf16) (l : Fin 128) (P : ℕ) : EReal :=
  (∑ ch : Fin 640, Qn S X ch P * dn (ix2 ch l)) * S (ix2 0 l)

/-- Plane `p` of pixel `P`: the codes of the pixel to the left, of the pixel, of the pixel to the right; five planes each. -/
def Wn (S : Vec Ideal S16x128 .f32) (X : Vec Ideal S90112x640 .bf16) (p : Fin 15) (l : Fin 128) (P : ℕ) : EReal :=
  if p.val / 5 = 0 then (if P % 176 = 0 then 0 else Qn S X ⟨128 * (p.val % 5) + l.val, by omega⟩ (P - 1))
  else if p.val / 5 = 1 then Qn S X ⟨128 * (p.val % 5) + l.val, by omega⟩ P
  else (if P % 176 = 175 then 0 else Qn S X ⟨128 * (p.val % 5) + l.val, by omega⟩ (P + 1))

/-- `X2` is the block of pixels that point `t` quantises. -/
def IsBlk (X : Vec Ideal S90112x640 .bf16) (t : ℕ) (X2 : Vec Ideal S704x640 .bf16) : Prop :=
  ∀ (r : Fin 704) (ch : Fin 640), X2 (ix2 r ch) = X (ix2 ⟨704 * min t 127 + r.val, by omega⟩ ch)

variable {S : Vec Ideal S16x128 .f32} {X : Vec Ideal S90112x640 .bf16} {t : ℕ} {X2 : Vec Ideal S704x640 .bf16}

theorem Qn_lt (ch : Fin 640) (P : ℕ) (h : P < 90112) : Qn S X ch P = clip (X (ix2 ⟨P, h⟩ ch) * S (ix2 8 ⟨ch.val % 128, by omega⟩)) := dif_pos h

theorem q_blk (hb : IsBlk X t X2) (k : ℕ) (hk : k < 5) {q : FVec Ideal S704x128 .fp8e4m3}
    (hq : ∀ (r : Fin 704) (l : Fin 128), q (ix2 r l) = clip (X2 (ix2 r ⟨128 * k + l.val, by omega⟩) * S (ix2 8 l))) (r : Fin 704) (l : Fin 128) :
    q (ix2 r l) = Qn S X ⟨128 * k + l.val, by omega⟩ (704 * min t 127 + r.val) := by
  rw [hq, hb, Qn_lt _ _ (by omega)]
  have e : (⟨(128 * k + l.val) % 128, by omega⟩ : Fin 128) = l := by apply Fin.ext; show (128 * k + l.val) % 128 = l.val; omega
  show _ = clip (X (ix2 ⟨704 * min t 127 + r.val, by omega⟩ ⟨128 * k + l.val, by omega⟩) * S (ix2 8 ⟨(128 * k + l.val) % 128, by omega⟩))
  rw [e]

theorem plane_left (p : Fin 15) (hp : p.val < 5) {q : FVec Ideal S704x128 .fp8e4m3}
    (hq : ∀ (r : Fin 704) (l : Fin 128), q (ix2 r l) = Qn S X ⟨128 * p.val + l.val, by omega⟩ (704 * min t 127 + r.val)) (r : Fin 704) (l : Fin 128) :
    wLeft q (ix2 r l) = Wn S X p l (704 * min t 127 + r.val) := by
  unfold Wn
  rw [wLeft_apply, if_pos (show p.val / 5 = 0 by omega)]
  by_cases h : r.val % 176 = 0
  · rw [if_pos h, if_pos (by omega)]
  · rw [if_neg h, if_neg (by omega), hq]
    congr 1
    · apply Fin.ext; show 128 * p.val + l.val = 128 * (p.val % 5) + l.val; omega
    · show 704 * min t 127 + (r.val + 704 - 1) % 704 = 704 * min t 127 + r.val - 1; omega

theorem plane_mid (p : Fin 15) (hp : 5 ≤ p.val ∧ p.val < 10) {q : FVec Ideal S704x128 .fp8e4m3}
    (hq : ∀ (r : Fin 704) (l : Fin 128), q (ix2 r l) = Qn S X ⟨128 * (p.val - 5) + l.val, by omega⟩ (704 * min t 127 + r.val)) (r : Fin 704) (l : Fin 128) :
    q (ix2 r l) = Wn S X p l (704 * min t 127 + r.val) := by
  unfold Wn
  rw [if_neg (by omega), if_pos (by omega), hq]
  congr 1
  apply Fin.ext; show 128 * (p.val - 5) + l.val = 128 * (p.val % 5) + l.val; omega

theorem plane_right (p : Fin 15) (hp : 10 ≤ p.val) {q : FVec Ideal S704x128 .fp8e4m3}
    (hq : ∀ (r : Fin 704) (l : Fin 128), q (ix2 r l) = Qn S X ⟨128 * (p.val - 10) + l.val, by omega⟩ (704 * min t 127 + r.val)) (r : Fin 704) (l : Fin 128) :
    wRight q (ix2 r l) = Wn S X p l (704 * min t 127 + r.val) := by
  unfold Wn
  rw [wRight_apply, if_neg (show ¬ p.val / 5 = 0 by omega), if_neg (show ¬ p.val / 5 = 1 by omega)]
  by_cases h : r.val % 176 = 175
  · rw [if_pos h, if_pos (by omega)]
  · rw [if_neg h, if_neg (by omega), hq]
    congr 1
    · apply Fin.ext; show 128 * (p.val - 10) + l.val = 128 * (p.val % 5) + l.val; omega
    · show 704 * min t 127 + (r.val + 704 - 703) % 704 = 704 * min t 127 + r.val + 1; omega

/-- The planes of a block are the planes of its pixels. -/
theorem planeW_apply (hb : IsBlk X t X2) (p : Fin 15) (r : Fin 704) (l : Fin 128) : planeW S X2 p (ix2 r l) = Wn S X p l (704 * min t 127 + r.val) := by
  have h0 := fun r l => q_blk hb 0 (by omega) (q0_apply S X2) r l
  have h1 := fun r l => q_blk hb 1 (by omega) (q1_apply S X2) r l
  have h2 := fun r l => q_blk hb 2 (by omega) (q2_apply S X2) r l
  have h3 := fun r l => q_blk hb 3 (by omega) (q3_apply S X2) r l
  have h4 := fun r l => q_blk hb 4 (by omega) (q4_apply S X2) r l
  fin_cases p
  · exact plane_left 0 (by decide) h0 r l
  · exact plane_left 1 (by decide) h1 r l
  · exact plane_left 2 (by decide) h2 r l
  · exact plane_left 3 (by decide) h3 r l
  · exact plane_left 4 (by decide) h4 r l
  · exact plane_mid 5 (by decide) h0 r l
  · exact plane_mid 6 (by decide) h1 r l
  · exact plane_mid 7 (by decide) h2 r l
  · exact plane_mid 8 (by decide) h3 r l
  · exact plane_mid 9 (by decide) h4 r l
  · exact plane_right 10 (by decide) h0 r l
  · exact plane_right 11 (by decide) h1 r l
  · exact plane_right 12 (by decide) h2 r l
  · exact plane_right 13 (by decide) h3 r l
  · exact plane_right 14 (by decide) h4 r l

/-- The down projections of a block are those of its pixels. -/
theorem d1Of_apply (hb : IsBlk X t X2) (dn : Vec Ideal S640x128 .bf16) (r : Fin 704) (l : Fin 128) :
    d1Of S (codesT S X2) dn r l = Dn S X dn l (704 * min t 127 + r.val) := by
  unfold d1Of Dn
  congr 1
  refine Finset.sum_congr rfl fun ch _ => ?_
  rw [codesT_ix2, hb, Qn_lt _ _ (by omega)]

/-- The rings before point `t`. -/
def Inv (S : Vec Ideal S16x128 .f32) (X : Vec Ideal S90112x640 .bf16) (dn : Vec Ideal S640x128 .bf16) (t : ℕ) (g : Vec Ideal S4x15x1088x128 .fp8e4m3) (h : Vec Ideal S4x1088x128 .f32) : Prop :=
  (∀ (p : Fin 15) (l : Fin 128), RingInv (Wn S X p l) t (fun k ρ => g (ix4 k p ρ l))) ∧ (∀ l : Fin 128, RingInv (Dn S X dn l) t (fun k ρ => h (ix3 k ρ l)))

theorem inv_zero (dn : Vec Ideal S640x128 .bf16) (g : Vec Ideal S4x15x1088x128 .fp8e4m3) (h : Vec Ideal S4x1088x128 .f32) : Inv S X dn 0 g h :=
  ⟨fun p l => ⟨fun h => absurd h (by omega), fun s h => absurd h (by omega), fun s h => absurd h (by omega)⟩,
    fun l => ⟨fun h => absurd h (by omega), fun s h => absurd h (by omega), fun s h => absurd h (by omega)⟩⟩

/-- One point carries the invariant on. -/
theorem inv_step (hb : IsBlk X t X2) (dn : Vec Ideal S640x128 .bf16) {g : Vec Ideal S4x15x1088x128 .fp8e4m3} {h : Vec Ideal S4x1088x128 .f32}
    (hi : Inv S X dn t g h) (hg : t = 0 → ∀ y, g y = 0) (hh : t = 0 → ∀ y, h y = 0) :
    Inv S X dn (t + 1) (planesT t (planeW S X2) g) (d1sT t (d1Of S (codesT S X2) dn) h) := by
  refine ⟨fun p l => ?_, fun l => ?_⟩
  · refine ring_step (w := colOf (fun r l => planeW S X2 p (ix2 r l)) l) (fun r hr => ?_) (hi.1 p l) (fun h0 k ρ => hg h0 _)
    rw [colOf_lt _ _ _ hr, planeW_apply hb]
  · refine ring_step (w := colOf (d1Of S (codesT S X2) dn) l) (fun r hr => ?_) (hi.2 l) (fun h0 k ρ => hh h0 _)
    rw [colOf_lt _ _ _ hr, d1Of_apply hb]

/-- The column `W` of image `I`, padded with a zero pixel on every side, at row `a` and column `b` of the padded image. -/
def padAt (W : ℕ → EReal) (I a b : ℕ) : EReal :=
  if (1 ≤ a ∧ a ≤ 256) ∧ (1 ≤ b ∧ b ≤ 176) then W (45056 * I + 176 * (a - 1) + (b - 1)) else 0

/-- A plane of a slot is a shifted column of the padded image. -/
theorem slot_plane (s r dy : ℕ) (p : Fin 15) (l : Fin 128) (hs : s ≤ 127) (hr : r < 704) (hdy : dy < 3) :
    slotv (Wn S X p l) s (16 + 176 * dy + r)
      = padAt (Qn S X ⟨128 * (p.val % 5) + l.val, by omega⟩) ((704 * s + r) / 45056) ((704 * s + r) % 45056 / 176 + dy) ((704 * s + r) % 176 + p.val / 5) := by
  have e1 : (704 * s + r) / 45056 = s / 64 := by omega
  have e2 : (704 * s + r) % 45056 / 176 = 4 * (s % 64) + r / 176 := by omega
  have e3 : (704 * s + r) % 176 = r % 176 := by omega
  rw [e1, e2, e3]
  unfold slotv padAt Wn
  generalize Qn S X ⟨128 * (p.val % 5) + l.val, _⟩ = Q
  by_cases hin : 45056 * (s / 64) + 192 ≤ 704 * s + (16 + 176 * dy + r) ∧ 704 * s + (16 + 176 * dy + r) < 45056 * (s / 64) + 45248
  · rw [if_pos hin]
    have hp : p.val / 5 = 0 ∨ p.val / 5 = 1 ∨ p.val / 5 = 2 := by omega
    rcases hp with hp | hp | hp
    · rw [if_pos hp, hp]
      by_cases hc : r % 176 = 0
      · rw [if_pos (by omega), if_neg (by omega)]
      · rw [if_neg (by omega), if_pos (by omega)]
        congr 1; omega
    · rw [if_neg (by omega), if_pos hp, hp, if_pos (by omega)]
      congr 1; omega
    · rw [if_neg (by omega), if_neg (by omega), hp]
      by_cases hc : r % 176 = 175
      · rw [if_pos (by omega), if_neg (by omega)]
      · rw [if_neg (by omega), if_pos (by omega)]
        congr 1; omega
  · rw [if_neg hin, if_neg (by omega)]

/-- A tap of the low-rank path's second convolution is a shifted column of its padded image. -/
theorem slot_tap (W : ℕ → EReal) (s r : ℕ) (p : ℕ) (hs : s ≤ 127) (hr : r < 704) (hp : p < 9) :
    (if (p % 3 = 0 ∧ r % 176 = 0) ∨ (p % 3 = 2 ∧ r % 176 = 175) then 0 else slotv W s (15 + 176 * (p / 3) + p % 3 + r))
      = padAt W ((704 * s + r) / 45056) ((704 * s + r) % 45056 / 176 + p / 3) ((704 * s + r) % 176 + p % 3) := by
  have e1 : (704 * s + r) / 45056 = s / 64 := by omega
  have e2 : (704 * s + r) % 45056 / 176 = 4 * (s % 64) + r / 176 := by omega
  have e3 : (704 * s + r) % 176 = r % 176 := by omega
  rw [e1, e2, e3]
  unfold slotv padAt
  obtain ⟨a, d, rfl, hd, ha⟩ : ∃ a d, p = 3 * a + d ∧ d < 3 ∧ a < 3 := ⟨p / 3, p % 3, by omega, by omega, by omega⟩
  have f1 : (3 * a + d) / 3 = a := by omega
  have f2 : (3 * a + d) % 3 = d := by omega
  rw [f1, f2]
  by_cases hc : (d = 0 ∧ r % 176 = 0) ∨ (d = 2 ∧ r % 176 = 175)
  · rw [if_pos hc, if_neg (by omega)]
  · rw [if_neg hc]
    by_cases hin : 45056 * (s / 64) + 192 ≤ 704 * s + (15 + 176 * (a) + d + r) ∧ 704 * s + (15 + 176 * (a) + d + r) < 45056 * (s / 64) + 45248
    · rw [if_pos hin, if_pos (by omega)]
      congr 1; omega
    · rw [if_neg hin, if_neg (by omega)]

/-- The convolution at pixel `P`, output channel `n`: nine taps of 640 channels. -/
def convF (S : Vec Ideal S16x128 .f32) (X : Vec Ideal S90112x640 .bf16) (X3 : Vec Ideal S5760x1280 .fp8e4m3) (P : ℕ) (n : Fin 1280) : EReal :=
  ∑ κ : Fin 5760, padAt (Qn S X ⟨κ.val % 640, by omega⟩) (P / 45056) (P % 45056 / 176 + κ.val / 1920) (P % 176 + κ.val / 640 % 3) * X3 (ix2 κ n)

/-- The low-rank path's second convolution at pixel `P`. -/
def midF (S : Vec Ideal S16x128 .f32) (X : Vec Ideal S90112x640 .bf16) (dn : Vec Ideal S640x128 .bf16) (X7 : Vec Ideal S1152x128 .bf16) (P : ℕ) (o : Fin 128) : EReal :=
  ∑ κ : Fin 1152, padAt (Dn S X dn ⟨κ.val % 128, by omega⟩) (P / 45056) (P % 45056 / 176 + κ.val / 384) (P % 176 + κ.val / 128 % 3) * X7 (ix2 κ o)

/-- The result at pixel `P`, output channel `n`. -/
def yF (S : Vec Ideal S16x128 .f32) (X : Vec Ideal S90112x640 .bf16) (X3 : Vec Ideal S5760x1280 .fp8e4m3) (X4 X5 : Vec Ideal S1x1280 .f32) (dn : Vec Ideal S640x128 .bf16)
    (X7 : Vec Ideal S1152x128 .bf16) (X8 : Vec Ideal S128x1280 .bf16) (P : ℕ) (n : Fin 1280) : EReal :=
  convF S X X3 P n * S (ix2 0 0) * X4 (ix2 0 n) + X5 (ix2 0 n) + Ideal.ofBits .f32 1053609165#32 * ∑ o : Fin 128, midF S X dn X7 P o * X8 (ix2 o n)

/-- The result block of a later point is the result at the pixels of the block two points before. -/
theorem yT_apply (s : ℕ) (hs : s + 2 = t) (hs' : s ≤ 127) (dn : Vec Ideal S640x128 .bf16) {g : Vec Ideal S4x15x1088x128 .fp8e4m3} {h : Vec Ideal S4x1088x128 .f32}
    (hi : Inv S X dn t g h) (W : Fin 15 → FVec Ideal S704x128 .fp8e4m3) (D : Fin 704 → Fin 128 → EReal)
    (X3 : Vec Ideal S5760x1280 .fp8e4m3) (X4 X5 : Vec Ideal S1x1280 .f32) (X7 : Vec Ideal S1152x128 .bf16) (X8 : Vec Ideal S128x1280 .bf16) (r : Fin 704) (n : Fin 1280) :
    yT t (planesT t W g) (d1sT t D h) S X3 X4 X5 X7 X8 (ix2 r n) = yF S X X3 X4 X5 dn X7 X8 (704 * s + r.val) n := by
  have hmain : mainF t (planesT t W g) S X3 X4 r n = convF S X X3 (704 * s + r.val) n * S (ix2 0 0) * X4 (ix2 0 n) := by
    unfold mainF convF
    congr 2
    refine Finset.sum_congr rfl fun κ _ => ?_
    rw [planesT_ix4]
    have h := ring_read (w := colOf (fun r l => W ⟨κ.val / 128 % 15, by omega⟩ (ix2 r l)) ⟨κ.val % 128, by omega⟩) hs hs' (hi.1 ⟨κ.val / 128 % 15, by omega⟩ ⟨κ.val % 128, by omega⟩)
      ⟨(t + 2) % 4, by omega⟩ ⟨16 + 176 * (κ.val / 128 / 15) + r.val, by omega⟩ (by show (t + 2) % 4 = s % 4; omega)
      (by show 16 ≤ 16 + 176 * (κ.val / 128 / 15) + r.val; omega) (by show 16 + 176 * (κ.val / 128 / 15) + r.val < 1072; omega)
    rw [h]
    show slotv _ s (16 + 176 * (κ.val / 128 / 15) + r.val) * _ = _
    rw [slot_plane s r.val (κ.val / 128 / 15) ⟨κ.val / 128 % 15, by omega⟩ ⟨κ.val % 128, by omega⟩ hs' r.isLt (by omega)]
    congr 1
    have e1 : (⟨128 * (κ.val / 128 % 15 % 5) + κ.val % 128, by omega⟩ : Fin 640) = ⟨κ.val % 640, by omega⟩ := by apply Fin.ext; show 128 * (κ.val / 128 % 15 % 5) + κ.val % 128 = κ.val % 640; omega
    have e2 : κ.val / 128 / 15 = κ.val / 1920 := by omega
    have e3 : κ.val / 128 % 15 / 5 = κ.val / 640 % 3 := by omega
    show padAt (Qn S X ⟨128 * (κ.val / 128 % 15 % 5) + κ.val % 128, by omega⟩) _ (_ + κ.val / 128 / 15) (_ + κ.val / 128 % 15 / 5) = _
    rw [e1, e2, e3]
  have hmid : ∀ o : Fin 128, d2F t (d1sT t D h) X7 r o = midF S X dn X7 (704 * s + r.val) o := by
    intro o
    unfold d2F midF
    refine Finset.sum_congr rfl fun κ _ => ?_
    congr 1
    have e2 : κ.val / 384 = κ.val / 128 / 3 := by omega
    rw [e2, ← slot_tap _ s r.val (κ.val / 128) hs' r.isLt (by omega)]
    show (if (κ.val / 128 % 3 = 0 ∧ r.val % 176 = 0) ∨ (κ.val / 128 % 3 = 2 ∧ r.val % 176 = 175) then 0
      else d1sT t D h (ix3 ⟨(t + 2) % 4, by omega⟩ ⟨15 + 176 * (κ.val / 128 / 3) + κ.val / 128 % 3 + r.val, by omega⟩ ⟨κ.val % 128, by omega⟩)) = _
    by_cases hc : (κ.val / 128 % 3 = 0 ∧ r.val % 176 = 0) ∨ (κ.val / 128 % 3 = 2 ∧ r.val % 176 = 175)
    · rw [if_pos hc, if_pos hc]
    · rw [if_neg hc, if_neg hc, d1sT_ix3]
      exact ring_read hs hs' (hi.2 ⟨κ.val % 128, by omega⟩) ⟨(t + 2) % 4, by omega⟩ ⟨15 + 176 * (κ.val / 128 / 3) + κ.val / 128 % 3 + r.val, by omega⟩
        (by show (t + 2) % 4 = s % 4; omega) (by show 16 ≤ 15 + 176 * (κ.val / 128 / 3) + κ.val / 128 % 3 + r.val; omega)
        (by show 15 + 176 * (κ.val / 128 / 3) + κ.val / 128 % 3 + r.val < 1072; omega)
  show mainF t (planesT t W g) S X3 X4 r n + X5 (ix2 0 n) + Ideal.ofBits .f32 1053609165#32 * ∑ x : Fin 128, d2F t (d1sT t D h) X7 r x * X8 (ix2 x n) = _
  rw [hmain]
  simp only [hmid]
  rfl

end Cert.KernelIdeal.Val
-- ==== Proof.KernelIdealRun.lean ====
/-
  One point of the convolution call over the reals: what the result windows and the ring buffers hold after it, given what the ring buffers held before;
  then the whole run, and what its two result arrays hold.
-/
module

public import proofs.«01_k».proof.Proof.KernelIdealBody
public import proofs.«01_k».proof.Proof.KernelIdealForget
public import proofs.«01_k».proof.Proof.KernelIdealSpec
public import Idealize.ShloMosaic.Lib.Pipeline.DatRel
public import Idealize.ShloMosaic.Lib.Pipeline.ArrRel

@[expose] public section
set_option maxRecDepth 16384

noncomputable section
namespace Cert.KernelIdeal.Val

open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)
open Cert.KernelIdeal Cert.KernelIdeal.Gen Cert.KernelIdeal.Entry
open Cert.KernelIdeal.Hand (IsFirst)

local notation "𝕄" => MT nD τ sig Unit (Elt Ideal) ℕ (UR sig nD τ) ℕ

/-- Which point is the first one, -/
theorem first_iff : ∀ i : grid1.Coords, IsFirst i ↔ (i 0).val = 0 := by decide +kernel
/-- which points convolve, -/
theorem conv_iff : ∀ i : grid1.Coords, k1_cond2 i = 1#1 ↔ 2 ≤ (i 0).val := by decide +kernel
/-- and a point's number is its coordinate. -/
theorem coords_val : ∀ t : Fin grid1.N, (grid1.coords t 0).val = t.val := by decide +kernel

theorem pay58_zero : ∀ y, (k1_pay58 : FVec Ideal S4x15x1088x128 .fp8e4m3) y = 0 := fun y => by
  rw [show (k1_pay58 : FVec Ideal S4x15x1088x128 _) = broadcast S4x15x1088x128 (Scalar.ofBits _ _) from shapeCast_self _ _]
  pointwise []
  exact Ideal.ofBits_zero _
theorem pay59_zero : ∀ y, (k1_pay59 : FVec Ideal S4x1088x128 .f32) y = 0 := fun y => by
  rw [show (k1_pay59 : FVec Ideal S4x1088x128 _) = broadcast S4x1088x128 (Scalar.ofBits _ _) from shapeCast_self _ _]
  pointwise []

set_option maxHeartbeats 4000000 in
/-- One point: the codes window holds the block's codes, the ring buffers hold the blocks so far with this one, and from the third point on the result window
    holds the block two before. -/
theorem value_body (c : Dev nD) (E : Set ℕ) (i : grid1.Coords) (arg1 : Memref sig .tc .vmem S16x128 .f32) (harg1 : arg1.IsWhole) (arg2 : Memref sig .tc .vmem S704x640 .bf16) (harg2 : arg2.IsWhole) (arg3 : Memref sig .tc .vmem S5760x1280 .fp8e4m3) (harg3 : arg3.IsWhole) (arg4 : Memref sig .tc .vmem S1x1280 .f32) (harg4 : arg4.IsWhole) (arg5 : Memref sig .tc .vmem S1x1280 .f32) (harg5 : arg5.IsWhole) (arg6 : Memref sig .tc .vmem S640x128 .bf16) (harg6 : arg6.IsWhole) (arg7 : Memref sig .tc .vmem S1152x128 .bf16) (harg7 : arg7.IsWhole) (arg8 : Memref sig .tc .vmem S128x1280 .bf16) (harg8 : arg8.IsWhole) (arg9 : Memref sig .tc .vmem S704x1280 .bf16) (harg9 : arg9.IsWhole) (arg10 : Memref sig .tc .vmem S704x640 .fp8e4m3) (harg10 : arg10.IsWhole) (arg11 : Memref sig .tc .vmem S4x15x1088x128 .fp8e4m3) (harg11 : arg11.IsWhole) (arg12 : Memref sig .tc .vmem S4x1088x128 .f32) (harg12 : arg12.IsWhole)
    (x1 : Vec Ideal S16x128 .f32) (x2 : Vec Ideal S704x640 .bf16) (x3 : Vec Ideal S5760x1280 .fp8e4m3) (x4 : Vec Ideal S1x1280 .f32) (x5 : Vec Ideal S1x1280 .f32) (x6 : Vec Ideal S640x128 .bf16) (x7 : Vec Ideal S1152x128 .bf16) (x8 : Vec Ideal S128x1280 .bf16) (x11 : Vec Ideal S4x15x1088x128 .fp8e4m3) (x12 : Vec Ideal S4x1088x128 .f32)
    (X : Vec Ideal S90112x640 .bf16) (hi : Inv x1 X x6 (i 0).val x11 x12) (hb : IsBlk X (i 0).val x2) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ owns (c : Thread nD τ) arg11 fullShare x11 ∗ owns (c : Thread nD τ) arg12 fullShare x12
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ (y : Vec Ideal S704x1280 .bf16) (g : Vec Ideal S4x15x1088x128 .fp8e4m3) (h : Vec Ideal S4x1088x128 .f32), owns (c : Thread nD τ) arg9 fullShare y ∗ owns (c : Thread nD τ) arg10 fullShare (codesT x1 x2) ∗ owns (c : Thread nD τ) arg11 fullShare g ∗ owns (c : Thread nD τ) arg12 fullShare h
          ∗ ⌜Inv x1 X x6 ((i 0).val + 1) g h ∧ ∀ s, s + 2 = (i 0).val → ∀ (r : Fin 704) (n : Fin 1280), y (ix2 r n) = yF x1 X x3 x4 x5 x6 x7 x8 (704 * s + r.val) n⌝)) -∗ K ⟨⟩))
      ⊢ wp frame (wpE (defs₀ (F := Ideal)) Variants.none c none) E (cc1_conv i arg1 harg1 arg2 harg2 arg3 harg3 arg4 harg4 arg5 harg5 arg6 harg6 arg7 harg7 arg8 harg8 arg9 harg9 arg10 harg10 arg11 harg11 arg12 harg12) K := by
  have hlt : (i 0).val < 130 := (i 0).isLt
  by_cases h1 : IsFirst i
  · have h0 := (first_iff i).1 h1
    have h2 : ¬ k1_cond2 i = 1#1 := fun h => by have := (conv_iff i).1 h; omega
    iintro ⟨H1, H2, H3, H4, H5, H6, H7, H8, H9, H10, H11, H12, Hk⟩
    iapply (step_first c E i arg1 harg1 arg2 harg2 arg3 harg3 arg4 harg4 arg5 harg5 arg6 harg6 arg7 harg7 arg8 harg8 arg9 harg9 arg10 harg10 arg11 harg11 arg12 harg12 x1 x2 x3 x4 x5 x6 x7 x8 x11 x12 _ h1 h2)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H1, H2, H3, H4, H5, H6, H7, H8, %y, %d10, %q, %g, %h, H9, H10, H11, H12, %hs⟩
    obtain ⟨hq, hg, hh⟩ := hs
    have eq := codes_stored hq
    subst eq
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists y, g, h
    isplitl [H9]; · iexact H9
    isplitl [H10]; · iexact H10
    isplitl [H11]; · iexact H11
    isplitl [H12]; · iexact H12
    ipureintro
    rw [codesOf_eq] at hh
    have eg := planes_stored hg
    have eh := d1s_stored hh
    refine ⟨?_, fun s hs => absurd hs (by omega)⟩
    rw [eg, eh]
    exact inv_step hb x6 (by rw [h0]; exact inv_zero _ _ _) (fun _ => pay58_zero) (fun _ => pay59_zero)
  · have h0 : (i 0).val ≠ 0 := fun h => h1 ((first_iff i).2 h)
    by_cases h2 : k1_cond2 i = 1#1
    · iintro ⟨H1, H2, H3, H4, H5, H6, H7, H8, H9, H10, H11, H12, Hk⟩
      iapply (step_conv c E i arg1 harg1 arg2 harg2 arg3 harg3 arg4 harg4 arg5 harg5 arg6 harg6 arg7 harg7 arg8 harg8 arg9 harg9 arg10 harg10 arg11 harg11 arg12 harg12 x1 x2 x3 x4 x5 x6 x7 x8 x11 x12 _ h1 h2)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iintro ⟨H1, H2, H3, H4, H5, H6, H7, H8, %y, %d10, %q, %g, %h, H9, H10, H11, H12, %hs⟩
      obtain ⟨⟨d9, hy⟩, hq, hg, hh⟩ := hs
      have eq := codes_stored hq
      subst eq
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists y, g, h
      isplitl [H9]; · iexact H9
      isplitl [H10]; · iexact H10
      isplitl [H11]; · iexact H11
      isplitl [H12]; · iexact H12
      ipureintro
      rw [codesOf_eq] at hh
      have eg := planes_stored hg
      have eh := d1s_stored hh
      have ey := y_stored hy
      refine ⟨?_, fun s hs r n => ?_⟩
      · rw [eg, eh]
        exact inv_step hb x6 hi (fun h => absurd h h0) (fun h => absurd h h0)
      · rw [ey, eg, eh]
        exact yT_apply s hs (by omega) x6 hi _ _ _ _ _ _ _ r n
    · iintro ⟨H1, H2, H3, H4, H5, H6, H7, H8, H9, H10, H11, H12, Hk⟩
      iapply (step_fill c E i arg1 harg1 arg2 harg2 arg3 harg3 arg4 harg4 arg5 harg5 arg6 harg6 arg7 harg7 arg8 harg8 arg9 harg9 arg10 harg10 arg11 harg11 arg12 harg12 x1 x2 x3 x4 x5 x6 x7 x8 x11 x12 _ h1 h2)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iintro ⟨H1, H2, H3, H4, H5, H6, H7, H8, %y, %d10, %q, %g, %h, H9, H10, H11, H12, %hs⟩
      obtain ⟨hq, hg, hh⟩ := hs
      have eq := codes_stored hq
      subst eq
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists y, g, h
      isplitl [H9]; · iexact H9
      isplitl [H10]; · iexact H10
      isplitl [H11]; · iexact H11
      isplitl [H12]; · iexact H12
      ipureintro
      rw [codesOf_eq] at hh
      have eg := planes_stored hg
      have eh := d1s_stored hh
      refine ⟨?_, fun s hs => absurd hs (fun e => h2 ((conv_iff i).2 (by omega)))⟩
      rw [eg, eh]
      exact inv_step hb x6 hi (fun h => absurd h h0) (fun h => absurd h h0)
section
variable (m : (ℓ : Loc nD τ sig) → Buf (Elt Ideal) ℓ) (ρ : Dev nD → PrngReg)

/-! ## The blocks of the input windows -/

theorem index1_0 : ∀ t : Fin cfg1.N, win1_0.index t = ![0, 0] := (by decide +kernel : ∀ t : Fin grid1.N, _)
/-- Window 0's block is its whole array, at every point. -/
theorem iblk_0 (c : Dev nD) (t : Fin cfg1.N) : (iblk m c 0 t : Vec Ideal S16x128 .f32) = V m c main_v1 := by
  funext y
  blk_simp [iblk]
  congr 1
  blk_ext [index1_0]

theorem index1_2 : ∀ t : Fin cfg1.N, win1_2.index t = ![0, 0] := (by decide +kernel : ∀ t : Fin grid1.N, _)
/-- Window 2's block is its whole array, at every point. -/
theorem iblk_2 (c : Dev nD) (t : Fin cfg1.N) : (iblk m c 2 t : Vec Ideal S5760x1280 .fp8e4m3) = V m c main_v8 := by
  funext y
  blk_simp [iblk]
  congr 1
  blk_ext [index1_2]

theorem index1_3 : ∀ t : Fin cfg1.N, win1_3.index t = ![0, 0] := (by decide +kernel : ∀ t : Fin grid1.N, _)
/-- Window 3's block is its whole array, at every point. -/
theorem iblk_3 (c : Dev nD) (t : Fin cfg1.N) : (iblk m c 3 t : Vec Ideal S1x1280 .f32) = V m c main_v9 := by
  funext y
  blk_simp [iblk]
  congr 1
  blk_ext [index1_3]

theorem index1_4 : ∀ t : Fin cfg1.N, win1_4.index t = ![0, 0] := (by decide +kernel : ∀ t : Fin grid1.N, _)
/-- Window 4's block is its whole array, at every point. -/
theorem iblk_4 (c : Dev nD) (t : Fin cfg1.N) : (iblk m c 4 t : Vec Ideal S1x1280 .f32) = V m c main_v10 := by
  funext y
  blk_simp [iblk]
  congr 1
  blk_ext [index1_4]

theorem index1_5 : ∀ t : Fin cfg1.N, win1_5.index t = ![0, 0] := (by decide +kernel : ∀ t : Fin grid1.N, _)
/-- Window 5's block is its whole array, at every point. -/
theorem iblk_5 (c : Dev nD) (t : Fin cfg1.N) : (iblk m c 5 t : Vec Ideal S640x128 .bf16) = V m c main_v4 := by
  funext y
  blk_simp [iblk]
  congr 1
  blk_ext [index1_5]

theorem index1_6 : ∀ t : Fin cfg1.N, win1_6.index t = ![0, 0] := (by decide +kernel : ∀ t : Fin grid1.N, _)
/-- Window 6's block is its whole array, at every point. -/
theorem iblk_6 (c : Dev nD) (t : Fin cfg1.N) : (iblk m c 6 t : Vec Ideal S1152x128 .bf16) = V m c main_v6 := by
  funext y
  blk_simp [iblk]
  congr 1
  blk_ext [index1_6]

theorem index1_7 : ∀ t : Fin cfg1.N, win1_7.index t = ![0, 0] := (by decide +kernel : ∀ t : Fin grid1.N, _)
/-- Window 7's block is its whole array, at every point. -/
theorem iblk_7 (c : Dev nD) (t : Fin cfg1.N) : (iblk m c 7 t : Vec Ideal S128x1280 .bf16) = V m c main_v7 := by
  funext y
  blk_simp [iblk]
  congr 1
  blk_ext [index1_7]

theorem index1_1 : ∀ t : Fin cfg1.N, win1_1.index t = ![min t.val 127, 0] := (by decide +kernel : ∀ t : Fin grid1.N, _)
theorem index1_8 : ∀ t : Fin cfg1.N, win1_8.index t = ![t.val - 2, 0] := (by decide +kernel : ∀ t : Fin grid1.N, _)
theorem index1_9 : ∀ t : Fin cfg1.N, win1_9.index t = ![min t.val 127, 0] := (by decide +kernel : ∀ t : Fin grid1.N, _)

/-- Window 1's block is the pixels' block of the point's number, the last one over again at the points past it. -/
theorem iblk_1 (c : Dev nD) (t : Fin cfg1.N) : IsBlk (V m c main_v0) t.val (iblk m c 1 t) := fun r ch => by
  blk_simp [iblk]
  congr 1
  blk_ext [index1_1]

/-! ## The proof data -/

/-- The result at pixel `P` and output channel `n`, of the arrays as the call finds them. -/
def yV (c : Dev nD) (P : ℕ) (n : Fin 1280) : EReal :=
  yF (V m c main_v1) (V m c main_v0) (V m c main_v8) (V m c main_v9) (V m c main_v10) (V m c main_v4) (V m c main_v6) (V m c main_v7) P n

/-- What the two result windows hold after a point: the codes of the point's block, and, from the third point on, the result's block two before. -/
def vRl (c : Dev nD) : (w : Fin cfg1.W) → Fin cfg1.N → ((cfg1.win w).block.Idx → Elt Ideal (cfg1.win w).elt) → Prop
  | ⟨8, _⟩ => fun t X => ∀ s, s + 2 = t.val → ∀ (r : Fin 704) (n : Fin 1280), (X : Vec Ideal S704x1280 .bf16) (ix2 r n) = yV m c (704 * s + r.val) n
  | ⟨9, _⟩ => fun t X => (X : Vec Ideal S704x640 .fp8e4m3) = codesT (V m c main_v1) (iblk m c 1 t)
  | _ => fun _ _ => True

/-- The proof data: each input window holds its block at every point; the ring buffers hold the blocks so far. -/
def vdats (_ : Fin 1) (c : Dev nD) : Dat τ (Elt Ideal) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ t := iprop((∃ (g : Vec Ideal S4x15x1088x128 .fp8e4m3) (h : Vec Ideal S4x1088x128 .f32), owns (c : Thread nD τ) (Memref.whole cc1_scratch0) fullShare g ∗ owns (c : Thread nD τ) (Memref.whole cc1_scratch1) fullShare h
    ∗ ⌜Inv (V m c main_v1) (V m c main_v0) (V m c main_v4) t.val g h⌝) ∗ rest1 c)
  q _ := fullShare
  owed _ := 0

theorem vA_eq (c : Dev nD) (w : Fin cfg1.W) : (vdats m 0 c).A w = V m c (Pipeline.arrRef spec1 w) := by
  dsimp only [vdats]

theorem vafter1_0 (c : Dev nD) (t : Fin cfg1.N) : (vdats m 0 c).after 0 t = iblk m c 0 t := by dsimp only [vdats]
theorem vafter1_1 (c : Dev nD) (t : Fin cfg1.N) : (vdats m 0 c).after 1 t = iblk m c 1 t := by dsimp only [vdats]
theorem vafter1_2 (c : Dev nD) (t : Fin cfg1.N) : (vdats m 0 c).after 2 t = iblk m c 2 t := by dsimp only [vdats]
theorem vafter1_3 (c : Dev nD) (t : Fin cfg1.N) : (vdats m 0 c).after 3 t = iblk m c 3 t := by dsimp only [vdats]
theorem vafter1_4 (c : Dev nD) (t : Fin cfg1.N) : (vdats m 0 c).after 4 t = iblk m c 4 t := by dsimp only [vdats]
theorem vafter1_5 (c : Dev nD) (t : Fin cfg1.N) : (vdats m 0 c).after 5 t = iblk m c 5 t := by dsimp only [vdats]
theorem vafter1_6 (c : Dev nD) (t : Fin cfg1.N) : (vdats m 0 c).after 6 t = iblk m c 6 t := by dsimp only [vdats]
theorem vafter1_7 (c : Dev nD) (t : Fin cfg1.N) : (vdats m 0 c).after 7 t = iblk m c 7 t := by dsimp only [vdats]
theorem vbefore1_0 (c : Dev nD) (t : Fin cfg1.N) (d) : (vdats m 0 c).before 0 t d = iblk m c 0 t :=
  before1_0_of m (vdats m 0 c) (vA_eq m c 0) (vafter1_0 m c) t d
theorem vbefore1_1 (c : Dev nD) (t : Fin cfg1.N) (d) : (vdats m 0 c).before 1 t d = iblk m c 1 t :=
  before1_1_of m (vdats m 0 c) (vA_eq m c 1) (vafter1_1 m c) t d
theorem vbefore1_2 (c : Dev nD) (t : Fin cfg1.N) (d) : (vdats m 0 c).before 2 t d = iblk m c 2 t :=
  before1_2_of m (vdats m 0 c) (vA_eq m c 2) (vafter1_2 m c) t d
theorem vbefore1_3 (c : Dev nD) (t : Fin cfg1.N) (d) : (vdats m 0 c).before 3 t d = iblk m c 3 t :=
  before1_3_of m (vdats m 0 c) (vA_eq m c 3) (vafter1_3 m c) t d
theorem vbefore1_4 (c : Dev nD) (t : Fin cfg1.N) (d) : (vdats m 0 c).before 4 t d = iblk m c 4 t :=
  before1_4_of m (vdats m 0 c) (vA_eq m c 4) (vafter1_4 m c) t d
theorem vbefore1_5 (c : Dev nD) (t : Fin cfg1.N) (d) : (vdats m 0 c).before 5 t d = iblk m c 5 t :=
  before1_5_of m (vdats m 0 c) (vA_eq m c 5) (vafter1_5 m c) t d
theorem vbefore1_6 (c : Dev nD) (t : Fin cfg1.N) (d) : (vdats m 0 c).before 6 t d = iblk m c 6 t :=
  before1_6_of m (vdats m 0 c) (vA_eq m c 6) (vafter1_6 m c) t d
theorem vbefore1_7 (c : Dev nD) (t : Fin cfg1.N) (d) : (vdats m 0 c).before 7 t d = iblk m c 7 t :=
  before1_7_of m (vdats m 0 c) (vA_eq m c 7) (vafter1_7 m c) t d

/-- What the body is called with at point `t`, window by window, -/
def vbodyPre (c : Dev nD) (t : Fin cfg1.N) : sProp 𝕄 :=
  iprop((vdats m 0 c).Φ t.castSucc ∗ (vdats m 0 c).owesAt () t.castSucc
    ∗ (∃ d, owns (c : Thread nD τ) (st1_0 t) fullShare ((vdats m 0 c).before 0 t d))
    ∗ (∃ d, owns (c : Thread nD τ) (st1_1 t) fullShare ((vdats m 0 c).before 1 t d))
    ∗ (∃ d, owns (c : Thread nD τ) (st1_2 t) fullShare ((vdats m 0 c).before 2 t d))
    ∗ (∃ d, owns (c : Thread nD τ) (st1_3 t) fullShare ((vdats m 0 c).before 3 t d))
    ∗ (∃ d, owns (c : Thread nD τ) (st1_4 t) fullShare ((vdats m 0 c).before 4 t d))
    ∗ (∃ d, owns (c : Thread nD τ) (st1_5 t) fullShare ((vdats m 0 c).before 5 t d))
    ∗ (∃ d, owns (c : Thread nD τ) (st1_6 t) fullShare ((vdats m 0 c).before 6 t d))
    ∗ (∃ d, owns (c : Thread nD τ) (st1_7 t) fullShare ((vdats m 0 c).before 7 t d))
    ∗ (∃ X, ⌜((vdats m 0 c).toRRel Cert.KernelIdeal.Hand.fgt (vRl m c)).Finds 8 t X⌝ ∗ owns (c : Thread nD τ) (st1_8 t) fullShare X)
    ∗ (∃ X, ⌜((vdats m 0 c).toRRel Cert.KernelIdeal.Hand.fgt (vRl m c)).Finds 9 t X⌝ ∗ owns (c : Thread nD τ) (st1_9 t) fullShare X))

/-- and what it returns. -/
def vbodyPost (c : Dev nD) (t : Fin cfg1.N) : sProp 𝕄 :=
  iprop((vdats m 0 c).Φ t.succ ∗ (vdats m 0 c).owesAt () t.succ
    ∗ owns (c : Thread nD τ) (st1_0 t) fullShare ((vdats m 0 c).after 0 t)
    ∗ owns (c : Thread nD τ) (st1_1 t) fullShare ((vdats m 0 c).after 1 t)
    ∗ owns (c : Thread nD τ) (st1_2 t) fullShare ((vdats m 0 c).after 2 t)
    ∗ owns (c : Thread nD τ) (st1_3 t) fullShare ((vdats m 0 c).after 3 t)
    ∗ owns (c : Thread nD τ) (st1_4 t) fullShare ((vdats m 0 c).after 4 t)
    ∗ owns (c : Thread nD τ) (st1_5 t) fullShare ((vdats m 0 c).after 5 t)
    ∗ owns (c : Thread nD τ) (st1_6 t) fullShare ((vdats m 0 c).after 6 t)
    ∗ owns (c : Thread nD τ) (st1_7 t) fullShare ((vdats m 0 c).after 7 t)
    ∗ (∃ X, ⌜vRl m c 8 t X⌝ ∗ owns (c : Thread nD τ) (st1_8 t) fullShare X)
    ∗ (∃ X, ⌜vRl m c 9 t X⌝ ∗ owns (c : Thread nD τ) (st1_9 t) fullShare X))

set_option maxHeartbeats 2000000 in
theorem vsound_body (c : Dev nD) (t : Fin cfg1.N) :
    vbodyPre m c t ⊢ wp frame (wpE (defs₀ (F := Ideal)) Variants.none c none) Set.univ (bodyAt1 t) (fun _ => vbodyPost m c t) := by
  unfold vbodyPre vbodyPost bodyAt1
  simp only [vbefore1_0, vbefore1_1, vbefore1_2, vbefore1_3, vbefore1_4, vbefore1_5, vbefore1_6, vbefore1_7]
  rw [show (vdats m 0 c).owesAt () t.succ = (vdats m 0 c).owesAt () t.castSucc from rfl,
    vafter1_0, vafter1_1, vafter1_2, vafter1_3, vafter1_4, vafter1_5, vafter1_6, vafter1_7]
  have ht : (grid1.coords t 0).val = t.val := coords_val t
  have hb : IsBlk (V m c main_v0) (grid1.coords t 0).val (iblk m c 1 t) := by rw [ht]; exact iblk_1 m c t
  have e0 := iblk_0 m c t
  have e2 := iblk_2 m c t
  have e3 := iblk_3 m c t
  have e4 := iblk_4 m c t
  have e5 := iblk_5 m c t
  have e6 := iblk_6 m c t
  have e7 := iblk_7 m c t
  dsimp only [vdats]
  iintro ⟨⟨⟨%g, %h, HG, HH, %hi⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%X8, -, H8⟩, ⟨%X9, -, H9⟩⟩
  have hi' : Inv (iblk m c 0 t : Vec Ideal S16x128 .f32) (V m c main_v0) (iblk m c 5 t : Vec Ideal S640x128 .bf16) (grid1.coords t 0).val g h := by
    rw [e0, e5, ht]; exact hi
  iapply (value_body c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) g h (V m c main_v0) hi' hb _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [HG]; · iexact HG
  isplitl [HH]; · iexact HH
  iintro ⟨H0, H1, H2, H3, H4, H5, H6, H7, %y, %g', %h', H8, H9, HG, HH, %hy⟩
  obtain ⟨hi2, hy⟩ := hy
  isplitl [HP HG HH]
  · isplitr [HP]
    · iexists g', h'
      isplitl [HG]; · iexact HG
      isplitl [HH]; · iexact HH
      ipureintro
      rw [e0, e5, ht] at hi2
      exact hi2
    · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists y; isplitr; swap; · iexact H8
    ipureintro
    intro s hs r n
    rw [e0, e2, e3, e4, e5, e6, e7, ht] at hy
    exact hy s hs r n
  · iexists _; isplitr; swap; · iexact H9
    ipureintro
    show codesT _ _ = codesT _ _
    rw [e0]

theorem vbody_obligation (c : Dev nD) :
    BodyObligationRel (vdats m 0 c) (defs₀ (F := Ideal)) Variants.none () Set.univ Cert.KernelIdeal.Hand.fgt (vRl m c) := fun t => by
  rw [bigSep_W1, bigSep_W1, Cert.KernelIdeal.Hand.defs₀_row]
  exact triple_restated (vsound_body m c t) rfl .rfl fun _ => .rfl

set_option backward.isDefEq.respectTransparency.types false in
set_option maxHeartbeats 1600000 in
/-- The whole run ends with the second call's arrays as its data say, with every other array as the second call found it, every semaphore at zero. -/
theorem vrun_main (ρ : Dev nD → PrngReg) : θ_run defs (onTc (τ := τ) (main (F := Ideal))) (s₀ m ρ)
    (fun r => RDat.FramePost cfg1 (fun c => (vdats m 0 c).toRRel Cert.KernelIdeal.Hand.fgt (vRl m c)) (V m) r ∧ r.2.sem = fun _ => 0) :=
  Entry.run_two m ρ (fun c => (vdats m 0 c).toRRel Cert.KernelIdeal.Hand.fgt (vRl m c)) (fun c => (vbody_obligation m c).toRRel)
    (fun c => (vdats m 0 c).share_full fun _ => rfl) (fun _ _ => rfl) (fun _ => rfl) (vA_eq m)
    (fun c => by
      show (Pipeline.ΦA spec1 c : sProp 𝕄) ⊢ _
      rw [PhiA1_eq]
      simp only [Dat.toRRel_Φ]
      dsimp only [vdats]
      iintro ⟨⟨⟨%g, HG⟩, %h, HH⟩, HP⟩
      isplitr [HP]
      · iexists g, h
        isplitl [HG]; · rw [owns_whole]; iexact HG
        isplitl [HH]; · rw [owns_whole]; iexact HH
        ipureintro; exact inv_zero _ _ _
      · iexact HP)
    (fun c => by
      show _ ⊢ (Pipeline.ΦA spec1 c : sProp 𝕄)
      rw [PhiA1_eq]
      simp only [Dat.toRRel_Φ]
      dsimp only [vdats]
      iintro ⟨⟨%g, %h, HG, HH, -⟩, HP⟩
      isplitr [HP]
      · isplitl [HG]
        · iexists g; rw [owns_whole]; exact .rfl
        · iexists h; rw [owns_whole]; exact .rfl
      · iexact HP)

/-! ## The two result arrays -/

theorem flush1_8 : ∀ t : Fin cfg1.N, (cfg1.win 8).flush t = true → 2 ≤ t.val := (by decide +kernel : ∀ t : Fin grid1.N, _)

set_option backward.isDefEq.respectTransparency.types false in
/-- What the two result arrays hold after the run: at each pixel and channel the result and the code. -/
theorem vfinal (r : PUnit × MemSt nD τ sig (Elt Ideal))
    (h : RDat.FramePost cfg1 (fun c => (vdats m 0 c).toRRel Cert.KernelIdeal.Hand.fgt (vRl m c)) (V m) r) (c : Dev nD) :
    r.2.mem ((c.tc : Thread nD τ).loc main_v11_0) = (fun y : S90112x1280.Idx => yV m c (y 0).val (y 1))
    ∧ r.2.mem ((c.tc : Thread nD τ).loc main_v11_1) = (fun y : S90112x640.Idx => Qn (V m c main_v1) (V m c main_v0) (y 1) (y 0).val) := by
  obtain ⟨after, hl, he⟩ := RDat.FramePost.exists_exact h c
  constructor
  · refine (he 8).trans ?_
    refine (((vdats m 0 c).toRRel Cert.KernelIdeal.Hand.fgt (vRl m c)).withAfter after).arrAt_eq_of_covers 8 _ (by decide +kernel) fun t hf y => ?_
    have hx := (vdats m 0 c).toRRel_leaves (fgt := Cert.KernelIdeal.Hand.fgt) (Rl := vRl m c) (w := 8) rfl (hl 8 t hf)
    have ht := flush1_8 t hf
    have hy := hx (t.val - 2) (by omega) (y 0) (y 1)
    blk_simp
    have e : y = ix2 (y 0) (y 1) := eq_ix2 y
    refine (congrArg (after 8 t) e).trans (hy.trans ?_)
    congr 1
    · blk_simp [index1_8]; omega
    · apply Fin.ext; blk_simp [index1_8]
  · refine (he 9).trans ?_
    refine (((vdats m 0 c).toRRel Cert.KernelIdeal.Hand.fgt (vRl m c)).withAfter after).arrAt_eq_of_covers 9 _ (by decide +kernel) fun t hf y => ?_
    have hx := (vdats m 0 c).toRRel_leaves (fgt := Cert.KernelIdeal.Hand.fgt) (Rl := vRl m c) (w := 9) rfl (hl 9 t hf)
    blk_simp
    refine (congrFun hx y).trans ?_
    rw [show codesT (V m c main_v1) (iblk m c 1 t) y = _ from (congrArg _ (eq_ix2 y)).trans (codesT_ix2 _ _ _ _), iblk_1 m c t]
    have hy0 : (y 0).val < 704 := (y 0).isLt
    have e0 : win1_9.index t 0 * 704 + (y 0).val = 704 * min t.val 127 + (y 0).val := by rw [index1_9 t]; show min t.val 127 * 704 + _ = _; omega
    have e1 : (win1_9.blk t).view.emb y 1 = (y 1 : Fin 640) := Fin.ext (by blk_simp [index1_9])
    rw [e0, e1, Qn_lt _ _ (by omega)]

end

end Cert.KernelIdeal.Val
-- ==== Proof.KernelIdealScaleFold.lean ====
/-
  The first call of the kernel `KernelIdeal`: what it leaves in its result, as one fold over the grid points.
-/
module

public import proofs.«01_k».proof.Proof.KernelIdealScaleData
public import Idealize.ShloMosaic.Lib.Pipeline.Value

@[expose] public section

noncomputable section

namespace Cert.KernelIdeal.Scale0

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 1's array: the run's contents for that window after the body (`Gen.outsAt0`: its component 0), read through the window's block. -/
theorem flushed1 (c : Dev nD) (t : Fin cfg0.N) :
    (dats m 0 c).flushed 1 t = (cfg0.win 1).cut (grid0.coords t) ((outsAt0 m c t.val t.isLt).1) := by
  show (cfg0.win 1).cut (grid0.coords t) ((dats m 0 c).after 1 t) = _
  rw [after0_1]

/-- … so at a point where case A runs, what its write-back would write is that case's NAMED TERM for the window (`Gen.out0_A_1`: the pieces
    its run found, read back) at the point's memrefs and input blocks, and for an output the case reads back what the point before left (`Gen.outsAt0` at `t - 1`) — by the frame's rewriting lemma for the case. -/
theorem flushed1_A (c : Dev nD) (t : Fin cfg0.N) (h0 : t.val % 44 = 0) (h1 : ¬t.val % 44 = 43) :
    (dats m 0 c).flushed 1 t = (cfg0.win 1).cut (grid0.coords t) (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t)) := by
  simp only [flushed1, outsAt0_A m c t h0 h1]

/-- … so at a point where case B runs, what its write-back would write is that case's NAMED TERM for the window (`Gen.out0_B_1`: the pieces
    its run found, read back) at the point's memrefs and input blocks, and for an output the case reads back what the point before left (`Gen.outsAt0` at `t - 1`) — by the frame's rewriting lemma for the case. -/
theorem flushed1_B (c : Dev nD) (t : Fin cfg0.N) (h0 : ¬t.val % 44 = 0) (h1 : ¬t.val % 44 = 43) :
    (dats m 0 c).flushed 1 t = (cfg0.win 1).cut (grid0.coords t) (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) (outsAt0 m c (t.val - 1) (Nat.lt_of_le_of_lt (Nat.sub_le _ _) t.isLt)).2) := by
  simp only [flushed1, outsAt0_B m c t h0 h1]

/-- … so at a point where case C runs, what its write-back would write is that case's NAMED TERM for the window (`Gen.out0_C_1`: the pieces
    its run found, read back) at the point's memrefs and input blocks, and for an output the case reads back what the point before left (`Gen.outsAt0` at `t - 1`) — by the frame's rewriting lemma for the case. -/
theorem flushed1_C (c : Dev nD) (t : Fin cfg0.N) (h0 : ¬t.val % 44 = 0) (h1 : t.val % 44 = 43) :
    (dats m 0 c).flushed 1 t = (cfg0.win 1).cut (grid0.coords t) (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) (outsAt0 m c (t.val - 1) (Nat.lt_of_le_of_lt (Nat.sub_le _ _) t.isLt)).2) := by
  simp only [flushed1, outsAt0_C m c t h0 h1]

-- no `blocks1`: window 1's index map revisits a block index, or its points could not be enumerated here;
-- the final array is still the frame's `arrAt`, to read with Lib/Pipeline/Value.lean's lemmas by hand

/-- An index that no flushing point's block covers keeps output window 1's array contents at region entry. -/
theorem entry1 (c : Dev nD) (i : S16x128.Idx) (h : ∀ t : Fin cfg0.N, (cfg0.win 1).flush t = true → i ∉ ((cfg0.win 1).blk t).view.set) :
    (dats m 0 c).arrAt 1 cfg0.N i = V m c (Pipeline.arrRef spec0 1) i := by
  rw [(dats m 0 c).arrAt_apply_of_forall_not_mem 1 cfg0.N i (fun t _ hf => h t hf), A_eq]

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S16x640 .bf16) : Vec F S16x640 .bf16 :=
  if h0 : n % 44 = 0 then
    if h1 : n % 44 = 43 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N))
  else
    if h1 : n % 44 = 43 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) acc
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) acc

/-- WHAT CARRIED SCRATCH 0 HOLDS after point `t`: the fold of its run up to `t`, from the reset at the run's first point
    `44·(t / 44)` (Lib/Pipeline/Value.lean `Pipeline.eq_accAt_of_mod`, by the frame's `outsAt0_κ`; without enumerating the points). -/
theorem soutsAt0_0_eq (c : Dev nD) (t : Fin cfg0.N) :
    (outsAt0 m c t.val t.isLt).2 = Pipeline.accAt (fun n h => scAt0_0 m c n h (VS0_0.read (Elt F) VS0_0.junk)) (scAt0_0 m c) (44 * (t.val / 44)) (t.val % 44)
      (by have h1 := t.isLt; have h2 := Nat.div_add_mod t.val 44; omega) :=
  Pipeline.eq_accAt_of_mod (fun n h => (outsAt0 m c n h).2) 44 (fun n h => scAt0_0 m c n h (VS0_0.read (Elt F) VS0_0.junk)) (scAt0_0 m c)
    (fun n h hn => by
      have hN := lt_of_lt_of_eq h (show cfg0.N = 44 from N_0)
      by_cases h0 : n % 44 = 0 <;> by_cases h1 : n % 44 = 43
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 44 from N_0)
      by_cases h0 : (n + 1) % 44 = 0 <;> by_cases h1 : (n + 1) % 44 = 43
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 44 from N_0)
  have hd : n / 44 = 0 := Nat.div_eq_of_lt hN
  have hm : n % 44 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S16x128 .f32 × Vec F S16x640 .bf16 :=
  ((VO0_1.read (Elt F) VO0_1.junk, VS0_0.read (Elt F) VS0_0.junk) : Vec F S16x128 .f32 × Vec F S16x640 .bf16)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S16x128 .f32 × Vec F S16x640 .bf16) : Vec F S16x128 .f32 × Vec F S16x640 .bf16 :=
  if h0 : n % 44 = 0 then
    if h1 : n % 44 = 43 then
      False.elim (by have hN : n < 44 := lt_of_lt_of_eq hb (show cfg0.N = 44 from N_0); omega)
    else
      (out0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)))
  else
    if h1 : n % 44 = 43 then
      (out0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) acc.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) acc.2)
    else
      (out0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) acc.2)

/-- `stAt0` at a point of case A: that case's contents. -/
theorem stAt0_A (c : Dev nD) (t : Fin cfg0.N) (acc : Vec F S16x128 .f32 × Vec F S16x640 .bf16) (h0 : t.val % 44 = 0) (h1 : ¬t.val % 44 = 43) :
    stAt0 m c t.val t.isLt acc = (out0_A_1 c (grid0.coords t) (ms0_0 t) (hs0_0 t) (ms0_1 t) (hs0_1 t) scM0_0 (Memref.isWhole_whole _) ((hcond0_0 t).mpr h0) (fun h => h1 ((hcond0_1 t).mp h)) (iblk m c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk m c 0 t)) :=
  (dif_pos h0).trans ((dif_neg h1).trans rfl)

/-- `stAt0` at a point of case B: that case's contents, over `acc`. -/
theorem stAt0_B (c : Dev nD) (t : Fin cfg0.N) (acc : Vec F S16x128 .f32 × Vec F S16x640 .bf16) (h0 : ¬t.val % 44 = 0) (h1 : ¬t.val % 44 = 43) :
    stAt0 m c t.val t.isLt acc = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) acc.2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) acc.2) :=
  (dif_neg h0).trans ((dif_neg h1).trans rfl)

/-- `stAt0` at a point of case C: that case's contents, over `acc`. -/
theorem stAt0_C (c : Dev nD) (t : Fin cfg0.N) (acc : Vec F S16x128 .f32 × Vec F S16x640 .bf16) (h0 : ¬t.val % 44 = 0) (h1 : t.val % 44 = 43) :
    stAt0 m c t.val t.isLt acc = (out0_C_1 c (grid0.coords t) (ms0_0 t) (hs0_0 t) (ms0_1 t) (hs0_1 t) scM0_0 (Memref.isWhole_whole _) (fun h => h0 ((hcond0_0 t).mp h)) ((hcond0_1 t).mpr h1) (iblk m c 0 t) acc.2, sout0_C_0 c (grid0.coords t) (ms0_0 t) (hs0_0 t) (ms0_1 t) (hs0_1 t) scM0_0 (Memref.isWhole_whole _) (fun h => h0 ((hcond0_0 t).mp h)) ((hcond0_1 t).mpr h1) (iblk m c 0 t) acc.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 44 from N_0)
  have e := Pipeline.eq_accAt_of_mod (fun n h => outsAt0 m c n h) 44 (fun n h => stAt0 m c n h junk0) (stAt0 m c)
    (fun n h _ => by
      have hN := lt_of_lt_of_eq h (show cfg0.N = 44 from N_0)
      obtain rfl : n = 0 := by omega
      exact outsAt0_zero m c h)
    (fun n h _ => outsAt0_succ m c n h)
    (by decide) n hn (by have := Nat.div_add_mod n 44; omega)
  have hd : n / 44 = 0 := Nat.div_eq_of_lt hN
  have hm : n % 44 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 1 -/

/-- The block of the array that holds index `i`, numbered in the order the points write the blocks back (one every 44 points),
    `i`'s place in it, and the point that writes it back (the last of its 44). -/
abbrev run1Of (i : S16x128.Idx) : ℕ := 1 * ((i 0).val / 16 - 0) + 1 * ((i 1).val / 128 - 0)
set_option backward.proofsInPublic true in
abbrev loc1Of (i : S16x128.Idx) : S16x128.Idx := fun a => match a with
  | ⟨0, _⟩ => ⟨(i 0).val % 16, Nat.mod_lt _ (by decide)⟩
  | ⟨1, _⟩ => ⟨(i 1).val % 128, Nat.mod_lt _ (by decide)⟩
abbrev pt1Of (i : S16x128.Idx) : ℕ := 44 * run1Of i + 43

/-- WHAT THE ARRAY ENDS HOLDING at index `i` inside the box the flushing blocks fill: output 1's component of the carried
    state's fold at the point that writes `i`'s block back, at `i`'s place in the block. `G1` states the array's contents
    only inside the box. -/
def G1 (c : Dev nD) : Buf (Elt F) ((c : Thread nD τ).loc main_v1) := fun i =>
  if h : pt1Of i < cfg0.N then
    (Pipeline.accAt (fun n h => stAt0 m c n h junk0) (stAt0 m c) 0 (pt1Of i) (by omega)).1 (loc1Of i)
  else V m c (Pipeline.arrRef spec0 1) i

/-- The printed index map, decided over the grid: output window 1's block indices stay in the box, and the block number
    read off them is the point's (`t / 44`). -/
theorem idx_facts1 : ∀ t : Fin cfg0.N, 0 ≤ win0_1.index t (0 : Fin 2) ∧ win0_1.index t (0 : Fin 2) ≤ 0
    ∧ 0 ≤ win0_1.index t (1 : Fin 2) ∧ win0_1.index t (1 : Fin 2) ≤ 0
    ∧ 1 * (win0_1.index t (0 : Fin 2) - 0) + 1 * (win0_1.index t (1 : Fin 2) - 0) = t.val / 44 :=
  (by decide +kernel : ∀ t : Fin grid0.N, _)

/-- Every block of the box is SOME flushing point's: `onto1Pt`, the point that writes back the block at place `q` of the box (the last point of its run). -/
abbrev onto1Pt (q0 : Fin 1) (q1 : Fin 1) : Fin grid0.N :=
  ⟨44 * (1 * q0.val + 1 * q1.val) + 43, lt_of_lt_of_eq (by omega) N_0.symm⟩
theorem idx_onto1 : ∀ (q0 : Fin 1) (q1 : Fin 1), ∃ t : Fin cfg0.N, (cfg0.win 1).flush t = true ∧ win0_1.index t = ![q0.val + 0, q1.val + 0] :=
  fun q0 q1 => ⟨onto1Pt q0 q1, (by decide +kernel : ∀ (q0 : Fin 1) (q1 : Fin 1), win0_1.flush (onto1Pt q0 q1) = true ∧ win0_1.index (onto1Pt q0 q1) = ![q0.val + 0, q1.val + 0]) q0 q1⟩

/-- WHAT A FLUSHING POINT `t` WRITES BACK is block `t` of `G1`: output 1's component of the fold up to `t`. -/
theorem flushed1_eq (c : Dev nD) (t : Fin cfg0.N) (hf : (cfg0.win 1).flush t = true) :
    (dats m 0 c).flushed 1 t = ((cfg0.win 1).blk t).view.read (Elt F) (G1 m c) := by
  show (cfg0.win 1).cut (grid0.coords t) ((dats m 0 c).after 1 t) = _
  rw [after0_1, outsAt0_sweep]
  have hm : t.val % 44 = 43 := (flush0_1 t).mp hf
  obtain ⟨e0, e1, e2⟩ := idx_facts1 t
  funext y
  have hy0 : (y 0).val < 16 := (y 0).isLt
  have hy1 : (y 1).val < 128 := (y 1).isLt
  have hb0 : (((cfg0.win 1).blk t).view.emb y 0).val = win0_1.index t (0 : Fin 2) * 16 + 1 * (y 0).val := rfl
  have hb1 : (((cfg0.win 1).blk t).view.emb y 1).val = win0_1.index t (1 : Fin 2) * 128 + 1 * (y 1).val := rfl
  have hr : run1Of (((cfg0.win 1).blk t).view.emb y) = t.val / 44 := by
    show 1 * ((((cfg0.win 1).blk t).view.emb y 0).val / 16 - 0) + 1 * ((((cfg0.win 1).blk t).view.emb y 1).val / 128 - 0) = _
    rw [hb0, hb1]
    rw [show (win0_1.index t (0 : Fin 2) * 16 + 1 * (y 0).val) / 16 = win0_1.index t (0 : Fin 2) from by omega]; rw [show (win0_1.index t (1 : Fin 2) * 128 + 1 * (y 1).val) / 128 = win0_1.index t (1 : Fin 2) from by omega]
    omega
  have hl : loc1Of (((cfg0.win 1).blk t).view.emb y) = (cfg0.win 1).xinj (grid0.coords t) y := by
    funext a; apply Fin.ext
    match a with
    | ⟨0, _⟩ => show (((cfg0.win 1).blk t).view.emb y 0).val % 16 = (y 0).val; rw [hb0]; omega
    | ⟨1, _⟩ => show (((cfg0.win 1).blk t).view.emb y 1).val % 128 = (y 1).val; rw [hb1]; omega
  have hp : pt1Of (((cfg0.win 1).blk t).view.emb y) = t.val := by
    show 44 * run1Of (((cfg0.win 1).blk t).view.emb y) + 43 = _
    rw [hr]; have := Nat.div_add_mod t.val 44; omega
  show (Pipeline.accAt (fun n h => stAt0 m c n h junk0) (stAt0 m c) 0 t.val _).1 ((cfg0.win 1).xinj (grid0.coords t) y) = G1 m c (((cfg0.win 1).blk t).view.emb y)
  unfold G1
  rw [dif_pos (by rw [hp]; exact t.isLt), hl, fold0_congr m c _ _ _ _ hp.symm]

/-- An index of the array is in point `t`'s block iff each coordinate is in the block's range on its axis. -/
theorem mem_blk1 (t : Fin cfg0.N) (i : S16x128.Idx) :
    i ∈ ((cfg0.win 1).blk t).view.set ↔ ∀ a : Fin 2, win0_1.index t a * S16x128.size a ≤ (i a).val ∧ (i a).val < win0_1.index t a * S16x128.size a + S16x128.size a := by
  show i ∈ ((View.whole main_v1).slice (win0_1.rect t)).set ↔ _
  rw [View.set_slice_whole, Rect.mem_set_unit]
  exact Iff.rfl

/-- THE COVERED INDICES: in some flushing point's block iff inside the box those blocks fill. -/
theorem covered_iff1 (i : S16x128.Idx) :
    (∃ t : Fin cfg0.N, (cfg0.win 1).flush t = true ∧ i ∈ ((cfg0.win 1).blk t).view.set) ↔ 0 ≤ (i 0).val ∧ (i 0).val < 16 ∧ 0 ≤ (i 1).val ∧ (i 1).val < 128 := by
  constructor
  · rintro ⟨t, -, hi⟩
    rw [mem_blk1] at hi
    have b0 : win0_1.index t (0 : Fin 2) * 16 ≤ (i 0).val ∧ (i 0).val < win0_1.index t (0 : Fin 2) * 16 + 16 := hi 0
    have b1 : win0_1.index t (1 : Fin 2) * 128 ≤ (i 1).val ∧ (i 1).val < win0_1.index t (1 : Fin 2) * 128 + 128 := hi 1
    obtain ⟨e0, e1, e2⟩ := idx_facts1 t
    omega
  · intro h
    have hi0 : (i 0).val < 16 := (i 0).isLt
    have hi1 : (i 1).val < 128 := (i 1).isLt
    obtain ⟨t, hft, ht⟩ := idx_onto1 ⟨(i 0).val / 16 - 0, by omega⟩ ⟨(i 1).val / 128 - 0, by omega⟩
    have q0 : win0_1.index t (0 : Fin 2) = (i 0).val / 16 - 0 + 0 := congrFun ht 0
    have q1 : win0_1.index t (1 : Fin 2) = (i 1).val / 128 - 0 + 0 := congrFun ht 1
    refine ⟨t, hft, ?_⟩
    rw [mem_blk1]
    intro a
    match a with
    | ⟨0, _⟩ => show win0_1.index t (0 : Fin 2) * 16 ≤ (i 0).val ∧ (i 0).val < win0_1.index t (0 : Fin 2) * 16 + 16; omega
    | ⟨1, _⟩ => show win0_1.index t (1 : Fin 2) * 128 ≤ (i 1).val ∧ (i 1).val < win0_1.index t (1 : Fin 2) * 128 + 128; omega

/-- THE ARRAY after the run: `G1` (the flushing blocks tile it). -/
theorem final1 (c : Dev nD) : (dats m 0 c).arrAt 1 cfg0.N = G1 m c :=
  (dats m 0 c).arrAt_eq_of_cover 1 _ (fun t hf => flushed1_eq m c t hf) (fun i => (covered_iff1 i).2 (by
    have h0 : (i 0).val < 16 := (i 0).isLt; have h1 : (i 1).val < 128 := (i 1).isLt; omega))

/-- Output 1 is written back ONCE, at the last point, and its block is its array: the array after the run is output 1's
    component of the fold over the whole grid — where a hand proof over this window starts. -/
theorem G1_last (c : Dev nD) :
    G1 m c = (Pipeline.accAt (fun n h => stAt0 m c n h junk0) (stAt0 m c) 0 43 (lt_of_lt_of_eq (by decide) N_0.symm)).1 := by
  funext i
  have hi0 : (i 0).val < 16 := (i 0).isLt
  have hi1 : (i 1).val < 128 := (i 1).isLt
  have hp : pt1Of i = 43 := by
    show 44 * (1 * ((i 0).val / 16 - 0) + 1 * ((i 1).val / 128 - 0)) + 43 = _
    omega
  have hl : loc1Of i = i := by
    funext a; apply Fin.ext
    match a with
    | ⟨0, _⟩ => show (i 0).val % 16 = (i 0).val; omega
    | ⟨1, _⟩ => show (i 1).val % 128 = (i 1).val; omega
  unfold G1
  rw [dif_pos (by rw [hp]; exact lt_of_lt_of_eq (by decide) N_0.symm), hl, fold0_congr m c _ _ _ _ hp]

end Cert.KernelIdeal.Scale0

end
-- ==== Proof.Scale.lean ====
/-
  The scale of the quantiser, as arithmetic of extended reals: the least of the powers of two 2^120, 2^119, …, 2^-126
  above `z`, 2^120 where no power is. The kernel finds it by halving 2^120 while the half is still above `z`; the
  reference takes the least entry of a table. `halved_eq_least` says that the two are one number.
-/
module

public import Idealize.ShloMosaic.PureOps.Ideal.Laws

@[expose] public section

noncomputable section

namespace Cert.Scale

open Idealize.ShloMosaic

/-- The `k`-th power of two counted down from 2^120. -/
def pw (k : ℕ) : EReal := (((2 : ℝ) ^ (120 - (k : ℤ)) : ℝ) : EReal)

theorem pw_half (k : ℕ) : pw k * (((1 / 2 : ℝ)) : EReal) = pw (k + 1) := by
  unfold pw
  rw [← EReal.coe_mul]
  congr 1
  rw [show (120 - ((k + 1 : ℕ) : ℤ)) = (120 - (k : ℤ)) - 1 by push_cast; ring, zpow_sub_one₀ (by norm_num)]
  norm_num

theorem pw_anti {j k : ℕ} (h : j ≤ k) : pw k ≤ pw j := by
  unfold pw
  rw [EReal.coe_le_coe_iff]
  exact zpow_le_zpow_right₀ (by norm_num) (by omega)

/-- One halving: to the half where the half is above `z`. -/
def halve (z p : EReal) : EReal := if z < p * (((1 / 2 : ℝ)) : EReal) then p * (((1 / 2 : ℝ)) : EReal) else p

/-- An entry of the table: the power where it is above `z`, 2^120 elsewhere. -/
def entry (z : EReal) (k : ℕ) : EReal := if z < pw k then pw k else pw 0

/-- The least of the first `n + 1` entries. -/
def least (z : EReal) (n : ℕ) : EReal := (Finset.range (n + 1)).inf (entry z)

theorem least_zero (z : EReal) : least z 0 = pw 0 := by
  simp [least, entry]

theorem least_succ (z : EReal) (n : ℕ) : least z (n + 1) = entry z (n + 1) ⊓ least z n := by
  unfold least
  rw [Finset.range_add_one, Finset.inf_insert]

/-- The least of the first entries is one of the powers, and its half is not above `z` unless it is the last of them. -/
theorem least_mem (z : EReal) (n : ℕ) : ∃ k, k ≤ n ∧ least z n = pw k ∧ (k = n ∨ ¬ z < pw (k + 1)) := by
  induction n with
  | zero => exact ⟨0, le_rfl, least_zero z, .inl rfl⟩
  | succ n ih =>
    obtain ⟨k, hk, he, hs⟩ := ih
    rw [least_succ, he]
    by_cases hz : z < pw (n + 1)
    · refine ⟨n + 1, le_rfl, ?_, .inl rfl⟩
      rw [entry, if_pos hz, inf_eq_left]
      exact pw_anti (by omega)
    · refine ⟨k, by omega, ?_, .inr ?_⟩
      · rw [entry, if_neg hz, inf_eq_right]
        exact pw_anti (by omega)
      · rcases hs with rfl | hs
        · exact hz
        · exact hs

/-- Halving the least of the first `n + 1` entries once gives the least of the first `n + 2`. -/
theorem halve_least (z : EReal) (n : ℕ) : halve z (least z n) = least z (n + 1) := by
  obtain ⟨k, hk, he, hs⟩ := least_mem z n
  rw [least_succ, he, halve, pw_half]
  by_cases hz : z < pw (k + 1)
  · obtain rfl : k = n := hs.resolve_right fun h => h hz
    rw [if_pos hz, entry, if_pos hz, inf_eq_left.2 (pw_anti (by omega))]
  · have hz' : ¬ z < pw (n + 1) := fun h => hz (h.trans_le (pw_anti (by omega)))
    rw [if_neg hz, entry, if_neg hz', inf_eq_right.2 (pw_anti (by omega))]

/-- Halving from 2^120 along a list of `n` trips ends at the least of the first `n + 1` entries. -/
theorem halved_eq_least {ι : Type} (z : EReal) (l : List ι) :
    l.foldl (fun p _ => halve z p) (pw 0) = least z l.length := by
  have h : ∀ (l : List ι) (n : ℕ), l.foldl (fun p _ => halve z p) (least z n) = least z (n + l.length) := by
    intro l
    induction l with
    | nil => intro n; rfl
    | cons a l ih =>
      intro n
      rw [List.foldl_cons, halve_least, ih, List.length_cons]
      congr 1; omega
  have := h l 0
  rwa [least_zero, zero_add] at this

/-- The scale for the largest magnitude `a`: 1 where it is zero, else the least power above `a · c`. -/
def scale (c a : EReal) : EReal := if a = 0 then 1 else least (a * c) 246

/-- The least entry of the table written upwards, from 2^-126. -/
theorem fold_min_eq_least (z : EReal) (f : Fin 247 → EReal) (hf : ∀ i, f i = entry z (246 - i.val)) :
    (Finset.univ : Finset (Fin 247)).fold min ⊤ f = least z 246 := by
  refine eq_of_forall_le_iff fun d => ?_
  rw [Finset.le_fold_min, least, Finset.le_inf_iff]
  constructor
  · rintro ⟨-, h⟩ k hk
    have hk' : k < 247 := Finset.mem_range.1 hk
    have := h ⟨246 - k, by omega⟩ (Finset.mem_univ _)
    rw [hf] at this
    rwa [show 246 - (246 - k) = k by omega] at this
  · intro h
    refine ⟨le_top, fun i _ => ?_⟩
    rw [hf]
    exact h _ (Finset.mem_range.2 (by omega))

/-- The table's power of two, as the host's power of 2 by an integer. -/
theorem pow_two (n : ℤ) (k : ℕ) (h : n = 120 - (k : ℤ)) : Ideal.pow ((2 : ℝ) : EReal) ((n : ℝ) : EReal) = pw k := by
  subst h
  show (Real.rpow (2 : ℝ) ((120 - (k : ℤ) : ℤ) : ℝ) : EReal) = _
  unfold pw
  congr 1
  exact Real.rpow_intCast 2 _

/-- A magnitude. -/
theorem magnitude_nonneg (x : EReal) : 0 ≤ max x (-x) := by
  rcases le_total 0 x with h | h
  · exact h.trans (le_max_left _ _)
  · exact (EReal.neg_nonneg.2 h).trans (le_max_right _ _)

/-! The constants the two programs write. -/

theorem ofBits_top : Ideal.ofBits .f32 0x7B800000#32 = pw 0 := by
  unfold pw
  simp [Ideal.ofBits, Ideal.ieee, -EReal.coe_mul, -EReal.coe_pow]; norm_num [-EReal.coe_pow]

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem ofBits_zero : Ideal.ofBits .f32 0x00000000#32 = 0 := by
  simp [Ideal.ofBits, Ideal.ieee]

theorem ofBits_zero_bf16 : Ideal.ofBits .bf16 0x0000#16 = 0 := by
  simp [Ideal.ofBits, Ideal.ieee]

theorem ofBits_inf : Ideal.ofBits .f32 0x7F800000#32 = ⊤ := by
  simp [Ideal.ofBits, Ideal.ieee]

theorem ofBits_neg_inf : Ideal.ofBits .f32 0xFF800000#32 = ⊥ := by
  simp [Ideal.ofBits, Ideal.ieee]

theorem ofBits_neg_inf_bf16 : Ideal.ofBits .bf16 0xFF80#16 = ⊥ := by
  simp [Ideal.ofBits, Ideal.ieee]

end Cert.Scale
-- ==== Proof.KernelIdealScaleValue.lean ====
/-
  What the first call of the kernel computes at the ideal instance: every entry of the first eight rows of its result is the scale of the
  largest magnitude of the argument, every entry of the last eight rows the inverse of the scale.
-/
module

public import proofs.«01_k».proof.Proof.KernelIdealScaleFold
public import proofs.«01_k».proof.Proof.Scale
public import Idealize.ShloMosaic.Lib.Pipeline.ValueKit
public import Idealize.ShloMosaic.Lib.Pipeline.ValueKit.Acc
public import Idealize.ShloMosaic.Lib.Pipeline.ReadBack
public import Idealize.ShloMosaic.PureOps.Ideal.Laws
public import Idealize.ShloMosaic.Lib.Pointwise
public import Idealize.ShloMosaic.Lib.Claim

@[expose] public section
set_option maxRecDepth 16384
noncomputable section
namespace Cert.KernelIdeal.ScaleVal
open Cert.KernelIdeal Cert.KernelIdeal.Gen Cert.KernelIdeal.Scale0 Idealize.ShloMosaic Idealize.ShloMosaic.TcCoe Idealize.SL.Sem Idealize.ShloMosaic.Pointwise
open Cert.Scale

/-! ## The values the body computes -/

/-- A step of the running maximum is below `d` iff the old one is and every magnitude of the block in its class of rows is. -/
theorem step_le (x : Vec Ideal S2048x640 .bf16) (a : Vec Ideal S16x640 .bf16) (r : Fin 16) (q : Fin 640) (d : EReal) :
    k0_pay2 (F := Ideal) x a (ix2 r q) ≤ d
      ↔ a (ix2 r q) ≤ d ∧ ∀ k : Fin 128, max (x (ix2 ⟨k.val * 16 + r.val, by omega⟩ q)) (-x (ix2 ⟨k.val * 16 + r.val, by omega⟩ q)) ≤ d := by
  have h : k0_pay2 (F := Ideal) x a (ix2 r q) = max (a (ix2 r q)) ((Finset.univ : Finset (Fin 128)).fold max (Ideal.ofBits .bf16 0xFF80#16)
      (fun k => max (x (ix2 ⟨k.val * 16 + r.val, by omega⟩ q)) (-x (ix2 ⟨k.val * 16 + r.val, by omega⟩ q)))) := by
    pointwise [k0_pay2]
    rfl
  rw [h, max_le_iff, Finset.fold_max_le, ofBits_neg_inf_bf16]
  simp only [bot_le, true_and, Finset.mem_univ, forall_const]

theorem start (r : Fin 16) (q : Fin 640) : (k0_pay1 (F := Ideal) (ix2 r q) : EReal) = 0 := by
  pointwise [k0_pay1]

/-- The largest magnitude is below `d` iff the whole running maximum is. -/
theorem amax_le (a : Vec Ideal S16x640 .bf16) (l : Fin 128) (d : EReal) :
    (k0_pay3 (F := Ideal) a (ix2 0 l) : EReal) ≤ d ↔ ∀ (r : Fin 16) (q : Fin 640), a (ix2 r q) ≤ d := by
  have h : k0_pay3 (F := Ideal) a (ix2 0 l) = (Finset.univ : Finset (Fin 640)).fold max (Ideal.ofBits .f32 0xFF800000#32)
      (fun q => (Finset.univ : Finset (Fin 16)).fold max (Ideal.ofBits .f32 0xFF800000#32) (fun r => a (ix2 r q))) := by
    pointwise [k0_pay3]
  rw [h, Finset.fold_max_le, ofBits_neg_inf]
  simp only [bot_le, true_and, Finset.mem_univ, forall_const, Finset.fold_max_le]
  exact ⟨fun h r q => h q r, fun h q r => h r q⟩

/-- A trip of the loop is a halving. -/
theorem trip (a : Vec Ideal S16x640 .bf16) (p : FVec Ideal S8x128 .f32) (r : Fin 8) (l : Fin 128) :
    k0_pay5 (F := Ideal) a p (ix2 r l) = halve (k0_pay3 (F := Ideal) a (ix2 0 l) * Ideal.ofBits .f32 0x3B124925#32) (p (ix2 r l)) := by
  rw [halve, ← ofBits_half]
  pointwise [k0_pay5]

theorem trips_eq : k0_t1_loop.trips = 246 := by decide +kernel

/-- The loop ends at the least power above the product. -/
theorem loop_eq (a : Vec Ideal S16x640 .bf16) (r : Fin 8) (l : Fin 128) :
    (Scf.fold (n := k0_t1_loop.trips) (fun _ p => k0_pay5 (F := Ideal) a p) k0_pay4) (ix2 r l)
      = least (k0_pay3 (F := Ideal) a (ix2 0 l) * Ideal.ofBits .f32 0x3B124925#32) 246 := by
  rw [Scf.fold_eq]
  have h : ∀ (ks : List (Fin k0_t1_loop.trips)) (p : FVec Ideal S8x128 .f32),
      (ks.foldl (fun p _ => k0_pay5 (F := Ideal) a p) p) (ix2 r l)
        = ks.foldl (fun p _ => halve (k0_pay3 (F := Ideal) a (ix2 0 l) * Ideal.ofBits .f32 0x3B124925#32) p) (p (ix2 r l)) := by
    intro ks
    induction ks with
    | nil => intro p; rfl
    | cons k ks ih => intro p; rw [List.foldl_cons, ih, trip]; rfl
  have h0 : (k0_pay4 (F := Ideal) (ix2 r l) : EReal) = pw 0 := by
    rw [← ofBits_top]
    pointwise [k0_pay4]
  rw [h, h0, halved_eq_least, List.length_finRange, trips_eq]

/-- The two stored values. -/
theorem scale_eq (a : Vec Ideal S16x640 .bf16) (r : Fin 8) (l : Fin 128) :
    k0_pay6 (F := Ideal) a (Scf.fold (n := k0_t1_loop.trips) (fun _ p => k0_pay5 (F := Ideal) a p) k0_pay4) (ix2 r l)
      = scale (Ideal.ofBits .f32 0x3B124925#32) (k0_pay3 (F := Ideal) a (ix2 0 l)) := by
  rw [scale, ← loop_eq a r l]
  pointwise [k0_pay6]

theorem inverse_eq (a : Vec Ideal S16x640 .bf16) (p : FVec Ideal S8x128 .f32) (r : Fin 8) (l : Fin 128) :
    k0_pay7 (F := Ideal) a p (ix2 r l) = Ideal.div 1 (k0_pay6 (F := Ideal) a p (ix2 r l)) := by
  pointwise [k0_pay7]

/-! ## The running maximum over the grid -/

variable (m : (ℓ : Loc nD τ sig) → Buf (Elt Ideal) ℓ)

/-- The argument. -/
abbrev aX (c : Dev nD) : FVec Ideal S2x256x176x640 .bf16 := m ((c : Thread nD τ).loc main_arg0)

theorem entry_v0 (c : Dev nD) : (V m c main_v0 : FVec Ideal S90112x640 .bf16) = shapeCast S90112x640 (aX m c) shapeCasts_S2x256x176x640_S90112x640 := by
  entry_read; rfl

theorem point_lt (t : Fin cfg0.N) : t.val < 44 := lt_of_lt_of_eq t.isLt (show cfg0.N = 44 from N_0)

theorem idx (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t

/-- Row `P` of the argument in row-major order. -/
def row (c : Dev nD) (P : ℕ) (q : Fin 640) : EReal :=
  aX m c (ix4 ⟨P / 45056 % 2, by omega⟩ ⟨P / 176 % 256, by omega⟩ ⟨P % 176, by omega⟩ q)

/-- Entry `(r, q)` of the block of point `t`: the argument's row `2048 t + r`. -/
theorem block_eq (c : Dev nD) (t : Fin cfg0.N) (r : Fin 2048) (q : Fin 640) :
    (iblk m c 0 t : Vec Ideal S2048x640 .bf16) (ix2 r q) = row m c (t.val * 2048 + r.val) q := by
  have ht := point_lt t
  have hr := r.isLt
  have e : (win0_0.blk t).view.emb (ix2 r q) = (ix2 (⟨t.val * 2048 + r.val, by omega⟩ : Fin 90112) q : S90112x640.Idx) := by
    blk_ext [idx t]
  blk_simp [iblk]
  rw [e, entry_v0]
  unfold row
  pointwise
  refine congrArg (aX m c) ?_
  blk_ext

theorem lt_N {n : ℕ} (h : n < 44) : 0 + n < cfg0.N := by rw [show cfg0.N = 44 from N_0]; omega

/-- The running maximum after point `n`. -/
def acc (c : Dev nD) (n : ℕ) (h : n < 44) : Vec Ideal S16x640 .bf16 :=
  (Pipeline.accAt (fun n h => stAt0 m c n h junk0) (stAt0 m c) 0 n (lt_N h)).2

theorem case_A (c : Dev nD) (t : Fin cfg0.N) (a : Vec Ideal S16x128 .f32 × Vec Ideal S16x640 .bf16) (h0 : t.val % 44 = 0) (h1 : ¬t.val % 44 = 43) :
    (stAt0 m c t.val t.isLt a).2 = k0_pay2 (F := Ideal) (iblk m c 0 t) (k0_pay1 (F := Ideal)) := by
  rw [stAt0_A m c t a h0 h1]
  frame_out

theorem case_B (c : Dev nD) (t : Fin cfg0.N) (a : Vec Ideal S16x128 .f32 × Vec Ideal S16x640 .bf16) (h0 : ¬t.val % 44 = 0) (h1 : ¬t.val % 44 = 43) :
    (stAt0 m c t.val t.isLt a).2 = k0_pay2 (F := Ideal) (iblk m c 0 t) a.2 := by
  rw [stAt0_B m c t a h0 h1]
  frame_out
  exact congrArg _ ((Memref.isWhole_whole cc0_scratch0).read_unread _)

/-- What the last point stores, from the running maximum `b`. -/
def stored (b : Vec Ideal S16x640 .bf16) : List (View.Piece (Elt Ideal) S16x128 .f32) :=
  [⟨Rect.unit ![8, 0] ![8, 128] inb_S16x128_S8x128_8_0,
      k0_pay7 (F := Ideal) b (Scf.fold (n := k0_t1_loop.trips) (fun _ p => k0_pay5 (F := Ideal) b p) k0_pay4)⟩,
    ⟨Rect.unit ![0, 0] ![8, 128] inb_S16x128_S8x128_0_0,
      k0_pay6 (F := Ideal) b (Scf.fold (n := k0_t1_loop.trips) (fun _ p => k0_pay5 (F := Ideal) b p) k0_pay4)⟩]

/-- The result, from the largest magnitude: the scale in the first eight rows, its inverse in the last eight. -/
def result (A : EReal) : FVec Ideal S16x128 .f32 := fun y =>
  if (y 0).val < 8 then scale (Ideal.ofBits .f32 0x3B124925#32) A else Ideal.div 1 (scale (Ideal.ofBits .f32 0x3B124925#32) A)

theorem amax_lane (b : Vec Ideal S16x640 .bf16) (l : Fin 128) : k0_pay3 (F := Ideal) b (ix2 0 l) = k0_pay3 (F := Ideal) b (ix2 0 0) :=
  eq_of_forall_ge_iff fun d => (amax_le b l d).trans (amax_le b 0 d).symm

theorem stored_pieces (b : Vec Ideal S16x640 .bf16) : View.PiecesOf (result (k0_pay3 (F := Ideal) b (ix2 0 0))) (stored b) := by
  refine ⟨fun x => ?_, fun x => ?_, trivial⟩ <;>
    obtain ⟨r, l, rfl⟩ : ∃ (r : Fin 8) (l : Fin 128), x = ix2 r l := ⟨x 0, x 1, eq_ix2 x⟩
  · refine ((inverse_eq b _ r l).trans (congrArg _ ((scale_eq b r l).trans (congrArg _ (amax_lane b l))))).trans (Eq.symm (if_neg ?_))
    show ¬ 8 + 1 * r.val < 8
    omega
  · refine ((scale_eq b r l).trans (congrArg _ (amax_lane b l))).trans (Eq.symm (if_pos ?_))
    show 0 + 1 * r.val < 8
    omega

theorem stored_cover (b : Vec Ideal S16x640 .bf16) (y : S16x128.Idx) : ∃ p ∈ stored b, y ∈ p.1.set := by
  obtain ⟨r, l, rfl⟩ : ∃ (r : Fin 16) (l : Fin 128), y = ix2 r l := ⟨y 0, y 1, eq_ix2 y⟩
  by_cases h : 8 ≤ r.val
  · refine ⟨_, List.Mem.head _, (Rect.mem_set_unit (s := S16x128) (off := ![8, 0]) (size := ![8, 128]) (inb := inb_S16x128_S8x128_8_0)).mpr fun a => ?_⟩
    fin_cases a
    · show 8 ≤ r.val ∧ r.val < 8 + 8; omega
    · show 0 ≤ l.val ∧ l.val < 0 + 128; omega
  · refine ⟨_, List.Mem.tail _ (List.Mem.head _), (Rect.mem_set_unit (s := S16x128) (off := ![0, 0]) (size := ![8, 128]) (inb := inb_S16x128_S8x128_0_0)).mpr fun a => ?_⟩
    fin_cases a
    · show 0 ≤ r.val ∧ r.val < 0 + 8; omega
    · show 0 ≤ l.val ∧ l.val < 0 + 128; omega

theorem case_C (c : Dev nD) (t : Fin cfg0.N) (a : Vec Ideal S16x128 .f32 × Vec Ideal S16x640 .bf16) (h0 : ¬t.val % 44 = 0) (h1 : t.val % 44 = 43) :
    (stAt0 m c t.val t.isLt a).1 = View.canon (stored (k0_pay2 (F := Ideal) (iblk m c 0 t) a.2)) := by
  rw [stAt0_C m c t a h0 h1]
  frame_out
  rw [(Memref.isWhole_whole cc0_scratch0).read_unread a.2]
  rfl

/-- The running maximum after point `n` is below `d` iff 0 and every magnitude read so far in its class of rows are. -/
theorem acc_le (c : Dev nD) (r : Fin 16) (q : Fin 640) (d : EReal) : ∀ (n : ℕ) (h : n + 1 < 44),
    acc m c n (by omega) (ix2 r q) ≤ d
      ↔ 0 ≤ d ∧ ∀ t : ℕ, t ≤ n → ∀ k : Fin 128, max (row m c (t * 2048 + (k.val * 16 + r.val)) q) (-row m c (t * 2048 + (k.val * 16 + r.val)) q) ≤ d
  | 0, h => by
    have e : acc m c 0 (by omega) = k0_pay2 (F := Ideal) (iblk m c 0 ⟨0 + 0, lt_N (by omega)⟩) (k0_pay1 (F := Ideal)) :=
      case_A m c ⟨0 + 0, lt_N (by omega)⟩ junk0 rfl (by decide)
    rw [e, step_le, start]
    refine and_congr_right fun _ => ⟨fun H t ht k => ?_, fun H k => ?_⟩
    · obtain rfl : t = 0 := by omega
      have := H k
      rwa [block_eq] at this
    · rw [block_eq]
      exact H 0 le_rfl k
  | n + 1, h => by
    have e : acc m c (n + 1) (by omega) = k0_pay2 (F := Ideal) (iblk m c 0 ⟨0 + (n + 1), lt_N (by omega)⟩) (acc m c n (by omega)) :=
      case_B m c ⟨0 + (n + 1), lt_N (by omega)⟩ _ (by dsimp only; omega) (by dsimp only; omega)
    rw [e, step_le, acc_le c r q d n (by omega), and_assoc]
    refine and_congr_right fun _ => ⟨fun H t ht k => ?_, fun H => ⟨fun t ht k => H t (by omega) k, fun k => ?_⟩⟩
    · rcases Nat.lt_or_ge n t with hl | hl
      · obtain rfl : t = n + 1 := by omega
        have := H.2 k
        rw [block_eq] at this
        simpa only [zero_add] using this
      · exact H.1 t hl k
    · rw [block_eq]
      simpa only [zero_add] using H (n + 1) le_rfl k

/-- The running maximum after the last point. -/
def total (c : Dev nD) : Vec Ideal S16x640 .bf16 := k0_pay2 (F := Ideal) (iblk m c 0 ⟨0 + 43, lt_N (by omega)⟩) (acc m c 42 (by omega))

/-- The largest magnitude, as the kernel finds it, is below `d` iff every magnitude of the argument is. -/
theorem total_le (c : Dev nD) (d : EReal) :
    (k0_pay3 (F := Ideal) (total m c) (ix2 0 0) : EReal) ≤ d ↔ ∀ i : S2x256x176x640.Idx, max (aX m c i) (-aX m c i) ≤ d := by
  rw [amax_le]
  have key : ∀ (r : Fin 16) (q : Fin 640), total m c (ix2 r q) ≤ d
      ↔ 0 ≤ d ∧ ∀ t : ℕ, t ≤ 43 → ∀ k : Fin 128, max (row m c (t * 2048 + (k.val * 16 + r.val)) q) (-row m c (t * 2048 + (k.val * 16 + r.val)) q) ≤ d := by
    intro r q
    unfold total
    rw [step_le, acc_le m c r q d 42 (by omega), and_assoc]
    refine and_congr_right fun _ => ⟨fun H t ht k => ?_, fun H => ⟨fun t ht k => H t (by omega) k, fun k => ?_⟩⟩
    · rcases Nat.lt_or_ge 42 t with hl | hl
      · obtain rfl : t = 43 := by omega
        have := H.2 k
        rw [block_eq] at this
        simpa only [zero_add] using this
      · exact H.1 t hl k
    · rw [block_eq]
      simpa only [zero_add] using H 43 le_rfl k
  simp only [key]
  constructor
  · intro H i
    obtain ⟨a, b, w, q, rfl⟩ : ∃ (a : Fin 2) (b : Fin 256) (w : Fin 176) (q : Fin 640), i = ix4 a b w q := ⟨i 0, i 1, i 2, i 3, eq_ix4 i⟩
    have hP : a.val * 45056 + b.val * 176 + w.val < 90112 := by omega
    have := (H ⟨(a.val * 45056 + b.val * 176 + w.val) % 16, by omega⟩ q).2 ((a.val * 45056 + b.val * 176 + w.val) / 2048) (by omega)
      ⟨(a.val * 45056 + b.val * 176 + w.val) % 2048 / 16, by omega⟩
    dsimp only at this
    have e : row m c ((a.val * 45056 + b.val * 176 + w.val) / 2048 * 2048 + ((a.val * 45056 + b.val * 176 + w.val) % 2048 / 16 * 16 + (a.val * 45056 + b.val * 176 + w.val) % 16)) q
        = aX m c (ix4 a b w q) := by
      rw [show (a.val * 45056 + b.val * 176 + w.val) / 2048 * 2048 + ((a.val * 45056 + b.val * 176 + w.val) % 2048 / 16 * 16 + (a.val * 45056 + b.val * 176 + w.val) % 16)
        = a.val * 45056 + b.val * 176 + w.val by omega]
      unfold row
      refine congrArg (aX m c) ?_
      congr 1 <;> apply Fin.ext <;> dsimp only <;> omega
    rwa [e] at this
  · intro H r q
    exact ⟨(magnitude_nonneg _).trans (H (ix4 0 0 0 0)), fun t _ k => H _⟩

/-- The call's result array. -/
theorem array_eq (c : Dev nD) : G1 m c = result (k0_pay3 (F := Ideal) (total m c) (ix2 0 0)) := by
  rw [G1_last]
  have e : (Pipeline.accAt (fun n h => stAt0 m c n h junk0) (stAt0 m c) 0 43 (lt_N (by omega))).1 = View.canon (stored (total m c)) :=
    case_C m c ⟨0 + 43, lt_N (by omega)⟩ _ (by decide) (by decide)
  rw [e]
  funext y
  exact View.canon_apply_of_pieces _ (stored (total m c)) (stored_pieces (total m c)).mem y (stored_cover (total m c) y)

end Cert.KernelIdeal.ScaleVal
-- ==== Proof.KernelIdealHost.lean ====
/-
  The arrays that the second call of the kernel `KernelIdeal` is called with, read at an index from the arguments: the two scales side by side, the
  pixels in one row, the weights and the low-rank factors with their axes merged and their ranks padded by zeros.
-/
module

public import proofs.«01_k».proof.Proof.KernelIdealRun
public import proofs.«01_k».proof.Proof.KernelIdealScaleValue

@[expose] public section
set_option maxRecDepth 16384

noncomputable section
namespace Cert.KernelIdeal.Val

open Idealize.ShloMosaic Idealize.ShloMosaic.TcCoe Idealize.ShloMosaic.Tactic Idealize.ShloMosaic.Pointwise
open Cert.KernelIdeal Cert.KernelIdeal.Gen Cert.KernelIdeal.Entry

variable (m : (ℓ : Loc nD τ sig) → Buf (Elt Ideal) ℓ) (c : Dev nD)

/-! ## The arguments -/

def aX : Vec Ideal S2x256x176x640 .bf16 := m ((c : Thread nD τ).loc main_arg0)
def aW : Vec Ideal S3x3x640x1280 .fp8e4m3 := m ((c : Thread nD τ).loc main_arg1)
def aV : Vec Ideal S1280 .f32 := m ((c : Thread nD τ).loc main_arg2)
def aB : Vec Ideal S1280 .f32 := m ((c : Thread nD τ).loc main_arg3)
def aD : Vec Ideal S640x20 .bf16 := m ((c : Thread nD τ).loc main_arg4)
def aM : Vec Ideal S3x3x20x20 .bf16 := m ((c : Thread nD τ).loc main_arg5)
def aU : Vec Ideal S20x1280 .bf16 := m ((c : Thread nD τ).loc main_arg6)

/-- The largest magnitude of the pixels, as the first call finds it. -/
def largestX : EReal := k0_pay3 (F := Ideal) (ScaleVal.total m c) (ix2 0 0)
/-- The scale of the quantiser, which the first call computes. -/
def aS : Vec Ideal S_ .f32 := fun _ => Cert.Scale.scale (Ideal.ofBits .f32 0x3B124925#32) (largestX m c)
/-- Its inverse, which the first call computes too. -/
def aI : Vec Ideal S_ .f32 := fun _ => Ideal.div 1 (Cert.Scale.scale (Ideal.ofBits .f32 0x3B124925#32) (largestX m c))

/-! ## The call's operands -/

def eS : Vec Ideal S16x128 .f32 := V m c main_v1
def eX : Vec Ideal S90112x640 .bf16 := V m c main_v0
def eW : Vec Ideal S5760x1280 .fp8e4m3 := V m c main_v8
def eV : Vec Ideal S1x1280 .f32 := V m c main_v9
def eB : Vec Ideal S1x1280 .f32 := V m c main_v10
def eD : Vec Ideal S640x128 .bf16 := V m c main_v4
def eM : Vec Ideal S1152x128 .bf16 := V m c main_v6
def eU : Vec Ideal S128x1280 .bf16 := V m c main_v7

/-- The first call's result is what the second call is given. -/
theorem eS_eq : eS m c = ScaleVal.result (largestX m c) := by
  have h : V m c main_v1 = V2 m (outs m) c main_v1 :=
    (V9_of m (outs m) c main_v1 (by decide)).trans <| (V8_of m (outs m) c main_v1 (by decide)).trans <| (V7_of m (outs m) c main_v1 (by decide)).trans <|
    (V6_of m (outs m) c main_v1 (by decide)).trans <| (V5_of m (outs m) c main_v1 (by decide)).trans <| (V4_of m (outs m) c main_v1 (by decide)).trans <|
    V3_of m (outs m) c main_v1 (by decide)
  exact ((h.trans (scale_out m c).symm).trans (Scale0.final1 m c)).trans (ScaleVal.array_eq m c)

/-- The result `scale`, cut out of the first call's result. -/
theorem v3_eq : (V m c main_v3 : Vec Ideal S_ .f32) = aS m c := by
  have key : ∀ W : Valuation τ sig (Elt Ideal), StableHlo.after hostOps1 W (Proc.devRef .tc main_v3)
      = shapeCast S_ (extractStridedSlice S1x1 ![0, 0] (W (Proc.devRef .tc main_v1)) slices_S16x128_S1x1_0_0) shapeCasts_S1x1_S_ := by
    intro W
    simp only [hostOps1]
    after_results_simp
    rfl
  have e : (V m c main_v3 : Vec Ideal S_ .f32) = shapeCast S_ (extractStridedSlice S1x1 ![0, 0] (V2 m (outs m) c main_v1 : Vec Ideal S16x128 .f32) slices_S16x128_S1x1_0_0) shapeCasts_S1x1_S_ :=
    ((V9_of m (outs m) c main_v3 (by decide)).trans <| (V8_of m (outs m) c main_v3 (by decide)).trans <| (V7_of m (outs m) c main_v3 (by decide)).trans <| (V6_of m (outs m) c main_v3 (by decide)).trans <| (V5_of m (outs m) c main_v3 (by decide)).trans <| (V4_of m (outs m) c main_v3 (by decide))).trans (key _)
  have e1 : (V2 m (outs m) c main_v1 : Vec Ideal S16x128 .f32) = ScaleVal.result (largestX m c) :=
    ((scale_out m c).symm.trans (Scale0.final1 m c)).trans (ScaleVal.array_eq m c)
  rw [e, e1]
  funext y
  rw [show y = ix0 from funext fun a => a.elim0]
  have h : ScaleVal.result (largestX m c) (ix2 0 0) = aS m c ix0 := if_pos (by decide)
  rw [← h]
  generalize ScaleVal.result (largestX m c) = a
  pointwise

theorem eX_eq :
    eX m c = shapeCast S90112x640 (aX m c) shapeCasts_S2x256x176x640_S90112x640 := by
  unfold eX aX
  exact ((V9_of m (outs m) c main_v0 (by decide)).trans <| (V8_of m (outs m) c main_v0 (by decide)).trans <| (V7_of m (outs m) c main_v0 (by decide)).trans <| (V6_of m (outs m) c main_v0 (by decide)).trans <| (V5_of m (outs m) c main_v0 (by decide)).trans <| (V4_of m (outs m) c main_v0 (by decide)).trans <| (V3_of m (outs m) c main_v0 (by decide)).trans <| (V2_of m (outs m) c main_v0 (by decide))).trans (ScaleVal.entry_v0 m c)

theorem eW_eq :
    eW m c = shapeCast S5760x1280 (aW m c) shapeCasts_S3x3x640x1280_S5760x1280 := by
  unfold eW aW
  have key : ∀ W : Valuation τ sig (Elt Ideal), StableHlo.after hostOps1_6 W (Proc.devRef .tc main_v8) = shapeCast S5760x1280 (W (Proc.devRef .tc main_arg1)) shapeCasts_S3x3x640x1280_S5760x1280 := by
    intro W
    simp only [hostOps1_6]
    after_results_simp
    rfl
  have ha : V8 m (outs m) c main_arg1 = m ((c : Thread nD τ).loc main_arg1) := (V8_of m (outs m) c main_arg1 (by decide)).trans <| (V7_of m (outs m) c main_arg1 (by decide)).trans <| (V6_of m (outs m) c main_arg1 (by decide)).trans <| (V5_of m (outs m) c main_arg1 (by decide)).trans <| (V4_of m (outs m) c main_arg1 (by decide)).trans <| (V3_of m (outs m) c main_arg1 (by decide)).trans <| (V2_of m (outs m) c main_arg1 (by decide)).trans <| (V1_of m c main_arg1 (by decide))
  rw [← ha]
  exact key _

theorem eV_eq :
    eV m c = shapeCast S1x1280 (aV m c) shapeCasts_S1280_S1x1280 := by
  unfold eV aV
  have key : ∀ W : Valuation τ sig (Elt Ideal), StableHlo.after hostOps1_6 W (Proc.devRef .tc main_v9) = shapeCast S1x1280 (W (Proc.devRef .tc main_arg2)) shapeCasts_S1280_S1x1280 := by
    intro W
    simp only [hostOps1_6]
    after_results_simp
    rfl
  have ha : V8 m (outs m) c main_arg2 = m ((c : Thread nD τ).loc main_arg2) := (V8_of m (outs m) c main_arg2 (by decide)).trans <| (V7_of m (outs m) c main_arg2 (by decide)).trans <| (V6_of m (outs m) c main_arg2 (by decide)).trans <| (V5_of m (outs m) c main_arg2 (by decide)).trans <| (V4_of m (outs m) c main_arg2 (by decide)).trans <| (V3_of m (outs m) c main_arg2 (by decide)).trans <| (V2_of m (outs m) c main_arg2 (by decide)).trans <| (V1_of m c main_arg2 (by decide))
  rw [← ha]
  exact key _

theorem eB_eq :
    eB m c = shapeCast S1x1280 (aB m c) shapeCasts_S1280_S1x1280 := by
  unfold eB aB
  have key : ∀ W : Valuation τ sig (Elt Ideal), StableHlo.after hostOps1_6 W (Proc.devRef .tc main_v10) = shapeCast S1x1280 (W (Proc.devRef .tc main_arg3)) shapeCasts_S1280_S1x1280 := by
    intro W
    simp only [hostOps1_6]
    after_results_simp
    rfl
  have ha : V8 m (outs m) c main_arg3 = m ((c : Thread nD τ).loc main_arg3) := (V8_of m (outs m) c main_arg3 (by decide)).trans <| (V7_of m (outs m) c main_arg3 (by decide)).trans <| (V6_of m (outs m) c main_arg3 (by decide)).trans <| (V5_of m (outs m) c main_arg3 (by decide)).trans <| (V4_of m (outs m) c main_arg3 (by decide)).trans <| (V3_of m (outs m) c main_arg3 (by decide)).trans <| (V2_of m (outs m) c main_arg3 (by decide)).trans <| (V1_of m c main_arg3 (by decide))
  rw [← ha]
  exact key _

theorem eD_eq :
    eD m c = pad S640x128 ![0, 0] ![0, 108] ![0, 0] (aD m c) (sitofp .bf16 (constantI S_ 32 0#32) : FVec Ideal S_ .bf16) pads_S640x20_S640x128_000_01080 h_S_ := by
  unfold eD aD
  have key : ∀ W : Valuation τ sig (Elt Ideal), StableHlo.after hostOps1_1 (StableHlo.after hostOps1 W) (Proc.devRef .tc main_v4) = pad S640x128 ![0, 0] ![0, 108] ![0, 0] (W (Proc.devRef .tc main_arg4)) (sitofp .bf16 (constantI S_ 32 0#32) : FVec Ideal S_ .bf16) pads_S640x20_S640x128_000_01080 h_S_ := by
    intro W
    simp only [hostOps1, hostOps1_1]
    after_results_simp
    rfl
  have ha : V2 m (outs m) c main_arg4 = m ((c : Thread nD τ).loc main_arg4) := (V2_of m (outs m) c main_arg4 (by decide)).trans <| (V1_of m c main_arg4 (by decide))
  rw [← ha]
  exact ((V9_of m (outs m) c main_v4 (by decide)).trans <| (V8_of m (outs m) c main_v4 (by decide)).trans <| (V7_of m (outs m) c main_v4 (by decide)).trans <| (V6_of m (outs m) c main_v4 (by decide)).trans <| (V5_of m (outs m) c main_v4 (by decide))).trans (key _)

theorem eM_eq :
    eM m c = shapeCast S1152x128 (pad S3x3x128x128 ![0, 0, 0, 0] ![0, 0, 108, 108] ![0, 0, 0, 0] (aM m c) (sitofp .bf16 (constantI S_ 32 0#32) : FVec Ideal S_ .bf16) pads_S3x3x20x20_S3x3x128x128_000_000_01080_01080 h_S_) shapeCasts_S3x3x128x128_S1152x128 := by
  unfold eM aM
  have key : ∀ W : Valuation τ sig (Elt Ideal), StableHlo.after hostOps1_4 (StableHlo.after hostOps1_3 (StableHlo.after hostOps1_2 W)) (Proc.devRef .tc main_v6) = shapeCast S1152x128 (pad S3x3x128x128 ![0, 0, 0, 0] ![0, 0, 108, 108] ![0, 0, 0, 0] (W (Proc.devRef .tc main_arg5)) (sitofp .bf16 (constantI S_ 32 0#32) : FVec Ideal S_ .bf16) pads_S3x3x20x20_S3x3x128x128_000_000_01080_01080 h_S_) shapeCasts_S3x3x128x128_S1152x128 := by
    intro W
    simp only [hostOps1_2, hostOps1_3, hostOps1_4]
    after_results_simp
    rfl
  have ha : V4 m (outs m) c main_arg5 = m ((c : Thread nD τ).loc main_arg5) := (V4_of m (outs m) c main_arg5 (by decide)).trans <| (V3_of m (outs m) c main_arg5 (by decide)).trans <| (V2_of m (outs m) c main_arg5 (by decide)).trans <| (V1_of m c main_arg5 (by decide))
  rw [← ha]
  exact ((V9_of m (outs m) c main_v6 (by decide)).trans <| (V8_of m (outs m) c main_v6 (by decide))).trans (key _)

theorem eU_eq :
    eU m c = pad S128x1280 ![0, 0] ![108, 0] ![0, 0] (aU m c) (sitofp .bf16 (constantI S_ 32 0#32) : FVec Ideal S_ .bf16) pads_S20x1280_S128x1280_01080_000 h_S_ := by
  unfold eU aU
  have key : ∀ W : Valuation τ sig (Elt Ideal), StableHlo.after hostOps1_5 (StableHlo.after hostOps1_4 W) (Proc.devRef .tc main_v7) = pad S128x1280 ![0, 0] ![108, 0] ![0, 0] (W (Proc.devRef .tc main_arg6)) (sitofp .bf16 (constantI S_ 32 0#32) : FVec Ideal S_ .bf16) pads_S20x1280_S128x1280_01080_000 h_S_ := by
    intro W
    simp only [hostOps1_4, hostOps1_5]
    after_results_simp
    rfl
  have ha : V6 m (outs m) c main_arg6 = m ((c : Thread nD τ).loc main_arg6) := (V6_of m (outs m) c main_arg6 (by decide)).trans <| (V5_of m (outs m) c main_arg6 (by decide)).trans <| (V4_of m (outs m) c main_arg6 (by decide)).trans <| (V3_of m (outs m) c main_arg6 (by decide)).trans <| (V2_of m (outs m) c main_arg6 (by decide)).trans <| (V1_of m c main_arg6 (by decide))
  rw [← ha]
  exact ((V9_of m (outs m) c main_v7 (by decide))).trans (key _)

/-- The padding value of the two rank axes is zero. -/
theorem sitofp_zero : (FloatOps.sitofp .bf16 (0#32 : BitVec 32) : Ideal .bf16) = (0 : EReal) := by
  show (((0#32 : BitVec 32).toInt : ℝ) : EReal) = 0
  simp

theorem eS_scale (l : Fin 128) : eS m c (ix2 0 l) = aS m c ix0 := by
  rw [eS_eq]; exact if_pos (by decide : (0 : ℕ) < 8)
theorem eS_inv (l : Fin 128) : eS m c (ix2 8 l) = aI m c ix0 := by
  rw [eS_eq]; exact if_neg (by decide : ¬ (8 : ℕ) < 8)
theorem eX_apply (P : Fin 90112) (ch : Fin 640) :
    eX m c (ix2 P ch) = aX m c (ix4 ⟨P.val / 45056, by omega⟩ ⟨P.val / 176 % 256, by omega⟩ ⟨P.val % 176, by omega⟩ ch) := by
  rw [eX_eq]
  generalize aX m c = a
  pointwise
theorem eW_apply (κ : Fin 5760) (n : Fin 1280) :
    eW m c (ix2 κ n) = aW m c (ix4 ⟨κ.val / 1920, by omega⟩ ⟨κ.val / 640 % 3, by omega⟩ ⟨κ.val % 640, by omega⟩ n) := by
  rw [eW_eq]
  generalize aW m c = a
  pointwise
theorem eV_apply (n : Fin 1280) : eV m c (ix2 0 n) = aV m c (ix1 n) := by
  rw [eV_eq]
  generalize aV m c = a
  pointwise
theorem eB_apply (n : Fin 1280) : eB m c (ix2 0 n) = aB m c (ix1 n) := by
  rw [eB_eq]
  generalize aB m c = a
  pointwise
theorem eD_apply (ch : Fin 640) (l : Fin 128) (hl : l.val < 20) : eD m c (ix2 ch l) = aD m c (ix2 ch ⟨l.val, hl⟩) := by
  rw [eD_eq]
  generalize aD m c = a
  pointwise
  rw [dif_pos hl]
theorem eM_apply (κ : Fin 1152) (o : Fin 128) :
    eM m c (ix2 κ o) = if h : κ.val % 128 < 20 ∧ o.val < 20 then aM m c (ix4 ⟨κ.val / 384, by omega⟩ ⟨κ.val / 128 % 3, by omega⟩ ⟨κ.val % 128, h.1⟩ ⟨o.val, h.2⟩) else 0 := by
  rw [eM_eq]
  generalize aM m c = a
  pointwise
  by_cases h : κ.val % 128 < 20 ∧ o.val < 20
  · have h' : κ.val / 384 < 3 ∧ κ.val / 128 % 3 < 3 ∧ κ.val % 128 < 20 ∧ o.val < 20 := ⟨by omega, by omega, h.1, h.2⟩
    rw [dif_pos h]
    exact dif_pos h'
  · have h' : ¬ (κ.val / 384 < 3 ∧ κ.val / 128 % 3 < 3 ∧ κ.val % 128 < 20 ∧ o.val < 20) := fun h' => h h'.2.2
    rw [dif_neg h]
    exact (dif_neg h').trans sitofp_zero
theorem eU_apply (o : Fin 128) (n : Fin 1280) : eU m c (ix2 o n) = if h : o.val < 20 then aU m c (ix2 ⟨o.val, h⟩ n) else 0 := by
  rw [eU_eq]
  generalize aU m c = a
  pointwise
  rw [sitofp_zero]

/-! ## The result in terms of the arguments -/

/-- A 3×3 convolution with zero padding at pixel `P` of two images of 256 rows and 176 columns: the nine taps over the `K` channels of `W`. -/
def cv {K : ℕ} (W : Fin K → ℕ → EReal) (w : Fin 3 → Fin 3 → Fin K → EReal) (P : ℕ) : EReal :=
  ∑ dy : Fin 3, ∑ dx : Fin 3, ∑ k : Fin K, padAt (W k) (P / 45056) (P % 45056 / 176 + dy.val) (P % 176 + dx.val) * w dy dx k

/-- Channel `ch`'s code of pixel `P`. -/
def qA (sI : Vec Ideal S_ .f32) (x : Vec Ideal S2x256x176x640 .bf16) (ch : Fin 640) (P : ℕ) : EReal :=
  if h : P < 90112 then clip (x (ix4 ⟨P / 45056, by omega⟩ ⟨P / 176 % 256, by omega⟩ ⟨P % 176, by omega⟩ ch) * sI ix0) else 0

/-- The low-rank path's scaled down projection `l` of pixel `P`. -/
def dA (sS sI : Vec Ideal S_ .f32) (x : Vec Ideal S2x256x176x640 .bf16) (dn : Vec Ideal S640x20 .bf16) (l : Fin 20) (P : ℕ) : EReal :=
  (∑ ch : Fin 640, qA sI x ch P * dn (ix2 ch l)) * sS ix0

/-- The result at pixel `P` and output channel `n`: the convolution of the codes with the weights' codes, scaled by both scales, with the bias, and the
    low-rank path added. -/
def yA (sS sI : Vec Ideal S_ .f32) (x : Vec Ideal S2x256x176x640 .bf16) (w : Vec Ideal S3x3x640x1280 .fp8e4m3) (v b : Vec Ideal S1280 .f32)
    (dn : Vec Ideal S640x20 .bf16) (md : Vec Ideal S3x3x20x20 .bf16) (up : Vec Ideal S20x1280 .bf16) (P : ℕ) (n : Fin 1280) : EReal :=
  cv (qA sI x) (fun dy dx k => w (ix4 dy dx k n)) P * sS ix0 * v (ix1 n) + b (ix1 n)
    + Ideal.ofBits .f32 1053609165#32 * ∑ o : Fin 20, cv (dA sS sI x dn) (fun dy dx k => md (ix4 dy dx k o)) P * up (ix2 o n)

/-- A sum over the merged axis of taps and channels, tap by tap. -/
theorem sum_taps (K N : ℕ) (hN : N = 9 * K) (f : Fin N → EReal) :
    ∑ κ : Fin N, f κ = ∑ dy : Fin 3, ∑ dx : Fin 3, ∑ k : Fin K, f ⟨(3 * dy.val + dx.val) * K + k.val, by
      have h1 : 3 * dy.val + dx.val + 1 ≤ 9 := by omega
      have h2 := Nat.mul_le_mul_right K h1
      have h3 := k.isLt
      rw [Nat.add_mul] at h2; omega⟩ := by
  subst hN
  rw [← (finProdFinEquiv (m := 9) (n := K)).sum_comp, Fintype.sum_prod_type]
  rw [← (finProdFinEquiv (m := 3) (n := 3)).sum_comp, Fintype.sum_prod_type]
  refine Finset.sum_congr rfl fun dy _ => Finset.sum_congr rfl fun dx _ => Finset.sum_congr rfl fun k _ => congrArg f (Fin.ext ?_)
  show k.val + K * (dx.val + 3 * dy.val) = (3 * dy.val + dx.val) * K + k.val
  rw [Nat.mul_comm K, Nat.add_comm dx.val, Nat.add_comm]

/-- A sum over a rank axis padded by zeros. -/
theorem sum_rank (f : Fin 128 → EReal) (hf : ∀ k : Fin 128, 20 ≤ k.val → f k = 0) : ∑ k : Fin 128, f k = ∑ k : Fin 20, f ⟨k.val, by omega⟩ := by
  rw [show (∑ k : Fin 128, f k) = ∑ k : Fin (20 + 108), f k from rfl, Fin.sum_univ_add]
  rw [Finset.sum_eq_zero (s := Finset.univ) (f := fun i : Fin 108 => f (Fin.natAdd 20 i)) (fun i _ => hf _ (by show 20 ≤ 20 + i.val; omega)), add_zero]
  rfl

theorem Qn_eq (ch : Fin 640) (P : ℕ) : Qn (eS m c) (eX m c) ch P = qA (aI m c) (aX m c) ch P := by
  unfold Qn qA
  by_cases h : P < 90112
  · rw [dif_pos h, dif_pos h, eX_apply, eS_inv]
  · rw [dif_neg h, dif_neg h]

theorem Dn_eq (l : Fin 20) (P : ℕ) : Dn (eS m c) (eX m c) (eD m c) ⟨l.val, by omega⟩ P = dA (aS m c) (aI m c) (aX m c) (aD m c) l P := by
  unfold Dn dA
  rw [eS_scale]
  refine congrArg (fun z : EReal => z * aS m c ix0) (Finset.sum_congr rfl fun ch _ => ?_)
  rw [Qn_eq, eD_apply m c ch _ l.isLt]

theorem convF_eq (P : ℕ) (n : Fin 1280) :
    convF (eS m c) (eX m c) (eW m c) P n = cv (qA (aI m c) (aX m c)) (fun dy dx k => aW m c (ix4 dy dx k n)) P := by
  unfold convF cv
  rw [sum_taps 640 5760 rfl]
  refine Finset.sum_congr rfl fun dy _ => Finset.sum_congr rfl fun dx _ => Finset.sum_congr rfl fun k _ => ?_
  have h1 : ((3 * dy.val + dx.val) * 640 + k.val) % 640 = k.val := by omega
  have h2 : ((3 * dy.val + dx.val) * 640 + k.val) / 1920 = dy.val := by omega
  have h3 : ((3 * dy.val + dx.val) * 640 + k.val) / 640 % 3 = dx.val := by omega
  rw [eW_apply]
  simp only [h1, h2, h3]
  rw [show Qn (eS m c) (eX m c) k = qA (aI m c) (aX m c) k from funext fun P => Qn_eq m c k P]

theorem midF_eq (P : ℕ) (o : Fin 20) :
    midF (eS m c) (eX m c) (eD m c) (eM m c) P ⟨o.val, by omega⟩ = cv (dA (aS m c) (aI m c) (aX m c) (aD m c)) (fun dy dx k => aM m c (ix4 dy dx k o)) P := by
  unfold midF cv
  rw [sum_taps 128 1152 rfl]
  refine Finset.sum_congr rfl fun dy _ => Finset.sum_congr rfl fun dx _ => ?_
  have h1 : ∀ k : Fin 128, ((3 * dy.val + dx.val) * 128 + k.val) % 128 = k.val := fun k => by omega
  have h2 : ∀ k : Fin 128, ((3 * dy.val + dx.val) * 128 + k.val) / 384 = dy.val := fun k => by omega
  have h3 : ∀ k : Fin 128, ((3 * dy.val + dx.val) * 128 + k.val) / 128 % 3 = dx.val := fun k => by omega
  simp only [eM_apply, h1, h2, h3]
  rw [sum_rank _ (fun k hk => by rw [dif_neg (by omega), mul_zero])]
  refine Finset.sum_congr rfl fun k _ => ?_
  rw [dif_pos ⟨k.isLt, o.isLt⟩, show Dn (eS m c) (eX m c) (eD m c) ⟨k.val, _⟩ = dA (aS m c) (aI m c) (aX m c) (aD m c) k from funext fun P => Dn_eq m c k P]

/-- The call's result in terms of the arguments. -/
theorem yV_eq (P : ℕ) (n : Fin 1280) :
    yV m c P n = yA (aS m c) (aI m c) (aX m c) (aW m c) (aV m c) (aB m c) (aD m c) (aM m c) (aU m c) P n := by
  show yF (eS m c) (eX m c) (eW m c) (eV m c) (eB m c) (eD m c) (eM m c) (eU m c) P n = _
  unfold yF yA
  rw [convF_eq, eS_scale, eV_apply, eB_apply]
  congr 2
  rw [sum_rank _ (fun k hk => by rw [eU_apply, dif_neg (by omega), mul_zero])]
  refine Finset.sum_congr rfl fun o _ => ?_
  rw [eU_apply, dif_pos o.isLt, midF_eq]

end Cert.KernelIdeal.Val
-- ==== Proof.ReferenceIdealValue.lean ====
/-
  What the reference `ReferenceIdeal` computes, at a pixel and a channel: the codes, and the result as the same two convolutions over the zero-padded images
  that the kernel's result is read as.
-/
module

public import proofs.«01_k».proof.Proof.Gen.ReferenceIdeal.Run
public import proofs.«01_k».proof.Proof.KernelIdealHost
public import proofs.«01_k».proof.Proof.Scale
public import Idealize.ShloMosaic.Lib.Claim
public import Idealize.ShloMosaic.Lib.Pipeline.ValueKit.Acc

@[expose] public section
set_option maxRecDepth 16384

noncomputable section
namespace Cert.ReferenceIdeal.Val

open Idealize.ShloMosaic Idealize.ShloMosaic.TcCoe Idealize.ShloMosaic.Tactic Idealize.ShloMosaic.Pointwise
open Idealize.ShloMosaic.Pipeline (Dat)
open Cert.ReferenceIdeal Cert.ReferenceIdeal.Gen Cert.ReferenceIdeal.Value
open Cert.Scale
open Cert.KernelIdeal.Val (clip padAt cv qA dA yA)

/-! ## The scale of the quantiser -/

/-- The largest magnitude. -/
def largest (x : FVec Ideal S2x256x176x640 .bf16) : FVec Ideal S_ .f32 :=
  Host.reduce FloatOps.maximumf (Host.absf (extf .f32 x bitsLt_bf16_f32)) (constant S_ .f32 0xFF800000#32) reducesTo_S2x256x176x640_S_d0_1_2_3 h_S_

/-- The table of powers of two. -/
def powers : FVec Ideal S247 .f32 :=
  Host.powf (broadcastInDim S247 ![] bcast_S_S247 (constant S_ .f32 0x40000000#32)) (sitofp .f32 (addi (broadcastInDim S247 ![] bcast_S_S247 (constantI S_ 32 4294967170#32)) (iotaInDim S247 32 0)))

/-- The scale. -/
def scaleOf (A : FVec Ideal S_ .f32) : FVec Ideal S_ .f32 :=
  select (cmpf .oeq A (constant S_ .f32 0x00000000#32)) (id (constant S_ .f32 0x3F800000#32))
    (Host.reduce FloatOps.minimumf (select (cmpf .ogt powers (broadcastInDim S247 ![] bcast_S_S247 (mulf A (constant S_ .f32 0x3B124925#32)))) powers
      (broadcastInDim S247 ![] bcast_S_S247 (id (constant S_ .f32 0x7B800000#32)))) (constant S_ .f32 0x7F800000#32) reducesTo_S247_S_d0 h_S_)

/-- The largest magnitude is below `d` iff every magnitude is. -/
theorem largest_le (x : FVec Ideal S2x256x176x640 .bf16) (d : EReal) (j : S_.Idx) :
    (largest x j : EReal) ≤ d ↔ ∀ i : S2x256x176x640.Idx, max (x i) (-x i) ≤ d := by
  unfold largest
  rw [Host.reduce_eq_fold]
  refine (Finset.fold_max_le d).trans ?_
  have h0 : (constant (F := Ideal) S_ .f32 0xFF800000#32 (Shape.Idx.first h_S_) : EReal) = ⊥ := ofBits_neg_inf
  rw [h0]
  refine ⟨fun h i => h.2 i (Finset.mem_filter.2 ⟨Finset.mem_univ _, ?_⟩), fun h => ⟨bot_le, fun i _ => h i⟩⟩
  funext a
  exact a.elim0

theorem exponent_eq : ∀ i : Fin 247, (IntOp.addi (4294967170#32) (BitVec.ofNat 32 i.val)).toInt = 120 - ((246 - i.val : ℕ) : ℤ) := by decide +kernel

theorem powers_eq (i : Fin 247) : (powers (ix1 i) : EReal) = pw (246 - i.val) := by
  pointwise [powers]
  rw [ofBits_two]
  exact pow_two _ _ (exponent_eq i)

theorem scaleOf_eq (A : FVec Ideal S_ .f32) : (scaleOf A ix0 : EReal) = scale (Ideal.ofBits .f32 0x3B124925#32) (A ix0) := by
  have h1 : (id (constant (F := Ideal) S_ .f32 0x3F800000#32) ix0 : EReal) = 1 := ofBits_one
  have h2 : (id (constant (F := Ideal) S_ .f32 0x7B800000#32) ix0 : EReal) = pw 0 := ofBits_top
  pointwise [scaleOf]
  rw [h1, h2, ofBits_inf, scale]
  refine if_congr Iff.rfl rfl (fold_min_eq_least _ _ fun i => ?_)
  rw [powers_eq]
  rfl

section
variable (m : (ℓ : Loc nD τ sig) → Buf (Elt Ideal) ℓ) (c : Dev nD)

def aX : Vec Ideal S2x256x176x640 .bf16 := m ((c : Thread nD τ).loc main_arg0)
def aW : Vec Ideal S3x3x640x1280 .fp8e4m3 := m ((c : Thread nD τ).loc main_arg1)
def aV : Vec Ideal S1280 .f32 := m ((c : Thread nD τ).loc main_arg2)
def aB : Vec Ideal S1280 .f32 := m ((c : Thread nD τ).loc main_arg3)
def aD : Vec Ideal S640x20 .bf16 := m ((c : Thread nD τ).loc main_arg4)
def aM : Vec Ideal S3x3x20x20 .bf16 := m ((c : Thread nD τ).loc main_arg5)
def aU : Vec Ideal S20x1280 .bf16 := m ((c : Thread nD τ).loc main_arg6)
/-- The scale of the quantiser and its inverse. -/
def aS : FVec Ideal S_ .f32 := scaleOf (largest (aX m c))
def aI : FVec Ideal S_ .f32 := Host.divf (constant (F := Ideal) S_ .f32 0x3F800000#32) (aS m c)

theorem aS_eq : aS m c = fun _ => scale (Ideal.ofBits .f32 0x3B124925#32) (largest (aX m c) ix0) := by
  funext y
  rw [show y = ix0 from funext fun a => a.elim0]
  exact scaleOf_eq _
theorem aI_eq : aI m c = fun _ => Ideal.div 1 (scale (Ideal.ofBits .f32 0x3B124925#32) (largest (aX m c) ix0)) := by
  have h : ∀ (s : FVec Ideal S_ .f32) (y : S_.Idx), (Host.divf (constant (F := Ideal) S_ .f32 0x3F800000#32) s y : EReal) = Ideal.div 1 (s y) := by
    intro s y
    show Ideal.div (Ideal.ofBits .f32 0x3F800000#32) (s y) = _
    rw [ofBits_one]
  funext y
  unfold aI
  rw [h, aS_eq]

theorem idx : ∀ t : Fin cfg0.N, win0_0.index t = ![0, 0] ∧ win0_1.index t = ![0, 0] ∧ win0_2.index t = ![0, 0] := (by decide +kernel : ∀ t : Fin grid0.N, _)

/-- The quantisation call's operands. -/
def rI : Vec Ideal S1x1 .f32 := shapeCast S1x1 (aI m c) shapeCasts_S_S1x1
def rX : Vec Ideal S90112x640 .bf16 := shapeCast S90112x640 (aX m c) shapeCasts_S2x256x176x640_S90112x640
def rW : Vec Ideal S5760x1280 .fp8e4m3 := shapeCast S5760x1280 (aW m c) shapeCasts_S3x3x640x1280_S5760x1280

/-- Operations in a row, run in two parts. -/
theorem after_append (a b : List (HloOp τ sig (Elt Ideal))) (W : Valuation τ sig (Elt Ideal)) :
    StableHlo.after (a ++ b) W = StableHlo.after b (StableHlo.after a W) := by
  induction a generalizing W with
  | nil => rfl
  | cons o a ih => exact ih _

/-- The scale, as it is after the quantisation call, -/
theorem scale_exit : exitV m c (Proc.devRef .tc main_v15) = aS m c := by
  refine (exit_main_v15 m c).trans ?_
  unfold aS scaleOf largest powers aX
  rfl

/-- and as the quantisation call finds it. -/
theorem scale_at : (V0 m c (Proc.devRef .tc main_v15) : Vec Ideal S_ .f32) = aS m c := by
  have e : exitV m c (Proc.devRef .tc main_v15) = V0 m c (Proc.devRef .tc main_v15) :=
    Pipeline.withArrays_of_ne _ c (V0 m c) _ main_v15 (by exact (by decide : ∀ w, Pipeline.arrRef spec0 w ≠ main_v15))
  exact e.symm.trans (scale_exit m c)

/-- The inverse scale, as the quantisation call is given it. -/
theorem inverse_at : (V0 m c (Proc.devRef .tc main_v17) : Vec Ideal S1x1 .f32) = rI m c := by
  have key : ∀ W : Valuation τ sig (Elt Ideal), StableHlo.after hostOps0_4 W (Proc.devRef .tc main_v17)
      = shapeCast S1x1 (Host.divf (constant (F := Ideal) S_ .f32 0x3F800000#32) (StableHlo.after hostOps0_4 W (Proc.devRef .tc main_v15))) shapeCasts_S_S1x1 := by
    intro W
    simp only [hostOps0_4]
    after_results_simp <;> rfl
  have h : V0 m c = StableHlo.after hostOps0_4 (StableHlo.after (List.flatten [hostOps0, hostOps0_1, hostOps0_2, hostOps0_3]) (fun b => m (c, b))) := by
    rw [← after_append]
    simp only [V0, List.flatten_cons, List.flatten_nil, List.append_nil, List.append_assoc]
  have hs := scale_at m c
  rw [h] at hs ⊢
  rw [key, hs]
  rfl

/-- The window of the inverse scale is all of its array. -/
theorem read_0 (t : Fin cfg0.N) (A : Vec Ideal S1x1 .f32) : (View.read (Elt Ideal) ((cfg0.win 0).blk t).view A : Vec Ideal S1x1 .f32) = A := by
  funext y
  have e : (win0_0.blk t).view.emb y = y := by blk_ext [idx t]
  exact congrArg A e

theorem iblk_0 (t : Fin cfg0.N) : (iblk m c 0 t : Vec Ideal S1x1 .f32) = rI m c := by
  unfold iblk
  exact (read_0 t (V m c main_v17)).trans (inverse_at m c)
theorem iblk_1 (t : Fin cfg0.N) : (iblk m c 1 t : Vec Ideal S90112x640 .bf16) = rX m c := by
  funext y
  blk_simp [iblk]
  rw [show (win0_1.blk t).view.emb y = y from by blk_ext [idx t]]
  unfold rX aX V V0
  simp only [hostOps0, hostOps0_1, hostOps0_2, hostOps0_3, hostOps0_4, StableHlo.TRef.ternary, StableHlo.TRef.unary, StableHlo.TRef.toBuf, StableHlo.TRef.ofBuf, cast_eq, List.flatten_cons, List.flatten_nil, List.append_nil, List.cons_append, List.nil_append]
  after_results_simp <;> rfl
theorem iblk_2 (t : Fin cfg0.N) : (iblk m c 2 t : Vec Ideal S5760x1280 .fp8e4m3) = rW m c := by
  funext y
  blk_simp [iblk]
  rw [show (win0_2.blk t).view.emb y = y from by blk_ext [idx t]]
  unfold rW aW V V0
  simp only [hostOps0, hostOps0_1, hostOps0_2, hostOps0_3, hostOps0_4, StableHlo.TRef.ternary, StableHlo.TRef.unary, StableHlo.TRef.toBuf, StableHlo.TRef.ofBuf, cast_eq, List.flatten_cons, List.flatten_nil, List.append_nil, List.cons_append, List.nil_append]
  after_results_simp <;> rfl

theorem final_3 : reg_main_v20_0 m c = k0_pay1 (rX m c) (rI m c) := by
  unfold reg_main_v20_0
  refine (dats m 0 c).arrAt_eq_of_after_last 3 t0_0 (by decide +kernel) _ fun j => ?_
  blk_simp
  rw [after0_3]
  frame_out
  rw [iblk_0, iblk_1]
theorem final_4 : reg_main_v20_1 m c = k0_pay2 (rX m c) (rI m c) := by
  unfold reg_main_v20_1
  refine (dats m 0 c).arrAt_eq_of_after_last 4 t0_0 (by decide +kernel) _ fun j => ?_
  blk_simp
  rw [after0_4]
  frame_out
  rw [iblk_0, iblk_1]
theorem final_5 : reg_main_v20_2 m c = k0_pay3 (rW m c) := by
  unfold reg_main_v20_2
  refine (dats m 0 c).arrAt_eq_of_after_last 5 t0_0 (by decide +kernel) _ fun j => ?_
  blk_simp
  rw [after0_5]
  frame_out
  rw [iblk_2]

end

/-! ## The values -/

theorem codes_val (x : Vec Ideal S2x256x176x640 .bf16) (i : Vec Ideal S_ .f32) (P : Fin 90112) (ch : Fin 640) :
    k0_pay1 (shapeCast S90112x640 x shapeCasts_S2x256x176x640_S90112x640) (shapeCast S1x1 i shapeCasts_S_S1x1) (ix2 P ch) = qA i x ch P.val := by
  unfold qA clip
  rw [dif_pos P.isLt]
  pointwise [k0_pay1]

theorem v21_val (x : Vec Ideal S2x256x176x640 .bf16) (i : Vec Ideal S_ .f32) (I : Fin 2) (a : Fin 256) (b : Fin 176) (ch : Fin 640) :
    (shapeCast S2x256x176x640 (k0_pay2 (shapeCast S90112x640 x shapeCasts_S2x256x176x640_S90112x640) (shapeCast S1x1 i shapeCasts_S_S1x1)) shapeCasts_S90112x640_S2x256x176x640 : FVec Ideal S2x256x176x640 .bf16) (ix4 I a b ch)
      = qA i x ch (45056 * I.val + 176 * a.val + b.val) := by
  unfold k0_pay2
  have e : I.val * 45056 + a.val * 176 + b.val = 45056 * I.val + 176 * a.val + b.val := by omega
  have h := codes_val x i ⟨I.val * 45056 + a.val * 176 + b.val, by omega⟩ ch
  rw [← e, ← h]
  generalize k0_pay1 (shapeCast S90112x640 x shapeCasts_S2x256x176x640_S90112x640) (shapeCast S1x1 i shapeCasts_S_S1x1) = q
  pointwise

/-- The weights in the reference are the codes given, widened. -/
theorem v22_val (w : Vec Ideal S3x3x640x1280 .fp8e4m3) (dy dx : Fin 3) (ch : Fin 640) (n : Fin 1280) :
    (shapeCast S3x3x640x1280 (k0_pay3 (shapeCast S5760x1280 w shapeCasts_S3x3x640x1280_S5760x1280)) shapeCasts_S5760x1280_S3x3x640x1280 : FVec Ideal S3x3x640x1280 .bf16) (ix4 dy dx ch n)
      = w (ix4 dy dx ch n) := by
  pointwise [k0_pay3]

/-- The zero-padded images, at a padded position. -/
def padB (X : FVec Ideal S2x256x176x640 .bf16) : FVec Ideal S2x258x178x640 .bf16 :=
  pad S2x258x178x640 ![0, 1, 1, 0] ![0, 1, 1, 0] ![0, 0, 0, 0] X (sitofp .bf16 (constantI S_ 32 0#32)) pads_S2x256x176x640_S2x258x178x640_000_110_110_000 h_S_
def padS (X : FVec Ideal S2x256x176x20 .bf16) : FVec Ideal S2x258x178x20 .bf16 :=
  pad S2x258x178x20 ![0, 1, 1, 0] ![0, 1, 1, 0] ![0, 0, 0, 0] X (sitofp .bf16 (constantI S_ 32 0#32)) pads_S2x256x176x20_S2x258x178x20_000_110_110_000 h_S_

theorem padB_val (X : FVec Ideal S2x256x176x640 .bf16) (W : ℕ → EReal) (ch : Fin 640)
    (hX : ∀ (I : Fin 2) (a : Fin 256) (b : Fin 176), X (ix4 I a b ch) = W (45056 * I.val + 176 * a.val + b.val))
    (I : Fin 2) (a : Fin 258) (b : Fin 178) : padB X (ix4 I a b ch) = padAt W I.val a.val b.val := by
  unfold padAt
  pointwise [padB]
  by_cases h : (1 ≤ a.val ∧ a.val ≤ 256) ∧ (1 ≤ b.val ∧ b.val ≤ 176)
  · have h' : (1 ≤ a.val ∧ a.val - 1 < 256) ∧ 1 ≤ b.val ∧ b.val - 1 < 176 := by omega
    rw [dif_pos h', if_pos h, hX]
  · have h' : ¬((1 ≤ a.val ∧ a.val - 1 < 256) ∧ 1 ≤ b.val ∧ b.val - 1 < 176) := by omega
    rw [dif_neg h', if_neg h]
    exact Cert.KernelIdeal.Val.sitofp_zero
theorem padS_val (X : FVec Ideal S2x256x176x20 .bf16) (W : ℕ → EReal) (ch : Fin 20)
    (hX : ∀ (I : Fin 2) (a : Fin 256) (b : Fin 176), X (ix4 I a b ch) = W (45056 * I.val + 176 * a.val + b.val))
    (I : Fin 2) (a : Fin 258) (b : Fin 178) : padS X (ix4 I a b ch) = padAt W I.val a.val b.val := by
  unfold padAt
  pointwise [padS]
  by_cases h : (1 ≤ a.val ∧ a.val ≤ 256) ∧ (1 ≤ b.val ∧ b.val ≤ 176)
  · have h' : (1 ≤ a.val ∧ a.val - 1 < 256) ∧ 1 ≤ b.val ∧ b.val - 1 < 176 := by omega
    rw [dif_pos h', if_pos h, hX]
  · have h' : ¬((1 ≤ a.val ∧ a.val - 1 < 256) ∧ 1 ≤ b.val ∧ b.val - 1 < 176) := by omega
    rw [dif_neg h', if_neg h]
    exact Cert.KernelIdeal.Val.sitofp_zero

/-- The nine products of the large convolution, added from the left. -/
def convR (X : FVec Ideal S2x258x178x640 .bf16) (W : FVec Ideal S3x3x640x1280 .bf16) : FVec Ideal S2x256x176x1280 .f32 :=
  addf (addf (addf (addf (addf (addf (addf (addf (Host.dotGeneral dot_S2x256x176x640_S640x1280_S2x256x176x1280_3_0_012_1_n_n none (extractStridedSlice S2x256x176x640 ![0, 0, 0, 0] X slices_S2x258x178x640_S2x256x176x640_0_0_0_0) (shapeCast _ (extractStridedSlice S1x1x640x1280 ![0, 0, 0, 0] W slices_S3x3x640x1280_S1x1x640x1280_0_0_0_0) shapeCasts_S1x1x640x1280_S640x1280))
    (Host.dotGeneral dot_S2x256x176x640_S640x1280_S2x256x176x1280_3_0_012_1_n_n none (extractStridedSlice S2x256x176x640 ![0, 0, 1, 0] X slices_S2x258x178x640_S2x256x176x640_0_0_1_0) (shapeCast _ (extractStridedSlice S1x1x640x1280 ![0, 1, 0, 0] W slices_S3x3x640x1280_S1x1x640x1280_0_1_0_0) shapeCasts_S1x1x640x1280_S640x1280)))
    (Host.dotGeneral dot_S2x256x176x640_S640x1280_S2x256x176x1280_3_0_012_1_n_n none (extractStridedSlice S2x256x176x640 ![0, 0, 2, 0] X slices_S2x258x178x640_S2x256x176x640_0_0_2_0) (shapeCast _ (extractStridedSlice S1x1x640x1280 ![0, 2, 0, 0] W slices_S3x3x640x1280_S1x1x640x1280_0_2_0_0) shapeCasts_S1x1x640x1280_S640x1280)))
    (Host.dotGeneral dot_S2x256x176x640_S640x1280_S2x256x176x1280_3_0_012_1_n_n none (extractStridedSlice S2x256x176x640 ![0, 1, 0, 0] X slices_S2x258x178x640_S2x256x176x640_0_1_0_0) (shapeCast _ (extractStridedSlice S1x1x640x1280 ![1, 0, 0, 0] W slices_S3x3x640x1280_S1x1x640x1280_1_0_0_0) shapeCasts_S1x1x640x1280_S640x1280)))
    (Host.dotGeneral dot_S2x256x176x640_S640x1280_S2x256x176x1280_3_0_012_1_n_n none (extractStridedSlice S2x256x176x640 ![0, 1, 1, 0] X slices_S2x258x178x640_S2x256x176x640_0_1_1_0) (shapeCast _ (extractStridedSlice S1x1x640x1280 ![1, 1, 0, 0] W slices_S3x3x640x1280_S1x1x640x1280_1_1_0_0) shapeCasts_S1x1x640x1280_S640x1280)))
    (Host.dotGeneral dot_S2x256x176x640_S640x1280_S2x256x176x1280_3_0_012_1_n_n none (extractStridedSlice S2x256x176x640 ![0, 1, 2, 0] X slices_S2x258x178x640_S2x256x176x640_0_1_2_0) (shapeCast _ (extractStridedSlice S1x1x640x1280 ![1, 2, 0, 0] W slices_S3x3x640x1280_S1x1x640x1280_1_2_0_0) shapeCasts_S1x1x640x1280_S640x1280)))
    (Host.dotGeneral dot_S2x256x176x640_S640x1280_S2x256x176x1280_3_0_012_1_n_n none (extractStridedSlice S2x256x176x640 ![0, 2, 0, 0] X slices_S2x258x178x640_S2x256x176x640_0_2_0_0) (shapeCast _ (extractStridedSlice S1x1x640x1280 ![2, 0, 0, 0] W slices_S3x3x640x1280_S1x1x640x1280_2_0_0_0) shapeCasts_S1x1x640x1280_S640x1280)))
    (Host.dotGeneral dot_S2x256x176x640_S640x1280_S2x256x176x1280_3_0_012_1_n_n none (extractStridedSlice S2x256x176x640 ![0, 2, 1, 0] X slices_S2x258x178x640_S2x256x176x640_0_2_1_0) (shapeCast _ (extractStridedSlice S1x1x640x1280 ![2, 1, 0, 0] W slices_S3x3x640x1280_S1x1x640x1280_2_1_0_0) shapeCasts_S1x1x640x1280_S640x1280)))
    (Host.dotGeneral dot_S2x256x176x640_S640x1280_S2x256x176x1280_3_0_012_1_n_n none (extractStridedSlice S2x256x176x640 ![0, 2, 2, 0] X slices_S2x258x178x640_S2x256x176x640_0_2_2_0) (shapeCast _ (extractStridedSlice S1x1x640x1280 ![2, 2, 0, 0] W slices_S3x3x640x1280_S1x1x640x1280_2_2_0_0) shapeCasts_S1x1x640x1280_S640x1280))

/-- The nine products of the small convolution, added from the left. -/
def midR (X : FVec Ideal S2x258x178x20 .bf16) (W : FVec Ideal S3x3x20x20 .bf16) : FVec Ideal S2x256x176x20 .f32 :=
  addf (addf (addf (addf (addf (addf (addf (addf (Host.dotGeneral dot_S2x256x176x20_S20x20_S2x256x176x20_3_0_012_1_n_n none (extractStridedSlice S2x256x176x20 ![0, 0, 0, 0] X slices_S2x258x178x20_S2x256x176x20_0_0_0_0) (shapeCast _ (extractStridedSlice S1x1x20x20 ![0, 0, 0, 0] W slices_S3x3x20x20_S1x1x20x20_0_0_0_0) shapeCasts_S1x1x20x20_S20x20))
    (Host.dotGeneral dot_S2x256x176x20_S20x20_S2x256x176x20_3_0_012_1_n_n none (extractStridedSlice S2x256x176x20 ![0, 0, 1, 0] X slices_S2x258x178x20_S2x256x176x20_0_0_1_0) (shapeCast _ (extractStridedSlice S1x1x20x20 ![0, 1, 0, 0] W slices_S3x3x20x20_S1x1x20x20_0_1_0_0) shapeCasts_S1x1x20x20_S20x20)))
    (Host.dotGeneral dot_S2x256x176x20_S20x20_S2x256x176x20_3_0_012_1_n_n none (extractStridedSlice S2x256x176x20 ![0, 0, 2, 0] X slices_S2x258x178x20_S2x256x176x20_0_0_2_0) (shapeCast _ (extractStridedSlice S1x1x20x20 ![0, 2, 0, 0] W slices_S3x3x20x20_S1x1x20x20_0_2_0_0) shapeCasts_S1x1x20x20_S20x20)))
    (Host.dotGeneral dot_S2x256x176x20_S20x20_S2x256x176x20_3_0_012_1_n_n none (extractStridedSlice S2x256x176x20 ![0, 1, 0, 0] X slices_S2x258x178x20_S2x256x176x20_0_1_0_0) (shapeCast _ (extractStridedSlice S1x1x20x20 ![1, 0, 0, 0] W slices_S3x3x20x20_S1x1x20x20_1_0_0_0) shapeCasts_S1x1x20x20_S20x20)))
    (Host.dotGeneral dot_S2x256x176x20_S20x20_S2x256x176x20_3_0_012_1_n_n none (extractStridedSlice S2x256x176x20 ![0, 1, 1, 0] X slices_S2x258x178x20_S2x256x176x20_0_1_1_0) (shapeCast _ (extractStridedSlice S1x1x20x20 ![1, 1, 0, 0] W slices_S3x3x20x20_S1x1x20x20_1_1_0_0) shapeCasts_S1x1x20x20_S20x20)))
    (Host.dotGeneral dot_S2x256x176x20_S20x20_S2x256x176x20_3_0_012_1_n_n none (extractStridedSlice S2x256x176x20 ![0, 1, 2, 0] X slices_S2x258x178x20_S2x256x176x20_0_1_2_0) (shapeCast _ (extractStridedSlice S1x1x20x20 ![1, 2, 0, 0] W slices_S3x3x20x20_S1x1x20x20_1_2_0_0) shapeCasts_S1x1x20x20_S20x20)))
    (Host.dotGeneral dot_S2x256x176x20_S20x20_S2x256x176x20_3_0_012_1_n_n none (extractStridedSlice S2x256x176x20 ![0, 2, 0, 0] X slices_S2x258x178x20_S2x256x176x20_0_2_0_0) (shapeCast _ (extractStridedSlice S1x1x20x20 ![2, 0, 0, 0] W slices_S3x3x20x20_S1x1x20x20_2_0_0_0) shapeCasts_S1x1x20x20_S20x20)))
    (Host.dotGeneral dot_S2x256x176x20_S20x20_S2x256x176x20_3_0_012_1_n_n none (extractStridedSlice S2x256x176x20 ![0, 2, 1, 0] X slices_S2x258x178x20_S2x256x176x20_0_2_1_0) (shapeCast _ (extractStridedSlice S1x1x20x20 ![2, 1, 0, 0] W slices_S3x3x20x20_S1x1x20x20_2_1_0_0) shapeCasts_S1x1x20x20_S20x20)))
    (Host.dotGeneral dot_S2x256x176x20_S20x20_S2x256x176x20_3_0_012_1_n_n none (extractStridedSlice S2x256x176x20 ![0, 2, 2, 0] X slices_S2x258x178x20_S2x256x176x20_0_2_2_0) (shapeCast _ (extractStridedSlice S1x1x20x20 ![2, 2, 0, 0] W slices_S3x3x20x20_S1x1x20x20_2_2_0_0) shapeCasts_S1x1x20x20_S20x20))

theorem convR_val (X : FVec Ideal S2x258x178x640 .bf16) (W : FVec Ideal S3x3x640x1280 .bf16) (I : Fin 2) (a : Fin 256) (b : Fin 176) (n : Fin 1280) :
    convR X W (ix4 I a b n) = ∑ dy : Fin 3, ∑ dx : Fin 3, ∑ k : Fin 640, X (ix4 I ⟨dy.val + a.val, by omega⟩ ⟨dx.val + b.val, by omega⟩ k) * W (ix4 dy dx k n) := by
  simp only [Fin.sum_univ_three, ← add_assoc]
  pointwise [convR]
theorem midR_val (X : FVec Ideal S2x258x178x20 .bf16) (W : FVec Ideal S3x3x20x20 .bf16) (I : Fin 2) (a : Fin 256) (b : Fin 176) (n : Fin 20) :
    midR X W (ix4 I a b n) = ∑ dy : Fin 3, ∑ dx : Fin 3, ∑ k : Fin 20, X (ix4 I ⟨dy.val + a.val, by omega⟩ ⟨dx.val + b.val, by omega⟩ k) * W (ix4 dy dx k n) := by
  simp only [Fin.sum_univ_three, ← add_assoc]
  pointwise [midR]

/-- The first low-rank factor applied to the codes, scaled and narrowed. -/
def downR (X : FVec Ideal S2x256x176x640 .bf16) (dn : FVec Ideal S640x20 .bf16) (s : FVec Ideal S_ .f32) : FVec Ideal S2x256x176x20 .bf16 :=
  truncf .bf16 (mulf (Host.dotGeneral dot_S2x256x176x640_S640x20_S2x256x176x20_3_0_012_1_n_n none X dn) (broadcastInDim S2x256x176x20 ![] bcast_S_S2x256x176x20 s)) bitsLt_bf16_f32

theorem downR_val (X : FVec Ideal S2x256x176x640 .bf16) (dn : FVec Ideal S640x20 .bf16) (s : FVec Ideal S_ .f32) (I : Fin 2) (a : Fin 256) (b : Fin 176) (l : Fin 20) :
    downR X dn s (ix4 I a b l) = (∑ k : Fin 640, X (ix4 I a b k) * dn (ix2 k l)) * s ix0 := by
  pointwise [downR]

/-- What follows the convolutions: scales, bias and the last low-rank factor. -/
def finR (C : FVec Ideal S2x256x176x1280 .f32) (s : FVec Ideal S_ .f32) (v b : FVec Ideal S1280 .f32) (Mi : FVec Ideal S2x256x176x20 .f32) (up : FVec Ideal S20x1280 .bf16) :
    FVec Ideal S2x256x176x1280 .f32 :=
  addf (addf (mulf (mulf C (broadcastInDim S2x256x176x1280 ![] bcast_S_S2x256x176x1280 s)) (broadcastInDim S2x256x176x1280 ![0, 1, 2, 3] bcast_S1x1x1x1280_S2x256x176x1280_0_1_2_3 (broadcastInDim S1x1x1x1280 ![3] bcast_S1280_S1x1x1x1280_3 v))) (broadcastInDim S2x256x176x1280 ![0, 1, 2, 3] bcast_S1x1x1x1280_S2x256x176x1280_0_1_2_3 (broadcastInDim S1x1x1x1280 ![3] bcast_S1280_S1x1x1x1280_3 b))) (mulf (broadcastInDim S2x256x176x1280 ![] bcast_S_S2x256x176x1280 (constant S_ .f32 0x3ECCCCCD#32)) (Host.dotGeneral dot_S2x256x176x20_S20x1280_S2x256x176x1280_3_0_012_1_n_n none (truncf .bf16 Mi bitsLt_bf16_f32) up))

theorem finR_val (C : FVec Ideal S2x256x176x1280 .f32) (s : FVec Ideal S_ .f32) (v b : FVec Ideal S1280 .f32) (Mi : FVec Ideal S2x256x176x20 .f32) (up : FVec Ideal S20x1280 .bf16)
    (P : Fin 90112) (n : Fin 1280) :
    (shapeCast S90112x1280 (truncf .bf16 (finR C s v b Mi up) bitsLt_bf16_f32 : FVec Ideal S2x256x176x1280 .bf16) shapeCasts_S2x256x176x1280_S90112x1280 : FVec Ideal S90112x1280 .bf16) (ix2 P n)
      = C (ix4 ⟨P.val / 45056, by omega⟩ ⟨P.val / 176 % 256, by omega⟩ ⟨P.val % 176, by omega⟩ n) * s ix0 * v (ix1 n) + b (ix1 n)
        + Ideal.ofBits .f32 1053609165#32 * ∑ o : Fin 20, Mi (ix4 ⟨P.val / 45056, by omega⟩ ⟨P.val / 176 % 256, by omega⟩ ⟨P.val % 176, by omega⟩ o) * up (ix2 o n) := by
  pointwise [finR]

/-- The later operations' result, from the arrays they start with. -/
theorem v129_eq (V0 : Valuation τ sig (Elt Ideal)) :
    res_main_v129 V0 = finR (convR (padB (res_main_v21 V0)) (res_main_v22 V0)) (V0 (Proc.devRef .tc main_v15)) (V0 (Proc.devRef .tc main_arg2)) (V0 (Proc.devRef .tc main_arg3))
      (midR (padS (downR (res_main_v21 V0) (V0 (Proc.devRef .tc main_arg4)) (V0 (Proc.devRef .tc main_v15)))) (V0 (Proc.devRef .tc main_arg5))) (V0 (Proc.devRef .tc main_arg6)) := rfl

/-- The reference's result, of arrays whose values are known: the convolutions over the zero-padded images. -/
theorem y_val (sS sI : Vec Ideal S_ .f32) (x : Vec Ideal S2x256x176x640 .bf16) (w : Vec Ideal S3x3x640x1280 .fp8e4m3) (v b : Vec Ideal S1280 .f32)
    (dn : Vec Ideal S640x20 .bf16) (md : Vec Ideal S3x3x20x20 .bf16) (up : Vec Ideal S20x1280 .bf16)
    (X : FVec Ideal S2x256x176x640 .bf16) (W : FVec Ideal S3x3x640x1280 .bf16)
    (hX : ∀ (I : Fin 2) (a : Fin 256) (b : Fin 176) (ch : Fin 640), X (ix4 I a b ch) = qA sI x ch (45056 * I.val + 176 * a.val + b.val))
    (hW : ∀ (dy dx : Fin 3) (ch : Fin 640) (n : Fin 1280), W (ix4 dy dx ch n) = w (ix4 dy dx ch n)) (P : Fin 90112) (n : Fin 1280) :
    (shapeCast S90112x1280 (truncf .bf16 (finR (convR (padB X) W) sS v b (midR (padS (downR X dn sS)) md) up) bitsLt_bf16_f32 : FVec Ideal S2x256x176x1280 .bf16)
      shapeCasts_S2x256x176x1280_S90112x1280 : FVec Ideal S90112x1280 .bf16) (ix2 P n) = yA sS sI x w v b dn md up P.val n := by
  have hP : P.val / 176 % 256 = P.val % 45056 / 176 := by omega
  have hD : ∀ (I : Fin 2) (a : Fin 256) (b : Fin 176) (l : Fin 20), downR X dn sS (ix4 I a b l) = dA sS sI x dn l (45056 * I.val + 176 * a.val + b.val) := by
    intro I a b l
    rw [downR_val]
    unfold dA
    exact congrArg (fun z : EReal => z * _) (Finset.sum_congr rfl fun k _ => by rw [hX])
  have hC : convR (padB X) W (ix4 ⟨P.val / 45056, by omega⟩ ⟨P.val / 176 % 256, by omega⟩ ⟨P.val % 176, by omega⟩ n) = cv (qA sI x) (fun dy dx k => w (ix4 dy dx k n)) P.val := by
    rw [convR_val]
    unfold cv
    refine Finset.sum_congr rfl fun dy _ => Finset.sum_congr rfl fun dx _ => Finset.sum_congr rfl fun k _ => ?_
    rw [padB_val X (qA sI x k) k (fun I a b => hX I a b k), hW]
    show padAt (qA sI x k) (P.val / 45056) (dy.val + P.val / 176 % 256) (dx.val + P.val % 176) * _ = _
    rw [hP, Nat.add_comm dy.val, Nat.add_comm dx.val]
  have hM : ∀ o : Fin 20, midR (padS (downR X dn sS)) md (ix4 ⟨P.val / 45056, by omega⟩ ⟨P.val / 176 % 256, by omega⟩ ⟨P.val % 176, by omega⟩ o)
      = cv (dA sS sI x dn) (fun dy dx k => md (ix4 dy dx k o)) P.val := by
    intro o
    rw [midR_val]
    unfold cv
    refine Finset.sum_congr rfl fun dy _ => Finset.sum_congr rfl fun dx _ => Finset.sum_congr rfl fun k _ => ?_
    rw [padS_val (downR X dn sS) (dA sS sI x dn k) k (fun I a b => hD I a b k)]
    show padAt (dA sS sI x dn k) (P.val / 45056) (dy.val + P.val / 176 % 256) (dx.val + P.val % 176) * _ = _
    rw [hP, Nat.add_comm dy.val, Nat.add_comm dx.val]
  rw [finR_val, hC, Finset.sum_congr rfl fun o _ => congrArg (fun z : EReal => z * up (ix2 o n)) (hM o)]
  rfl

/-- The reference's result at a pixel and a channel, in terms of its arguments. -/
theorem v131_eq (m : (ℓ : Loc nD τ sig) → Buf (Elt Ideal) ℓ) (c : Dev nD) (P : Fin 90112) (n : Fin 1280) :
    (shapeCast S90112x1280 (truncf .bf16 (res_main_v129 (exitV m c) : FVec Ideal S2x256x176x1280 .f32) bitsLt_bf16_f32 : FVec Ideal S2x256x176x1280 .bf16)
      shapeCasts_S2x256x176x1280_S90112x1280 : FVec Ideal S90112x1280 .bf16) (ix2 P n)
      = yA (aS m c) (aI m c) (aX m c) (aW m c) (aV m c) (aB m c) (aD m c) (aM m c) (aU m c) P.val n := by
  have h4 : res_main_v21 (exitV m c) = shapeCast S2x256x176x640 (k0_pay2 (rX m c) (rI m c)) shapeCasts_S90112x640_S2x256x176x640 := by
    unfold res_main_v21
    rw [exit_main_v20_1, final_4]; rfl
  have h5 : res_main_v22 (exitV m c) = shapeCast S3x3x640x1280 (k0_pay3 (rW m c)) shapeCasts_S5760x1280_S3x3x640x1280 := by
    unfold res_main_v22
    rw [exit_main_v20_2, final_5]; rfl
  have hs := scale_exit m c
  rw [v129_eq, h4, h5, hs, exit_main_arg2, exit_main_arg3, exit_main_arg4, exit_main_arg5, exit_main_arg6]
  exact y_val (aS m c) (aI m c) (aX m c) (aW m c) (aV m c) (aB m c) (aD m c) (aM m c) (aU m c) _ _ (fun I a b ch => v21_val (aX m c) (aI m c) I a b ch) (fun dy dx ch n => v22_val (aW m c) dy dx ch n) P n

/-- The reference's codes at a pixel and a channel. -/
theorem v20_0_eq (m : (ℓ : Loc nD τ sig) → Buf (Elt Ideal) ℓ) (c : Dev nD) (P : Fin 90112) (ch : Fin 640) :
    (reg_main_v20_0 m c : Vec Ideal S90112x640 .fp8e4m3) (ix2 P ch) = qA (aI m c) (aX m c) ch P.val := by
  rw [final_3]
  exact codes_val (aX m c) (aI m c) P ch

end Cert.ReferenceIdeal.Val
-- ==== Proof.ResultsEqual.lean ====
/-
  The two programs at the ideal instance end with equal results: all three of the kernel's results are the reference's, from equal arguments.
-/
module

public import proofs.«01_k».proof.Defs
public import proofs.«01_k».proof.Proof.KernelIdealRun
public import proofs.«01_k».proof.Proof.ReferenceIdealValue

@[expose] public section
set_option maxRecDepth 16384

noncomputable section
namespace Cert.Proof

open Idealize.ShloMosaic Idealize.SL.Sem Idealize.ShloMosaic.TcCoe

local instance : Cert.KernelIdeal.Facts := Cert.KernelIdeal.Gen.facts
local instance : Cert.ReferenceIdeal.Facts := Cert.ReferenceIdeal.Gen.facts

section Kernel
open Cert.KernelIdeal Cert.KernelIdeal.Gen Cert.KernelIdeal.Val

/-- The kernel's three results, as functions of its arguments; the arguments stay. -/
theorem kernel_values (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v11_0)
        = (fun y : S90112x1280.Idx => yA (aS m c) (aI m c) (aX m c) (aW m c) (aV m c) (aB m c) (aD m c) (aM m c) (aU m c) (y 0).val (y 1))
      ∧ r.2.mem ((c.tc : Thread nD τ).loc main_v11_1) = (fun y : S90112x640.Idx => qA (aI m c) (aX m c) (y 1) (y 0).val)
      ∧ r.2.mem ((c.tc : Thread nD τ).loc main_v3) = aS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(vfinal m r h.1 c).1.trans (funext fun y => yV_eq m c (y 0).val (y 1)),
      (vfinal m r h.1 c).2.trans (funext fun y => Qn_eq m c (y 1) (y 0).val),
      ((h.1 c).2 main_v3 (Pipeline.mem_restRefs_of main_v3 (by decide) (by decide))).trans (v3_eq m c),
      ((h.1 c).2 main_arg0 (Pipeline.mem_restRefs_of main_arg0 (by decide) (by decide))).trans (Entry.V_main_arg0 m c),
      ((h.1 c).2 main_arg1 (Pipeline.mem_restRefs_of main_arg1 (by decide) (by decide))).trans (Entry.V_main_arg1 m c),
      ((h.1 c).2 main_arg2 (Pipeline.mem_restRefs_of main_arg2 (by decide) (by decide))).trans (Entry.V_main_arg2 m c),
      ((h.1 c).2 main_arg3 (Pipeline.mem_restRefs_of main_arg3 (by decide) (by decide))).trans (Entry.V_main_arg3 m c),
      ((h.1 c).2 main_arg4 (Pipeline.mem_restRefs_of main_arg4 (by decide) (by decide))).trans (Entry.V_main_arg4 m c),
      ((h.1 c).2 main_arg5 (Pipeline.mem_restRefs_of main_arg5 (by decide) (by decide))).trans (Entry.V_main_arg5 m c),
      ((h.1 c).2 main_arg6 (Pipeline.mem_restRefs_of main_arg6 (by decide) (by decide))).trans (Entry.V_main_arg6 m c)⟩) (vrun_main m g)

end Kernel

section Reference
open Cert.ReferenceIdeal Cert.ReferenceIdeal.Gen Cert.ReferenceIdeal.Value Cert.ReferenceIdeal.Val Idealize.ShloMosaic.Pointwise
open Cert.KernelIdeal.Val (yA qA)

/-- The reference's first two results, as whole arrays. -/
theorem reference_y (m : (ℓ : Loc nD τ sig) → Buf (Elt Ideal) ℓ) (c : Dev nD) :
    (shapeCast S90112x1280 (truncf .bf16 (res_main_v129 (exitV m c) : FVec Ideal S2x256x176x1280 .f32) bitsLt_bf16_f32 : FVec Ideal S2x256x176x1280 .bf16)
      shapeCasts_S2x256x176x1280_S90112x1280 : FVec Ideal S90112x1280 .bf16)
      = fun y : S90112x1280.Idx => yA (aS m c) (aI m c) (aX m c) (aW m c) (aV m c) (aB m c) (aD m c) (aM m c) (aU m c) (y 0).val (y 1) := by
  funext y
  exact (congrArg _ (eq_ix2 y)).trans (v131_eq m c (y 0) (y 1))

theorem reference_codes (m : (ℓ : Loc nD τ sig) → Buf (Elt Ideal) ℓ) (c : Dev nD) :
    (reg_main_v20_0 m c : Vec Ideal S90112x640 .fp8e4m3) = fun y : S90112x640.Idx => qA (aI m c) (aX m c) (y 1) (y 0).val := by
  funext y
  exact (congrArg _ (eq_ix2 y)).trans (v20_0_eq m c (y 0) (y 1))

end Reference

/-- From equal pixels the kernel and the reference find the same largest magnitude, -/
theorem largest_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.ReferenceIdeal.Val.aX m' c = Cert.KernelIdeal.Val.aX m c) :
    (Cert.ReferenceIdeal.Val.largest (Cert.ReferenceIdeal.Val.aX m' c) Idealize.ShloMosaic.ValueIdx.ix0 : EReal) = Cert.KernelIdeal.Val.largestX m c := by
  rw [h]
  exact eq_of_forall_ge_iff fun d => (Cert.ReferenceIdeal.Val.largest_le _ d _).trans (Cert.KernelIdeal.ScaleVal.total_le m c d).symm

/-- At the ideal instance, from equal arguments, the kernel and the reference end with equal results and leave their arguments. -/
theorem results_equal : Cert.algebraic_KernelIdeal_ReferenceIdeal := by
  intro m g m' g' _ hag
  refine ⟨_, _, _, (θ_run _ _ _).mono (fun r h c => h c) (kernel_values m g), (θ_run _ _ _).mono (fun r h c => ?_) (Cert.ReferenceIdeal.Value.run m' g')⟩
  obtain ⟨h0, h1, h2, h3, h4, h5, h6⟩ := hag c
  obtain ⟨hy, hq, hs, ha⟩ := h c
  have eX : Cert.ReferenceIdeal.Val.aX m' c = Cert.KernelIdeal.Val.aX m c := h0
  have eW : Cert.ReferenceIdeal.Val.aW m' c = Cert.KernelIdeal.Val.aW m c := h1
  have eV : Cert.ReferenceIdeal.Val.aV m' c = Cert.KernelIdeal.Val.aV m c := h2
  have eB : Cert.ReferenceIdeal.Val.aB m' c = Cert.KernelIdeal.Val.aB m c := h3
  have eD : Cert.ReferenceIdeal.Val.aD m' c = Cert.KernelIdeal.Val.aD m c := h4
  have eM : Cert.ReferenceIdeal.Val.aM m' c = Cert.KernelIdeal.Val.aM m c := h5
  have eU : Cert.ReferenceIdeal.Val.aU m' c = Cert.KernelIdeal.Val.aU m c := h6
  have eS : Cert.ReferenceIdeal.Val.aS m' c = Cert.KernelIdeal.Val.aS m c  :=
    (Cert.ReferenceIdeal.Val.aS_eq m' c).trans (funext fun _ => congrArg (fun t : EReal => Cert.Scale.scale (Ideal.ofBits .f32 0x3B124925#32) t) (largest_eq m m' c eX))
  have eI : Cert.ReferenceIdeal.Val.aI m' c = Cert.KernelIdeal.Val.aI m c  :=
    (Cert.ReferenceIdeal.Val.aI_eq m' c).trans (funext fun _ => congrArg (fun t : EReal => Ideal.div 1 (Cert.Scale.scale (Ideal.ofBits .f32 0x3B124925#32) t)) (largest_eq m m' c eX))
  refine ⟨hy.trans ((reference_y m' c).trans ?_), hq.trans ((reference_codes m' c).trans ?_), hs.trans (((Cert.ReferenceIdeal.Value.exit_main_v15 m' c).symm.trans (Cert.ReferenceIdeal.Val.scale_exit m' c)).trans eS), ha⟩
  · rw [eX, eW, eV, eB, eD, eM, eU, eS, eI]
  · rw [eX, eI]

end Cert.Proof
-- ==== Proof.AmaxIdealValue.lean ====
/-
  What the call `amax` computes at the ideal instance: every entry of the first eight rows of its result is the scale of the largest
  magnitude of the argument, every entry of the last eight rows the inverse of the scale.
-/
module

public import proofs.«01_k».proof.Proof.Gen.AmaxIdeal.Value
public import proofs.«01_k».proof.Proof.Scale
public import Idealize.ShloMosaic.Lib.Pipeline.ValueKit
public import Idealize.ShloMosaic.Lib.Pipeline.ValueKit.Acc
public import Idealize.ShloMosaic.Lib.Pipeline.ReadBack
public import Idealize.ShloMosaic.PureOps.Ideal.Laws
public import Idealize.ShloMosaic.Lib.Pointwise
public import Idealize.ShloMosaic.Lib.Claim

@[expose] public section
set_option maxRecDepth 16384
noncomputable section
namespace Cert.AmaxIdeal.Val
open Cert.AmaxIdeal Cert.AmaxIdeal.Gen Cert.AmaxIdeal.Value Idealize.ShloMosaic Idealize.ShloMosaic.TcCoe Idealize.SL.Sem Idealize.ShloMosaic.Pointwise
open Cert.Scale

/-! ## The values the body computes -/

/-- A step of the running maximum is below `d` iff the old one is and every magnitude of the block in its class of rows is. -/
theorem step_le (x : Vec Ideal S2048x640 .bf16) (a : Vec Ideal S16x640 .bf16) (r : Fin 16) (q : Fin 640) (d : EReal) :
    k0_pay2 (F := Ideal) x a (ix2 r q) ≤ d
      ↔ a (ix2 r q) ≤ d ∧ ∀ k : Fin 128, max (x (ix2 ⟨k.val * 16 + r.val, by omega⟩ q)) (-x (ix2 ⟨k.val * 16 + r.val, by omega⟩ q)) ≤ d := by
  have h : k0_pay2 (F := Ideal) x a (ix2 r q) = max (a (ix2 r q)) ((Finset.univ : Finset (Fin 128)).fold max (Ideal.ofBits .bf16 0xFF80#16)
      (fun k => max (x (ix2 ⟨k.val * 16 + r.val, by omega⟩ q)) (-x (ix2 ⟨k.val * 16 + r.val, by omega⟩ q)))) := by
    pointwise [k0_pay2]
    rfl
  rw [h, max_le_iff, Finset.fold_max_le, ofBits_neg_inf_bf16]
  simp only [bot_le, true_and, Finset.mem_univ, forall_const]

theorem start (r : Fin 16) (q : Fin 640) : (k0_pay1 (F := Ideal) (ix2 r q) : EReal) = 0 := by
  pointwise [k0_pay1]

/-- The largest magnitude is below `d` iff the whole running maximum is. -/
theorem amax_le (a : Vec Ideal S16x640 .bf16) (l : Fin 128) (d : EReal) :
    (k0_pay3 (F := Ideal) a (ix2 0 l) : EReal) ≤ d ↔ ∀ (r : Fin 16) (q : Fin 640), a (ix2 r q) ≤ d := by
  have h : k0_pay3 (F := Ideal) a (ix2 0 l) = (Finset.univ : Finset (Fin 640)).fold max (Ideal.ofBits .f32 0xFF800000#32)
      (fun q => (Finset.univ : Finset (Fin 16)).fold max (Ideal.ofBits .f32 0xFF800000#32) (fun r => a (ix2 r q))) := by
    pointwise [k0_pay3]
  rw [h, Finset.fold_max_le, ofBits_neg_inf]
  simp only [bot_le, true_and, Finset.mem_univ, forall_const, Finset.fold_max_le]
  exact ⟨fun h r q => h q r, fun h q r => h r q⟩

/-- A trip of the loop is a halving. -/
theorem trip (a : Vec Ideal S16x640 .bf16) (p : FVec Ideal S8x128 .f32) (r : Fin 8) (l : Fin 128) :
    k0_pay5 (F := Ideal) a p (ix2 r l) = halve (k0_pay3 (F := Ideal) a (ix2 0 l) * Ideal.ofBits .f32 0x3B124925#32) (p (ix2 r l)) := by
  rw [halve, ← ofBits_half]
  pointwise [k0_pay5]

theorem trips_eq : k0_t1_loop.trips = 246 := by decide +kernel

/-- The loop ends at the least power above the product. -/
theorem loop_eq (a : Vec Ideal S16x640 .bf16) (r : Fin 8) (l : Fin 128) :
    (Scf.fold (n := k0_t1_loop.trips) (fun _ p => k0_pay5 (F := Ideal) a p) k0_pay4) (ix2 r l)
      = least (k0_pay3 (F := Ideal) a (ix2 0 l) * Ideal.ofBits .f32 0x3B124925#32) 246 := by
  rw [Scf.fold_eq]
  have h : ∀ (ks : List (Fin k0_t1_loop.trips)) (p : FVec Ideal S8x128 .f32),
      (ks.foldl (fun p _ => k0_pay5 (F := Ideal) a p) p) (ix2 r l)
        = ks.foldl (fun p _ => halve (k0_pay3 (F := Ideal) a (ix2 0 l) * Ideal.ofBits .f32 0x3B124925#32) p) (p (ix2 r l)) := by
    intro ks
    induction ks with
    | nil => intro p; rfl
    | cons k ks ih => intro p; rw [List.foldl_cons, ih, trip]; rfl
  have h0 : (k0_pay4 (F := Ideal) (ix2 r l) : EReal) = pw 0 := by
    rw [← ofBits_top]
    pointwise [k0_pay4]
  rw [h, h0, halved_eq_least, List.length_finRange, trips_eq]

/-- The two stored values. -/
theorem scale_eq (a : Vec Ideal S16x640 .bf16) (r : Fin 8) (l : Fin 128) :
    k0_pay6 (F := Ideal) a (Scf.fold (n := k0_t1_loop.trips) (fun _ p => k0_pay5 (F := Ideal) a p) k0_pay4) (ix2 r l)
      = scale (Ideal.ofBits .f32 0x3B124925#32) (k0_pay3 (F := Ideal) a (ix2 0 l)) := by
  rw [scale, ← loop_eq a r l]
  pointwise [k0_pay6]

theorem inverse_eq (a : Vec Ideal S16x640 .bf16) (p : FVec Ideal S8x128 .f32) (r : Fin 8) (l : Fin 128) :
    k0_pay7 (F := Ideal) a p (ix2 r l) = Ideal.div 1 (k0_pay6 (F := Ideal) a p (ix2 r l)) := by
  pointwise [k0_pay7]

/-! ## The running maximum over the grid -/

variable (m : (ℓ : Loc nD τ sig) → Buf (Elt Ideal) ℓ)

/-- The argument. -/
abbrev aX (c : Dev nD) : FVec Ideal S2x256x176x640 .bf16 := m ((c : Thread nD τ).loc main_arg0)

theorem entry_v0 (c : Dev nD) : (V m c main_v0 : FVec Ideal S90112x640 .bf16) = shapeCast S90112x640 (aX m c) shapeCasts_S2x256x176x640_S90112x640 := by
  entry_read; rfl

theorem point_lt (t : Fin cfg0.N) : t.val < 44 := lt_of_lt_of_eq t.isLt (show cfg0.N = 44 from N_0)

theorem idx (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t

/-- Row `P` of the argument in row-major order. -/
def row (c : Dev nD) (P : ℕ) (q : Fin 640) : EReal :=
  aX m c (ix4 ⟨P / 45056 % 2, by omega⟩ ⟨P / 176 % 256, by omega⟩ ⟨P % 176, by omega⟩ q)

/-- Entry `(r, q)` of the block of point `t`: the argument's row `2048 t + r`. -/
theorem block_eq (c : Dev nD) (t : Fin cfg0.N) (r : Fin 2048) (q : Fin 640) :
    (iblk m c 0 t : Vec Ideal S2048x640 .bf16) (ix2 r q) = row m c (t.val * 2048 + r.val) q := by
  have ht := point_lt t
  have hr := r.isLt
  have e : (win0_0.blk t).view.emb (ix2 r q) = (ix2 (⟨t.val * 2048 + r.val, by omega⟩ : Fin 90112) q : S90112x640.Idx) := by
    blk_ext [idx t]
  blk_simp [iblk]
  rw [e, entry_v0]
  unfold row
  pointwise
  refine congrArg (aX m c) ?_
  blk_ext

theorem lt_N {n : ℕ} (h : n < 44) : 0 + n < cfg0.N := by rw [show cfg0.N = 44 from N_0]; omega

/-- The running maximum after point `n`. -/
def acc (c : Dev nD) (n : ℕ) (h : n < 44) : Vec Ideal S16x640 .bf16 :=
  (Pipeline.accAt (fun n h => stAt0 m c n h junk0) (stAt0 m c) 0 n (lt_N h)).2

theorem case_A (c : Dev nD) (t : Fin cfg0.N) (a : Vec Ideal S16x128 .f32 × Vec Ideal S16x640 .bf16) (h0 : t.val % 44 = 0) (h1 : ¬t.val % 44 = 43) :
    (stAt0 m c t.val t.isLt a).2 = k0_pay2 (F := Ideal) (iblk m c 0 t) (k0_pay1 (F := Ideal)) := by
  rw [stAt0_A m c t a h0 h1]
  frame_out

theorem case_B (c : Dev nD) (t : Fin cfg0.N) (a : Vec Ideal S16x128 .f32 × Vec Ideal S16x640 .bf16) (h0 : ¬t.val % 44 = 0) (h1 : ¬t.val % 44 = 43) :
    (stAt0 m c t.val t.isLt a).2 = k0_pay2 (F := Ideal) (iblk m c 0 t) a.2 := by
  rw [stAt0_B m c t a h0 h1]
  frame_out
  exact congrArg _ ((Memref.isWhole_whole cc0_scratch0).read_unread _)

/-- What the last point stores, from the running maximum `b`. -/
def stored (b : Vec Ideal S16x640 .bf16) : List (View.Piece (Elt Ideal) S16x128 .f32) :=
  [⟨Rect.unit ![8, 0] ![8, 128] inb_S16x128_S8x128_8_0,
      k0_pay7 (F := Ideal) b (Scf.fold (n := k0_t1_loop.trips) (fun _ p => k0_pay5 (F := Ideal) b p) k0_pay4)⟩,
    ⟨Rect.unit ![0, 0] ![8, 128] inb_S16x128_S8x128_0_0,
      k0_pay6 (F := Ideal) b (Scf.fold (n := k0_t1_loop.trips) (fun _ p => k0_pay5 (F := Ideal) b p) k0_pay4)⟩]

/-- The result, from the largest magnitude: the scale in the first eight rows, its inverse in the last eight. -/
def result (A : EReal) : FVec Ideal S16x128 .f32 := fun y =>
  if (y 0).val < 8 then scale (Ideal.ofBits .f32 0x3B124925#32) A else Ideal.div 1 (scale (Ideal.ofBits .f32 0x3B124925#32) A)

theorem amax_lane (b : Vec Ideal S16x640 .bf16) (l : Fin 128) : k0_pay3 (F := Ideal) b (ix2 0 l) = k0_pay3 (F := Ideal) b (ix2 0 0) :=
  eq_of_forall_ge_iff fun d => (amax_le b l d).trans (amax_le b 0 d).symm

theorem stored_pieces (b : Vec Ideal S16x640 .bf16) : View.PiecesOf (result (k0_pay3 (F := Ideal) b (ix2 0 0))) (stored b) := by
  refine ⟨fun x => ?_, fun x => ?_, trivial⟩ <;>
    obtain ⟨r, l, rfl⟩ : ∃ (r : Fin 8) (l : Fin 128), x = ix2 r l := ⟨x 0, x 1, eq_ix2 x⟩
  · refine ((inverse_eq b _ r l).trans (congrArg _ ((scale_eq b r l).trans (congrArg _ (amax_lane b l))))).trans (Eq.symm (if_neg ?_))
    show ¬ 8 + 1 * r.val < 8
    omega
  · refine ((scale_eq b r l).trans (congrArg _ (amax_lane b l))).trans (Eq.symm (if_pos ?_))
    show 0 + 1 * r.val < 8
    omega

theorem stored_cover (b : Vec Ideal S16x640 .bf16) (y : S16x128.Idx) : ∃ p ∈ stored b, y ∈ p.1.set := by
  obtain ⟨r, l, rfl⟩ : ∃ (r : Fin 16) (l : Fin 128), y = ix2 r l := ⟨y 0, y 1, eq_ix2 y⟩
  by_cases h : 8 ≤ r.val
  · refine ⟨_, List.Mem.head _, (Rect.mem_set_unit (s := S16x128) (off := ![8, 0]) (size := ![8, 128]) (inb := inb_S16x128_S8x128_8_0)).mpr fun a => ?_⟩
    fin_cases a
    · show 8 ≤ r.val ∧ r.val < 8 + 8; omega
    · show 0 ≤ l.val ∧ l.val < 0 + 128; omega
  · refine ⟨_, List.Mem.tail _ (List.Mem.head _), (Rect.mem_set_unit (s := S16x128) (off := ![0, 0]) (size := ![8, 128]) (inb := inb_S16x128_S8x128_0_0)).mpr fun a => ?_⟩
    fin_cases a
    · show 0 ≤ r.val ∧ r.val < 0 + 8; omega
    · show 0 ≤ l.val ∧ l.val < 0 + 128; omega

theorem case_C (c : Dev nD) (t : Fin cfg0.N) (a : Vec Ideal S16x128 .f32 × Vec Ideal S16x640 .bf16) (h0 : ¬t.val % 44 = 0) (h1 : t.val % 44 = 43) :
    (stAt0 m c t.val t.isLt a).1 = View.canon (stored (k0_pay2 (F := Ideal) (iblk m c 0 t) a.2)) := by
  rw [stAt0_C m c t a h0 h1]
  frame_out
  rw [(Memref.isWhole_whole cc0_scratch0).read_unread a.2]
  rfl

/-- The running maximum after point `n` is below `d` iff 0 and every magnitude read so far in its class of rows are. -/
theorem acc_le (c : Dev nD) (r : Fin 16) (q : Fin 640) (d : EReal) : ∀ (n : ℕ) (h : n + 1 < 44),
    acc m c n (by omega) (ix2 r q) ≤ d
      ↔ 0 ≤ d ∧ ∀ t : ℕ, t ≤ n → ∀ k : Fin 128, max (row m c (t * 2048 + (k.val * 16 + r.val)) q) (-row m c (t * 2048 + (k.val * 16 + r.val)) q) ≤ d
  | 0, h => by
    have e : acc m c 0 (by omega) = k0_pay2 (F := Ideal) (iblk m c 0 ⟨0 + 0, lt_N (by omega)⟩) (k0_pay1 (F := Ideal)) :=
      case_A m c ⟨0 + 0, lt_N (by omega)⟩ junk0 rfl (by decide)
    rw [e, step_le, start]
    refine and_congr_right fun _ => ⟨fun H t ht k => ?_, fun H k => ?_⟩
    · obtain rfl : t = 0 := by omega
      have := H k
      rwa [block_eq] at this
    · rw [block_eq]
      exact H 0 le_rfl k
  | n + 1, h => by
    have e : acc m c (n + 1) (by omega) = k0_pay2 (F := Ideal) (iblk m c 0 ⟨0 + (n + 1), lt_N (by omega)⟩) (acc m c n (by omega)) :=
      case_B m c ⟨0 + (n + 1), lt_N (by omega)⟩ _ (by dsimp only; omega) (by dsimp only; omega)
    rw [e, step_le, acc_le c r q d n (by omega), and_assoc]
    refine and_congr_right fun _ => ⟨fun H t ht k => ?_, fun H => ⟨fun t ht k => H t (by omega) k, fun k => ?_⟩⟩
    · rcases Nat.lt_or_ge n t with hl | hl
      · obtain rfl : t = n + 1 := by omega
        have := H.2 k
        rw [block_eq] at this
        simpa only [zero_add] using this
      · exact H.1 t hl k
    · rw [block_eq]
      simpa only [zero_add] using H (n + 1) le_rfl k

/-- The running maximum after the last point. -/
def total (c : Dev nD) : Vec Ideal S16x640 .bf16 := k0_pay2 (F := Ideal) (iblk m c 0 ⟨0 + 43, lt_N (by omega)⟩) (acc m c 42 (by omega))

/-- The largest magnitude, as the kernel finds it, is below `d` iff every magnitude of the argument is. -/
theorem total_le (c : Dev nD) (d : EReal) :
    (k0_pay3 (F := Ideal) (total m c) (ix2 0 0) : EReal) ≤ d ↔ ∀ i : S2x256x176x640.Idx, max (aX m c i) (-aX m c i) ≤ d := by
  rw [amax_le]
  have key : ∀ (r : Fin 16) (q : Fin 640), total m c (ix2 r q) ≤ d
      ↔ 0 ≤ d ∧ ∀ t : ℕ, t ≤ 43 → ∀ k : Fin 128, max (row m c (t * 2048 + (k.val * 16 + r.val)) q) (-row m c (t * 2048 + (k.val * 16 + r.val)) q) ≤ d := by
    intro r q
    unfold total
    rw [step_le, acc_le m c r q d 42 (by omega), and_assoc]
    refine and_congr_right fun _ => ⟨fun H t ht k => ?_, fun H => ⟨fun t ht k => H t (by omega) k, fun k => ?_⟩⟩
    · rcases Nat.lt_or_ge 42 t with hl | hl
      · obtain rfl : t = 43 := by omega
        have := H.2 k
        rw [block_eq] at this
        simpa only [zero_add] using this
      · exact H.1 t hl k
    · rw [block_eq]
      simpa only [zero_add] using H 43 le_rfl k
  simp only [key]
  constructor
  · intro H i
    obtain ⟨a, b, w, q, rfl⟩ : ∃ (a : Fin 2) (b : Fin 256) (w : Fin 176) (q : Fin 640), i = ix4 a b w q := ⟨i 0, i 1, i 2, i 3, eq_ix4 i⟩
    have hP : a.val * 45056 + b.val * 176 + w.val < 90112 := by omega
    have := (H ⟨(a.val * 45056 + b.val * 176 + w.val) % 16, by omega⟩ q).2 ((a.val * 45056 + b.val * 176 + w.val) / 2048) (by omega)
      ⟨(a.val * 45056 + b.val * 176 + w.val) % 2048 / 16, by omega⟩
    dsimp only at this
    have e : row m c ((a.val * 45056 + b.val * 176 + w.val) / 2048 * 2048 + ((a.val * 45056 + b.val * 176 + w.val) % 2048 / 16 * 16 + (a.val * 45056 + b.val * 176 + w.val) % 16)) q
        = aX m c (ix4 a b w q) := by
      rw [show (a.val * 45056 + b.val * 176 + w.val) / 2048 * 2048 + ((a.val * 45056 + b.val * 176 + w.val) % 2048 / 16 * 16 + (a.val * 45056 + b.val * 176 + w.val) % 16)
        = a.val * 45056 + b.val * 176 + w.val by omega]
      unfold row
      refine congrArg (aX m c) ?_
      congr 1 <;> apply Fin.ext <;> dsimp only <;> omega
    rwa [e] at this
  · intro H r q
    exact ⟨(magnitude_nonneg _).trans (H (ix4 0 0 0 0)), fun t _ k => H _⟩

/-- The call's result array. -/
theorem array_eq (c : Dev nD) : G1 m c = result (k0_pay3 (F := Ideal) (total m c) (ix2 0 0)) := by
  rw [G1_last]
  have e : (Pipeline.accAt (fun n h => stAt0 m c n h junk0) (stAt0 m c) 0 43 (lt_N (by omega))).1 = View.canon (stored (total m c)) :=
    case_C m c ⟨0 + 43, lt_N (by omega)⟩ _ (by decide) (by decide)
  rw [e]
  funext y
  exact View.canon_apply_of_pieces _ (stored (total m c)) (stored_pieces (total m c)).mem y (stored_cover (total m c) y)

end Cert.AmaxIdeal.Val
-- ==== Proof.AmaxReferenceIdealValue.lean ====
/-
  What the reference of the call `amax` computes at the ideal instance, from its argument.
-/
module

public import proofs.«01_k».proof.Proof.Gen.AmaxReferenceIdeal.Run
public import proofs.«01_k».proof.Proof.Scale
public import Idealize.ShloMosaic.PureOps.Ideal.Laws
public import Idealize.ShloMosaic.Lib.Pointwise

@[expose] public section
set_option maxRecDepth 16384
noncomputable section
namespace Cert.AmaxReferenceIdeal.Val
open Cert.AmaxReferenceIdeal Cert.AmaxReferenceIdeal.Gen Idealize.ShloMosaic Idealize.ShloMosaic.TcCoe Idealize.SL.Sem Idealize.ShloMosaic.Pointwise
open Cert.Scale

/-- The largest magnitude. -/
def largest (x : FVec Ideal S2x256x176x640 .bf16) : FVec Ideal S_ .f32 :=
  Host.reduce FloatOps.maximumf (Host.absf (extf .f32 x bitsLt_bf16_f32)) (constant S_ .f32 0xFF800000#32) reducesTo_S2x256x176x640_S_d0_1_2_3 h_S_

/-- The table of powers of two. -/
def powers : FVec Ideal S247 .f32 :=
  Host.powf (broadcastInDim S247 ![] bcast_S_S247 (constant S_ .f32 0x40000000#32)) (sitofp .f32 (addi (broadcastInDim S247 ![] bcast_S_S247 (constantI S_ 32 4294967170#32)) (iotaInDim S247 32 0)))

/-- The scale. -/
def scaleOf (A : FVec Ideal S_ .f32) : FVec Ideal S_ .f32 :=
  select (cmpf .oeq A (constant S_ .f32 0x00000000#32)) (id (constant S_ .f32 0x3F800000#32))
    (Host.reduce FloatOps.minimumf (select (cmpf .ogt powers (broadcastInDim S247 ![] bcast_S_S247 (mulf A (constant S_ .f32 0x3B124925#32)))) powers
      (broadcastInDim S247 ![] bcast_S_S247 (id (constant S_ .f32 0x7B800000#32)))) (constant S_ .f32 0x7F800000#32) reducesTo_S247_S_d0 h_S_)

/-- The result. -/
def out (s : FVec Ideal S_ .f32) : FVec Ideal S16x128 .f32 :=
  concatenate S16x128 0 [⟨S8x128, broadcastInDim S8x128 ![] bcast_S_S8x128 s⟩, ⟨S8x128, broadcastInDim S8x128 ![] bcast_S_S8x128 (Host.divf (constant S_ .f32 0x3F800000#32) s)⟩] concatenates_S8x128_S8x128_S16x128_d0

/-- The largest magnitude is below `d` iff every magnitude is. -/
theorem largest_le (x : FVec Ideal S2x256x176x640 .bf16) (d : EReal) (j : S_.Idx) :
    (largest x j : EReal) ≤ d ↔ ∀ i : S2x256x176x640.Idx, max (x i) (-x i) ≤ d := by
  unfold largest
  rw [Host.reduce_eq_fold]
  refine (Finset.fold_max_le d).trans ?_
  have h0 : (constant (F := Ideal) S_ .f32 0xFF800000#32 (Shape.Idx.first h_S_) : EReal) = ⊥ := ofBits_neg_inf
  rw [h0]
  refine ⟨fun h i => h.2 i (Finset.mem_filter.2 ⟨Finset.mem_univ _, ?_⟩), fun h => ⟨bot_le, fun i _ => h i⟩⟩
  funext a
  exact a.elim0

theorem exponent_eq : ∀ i : Fin 247, (IntOp.addi (4294967170#32) (BitVec.ofNat 32 i.val)).toInt = 120 - ((246 - i.val : ℕ) : ℤ) := by decide +kernel

theorem powers_eq (i : Fin 247) : (powers (ix1 i) : EReal) = pw (246 - i.val) := by
  pointwise [powers]
  rw [ofBits_two]
  exact pow_two _ _ (exponent_eq i)

theorem scaleOf_eq (A : FVec Ideal S_ .f32) : (scaleOf A ix0 : EReal) = scale (Ideal.ofBits .f32 0x3B124925#32) (A ix0) := by
  have h1 : (id (constant (F := Ideal) S_ .f32 0x3F800000#32) ix0 : EReal) = 1 := ofBits_one
  have h2 : (id (constant (F := Ideal) S_ .f32 0x7B800000#32) ix0 : EReal) = pw 0 := ofBits_top
  pointwise [scaleOf]
  rw [h1, h2, ofBits_inf, scale]
  refine if_congr Iff.rfl rfl (fold_min_eq_least _ _ fun i => ?_)
  rw [powers_eq]
  rfl

theorem out_eq (s : FVec Ideal S_ .f32) (r : Fin 16) (l : Fin 128) : (out s (ix2 r l) : EReal) = if r.val < 8 then s ix0 else Ideal.div 1 (s ix0) := by
  pointwise [out]
  by_cases h : r.val < 8
  · rw [dif_pos h, if_pos h]
  · rw [dif_neg h, if_neg h]

end Cert.AmaxReferenceIdeal.Val
-- ==== Proof.AmaxEqual.lean ====
/-
  The call `amax` and its reference at the ideal instance end with equal results, from equal arguments; and the reference's frame.
-/
module

public import proofs.«01_k».proof.Defs
public import proofs.«01_k».proof.Proof.AmaxIdealValue
public import proofs.«01_k».proof.Proof.AmaxReferenceIdealValue

@[expose] public section
set_option maxRecDepth 16384

noncomputable section
namespace Cert.Proof

open Idealize.ShloMosaic Idealize.SL.Sem Idealize.ShloMosaic.TcCoe Idealize.ShloMosaic.Pointwise

local instance amaxFacts1 : Cert.AmaxIdeal.Facts := Cert.AmaxIdeal.Gen.facts
local instance amaxFacts2 : Cert.AmaxReferenceIdeal.Facts := Cert.AmaxReferenceIdeal.Gen.facts

/-- The reference of `amax` leaves its argument and its counters as they were. -/
theorem amax_reference_frame : Cert.quiescent_AmaxReferenceIdeal := by
  intro m g _
  refine (θ_run _ _ _).mono (fun r h => ⟨fun c => (h c).2, sem_eq_zero_of_no_sems (by decide) _⟩)
    (Cert.AmaxReferenceIdeal.Value.run m g)

/-- The reference's result is the kernel's, as functions of the argument. -/
theorem amax_results (m : (ℓ : Loc Cert.AmaxIdeal.nD Cert.AmaxIdeal.τ Cert.AmaxIdeal.sig) → Buf (Elt Ideal) ℓ) (c : Dev Cert.AmaxIdeal.nD) :
    Cert.AmaxReferenceIdeal.Val.out (Cert.AmaxReferenceIdeal.Val.scaleOf (Cert.AmaxReferenceIdeal.Val.largest (Cert.AmaxIdeal.Val.aX m c)))
      = Cert.AmaxIdeal.Value.G1 m c := by
  rw [Cert.AmaxIdeal.Val.array_eq]
  have e : (Cert.AmaxReferenceIdeal.Val.largest (Cert.AmaxIdeal.Val.aX m c) ix0 : EReal)
      = Cert.AmaxIdeal.Gen.k0_pay3 (F := Ideal) (Cert.AmaxIdeal.Val.total m c) (ix2 0 0) :=
    eq_of_forall_ge_iff fun d => (Cert.AmaxReferenceIdeal.Val.largest_le _ d ix0).trans (Cert.AmaxIdeal.Val.total_le m c d).symm
  funext y
  obtain ⟨r, l, rfl⟩ : ∃ (r : Fin 16) (l : Fin 128), y = ix2 r l := ⟨y 0, y 1, eq_ix2 y⟩
  refine (Cert.AmaxReferenceIdeal.Val.out_eq _ r l).trans ?_
  rw [Cert.AmaxReferenceIdeal.Val.scaleOf_eq, e]
  rfl

/-- At the ideal instance, from equal arguments, the call `amax` and its reference end with equal results and leave their argument. -/
theorem amax_equal : Cert.algebraic_AmaxIdeal_AmaxReferenceIdeal := by
  intro m g m' g' _ hag
  refine ⟨fun c => Cert.AmaxIdeal.Value.G1 m c, (θ_run _ _ _).mono (fun r h c => h c) (Cert.AmaxIdeal.Value.run m g), ?_⟩
  refine (θ_run _ _ _).mono (fun r h c => ?_) (Cert.AmaxReferenceIdeal.Value.run m' g')
  obtain ⟨hy, ha⟩ := h c
  refine ⟨hy.trans ?_, ha⟩
  rw [hag c]
  exact amax_results m c

end Cert.Proof
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelForget
public import proofs.«01_k».proof.Proof.KernelIdealForget
public import proofs.«01_k».proof.Proof.ResultsEqual
public import proofs.«01_k».proof.Proof.AmaxEqual
public import proofs.«01_k».proof.Proof.Gen.Amax
public import proofs.«01_k».proof.Proof.Gen.Amax.Skeleton
public import proofs.«01_k».proof.Proof.Gen.Amax.Loops
public import proofs.«01_k».proof.Proof.Gen.Amax.Launch
public import proofs.«01_k».proof.Proof.Gen.Amax.Points
public import proofs.«01_k».proof.Proof.Gen.Amax.Frame
public import proofs.«01_k».proof.Proof.Gen.AmaxIdeal
public import proofs.«01_k».proof.Proof.Gen.AmaxIdeal.Skeleton
public import proofs.«01_k».proof.Proof.Gen.AmaxIdeal.Loops
public import proofs.«01_k».proof.Proof.Gen.AmaxIdeal.Launch
public import proofs.«01_k».proof.Proof.Gen.AmaxIdeal.Points
public import proofs.«01_k».proof.Proof.Gen.AmaxIdeal.Frame
public import proofs.«01_k».proof.Proof.Gen.AmaxIdeal.Value
public import proofs.«01_k».proof.Proof.Gen.AmaxReferenceIdeal
public import proofs.«01_k».proof.Proof.Gen.AmaxReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Amax.Gen.facts, Cert.AmaxIdeal.Gen.facts, Cert.AmaxReferenceIdeal.Gen.facts,
  fun m ρ _ => Cert.Kernel.Hand.frame m ρ,
  fun m ρ _ => Cert.KernelIdeal.Hand.frame m ρ,
  fun m ρ _ => Cert.ReferenceIdeal.Gen.frame m ρ,
  fun m ρ _ => Cert.Amax.Gen.frame m ρ,
  fun m ρ _ => Cert.AmaxIdeal.Gen.frame m ρ,
  Cert.Proof.amax_reference_frame,
  trivial,
  Cert.Proof.results_equal,
  trivial,
  Cert.Proof.amax_equal⟩

end Cert.Proof

end
